-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Rel (m : (ℓ : Loc Cert.Rel.nD Cert.Rel.τ Cert.Rel.sig) → Buf (Elt Bits) ℓ) : Prop :=
  True

def Pre_RelIdeal (m : (ℓ : Loc Cert.RelIdeal.nD Cert.RelIdeal.τ Cert.RelIdeal.sig) → Buf (Elt Ideal) ℓ) : Prop :=
  True

def Pre_RelRefIdeal (m : (ℓ : Loc Cert.RelRefIdeal.nD Cert.RelRefIdeal.τ Cert.RelRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3)
      ∧ r.2.mem ((c.tc : Thread Cert.InEvenRefIdeal.nD Cert.InEvenRefIdeal.τ).loc Cert.InEvenRefIdeal.main_arg4) = m ((c.tc : Thread Cert.InEvenRefIdeal.nD Cert.InEvenRefIdeal.τ).loc Cert.InEvenRefIdeal.main_arg4))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3)
      ∧ r.2.mem ((c.tc : Thread Cert.InOdd.nD Cert.InOdd.τ).loc Cert.InOdd.main_arg4) = m ((c.tc : Thread Cert.InOdd.nD Cert.InOdd.τ).loc Cert.InOdd.main_arg4))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3)
      ∧ r.2.mem ((c.tc : Thread Cert.InOddRefIdeal.nD Cert.InOddRefIdeal.τ).loc Cert.InOddRefIdeal.main_arg4) = m ((c.tc : Thread Cert.InOddRefIdeal.nD Cert.InOddRefIdeal.τ).loc Cert.InOddRefIdeal.main_arg4))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Rel [hRel : Cert.Rel.Facts] : Prop :=
  ∀ (m : (ℓ : Loc Cert.Rel.nD Cert.Rel.τ Cert.Rel.sig) → Buf (Elt Bits) ℓ) (g : Dev Cert.Rel.nD → PrngReg), Pre_Rel m →
    θ_run (Cert.Rel.defs (F := Bits)) (onTc (τ := Cert.Rel.τ) (Cert.Rel.main (F := Bits))) ⟨m, fun _ => 0, g⟩ (fun r => (∀ c : Dev Cert.Rel.nD,
      r.2.mem ((c.tc : Thread Cert.Rel.nD Cert.Rel.τ).loc Cert.Rel.main_arg0) = m ((c.tc : Thread Cert.Rel.nD Cert.Rel.τ).loc Cert.Rel.main_arg0))
      ∧ r.2.sem = fun _ => 0)

def quiescent_RelIdeal [hRelIdeal : Cert.RelIdeal.Facts] : Prop :=
  ∀ (m : (ℓ : Loc Cert.RelIdeal.nD Cert.RelIdeal.τ Cert.RelIdeal.sig) → Buf (Elt Ideal) ℓ) (g : Dev Cert.RelIdeal.nD → PrngReg), Pre_RelIdeal m →
    θ_run (Cert.RelIdeal.defs (F := Ideal)) (onTc (τ := Cert.RelIdeal.τ) (Cert.RelIdeal.main (F := Ideal))) ⟨m, fun _ => 0, g⟩ (fun r => (∀ c : Dev Cert.RelIdeal.nD,
      r.2.mem ((c.tc : Thread Cert.RelIdeal.nD Cert.RelIdeal.τ).loc Cert.RelIdeal.main_arg0) = m ((c.tc : Thread Cert.RelIdeal.nD Cert.RelIdeal.τ).loc Cert.RelIdeal.main_arg0))
      ∧ r.2.sem = fun _ => 0)

def quiescent_RelRefIdeal [hRelRefIdeal : Cert.RelRefIdeal.Facts] : Prop :=
  ∀ (m : (ℓ : Loc Cert.RelRefIdeal.nD Cert.RelRefIdeal.τ Cert.RelRefIdeal.sig) → Buf (Elt Ideal) ℓ) (g : Dev Cert.RelRefIdeal.nD → PrngReg), Pre_RelRefIdeal m →
    θ_run (Cert.RelRefIdeal.defs (F := Ideal)) (onTc (τ := Cert.RelRefIdeal.τ) (Cert.RelRefIdeal.main (F := Ideal))) ⟨m, fun _ => 0, g⟩ (fun r => (∀ c : Dev Cert.RelRefIdeal.nD,
      r.2.mem ((c.tc : Thread Cert.RelRefIdeal.nD Cert.RelRefIdeal.τ).loc Cert.RelRefIdeal.main_arg0) = m ((c.tc : Thread Cert.RelRefIdeal.nD Cert.RelRefIdeal.τ).loc Cert.RelRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)
      ∧ m' ((c.tc : Thread Cert.InEvenRefIdeal.nD Cert.InEvenRefIdeal.τ).loc Cert.InEvenRefIdeal.main_arg4) = m ((c.tc : Thread Cert.InEvenIdeal.nD Cert.InEvenIdeal.τ).loc Cert.InEvenIdeal.main_arg4)) →
    ∃ (v0 : (c : Dev Cert.InEvenIdeal.nD) → Buf (Elt Ideal) ((c.tc : Thread Cert.InEvenIdeal.nD Cert.InEvenIdeal.τ).loc Cert.InEvenIdeal.main_v7)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v7) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v22) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3)
          ∧ r.2.mem ((c.tc : Thread Cert.InEvenRefIdeal.nD Cert.InEvenRefIdeal.τ).loc Cert.InEvenRefIdeal.main_arg4) = m' ((c.tc : Thread Cert.InEvenRefIdeal.nD Cert.InEvenRefIdeal.τ).loc Cert.InEvenRefIdeal.main_arg4))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)
      ∧ m' ((c.tc : Thread Cert.InOddRefIdeal.nD Cert.InOddRefIdeal.τ).loc Cert.InOddRefIdeal.main_arg3) = m ((c.tc : Thread Cert.InOddIdeal.nD Cert.InOddIdeal.τ).loc Cert.InOddIdeal.main_arg3)
      ∧ m' ((c.tc : Thread Cert.InOddRefIdeal.nD Cert.InOddRefIdeal.τ).loc Cert.InOddRefIdeal.main_arg4) = m ((c.tc : Thread Cert.InOddIdeal.nD Cert.InOddIdeal.τ).loc Cert.InOddIdeal.main_arg4)) →
    ∃ (v0 : (c : Dev Cert.InOddIdeal.nD) → Buf (Elt Ideal) ((c.tc : Thread Cert.InOddIdeal.nD Cert.InOddIdeal.τ).loc Cert.InOddIdeal.main_v7)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v7) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
          ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v22) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2)
          ∧ r.2.mem ((c.tc : Thread Cert.InOddRefIdeal.nD Cert.InOddRefIdeal.τ).loc Cert.InOddRefIdeal.main_arg3) = m' ((c.tc : Thread Cert.InOddRefIdeal.nD Cert.InOddRefIdeal.τ).loc Cert.InOddRefIdeal.main_arg3)
          ∧ r.2.mem ((c.tc : Thread Cert.InOddRefIdeal.nD Cert.InOddRefIdeal.τ).loc Cert.InOddRefIdeal.main_arg4) = m' ((c.tc : Thread Cert.InOddRefIdeal.nD Cert.InOddRefIdeal.τ).loc Cert.InOddRefIdeal.main_arg4))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)) →
    ∃ (v0 : (c : Dev Cert.OutEvenIdeal.nD) → Buf (Elt Ideal) ((c.tc : Thread Cert.OutEvenIdeal.nD Cert.OutEvenIdeal.τ).loc Cert.OutEvenIdeal.main_v4)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v4) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v5) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)) →
    ∃ (v0 : (c : Dev Cert.OutOddIdeal.nD) → Buf (Elt Ideal) ((c.tc : Thread Cert.OutOddIdeal.nD Cert.OutOddIdeal.τ).loc Cert.OutOddIdeal.main_v4)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v4) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v4) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v25) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)) →
    ∃ (v0 : (c : Dev Cert.CmpIdeal.nD) → Buf (Elt Ideal) ((c.tc : Thread Cert.CmpIdeal.nD Cert.CmpIdeal.τ).loc Cert.CmpIdeal.main_v11)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v11) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v85) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v6_0)) (v1 : (c : Dev Cert.KvIdeal.nD) → Buf (Elt Ideal) ((c.tc : Thread Cert.KvIdeal.nD Cert.KvIdeal.τ).loc Cert.KvIdeal.main_v6_1)) (v2 : (c : Dev Cert.KvIdeal.nD) → Buf (Elt Ideal) ((c.tc : Thread Cert.KvIdeal.nD Cert.KvIdeal.τ).loc Cert.KvIdeal.main_v6_2)) (v3 : (c : Dev Cert.KvIdeal.nD) → Buf (Elt Ideal) ((c.tc : Thread Cert.KvIdeal.nD Cert.KvIdeal.τ).loc Cert.KvIdeal.main_v6_3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v6_0) = v0 c
          ∧ r.2.mem ((c.tc : Thread Cert.KvIdeal.nD Cert.KvIdeal.τ).loc Cert.KvIdeal.main_v6_1) = v1 c
          ∧ r.2.mem ((c.tc : Thread Cert.KvIdeal.nD Cert.KvIdeal.τ).loc Cert.KvIdeal.main_v6_2) = v2 c
          ∧ r.2.mem ((c.tc : Thread Cert.KvIdeal.nD Cert.KvIdeal.τ).loc Cert.KvIdeal.main_v6_3) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v48) = v0 c
          ∧ r.2.mem ((c.tc : Thread Cert.KvRefIdeal.nD Cert.KvRefIdeal.τ).loc Cert.KvRefIdeal.main_v49) = v1 c
          ∧ r.2.mem ((c.tc : Thread Cert.KvRefIdeal.nD Cert.KvRefIdeal.τ).loc Cert.KvRefIdeal.main_v50) = v2 c
          ∧ r.2.mem ((c.tc : Thread Cert.KvRefIdeal.nD Cert.KvRefIdeal.τ).loc Cert.KvRefIdeal.main_v51) = v3 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Rel_RelIdeal : Prop :=
  True

def algebraic_RelIdeal_RelRefIdeal [hRelIdeal : Cert.RelIdeal.Facts] [hRelRefIdeal : Cert.RelRefIdeal.Facts] : Prop :=
  ∀ (m : (ℓ : Loc Cert.RelIdeal.nD Cert.RelIdeal.τ Cert.RelIdeal.sig) → Buf (Elt Ideal) ℓ) (g : Dev Cert.RelIdeal.nD → PrngReg)
    (m' : (ℓ : Loc Cert.RelRefIdeal.nD Cert.RelRefIdeal.τ Cert.RelRefIdeal.sig) → Buf (Elt Ideal) ℓ) (g' : Dev Cert.RelRefIdeal.nD → PrngReg), Pre_RelIdeal m →
    (∀ c : Dev Cert.RelIdeal.nD,
      m' ((c.tc : Thread Cert.RelRefIdeal.nD Cert.RelRefIdeal.τ).loc Cert.RelRefIdeal.main_arg0) = m ((c.tc : Thread Cert.RelIdeal.nD Cert.RelIdeal.τ).loc Cert.RelIdeal.main_arg0)) →
    ∃ (v0 : (c : Dev Cert.RelIdeal.nD) → Buf (Elt Ideal) ((c.tc : Thread Cert.RelIdeal.nD Cert.RelIdeal.τ).loc Cert.RelIdeal.main_v0_0)) (v1 : (c : Dev Cert.RelIdeal.nD) → Buf (Elt Ideal) ((c.tc : Thread Cert.RelIdeal.nD Cert.RelIdeal.τ).loc Cert.RelIdeal.main_v0_1)),
      θ_run (Cert.RelIdeal.defs (F := Ideal)) (onTc (τ := Cert.RelIdeal.τ) (Cert.RelIdeal.main (F := Ideal))) ⟨m, fun _ => 0, g⟩ (fun r => ∀ c : Dev Cert.RelIdeal.nD,
          r.2.mem ((c.tc : Thread Cert.RelIdeal.nD Cert.RelIdeal.τ).loc Cert.RelIdeal.main_v0_0) = v0 c
          ∧ r.2.mem ((c.tc : Thread Cert.RelIdeal.nD Cert.RelIdeal.τ).loc Cert.RelIdeal.main_v0_1) = v1 c
          ∧ r.2.mem ((c.tc : Thread Cert.RelIdeal.nD Cert.RelIdeal.τ).loc Cert.RelIdeal.main_arg0) = m ((c.tc : Thread Cert.RelIdeal.nD Cert.RelIdeal.τ).loc Cert.RelIdeal.main_arg0))
      ∧ θ_run (Cert.RelRefIdeal.defs (F := Ideal)) (onTc (τ := Cert.RelRefIdeal.τ) (Cert.RelRefIdeal.main (F := Ideal))) ⟨m', fun _ => 0, g'⟩ (fun r => ∀ c : Dev Cert.RelRefIdeal.nD,
          r.2.mem ((c.tc : Thread Cert.RelRefIdeal.nD Cert.RelRefIdeal.τ).loc Cert.RelRefIdeal.main_v167) = v0 c
          ∧ r.2.mem ((c.tc : Thread Cert.RelRefIdeal.nD Cert.RelRefIdeal.τ).loc Cert.RelRefIdeal.main_v200) = v1 c
          ∧ r.2.mem ((c.tc : Thread Cert.RelRefIdeal.nD Cert.RelRefIdeal.τ).loc Cert.RelRefIdeal.main_arg0) = m' ((c.tc : Thread Cert.RelRefIdeal.nD Cert.RelRefIdeal.τ).loc Cert.RelRefIdeal.main_arg0))

def Claim : Prop :=
  ∃ (hKernel : Cert.Kernel.Facts) (hKernelIdeal : Cert.KernelIdeal.Facts) (hReferenceIdeal : Cert.ReferenceIdeal.Facts) (hInEven : Cert.InEven.Facts) (hInEvenIdeal : Cert.InEvenIdeal.Facts) (hInEvenRefIdeal : Cert.InEvenRefIdeal.Facts) (hInOdd : Cert.InOdd.Facts) (hInOddIdeal : Cert.InOddIdeal.Facts) (hInOddRefIdeal : Cert.InOddRefIdeal.Facts) (hOutEven : Cert.OutEven.Facts) (hOutEvenIdeal : Cert.OutEvenIdeal.Facts) (hOutEvenRefIdeal : Cert.OutEvenRefIdeal.Facts) (hOutOdd : Cert.OutOdd.Facts) (hOutOddIdeal : Cert.OutOddIdeal.Facts) (hOutOddRefIdeal : Cert.OutOddRefIdeal.Facts) (hConv : Cert.Conv.Facts) (hConvIdeal : Cert.ConvIdeal.Facts) (hConvRefIdeal : Cert.ConvRefIdeal.Facts) (hAda : Cert.Ada.Facts) (hAdaIdeal : Cert.AdaIdeal.Facts) (hAdaRefIdeal : Cert.AdaRefIdeal.Facts) (hCmp : Cert.Cmp.Facts) (hCmpIdeal : Cert.CmpIdeal.Facts) (hCmpRefIdeal : Cert.CmpRefIdeal.Facts) (hKv : Cert.Kv.Facts) (hKvIdeal : Cert.KvIdeal.Facts) (hKvRefIdeal : Cert.KvRefIdeal.Facts) (hRel : Cert.Rel.Facts) (hRelIdeal : Cert.RelIdeal.Facts) (hRelRefIdeal : Cert.RelRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InEven (hInEven := hInEven)
    ∧ quiescent_InEvenIdeal (hInEvenIdeal := hInEvenIdeal)
    ∧ quiescent_InEvenRefIdeal (hInEvenRefIdeal := hInEvenRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_Conv (hConv := hConv)
    ∧ quiescent_ConvIdeal (hConvIdeal := hConvIdeal)
    ∧ quiescent_ConvRefIdeal (hConvRefIdeal := hConvRefIdeal)
    ∧ quiescent_Ada (hAda := hAda)
    ∧ quiescent_AdaIdeal (hAdaIdeal := hAdaIdeal)
    ∧ quiescent_AdaRefIdeal (hAdaRefIdeal := hAdaRefIdeal)
    ∧ quiescent_Cmp (hCmp := hCmp)
    ∧ quiescent_CmpIdeal (hCmpIdeal := hCmpIdeal)
    ∧ quiescent_CmpRefIdeal (hCmpRefIdeal := hCmpRefIdeal)
    ∧ quiescent_Kv (hKv := hKv)
    ∧ quiescent_KvIdeal (hKvIdeal := hKvIdeal)
    ∧ quiescent_KvRefIdeal (hKvRefIdeal := hKvRefIdeal)
    ∧ quiescent_Rel (hRel := hRel)
    ∧ quiescent_RelIdeal (hRelIdeal := hRelIdeal)
    ∧ quiescent_RelRefIdeal (hRelRefIdeal := hRelRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InEven_InEvenIdeal
    ∧ algebraic_InEvenIdeal_InEvenRefIdeal (hInEvenIdeal := hInEvenIdeal) (hInEvenRefIdeal := hInEvenRefIdeal)
    ∧ preserves_InOdd_InOddIdeal
    ∧ algebraic_InOddIdeal_InOddRefIdeal (hInOddIdeal := hInOddIdeal) (hInOddRefIdeal := hInOddRefIdeal)
    ∧ preserves_OutEven_OutEvenIdeal
    ∧ algebraic_OutEvenIdeal_OutEvenRefIdeal (hOutEvenIdeal := hOutEvenIdeal) (hOutEvenRefIdeal := hOutEvenRefIdeal)
    ∧ preserves_OutOdd_OutOddIdeal
    ∧ algebraic_OutOddIdeal_OutOddRefIdeal (hOutOddIdeal := hOutOddIdeal) (hOutOddRefIdeal := hOutOddRefIdeal)
    ∧ preserves_Conv_ConvIdeal
    ∧ algebraic_ConvIdeal_ConvRefIdeal (hConvIdeal := hConvIdeal) (hConvRefIdeal := hConvRefIdeal)
    ∧ preserves_Ada_AdaIdeal
    ∧ algebraic_AdaIdeal_AdaRefIdeal (hAdaIdeal := hAdaIdeal) (hAdaRefIdeal := hAdaRefIdeal)
    ∧ preserves_Cmp_CmpIdeal
    ∧ algebraic_CmpIdeal_CmpRefIdeal (hCmpIdeal := hCmpIdeal) (hCmpRefIdeal := hCmpRefIdeal)
    ∧ preserves_Kv_KvIdeal
    ∧ algebraic_KvIdeal_KvRefIdeal (hKvIdeal := hKvIdeal) (hKvRefIdeal := hKvRefIdeal)
    ∧ preserves_Rel_RelIdeal
    ∧ algebraic_RelIdeal_RelRefIdeal (hRelIdeal := hRelIdeal) (hRelRefIdeal := hRelRefIdeal)
-- ==== Pre_finite.lean ====
abbrev S8x2048x3200 : Shape := ⟨3, ![8, 2048, 3200]⟩
abbrev S8 : Shape := ⟨1, ![8]⟩
abbrev S64 : Shape := ⟨1, ![64]⟩
abbrev S_ : Shape := ⟨0, ![]⟩

class Facts : Prop where
  bcast_S_S8x2048x3200 : S_.BroadcastsInDim S8x2048x3200 (![] : Fin 0 → Fin S8x2048x3200.rank)
  reducesTo_S8x2048x3200_S_d0_1_2 : S8x2048x3200.ReducesTo [0, 1, 2] S_
  h_S_ : 0 < S_.numel
  bcast_S_S8 : S_.BroadcastsInDim S8 (![] : Fin 0 → Fin S8.rank)
  reducesTo_S8_S_d0 : S8.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x2048x3200 .f32) (main_arg1 : FVec F S8 .f32) (main_arg2 : FVec F S64 .f32) (main_arg3 : FVec F S64 .f32) : IVec S_ 1 :=
  let main_v0 : FVec F S8x2048x3200 .f32 := Host.absf main_arg0
  let main_cst : FVec F S_ .f32 := constant S_ .f32 0x7F800000#32
  let main_v1 : FVec F S8x2048x3200 .f32 := broadcastInDim S8x2048x3200 ![] bcast_S_S8x2048x3200 main_cst
  let main_v2 : IVec S8x2048x3200 1 := cmpf .olt main_v0 main_v1
  let main_c : IVec S_ 1 := constantI S_ 1 1#1
  let main_v3 : IVec S_ 1 := (fun x v => Host.reduce IntOp.andi x v reducesTo_S8x2048x3200_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x2048x3200 : Shape := ⟨3, ![8, 2048, 3200]⟩
abbrev S8 : Shape := ⟨1, ![8]⟩
abbrev S64 : Shape := ⟨1, ![64]⟩
abbrev S_ : Shape := ⟨0, ![]⟩
abbrev S1x128 : Shape := ⟨2, ![1, 128]⟩
abbrev S1 : Shape := ⟨1, ![1]⟩
abbrev S2 : Shape := ⟨1, ![2]⟩
abbrev S1x64 : Shape := ⟨2, ![1, 64]⟩
abbrev S8x2048x512 : Shape := ⟨3, ![8, 2048, 512]⟩
abbrev S1x256x512 : Shape := ⟨3, ![1, 256, 512]⟩
abbrev S1x2048x512 : Shape := ⟨3, ![1, 2048, 512]⟩
abbrev S1x2048x128 : Shape := ⟨3, ![1, 2048, 128]⟩
abbrev S2048x512 : Shape := ⟨2, ![2048, 512]⟩
abbrev S2048x1024 : Shape := ⟨2, ![2048, 1024]⟩
abbrev S2048x128 : Shape := ⟨2, ![2048, 128]⟩
abbrev S8x2048 : Shape := ⟨2, ![8, 2048]⟩
abbrev S2048x64 : Shape := ⟨2, ![2048, 64]⟩
abbrev S1x2048x64 : Shape := ⟨3, ![1, 2048, 64]⟩
abbrev S2048 : Shape := ⟨1, ![2048]⟩
abbrev S2048x1 : Shape := ⟨2, ![2048, 1]⟩
abbrev S256x128 : Shape := ⟨2, ![256, 128]⟩
abbrev S128x256 : Shape := ⟨2, ![128, 256]⟩
abbrev S8x256 : Shape := ⟨2, ![8, 256]⟩
abbrev S256x512 : Shape := ⟨2, ![256, 512]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S512x64 : Shape := ⟨2, ![512, 64]⟩
abbrev S1x512 : Shape := ⟨2, ![1, 512]⟩
abbrev S512x128 : Shape := ⟨2, ![512, 128]⟩
abbrev S256x1024 : Shape := ⟨2, ![256, 1024]⟩
abbrev S1024x64 : Shape := ⟨2, ![1024, 64]⟩
abbrev S1x1024 : Shape := ⟨2, ![1, 1024]⟩
abbrev S1024x128 : Shape := ⟨2, ![1024, 128]⟩
abbrev S256x1536 : Shape := ⟨2, ![256, 1536]⟩
abbrev S1536x64 : Shape := ⟨2, ![1536, 64]⟩
abbrev S1x1536 : Shape := ⟨2, ![1, 1536]⟩
abbrev S1536x128 : Shape := ⟨2, ![1536, 128]⟩
abbrev S256x2048 : Shape := ⟨2, ![256, 2048]⟩
abbrev S1x2048 : Shape := ⟨2, ![1, 2048]⟩

abbrev nBuf : Space → Nat
  | .hbm => 15
  | .vmem => 17
  | .smem => 0
  | _ => 0

abbrev bufTy : (tb : Table) → Fin (tcTables nBuf tb) → BufTy
  | .hbm, ⟨0, _⟩ => ⟨S8x2048x3200, .f32⟩
  | .hbm, ⟨1, _⟩ => ⟨S8, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S1x128, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S1x128, .f32⟩
  | .hbm, ⟨12, _⟩ => ⟨S1x64, .f32⟩
  | .hbm, ⟨13, _⟩ => ⟨S1x64, .f32⟩
  | .hbm, ⟨14, _⟩ => ⟨S8x2048x512, .f32⟩
  | .local _ .vmem, ⟨0, _⟩ => ⟨S1x256x512, .f32⟩
  | .local _ .vmem, ⟨1, _⟩ => ⟨S1x256x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x128, .f32⟩
  | .local _ .vmem, ⟨7, _⟩ => ⟨S1x2048x128, .f32⟩
  | .local _ .vmem, ⟨8, _⟩ => ⟨S1x128, .f32⟩
  | .local _ .vmem, ⟨9, _⟩ => ⟨S1x64, .f32⟩
  | .local _ .vmem, ⟨10, _⟩ => ⟨S1x64, .f32⟩
  | .local _ .vmem, ⟨11, _⟩ => ⟨S1x256x512, .f32⟩
  | .local _ .vmem, ⟨12, _⟩ => ⟨S1x256x512, .f32⟩
  | .local _ .vmem, ⟨13, _⟩ => ⟨S2048x512, .bf16⟩
  | .local _ .vmem, ⟨14, _⟩ => ⟨S2048x1024, .bf16⟩
  | .local _ .vmem, ⟨15, _⟩ => ⟨S2048x128, .f32⟩
  | .local _ .vmem, ⟨16, _⟩ => ⟨S8x2048, .f32⟩
  | _, _ => ⟨S8x2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c0_i32_1 : BitVec 32 := 0#32
  let v7 : BitVec 1 := Scalar.cmpi .sge arg1 c0_i32_1
  let c2_i32 : BitVec 32 := 2#32
  let v8 : BitVec 1 := Scalar.cmpi .slt arg1 c2_i32
  let v9 : BitVec 1 := Scalar.andi v7 v8
  let v10 : BitVec 32 := Scalar.extui v9
  let c0_i32_2 : BitVec 32 := 0#32
  let v11 : BitVec 1 := Scalar.cmpi .ne v10 c0_i32_2
  v11

def k0_cond3 (i : grid0.Coords) : BitVec 1 :=
  let arg1 : BitVec 32 := BitVec.ofNat 32 (i 1).val
  let c2_i32_3 : BitVec 32 := 2#32
  let v12 : BitVec 1 := Scalar.cmpi .sge arg1 c2_i32_3
  let c4_i32 : BitVec 32 := 4#32
  let v13 : BitVec 1 := Scalar.cmpi .slt arg1 c4_i32
  let v14 : BitVec 1 := Scalar.andi v12 v13
  let v15 : BitVec 32 := Scalar.extui v14
  let c0_i32_4 : BitVec 32 := 0#32
  let v16 : BitVec 1 := Scalar.cmpi .ne v15 c0_i32_4
  v16

def k0_cond4 (i : grid0.Coords) : BitVec 1 :=
  let arg1 : BitVec 32 := BitVec.ofNat 32 (i 1).val
  let c4_i32_5 : BitVec 32 := 4#32
  let v17 : BitVec 1 := Scalar.cmpi .sge arg1 c4_i32_5
  let c6_i32 : BitVec 32 := 6#32
  let v18 : BitVec 1 := Scalar.cmpi .slt arg1 c6_i32
  let v19 : BitVec 1 := Scalar.andi v17 v18
  let v20 : BitVec 32 := Scalar.extui v19
  let c0_i32_6 : BitVec 32 := 0#32
  let v21 : BitVec 1 := Scalar.cmpi .ne v20 c0_i32_6
  v21

def k0_cond5 (i : grid0.Coords) : BitVec 1 :=
  let arg1 : BitVec 32 := BitVec.ofNat 32 (i 1).val
  let c6_i32_7 : BitVec 32 := 6#32
  let v22 : BitVec 1 := Scalar.cmpi .sge arg1 c6_i32_7
  let c8_i32 : BitVec 32 := 8#32
  let v23 : BitVec 1 := Scalar.cmpi .slt arg1 c8_i32
  let v24 : BitVec 1 := Scalar.andi v22 v23
  let v25 : BitVec 32 := Scalar.extui v24
  let c0_i32_8 : BitVec 32 := 0#32
  let v26 : BitVec 1 := Scalar.cmpi .ne v25 c0_i32_8
  v26

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c24_i32 : BitVec 32 := 24#32
  let c0_i32_0 : BitVec 32 := 0#32
  ![arg0.toNat, c0_i32.toNat, c24_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x3200 : Shape := ⟨3, ![8, 2048, 3200]⟩
abbrev S8 : Shape := ⟨1, ![8]⟩
abbrev S64 : Shape := ⟨1, ![64]⟩
abbrev S8x2048x512 : Shape := ⟨3, ![8, 2048, 512]⟩
abbrev S8x2048x8x64 : Shape := ⟨4, ![8, 2048, 8, 64]⟩
abbrev S_ : Shape := ⟨0, ![]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S1x1x8 : Shape := ⟨3, ![1, 1, 8]⟩
abbrev S8x8x2048 : Shape := ⟨3, ![8, 8, 2048]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S8x8x64x2048 : Shape := ⟨4, ![8, 8, 64, 2048]⟩

abbrev nBuf : Space → Nat
  | .hbm => 108
  | .vmem => 0
  | .smem => 0
  | _ => 0

abbrev bufTy : (tb : Table) → Fin (tcTables nBuf tb) → BufTy
  | .hbm, ⟨0, _⟩ => ⟨S8x2048x3200, .f32⟩
  | .hbm, ⟨1, _⟩ => ⟨S8, .f32⟩
  | .hbm, ⟨2, _⟩ => ⟨S64, .f32⟩
  | .hbm, ⟨3, _⟩ => ⟨S64, .f32⟩
  | .hbm, ⟨4, _⟩ => ⟨S8x2048x512, .f32⟩
  | .hbm, ⟨5, _⟩ => ⟨S8x2048x8x64, .f32⟩
  | .hbm, ⟨6, _⟩ => ⟨S8x2048x8x64, .f32⟩
  | .hbm, ⟨7, _⟩ => ⟨S_, .f32⟩
  | .hbm, ⟨8, _⟩ => ⟨S8x2048x8, .f32⟩
  | .hbm, ⟨9, _⟩ => ⟨S8x2048x8x1, .f32⟩
  | .hbm, ⟨10, _⟩ => ⟨S_, .f32⟩
  | .hbm, ⟨11, _⟩ => ⟨S8x2048x8x1, .f32⟩
  | .hbm, ⟨12, _⟩ => ⟨S8x2048x8x1, .f32⟩
  | .hbm, ⟨13, _⟩ => ⟨S_, .f32⟩
  | .hbm, ⟨14, _⟩ => ⟨S8x2048x8x1, .f32⟩
  | .hbm, ⟨15, _⟩ => ⟨S8x2048x8x1, .f32⟩
  | .hbm, ⟨16, _⟩ => ⟨S8x2048x8x1, .f32⟩
  | .hbm, ⟨17, _⟩ => ⟨S8x2048x8x64, .f32⟩
  | .hbm, ⟨18, _⟩ => ⟨S8x2048x8x64, .f32⟩
  | .hbm, ⟨19, _⟩ => ⟨S1x1x1x64, .f32⟩
  | .hbm, ⟨20, _⟩ => ⟨S8x2048x8x64, .f32⟩
  | .hbm, ⟨21, _⟩ => ⟨S8x2048x8x64, .f32⟩
  | .hbm, ⟨22, _⟩ => ⟨S8x2048x512, .f32⟩
  | .hbm, ⟨23, _⟩ => ⟨S8x2048x8x64, .f32⟩
  | .hbm, ⟨24, _⟩ => ⟨S8x2048x8x64, .f32⟩
  | .hbm, ⟨25, _⟩ => ⟨S_, .f32⟩
  | .hbm, ⟨26, _⟩ => ⟨S8x2048x8, .f32⟩
  | .hbm, ⟨27, _⟩ => ⟨S8x2048x8x1, .f32⟩
  | .hbm, ⟨28, _⟩ => ⟨S_, .f32⟩
  | .hbm, ⟨29, _⟩ => ⟨S8x2048x8x1, .f32⟩
  | .hbm, ⟨30, _⟩ => ⟨S8x2048x8x1, .f32⟩
  | .hbm, ⟨31, _⟩ => ⟨S_, .f32⟩
  | .hbm, ⟨32, _⟩ => ⟨S8x2048x8x1, .f32⟩
  | .hbm, ⟨33, _⟩ => ⟨S8x2048x8x1, .f32⟩
  | .hbm, ⟨34, _⟩ => ⟨S8x2048x8x1, .f32⟩
  | .hbm, ⟨35, _⟩ => ⟨S8x2048x8x64, .f32⟩
  | .hbm, ⟨36, _⟩ => ⟨S8x2048x8x64, .f32⟩
  | .hbm, ⟨37, _⟩ => ⟨S1x1x1x64, .f32⟩
  | .hbm, ⟨38, _⟩ => ⟨S8x2048x8x64, .f32⟩
  | .hbm, ⟨39, _⟩ => ⟨S8x2048x8x64, .f32⟩
  | .hbm, ⟨40, _⟩ => ⟨S8x2048x512, .f32⟩
  | .hbm, ⟨41, _⟩ => ⟨S8x2048x8x64, .f32⟩
  | .hbm, ⟨42, _⟩ => ⟨S8x2048x8, .f32⟩
  | .hbm, ⟨43, _⟩ => ⟨S1x1x8, .f32⟩
  | .hbm, ⟨44, _⟩ => ⟨S8x2048x8, .f32⟩
  | .hbm, ⟨45, _⟩ => ⟨S8x2048x8, .f32⟩
  | .hbm, ⟨46, _⟩ => ⟨S8x2048x8, .f32⟩
  | .hbm, ⟨47, _⟩ => ⟨S_, .f32⟩
  | .hbm, ⟨48, _⟩ => ⟨S8x2048x8, .f32⟩
  | .hbm, ⟨49, _⟩ => ⟨S8x2048x8, .f32⟩
  | .hbm, ⟨50, _⟩ => ⟨S8x2048x8, .f32⟩
  | .hbm, ⟨51, _⟩ => ⟨S8x2048x8, .f32⟩
  | .hbm, ⟨52, _⟩ => ⟨S8x2048x8, .i1⟩
  | .hbm, ⟨53, _⟩ => ⟨S8x2048x8, .f32⟩
  | .hbm, ⟨54, _⟩ => ⟨S8x2048x8, .f32⟩
  | .hbm, ⟨55, _⟩ => ⟨S8x2048x8, .f32⟩
  | .hbm, ⟨56, _⟩ => ⟨S8x2048x8, .f32⟩
  | .hbm, ⟨57, _⟩ => ⟨S8x2048x8, .f32⟩
  | .hbm, ⟨58, _⟩ => ⟨S8x2048x8, .f32⟩
  | .hbm, ⟨59, _⟩ => ⟨S8x2048x8, .f32⟩
  | .hbm, ⟨60, _⟩ => ⟨S8x2048x8, .f32⟩
  | .hbm, ⟨61, _⟩ => ⟨S8x2048x8, .f32⟩
  | .hbm, ⟨62, _⟩ => ⟨S_, .f32⟩
  | .hbm, ⟨63, _⟩ => ⟨S_, .f32⟩
  | .hbm, ⟨64, _⟩ => ⟨S8x2048x8, .f32⟩
  | .hbm, ⟨65, _⟩ => ⟨S8x8x2048, .f32⟩
  | .hbm, ⟨66, _⟩ => ⟨S8x8x2048x2048, .f32⟩
  | .hbm, ⟨67, _⟩ => ⟨S_, .f32⟩
  | .hbm, ⟨68, _⟩ => ⟨S8x8x2048x2048, .f32⟩
  | .hbm, ⟨69, _⟩ => ⟨S8x8x2048x2048, .f32⟩
  | .hbm, ⟨70, _⟩ => ⟨S8x8x2048x1, .f32⟩
  | .hbm, ⟨71, _⟩ => ⟨S8x8x1x2048, .f32⟩
  | .hbm, ⟨72, _⟩ => ⟨S8x8x2048x2048, .f32⟩
  | .hbm, ⟨73, _⟩ => ⟨S8x8x2048x2048, .f32⟩
  | .hbm, ⟨74, _⟩ => ⟨S8x8x2048x2048, .f32⟩
  | .hbm, ⟨75, _⟩ => ⟨S8x8x2048x2048, .f32⟩
  | .hbm, ⟨76, _⟩ => ⟨S2048, .i32⟩
  | .hbm, ⟨77, _⟩ => ⟨S2048x1, .i32⟩
  | .hbm, ⟨78, _⟩ => ⟨S1x2048, .i32⟩
  | .hbm, ⟨79, _⟩ => ⟨S2048x2048, .i32⟩
  | .hbm, ⟨80, _⟩ => ⟨S2048x2048, .i32⟩
  | .hbm, ⟨81, _⟩ => ⟨S2048x2048, .i1⟩
  | .hbm, ⟨82, _⟩ => ⟨S_, .f32⟩
  | .hbm, ⟨83, _⟩ => ⟨S_, .f32⟩
  | .hbm, ⟨84, _⟩ => ⟨S8x8x2048x2048, .i1⟩
  | .hbm, ⟨85, _⟩ => ⟨S8x8x2048x2048, .f32⟩
  | .hbm, ⟨86, _⟩ => ⟨S8x8x2048x2048, .f32⟩
  | .hbm, ⟨87, _⟩ => ⟨S_, .f32⟩
  | .hbm, ⟨88, _⟩ => ⟨S8x8x2048, .f32⟩
  | .hbm, ⟨89, _⟩ => ⟨S_, .f32⟩
  | .hbm, ⟨90, _⟩ => ⟨S8x8x2048, .f32⟩
  | .hbm, ⟨91, _⟩ => ⟨S8x8x2048, .f32⟩
  | .hbm, ⟨92, _⟩ => ⟨S8x8x2048x1, .f32⟩
  | .hbm, ⟨93, _⟩ => ⟨S8x8x2048x2048, .f32⟩
  | .hbm, ⟨94, _⟩ => ⟨S8x8x2048x2048, .f32⟩
  | .hbm, ⟨95, _⟩ => ⟨S8x8x2048x2048, .f32⟩
  | .hbm, ⟨96, _⟩ => ⟨S_, .f32⟩
  | .hbm, ⟨97, _⟩ => ⟨S8x8x2048, .f32⟩
  | .hbm, ⟨98, _⟩ => ⟨S8x8x2048x1, .f32⟩
  | .hbm, ⟨99, _⟩ => ⟨S8x8x2048x2048, .f32⟩
  | .hbm, ⟨100, _⟩ => ⟨S8x8x2048x2048, .f32⟩
  | .hbm, ⟨101, _⟩ => ⟨S2048x2048, .f32⟩
  | .hbm, ⟨102, _⟩ => ⟨S1x1x2048x2048, .f32⟩
  | .hbm, ⟨103, _⟩ => ⟨S8x8x2048x2048, .f32⟩
  | .hbm, ⟨104, _⟩ => ⟨S8x8x2048x2048, .f32⟩
  | .hbm, ⟨105, _⟩ => ⟨S8x8x64x2048, .f32⟩
  | .hbm, ⟨106, _⟩ => ⟨S8x2048x8x64, .f32⟩
  | .hbm, ⟨107, _⟩ => ⟨S8x2048x512, .f32⟩
  | _, _ => ⟨S8x2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v36 : Ref sig .tc := ⟨.hbm, 61, rfl⟩
abbrev main_call1_call0_cst : Ref sig .tc := ⟨.hbm, 62, rfl⟩
abbrev main_call1_call0_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v54 : Ref sig .tc := ⟨.hbm, 86, rfl⟩
abbrev main_cst_7 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== InEven.lean ====
abbrev S8x2048x1024 : Shape := ⟨3, ![8, 2048, 1024]⟩
abbrev S8x1024 : Shape := ⟨2, ![8, 1024]⟩
abbrev S1024 : Shape := ⟨1, ![1024]⟩
abbrev S1024x3080 : Shape := ⟨2, ![1024, 3080]⟩
abbrev S_ : Shape := ⟨0, ![]⟩
abbrev S1024x3200 : Shape := ⟨2, ![1024, 3200]⟩
abbrev S1 : Shape := ⟨1, ![1]⟩
abbrev S8x1x1024 : Shape := ⟨3, ![8, 1, 1024]⟩
abbrev S1x1024 : Shape := ⟨2, ![1, 1024]⟩
abbrev S8x2048x3200 : Shape := ⟨3, ![8, 2048, 3200]⟩
abbrev S1x512x1024 : Shape := ⟨3, ![1, 512, 1024]⟩
abbrev S1x1x1024 : Shape := ⟨3, ![1, 1, 1024]⟩
abbrev S1x512x3200 : Shape := ⟨3, ![1, 512, 3200]⟩
abbrev S512x1024 : Shape := ⟨2, ![512, 1024]⟩
abbrev S512 : Shape := ⟨1, ![512]⟩
abbrev S512x1 : Shape := ⟨2, ![512, 1]⟩
abbrev S512x3200 : Shape := ⟨2, ![512, 3200]⟩

abbrev nBuf : Space → Nat
  | .hbm => 15
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x3080, .f32⟩
  | .hbm, ⟨5, _⟩ => ⟨S_, .bf16⟩
  | .hbm, ⟨6, _⟩ => ⟨S1024x3200, .bf16⟩
  | .hbm, ⟨7, _⟩ => ⟨S1024x3080, .bf16⟩
  | .hbm, ⟨8, _⟩ => ⟨S_, .i32⟩
  | .hbm, ⟨9, _⟩ => ⟨S1, .i32⟩
  | .hbm, ⟨10, _⟩ => ⟨S1024x3200, .bf16⟩
  | .hbm, ⟨11, _⟩ => ⟨S8x1x1024, .f32⟩
  | .hbm, ⟨12, _⟩ => ⟨S8x1x1024, .f32⟩
  | .hbm, ⟨13, _⟩ => ⟨S1x1024, .f32⟩
  | .hbm, ⟨14, _⟩ => ⟨S8x2048x3200, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3200, .bf16⟩
  | .local _ .vmem, ⟨8, _⟩ => ⟨S1x512x3200, .f32⟩
  | .local _ .vmem, ⟨9, _⟩ => ⟨S1x512x3200, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InEvenRefIdeal.lean ====
abbrev S8x2048x1024 : Shape := ⟨3, ![8, 2048, 1024]⟩
abbrev S8x1024 : Shape := ⟨2, ![8, 1024]⟩
abbrev S1024 : Shape := ⟨1, ![1024]⟩
abbrev S1024x3080 : Shape := ⟨2, ![1024, 3080]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x3080 : Shape := ⟨3, ![8, 2048, 3080]⟩
abbrev S8x2048x3200 : Shape := ⟨3, ![8, 2048, 3200]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x3080, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x3080, .f32⟩
  | .hbm, ⟨31, _⟩ => ⟨S_, .i32⟩
  | .hbm, ⟨32, _⟩ => ⟨S_, .f32⟩
  | .hbm, ⟨33, _⟩ => ⟨S8x2048x3200, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== InOdd.lean ====
abbrev S8x2048x1024 : Shape := ⟨3, ![8, 2048, 1024]⟩
abbrev S8x1024 : Shape := ⟨2, ![8, 1024]⟩
abbrev S1024 : Shape := ⟨1, ![1024]⟩
abbrev S1024x2608 : Shape := ⟨2, ![1024, 2608]⟩
abbrev S_ : Shape := ⟨0, ![]⟩
abbrev S1024x2688 : Shape := ⟨2, ![1024, 2688]⟩
abbrev S1 : Shape := ⟨1, ![1]⟩
abbrev S8x1x1024 : Shape := ⟨3, ![8, 1, 1024]⟩
abbrev S1x1024 : Shape := ⟨2, ![1, 1024]⟩
abbrev S8x2048x2688 : Shape := ⟨3, ![8, 2048, 2688]⟩
abbrev S1x512x1024 : Shape := ⟨3, ![1, 512, 1024]⟩
abbrev S1x1x1024 : Shape := ⟨3, ![1, 1, 1024]⟩
abbrev S1x512x2688 : Shape := ⟨3, ![1, 512, 2688]⟩
abbrev S512x1024 : Shape := ⟨2, ![512, 1024]⟩
abbrev S512 : Shape := ⟨1, ![512]⟩
abbrev S512x1 : Shape := ⟨2, ![512, 1]⟩
abbrev S512x2688 : Shape := ⟨2, ![512, 2688]⟩

abbrev nBuf : Space → Nat
  | .hbm => 15
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x2608, .f32⟩
  | .hbm, ⟨5, _⟩ => ⟨S_, .bf16⟩
  | .hbm, ⟨6, _⟩ => ⟨S1024x2688, .bf16⟩
  | .hbm, ⟨7, _⟩ => ⟨S1024x2608, .bf16⟩
  | .hbm, ⟨8, _⟩ => ⟨S_, .i32⟩
  | .hbm, ⟨9, _⟩ => ⟨S1, .i32⟩
  | .hbm, ⟨10, _⟩ => ⟨S1024x2688, .bf16⟩
  | .hbm, ⟨11, _⟩ => ⟨S8x1x1024, .f32⟩
  | .hbm, ⟨12, _⟩ => ⟨S8x1x1024, .f32⟩
  | .hbm, ⟨13, _⟩ => ⟨S1x1024, .f32⟩
  | .hbm, ⟨14, _⟩ => ⟨S8x2048x2688, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2688, .bf16⟩
  | .local _ .vmem, ⟨8, _⟩ => ⟨S1x512x2688, .f32⟩
  | .local _ .vmem, ⟨9, _⟩ => ⟨S1x512x2688, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InOddRefIdeal.lean ====
abbrev S8x2048x1024 : Shape := ⟨3, ![8, 2048, 1024]⟩
abbrev S8x1024 : Shape := ⟨2, ![8, 1024]⟩
abbrev S1024 : Shape := ⟨1, ![1024]⟩
abbrev S1024x2608 : Shape := ⟨2, ![1024, 2608]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x2608 : Shape := ⟨3, ![8, 2048, 2608]⟩
abbrev S8x2048x2688 : Shape := ⟨3, ![8, 2048, 2688]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x2608, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x2608, .f32⟩
  | .hbm, ⟨31, _⟩ => ⟨S_, .i32⟩
  | .hbm, ⟨32, _⟩ => ⟨S_, .f32⟩
  | .hbm, ⟨33, _⟩ => ⟨S8x2048x2688, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== OutEven.lean ====
abbrev S8x2048x1024 : Shape := ⟨3, ![8, 2048, 1024]⟩
abbrev S8x2048x512 : Shape := ⟨3, ![8, 2048, 512]⟩
abbrev S1024x1024 : Shape := ⟨2, ![1024, 1024]⟩
abbrev S8x1024 : Shape := ⟨2, ![8, 1024]⟩
abbrev S8x1x1024 : Shape := ⟨3, ![8, 1, 1024]⟩
abbrev S512x1024 : Shape := ⟨2, ![512, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S512x512 : Shape := ⟨2, ![512, 512]⟩
abbrev S1x1024 : Shape := ⟨2, ![1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1024x1024, .f32⟩
  | .hbm, ⟨4, _⟩ => ⟨S8x1024, .f32⟩
  | .hbm, ⟨5, _⟩ => ⟨S1024x1024, .bf16⟩
  | .hbm, ⟨6, _⟩ => ⟨S8x1x1024, .f32⟩
  | .hbm, ⟨7, _⟩ => ⟨S512x1024, .bf16⟩
  | .hbm, ⟨8, _⟩ => ⟨S512x1024, .bf16⟩
  | .hbm, ⟨9, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutEvenRefIdeal.lean ====
abbrev S8x2048x1024 : Shape := ⟨3, ![8, 2048, 1024]⟩
abbrev S8x2048x512 : Shape := ⟨3, ![8, 2048, 512]⟩
abbrev S1024x1024 : Shape := ⟨2, ![1024, 1024]⟩
abbrev S8x1024 : Shape := ⟨2, ![8, 1024]⟩
abbrev S8x1x1024 : Shape := ⟨3, ![8, 1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1024x1024, .f32⟩
  | .hbm, ⟨4, _⟩ => ⟨S8x1024, .f32⟩
  | .hbm, ⟨5, _⟩ => ⟨S8x2048x1024, .f32⟩
  | .hbm, ⟨6, _⟩ => ⟨S8x2048x1024, .f32⟩
  | .hbm, ⟨7, _⟩ => ⟨S8x1x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== OutOdd.lean ====
abbrev S8x2048x1024 : Shape := ⟨3, ![8, 2048, 1024]⟩
abbrev S1024x1024 : Shape := ⟨2, ![1024, 1024]⟩
abbrev S8x1024 : Shape := ⟨2, ![8, 1024]⟩
abbrev S8x1x1024 : Shape := ⟨3, ![8, 1, 1024]⟩
abbrev S512x1024 : Shape := ⟨2, ![512, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S512x512 : Shape := ⟨2, ![512, 512]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S8x1024, .f32⟩
  | .hbm, ⟨4, _⟩ => ⟨S1024x1024, .bf16⟩
  | .hbm, ⟨5, _⟩ => ⟨S8x1x1024, .f32⟩
  | .hbm, ⟨6, _⟩ => ⟨S512x1024, .bf16⟩
  | .hbm, ⟨7, _⟩ => ⟨S512x1024, .bf16⟩
  | .hbm, ⟨8, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutOddRefIdeal.lean ====
abbrev S8x2048x1024 : Shape := ⟨3, ![8, 2048, 1024]⟩
abbrev S1024x1024 : Shape := ⟨2, ![1024, 1024]⟩
abbrev S8x1024 : Shape := ⟨2, ![8, 1024]⟩
abbrev S8x1x1024 : Shape := ⟨3, ![8, 1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S8x1024, .f32⟩
  | .hbm, ⟨4, _⟩ => ⟨S8x1x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Conv.lean ====
abbrev S8x2048x3200 : Shape := ⟨3, ![8, 2048, 3200]⟩
abbrev S3x512 : Shape := ⟨2, ![3, 512]⟩
abbrev S_ : Shape := ⟨0, ![]⟩
abbrev S8x512 : Shape := ⟨2, ![8, 512]⟩
abbrev S1 : Shape := ⟨1, ![1]⟩
abbrev S8x2048x512 : Shape := ⟨3, ![8, 2048, 512]⟩
abbrev S1x2048x128 : Shape := ⟨3, ![1, 2048, 128]⟩
abbrev S8x128 : Shape := ⟨2, ![8, 128]⟩
abbrev S2048x128 : Shape := ⟨2, ![2048, 128]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x3200, .f32⟩
  | .hbm, ⟨1, _⟩ => ⟨S3x512, .f32⟩
  | .hbm, ⟨2, _⟩ => ⟨S_, .f32⟩
  | .hbm, ⟨3, _⟩ => ⟨S8x512, .f32⟩
  | .hbm, ⟨4, _⟩ => ⟨S_, .i32⟩
  | .hbm, ⟨5, _⟩ => ⟨S1, .i32⟩
  | .hbm, ⟨6, _⟩ => ⟨S8x512, .f32⟩
  | .hbm, ⟨7, _⟩ => ⟨S8x2048x512, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S8x128, .f32⟩
  | .local _ .vmem, ⟨7, _⟩ => ⟨S8x128, .f32⟩
  | .local _ .vmem, ⟨8, _⟩ => ⟨S1x2048x128, .f32⟩
  | .local _ .vmem, ⟨9, _⟩ => ⟨S1x2048x128, .f32⟩
  | _, _ => ⟨S8x2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S8x2048x3200 : Shape := ⟨3, ![8, 2048, 3200]⟩
abbrev S3x512 : Shape := ⟨2, ![3, 512]⟩
abbrev S8x2048x512 : Shape := ⟨3, ![8, 2048, 512]⟩
abbrev S_ : Shape := ⟨0, ![]⟩
abbrev S8x2050x512 : Shape := ⟨3, ![8, 2050, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x3200, .f32⟩
  | .hbm, ⟨1, _⟩ => ⟨S3x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S_, .i32⟩
  | .hbm, ⟨7, _⟩ => ⟨S_, .f32⟩
  | .hbm, ⟨8, _⟩ => ⟨S8x2050x512, .f32⟩
  | .hbm, ⟨9, _⟩ => ⟨S8x2048x512, .f32⟩
  | .hbm, ⟨10, _⟩ => ⟨S1x512, .f32⟩
  | .hbm, ⟨11, _⟩ => ⟨S512, .f32⟩
  | .hbm, ⟨12, _⟩ => ⟨S1x1x512, .f32⟩
  | .hbm, ⟨13, _⟩ => ⟨S8x2048x512, .f32⟩
  | .hbm, ⟨14, _⟩ => ⟨S8x2048x512, .f32⟩
  | .hbm, ⟨15, _⟩ => ⟨S8x2048x512, .f32⟩
  | .hbm, ⟨16, _⟩ => ⟨S1x512, .f32⟩
  | .hbm, ⟨17, _⟩ => ⟨S512, .f32⟩
  | .hbm, ⟨18, _⟩ => ⟨S1x1x512, .f32⟩
  | .hbm, ⟨19, _⟩ => ⟨S8x2048x512, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S1x512, .f32⟩
  | .hbm, ⟨24, _⟩ => ⟨S512, .f32⟩
  | .hbm, ⟨25, _⟩ => ⟨S1x1x512, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S8x2048x512, .f32⟩
  | _, _ => ⟨S8x2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Ada.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x2048 : Shape := ⟨3, ![1, 1024, 2048]⟩
abbrev S1x1x2048 : Shape := ⟨3, ![1, 1, 2048]⟩
abbrev S1x8x2048 : Shape := ⟨3, ![1, 8, 2048]⟩
abbrev S1024x2048 : Shape := ⟨2, ![1024, 2048]⟩
abbrev S8x2048 : Shape := ⟨2, ![8, 2048]⟩
abbrev S1x2048 : Shape := ⟨2, ![1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x8x2048, .f32⟩
  | .local _ .vmem, ⟨6, _⟩ => ⟨S1x8x2048, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Cmp.lean ====
abbrev S8x2048x2688 : Shape := ⟨3, ![8, 2048, 2688]⟩
abbrev S3x64 : Shape := ⟨2, ![3, 64]⟩
abbrev S2x32x64 : Shape := ⟨3, ![2, 32, 64]⟩
abbrev S2x2048x64 : Shape := ⟨3, ![2, 2048, 64]⟩
abbrev S2x64x64 : Shape := ⟨3, ![2, 64, 64]⟩
abbrev S8x2048x512 : Shape := ⟨3, ![8, 2048, 512]⟩
abbrev S8x2048x2x4x64 : Shape := ⟨5, ![8, 2048, 2, 4, 64]⟩
abbrev S8x2x4x2048x64 : Shape := ⟨5, ![8, 2, 4, 2048, 64]⟩
abbrev S8x8x128x1024 : Shape := ⟨4, ![8, 8, 128, 1024]⟩
abbrev S2x2048 : Shape := ⟨2, ![2, 2048]⟩
abbrev S1x64 : Shape := ⟨2, ![1, 64]⟩
abbrev S64 : Shape := ⟨1, ![64]⟩
abbrev S2x1x2048 : Shape := ⟨3, ![2, 1, 2048]⟩
abbrev S8x8x128x64 : Shape := ⟨4, ![8, 8, 128, 64]⟩
abbrev S1x1x128x1024 : Shape := ⟨4, ![1, 1, 128, 1024]⟩
abbrev S1x1x2048 : Shape := ⟨3, ![1, 1, 2048]⟩
abbrev S1x2048x64 : Shape := ⟨3, ![1, 2048, 64]⟩
abbrev S1x64x64 : Shape := ⟨3, ![1, 64, 64]⟩
abbrev S1x1x128x64 : Shape := ⟨4, ![1, 1, 128, 64]⟩
abbrev S128x1024 : Shape := ⟨2, ![128, 1024]⟩
abbrev S1x2048 : Shape := ⟨2, ![1, 2048]⟩
abbrev S1x1024 : Shape := ⟨2, ![1, 1024]⟩
abbrev S1x1024x64 : Shape := ⟨3, ![1, 1024, 64]⟩
abbrev S1024x64 : Shape := ⟨2, ![1024, 64]⟩
abbrev S128x64 : Shape := ⟨2, ![128, 64]⟩
abbrev S64x64 : Shape := ⟨2, ![64, 64]⟩
abbrev S128 : Shape := ⟨1, ![128]⟩
abbrev S128x1 : Shape := ⟨2, ![128, 1]⟩

abbrev nBuf : Space → Nat
  | .hbm => 17
  | .vmem => 11
  | .smem => 0
  | _ => 0

abbrev bufTy : (tb : Table) → Fin (tcTables nBuf tb) → BufTy
  | .hbm, ⟨0, _⟩ => ⟨S8x2048x2688, .f32⟩
  | .hbm, ⟨1, _⟩ => ⟨S3x64, .f32⟩
  | .hbm, ⟨2, _⟩ => ⟨S2x32x64, .f32⟩
  | .hbm, ⟨3, _⟩ => ⟨S2x2048x64, .f32⟩
  | .hbm, ⟨4, _⟩ => ⟨S2x64x64, .f32⟩
  | .hbm, ⟨5, _⟩ => ⟨S8x2048x512, .f32⟩
  | .hbm, ⟨6, _⟩ => ⟨S8x2048x2x4x64, .f32⟩
  | .hbm, ⟨7, _⟩ => ⟨S8x2x4x2048x64, .f32⟩
  | .hbm, ⟨8, _⟩ => ⟨S8x8x128x1024, .f32⟩
  | .hbm, ⟨9, _⟩ => ⟨S2x2048, .f32⟩
  | .hbm, ⟨10, _⟩ => ⟨S1x64, .f32⟩
  | .hbm, ⟨11, _⟩ => ⟨S64, .f32⟩
  | .hbm, ⟨12, _⟩ => ⟨S2x1x2048, .f32⟩
  | .hbm, ⟨13, _⟩ => ⟨S2x2048x64, .bf16⟩
  | .hbm, ⟨14, _⟩ => ⟨S2x64x64, .bf16⟩
  | .hbm, ⟨15, _⟩ => ⟨S1x64, .f32⟩
  | .hbm, ⟨16, _⟩ => ⟨S8x8x128x64, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x64, .bf16⟩
  | .local _ .vmem, ⟨5, _⟩ => ⟨S1x2048x64, .bf16⟩
  | .local _ .vmem, ⟨6, _⟩ => ⟨S1x64x64, .bf16⟩
  | .local _ .vmem, ⟨7, _⟩ => ⟨S1x64x64, .bf16⟩
  | .local _ .vmem, ⟨8, _⟩ => ⟨S1x64, .f32⟩
  | .local _ .vmem, ⟨9, _⟩ => ⟨S1x1x128x64, .f32⟩
  | .local _ .vmem, ⟨10, _⟩ => ⟨S1x1x128x64, .f32⟩
  | _, _ => ⟨S8x2048x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CmpRefIdeal.lean ====
abbrev S8x2048x2688 : Shape := ⟨3, ![8, 2048, 2688]⟩
abbrev S3x64 : Shape := ⟨2, ![3, 64]⟩
abbrev S2x32x64 : Shape := ⟨3, ![2, 32, 64]⟩
abbrev S2x2048x64 : Shape := ⟨3, ![2, 2048, 64]⟩
abbrev S2x64x64 : Shape := ⟨3, ![2, 64, 64]⟩
abbrev S8x2048x256 : Shape := ⟨3, ![8, 2048, 256]⟩
abbrev S8x2048x4x64 : Shape := ⟨4, ![8, 2048, 4, 64]⟩
abbrev S1x32x64 : Shape := ⟨3, ![1, 32, 64]⟩
abbrev S32x64 : Shape := ⟨2, ![32, 64]⟩
abbrev S1x2048x64 : Shape := ⟨3, ![1, 2048, 64]⟩
abbrev S2048x64 : Shape := ⟨2, ![2048, 64]⟩
abbrev S1x64x64 : Shape := ⟨3, ![1, 64, 64]⟩
abbrev S64x64 : Shape := ⟨2, ![64, 64]⟩
abbrev S8x128x16x4x64 : Shape := ⟨5, ![8, 128, 16, 4, 64]⟩
abbrev S8x127x16x4x64 : Shape := ⟨5, ![8, 127, 16, 4, 64]⟩
abbrev S8x1x16x4x64 : Shape := ⟨5, ![8, 1, 16, 4, 64]⟩
abbrev S8x128x32x4x64 : Shape := ⟨5, ![8, 128, 32, 4, 64]⟩
abbrev S32x1x64 : Shape := ⟨3, ![32, 1, 64]⟩
abbrev S1x1x32x1x64 : Shape := ⟨5, ![1, 1, 32, 1, 64]⟩
abbrev S8x128x4x32x64 : Shape := ⟨5, ![8, 128, 4, 32, 64]⟩
abbrev S8x128x4x2048 : Shape := ⟨4, ![8, 128, 4, 2048]⟩
abbrev S8x128x4x64 : Shape := ⟨4, ![8, 128, 4, 64]⟩
abbrev S_ : Shape := ⟨0, ![]⟩
abbrev S8x128x4 : Shape := ⟨3, ![8, 128, 4]⟩
abbrev S8x128x4x1 : Shape := ⟨4, ![8, 128, 4, 1]⟩
abbrev S1x64 : Shape := ⟨2, ![1, 64]⟩
abbrev S64 : Shape := ⟨1, ![64]⟩
abbrev S1x1x1x64 : Shape := ⟨4, ![1, 1, 1, 64]⟩
abbrev S8x4x128x64 : Shape := ⟨4, ![8, 4, 128, 64]⟩
abbrev S8x8x128x64 : Shape := ⟨4, ![8, 8, 128, 64]⟩

abbrev nBuf : Space → Nat
  | .hbm => 102
  | .vmem => 0
  | .smem => 0
  | _ => 0

abbrev bufTy : (tb : Table) → Fin (tcTables nBuf tb) → BufTy
  | .hbm, ⟨0, _⟩ => ⟨S8x2048x2688, .f32⟩
  | .hbm, ⟨1, _⟩ => ⟨S3x64, .f32⟩
  | .hbm, ⟨2, _⟩ => ⟨S2x32x64, .f32⟩
  | .hbm, ⟨3, _⟩ => ⟨S2x2048x64, .f32⟩
  | .hbm, ⟨4, _⟩ => ⟨S2x64x64, .f32⟩
  | .hbm, ⟨5, _⟩ => ⟨S8x2048x256, .f32⟩
  | .hbm, ⟨6, _⟩ => ⟨S8x2048x4x64, .f32⟩
  | .hbm, ⟨7, _⟩ => ⟨S8x2048x256, .f32⟩
  | .hbm, ⟨8, _⟩ => ⟨S8x2048x4x64, .f32⟩
  | .hbm, ⟨9, _⟩ => ⟨S1x32x64, .f32⟩
  | .hbm, ⟨10, _⟩ => ⟨S32x64, .f32⟩
  | .hbm, ⟨11, _⟩ => ⟨S1x2048x64, .f32⟩
  | .hbm, ⟨12, _⟩ => ⟨S2048x64, .f32⟩
  | .hbm, ⟨13, _⟩ => ⟨S1x64x64, .f32⟩
  | .hbm, ⟨14, _⟩ => ⟨S64x64, .f32⟩
  | .hbm, ⟨15, _⟩ => ⟨S8x128x16x4x64, .f32⟩
  | .hbm, ⟨16, _⟩ => ⟨S8x127x16x4x64, .f32⟩
  | .hbm, ⟨17, _⟩ => ⟨S8x1x16x4x64, .f32⟩
  | .hbm, ⟨18, _⟩ => ⟨S8x128x16x4x64, .f32⟩
  | .hbm, ⟨19, _⟩ => ⟨S8x128x32x4x64, .f32⟩
  | .hbm, ⟨20, _⟩ => ⟨S32x1x64, .f32⟩
  | .hbm, ⟨21, _⟩ => ⟨S1x1x32x1x64, .f32⟩
  | .hbm, ⟨22, _⟩ => ⟨S8x128x32x4x64, .f32⟩
  | .hbm, ⟨23, _⟩ => ⟨S8x128x32x4x64, .f32⟩
  | .hbm, ⟨24, _⟩ => ⟨S8x128x4x32x64, .f32⟩
  | .hbm, ⟨25, _⟩ => ⟨S8x128x4x2048, .f32⟩
  | .hbm, ⟨26, _⟩ => ⟨S8x128x4x64, .f32⟩
  | .hbm, ⟨27, _⟩ => ⟨S8x128x4x64, .f32⟩
  | .hbm, ⟨28, _⟩ => ⟨S8x128x4x64, .f32⟩
  | .hbm, ⟨29, _⟩ => ⟨S_, .f32⟩
  | .hbm, ⟨30, _⟩ => ⟨S8x128x4x64, .f32⟩
  | .hbm, ⟨31, _⟩ => ⟨S8x128x4x64, .f32⟩
  | .hbm, ⟨32, _⟩ => ⟨S8x128x4x64, .f32⟩
  | .hbm, ⟨33, _⟩ => ⟨S_, .f32⟩
  | .hbm, ⟨34, _⟩ => ⟨S8x128x4x64, .f32⟩
  | .hbm, ⟨35, _⟩ => ⟨S8x128x4x64, .f32⟩
  | .hbm, ⟨36, _⟩ => ⟨S8x128x4x64, .f32⟩
  | .hbm, ⟨37, _⟩ => ⟨S_, .f32⟩
  | .hbm, ⟨38, _⟩ => ⟨S8x128x4x64, .f32⟩
  | .hbm, ⟨39, _⟩ => ⟨S8x128x4x64, .f32⟩
  | .hbm, ⟨40, _⟩ => ⟨S_, .f32⟩
  | .hbm, ⟨41, _⟩ => ⟨S8x128x4x64, .f32⟩
  | .hbm, ⟨42, _⟩ => ⟨S8x128x4x64, .f32⟩
  | .hbm, ⟨43, _⟩ => ⟨S8x128x4x64, .f32⟩
  | .hbm, ⟨44, _⟩ => ⟨S8x128x4x64, .f32⟩
  | .hbm, ⟨45, _⟩ => ⟨S8x128x4x64, .f32⟩
  | .hbm, ⟨46, _⟩ => ⟨S_, .f32⟩
  | .hbm, ⟨47, _⟩ => ⟨S8x128x4, .f32⟩
  | .hbm, ⟨48, _⟩ => ⟨S8x128x4x1, .f32⟩
  | .hbm, ⟨49, _⟩ => ⟨S_, .f32⟩
  | .hbm, ⟨50, _⟩ => ⟨S8x128x4x1, .f32⟩
  | .hbm, ⟨51, _⟩ => ⟨S8x128x4x1, .f32⟩
  | .hbm, ⟨52, _⟩ => ⟨S_, .f32⟩
  | .hbm, ⟨53, _⟩ => ⟨S8x128x4x1, .f32⟩
  | .hbm, ⟨54, _⟩ => ⟨S8x128x4x1, .f32⟩
  | .hbm, ⟨55, _⟩ => ⟨S8x128x4x1, .f32⟩
  | .hbm, ⟨56, _⟩ => ⟨S8x128x4x64, .f32⟩
  | .hbm, ⟨57, _⟩ => ⟨S8x128x4x64, .f32⟩
  | .hbm, ⟨58, _⟩ => ⟨S1x64, .f32⟩
  | .hbm, ⟨59, _⟩ => ⟨S64, .f32⟩
  | .hbm, ⟨60, _⟩ => ⟨S1x1x1x64, .f32⟩
  | .hbm, ⟨61, _⟩ => ⟨S8x128x4x64, .f32⟩
  | .hbm, ⟨62, _⟩ => ⟨S8x128x4x64, .f32⟩
  | .hbm, ⟨63, _⟩ => ⟨S1x32x64, .f32⟩
  | .hbm, ⟨64, _⟩ => ⟨S32x64, .f32⟩
  | .hbm, ⟨65, _⟩ => ⟨S1x2048x64, .f32⟩
  | .hbm, ⟨66, _⟩ => ⟨S2048x64, .f32⟩
  | .hbm, ⟨67, _⟩ => ⟨S1x64x64, .f32⟩
  | .hbm, ⟨68, _⟩ => ⟨S64x64, .f32⟩
  | .hbm, ⟨69, _⟩ => ⟨S8x128x16x4x64, .f32⟩
  | .hbm, ⟨70, _⟩ => ⟨S8x127x16x4x64, .f32⟩
  | .hbm, ⟨71, _⟩ => ⟨S8x1x16x4x64, .f32⟩
  | .hbm, ⟨72, _⟩ => ⟨S8x128x16x4x64, .f32⟩
  | .hbm, ⟨73, _⟩ => ⟨S8x128x32x4x64, .f32⟩
  | .hbm, ⟨74, _⟩ => ⟨S32x1x64, .f32⟩
  | .hbm, ⟨75, _⟩ => ⟨S1x1x32x1x64, .f32⟩
  | .hbm, ⟨76, _⟩ => ⟨S8x128x32x4x64, .f32⟩
  | .hbm, ⟨77, _⟩ => ⟨S8x128x32x4x64, .f32⟩
  | .hbm, ⟨78, _⟩ => ⟨S8x128x4x32x64, .f32⟩
  | .hbm, ⟨79, _⟩ => ⟨S8x128x4x2048, .f32⟩
  | .hbm, ⟨80, _⟩ => ⟨S8x128x4x64, .f32⟩
  | .hbm, ⟨81, _⟩ => ⟨S8x128x4x64, .f32⟩
  | .hbm, ⟨82, _⟩ => ⟨S8x128x4x64, .f32⟩
  | .hbm, ⟨83, _⟩ => ⟨S_, .f32⟩
  | .hbm, ⟨84, _⟩ => ⟨S8x128x4x64, .f32⟩
  | .hbm, ⟨85, _⟩ => ⟨S8x128x4x64, .f32⟩
  | .hbm, ⟨86, _⟩ => ⟨S8x128x4x64, .f32⟩
  | .hbm, ⟨87, _⟩ => ⟨S_, .f32⟩
  | .hbm, ⟨88, _⟩ => ⟨S8x128x4x64, .f32⟩
  | .hbm, ⟨89, _⟩ => ⟨S8x128x4x64, .f32⟩
  | .hbm, ⟨90, _⟩ => ⟨S8x128x4x64, .f32⟩
  | .hbm, ⟨91, _⟩ => ⟨S_, .f32⟩
  | .hbm, ⟨92, _⟩ => ⟨S8x128x4x64, .f32⟩
  | .hbm, ⟨93, _⟩ => ⟨S8x128x4x64, .f32⟩
  | .hbm, ⟨94, _⟩ => ⟨S_, .f32⟩
  | .hbm, ⟨95, _⟩ => ⟨S8x128x4x64, .f32⟩
  | .hbm, ⟨96, _⟩ => ⟨S8x128x4x64, .f32⟩
  | .hbm, ⟨97, _⟩ => ⟨S8x128x4x64, .f32⟩
  | .hbm, ⟨98, _⟩ => ⟨S8x128x4x64, .f32⟩
  | .hbm, ⟨99, _⟩ => ⟨S8x4x128x64, .f32⟩
  | .hbm, ⟨100, _⟩ => ⟨S8x4x128x64, .f32⟩
  | .hbm, ⟨101, _⟩ => ⟨S8x8x128x64, .f32⟩
  | _, _ => ⟨S8x2048x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_6 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_7 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_8 : Ref sig .tc := ⟨.hbm, 91, rfl⟩
abbrev main_v77 : Ref sig .tc := ⟨.hbm, 92, rfl⟩
abbrev main_v78 : Ref sig .tc := ⟨.hbm, 93, rfl⟩
abbrev main_cst_9 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩

abbrev nD : Nat := 1
abbrev τ : Topo := Topo.v7x

variable {F : FTy → Type} [FloatOps F]
-- ==== Kv.lean ====
abbrev S8x2048x2688 : Shape := ⟨3, ![8, 2048, 2688]⟩
abbrev S3x64 : Shape := ⟨2, ![3, 64]⟩
abbrev S1x64 : Shape := ⟨2, ![1, 64]⟩
abbrev S64 : Shape := ⟨1, ![64]⟩
abbrev S8x2048x256 : Shape := ⟨3, ![8, 2048, 256]⟩
abbrev S8x2048x512 : Shape := ⟨3, ![8, 2048, 512]⟩
abbrev S1x512x512 : Shape := ⟨3, ![1, 512, 512]⟩
abbrev S1x512x256 : Shape := ⟨3, ![1, 512, 256]⟩
abbrev S512x64 : Shape := ⟨2, ![512, 64]⟩
abbrev S1x512x64 : Shape := ⟨3, ![1, 512, 64]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8x2048x2688, .f32⟩
  | .hbm, ⟨1, _⟩ => ⟨S3x64, .f32⟩
  | .hbm, ⟨2, _⟩ => ⟨S1x64, .f32⟩
  | .hbm, ⟨3, _⟩ => ⟨S64, .f32⟩
  | .hbm, ⟨4, _⟩ => ⟨S1x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S8x2048x256, .bf16⟩
  | .hbm, ⟨9, _⟩ => ⟨S8x2048x512, .bf16⟩
  | .hbm, ⟨10, _⟩ => ⟨S8x2048x256, .bf16⟩
  | .hbm, ⟨11, _⟩ => ⟨S8x2048x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x64, .f32⟩
  | .local _ .vmem, ⟨5, _⟩ => ⟨S1x64, .f32⟩
  | .local _ .vmem, ⟨6, _⟩ => ⟨S1x512x256, .bf16⟩
  | .local _ .vmem, ⟨7, _⟩ => ⟨S1x512x256, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x512, .bf16⟩
  | .local _ .vmem, ⟨13, _⟩ => ⟨S1x512x512, .bf16⟩
  | _, _ => ⟨S8x2048x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v6_2 : Ref sig .tc := ⟨.hbm, 10, rfl⟩
abbrev main_v6_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KvRefIdeal.lean ====
abbrev S8x2048x2688 : Shape := ⟨3, ![8, 2048, 2688]⟩
abbrev S3x64 : Shape := ⟨2, ![3, 64]⟩
abbrev S8x2048x256 : Shape := ⟨3, ![8, 2048, 256]⟩
abbrev S8x2048x4x64 : Shape := ⟨4, ![8, 2048, 4, 64]⟩
abbrev S1x64 : Shape := ⟨2, ![1, 64]⟩
abbrev S64 : Shape := ⟨1, ![64]⟩
abbrev S_ : Shape := ⟨0, ![]⟩
abbrev S8x2048x4 : Shape := ⟨3, ![8, 2048, 4]⟩
abbrev S8x2048x4x1 : Shape := ⟨4, ![8, 2048, 4, 1]⟩
abbrev S1x1x1x64 : Shape := ⟨4, ![1, 1, 1, 64]⟩
abbrev S8x2048x4x63 : Shape := ⟨4, ![8, 2048, 4, 63]⟩
abbrev S8x2048x4x128 : Shape := ⟨4, ![8, 2048, 4, 128]⟩
abbrev S8x2048x512 : Shape := ⟨3, ![8, 2048, 512]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x2688, .f32⟩
  | .hbm, ⟨1, _⟩ => ⟨S3x64, .f32⟩
  | .hbm, ⟨2, _⟩ => ⟨S8x2048x256, .f32⟩
  | .hbm, ⟨3, _⟩ => ⟨S8x2048x4x64, .f32⟩
  | .hbm, ⟨4, _⟩ => ⟨S1x64, .f32⟩
  | .hbm, ⟨5, _⟩ => ⟨S64, .f32⟩
  | .hbm, ⟨6, _⟩ => ⟨S8x2048x4x64, .f32⟩
  | .hbm, ⟨7, _⟩ => ⟨S_, .f32⟩
  | .hbm, ⟨8, _⟩ => ⟨S8x2048x4, .f32⟩
  | .hbm, ⟨9, _⟩ => ⟨S8x2048x4x1, .f32⟩
  | .hbm, ⟨10, _⟩ => ⟨S_, .f32⟩
  | .hbm, ⟨11, _⟩ => ⟨S8x2048x4x1, .f32⟩
  | .hbm, ⟨12, _⟩ => ⟨S8x2048x4x1, .f32⟩
  | .hbm, ⟨13, _⟩ => ⟨S_, .f32⟩
  | .hbm, ⟨14, _⟩ => ⟨S8x2048x4x1, .f32⟩
  | .hbm, ⟨15, _⟩ => ⟨S8x2048x4x1, .f32⟩
  | .hbm, ⟨16, _⟩ => ⟨S8x2048x4x1, .f32⟩
  | .hbm, ⟨17, _⟩ => ⟨S8x2048x4x64, .f32⟩
  | .hbm, ⟨18, _⟩ => ⟨S8x2048x4x64, .f32⟩
  | .hbm, ⟨19, _⟩ => ⟨S1x1x1x64, .f32⟩
  | .hbm, ⟨20, _⟩ => ⟨S8x2048x4x64, .f32⟩
  | .hbm, ⟨21, _⟩ => ⟨S8x2048x4x64, .f32⟩
  | .hbm, ⟨22, _⟩ => ⟨S8x2048x256, .f32⟩
  | .hbm, ⟨23, _⟩ => ⟨S8x2048x256, .f32⟩
  | .hbm, ⟨24, _⟩ => ⟨S8x2048x4x64, .f32⟩
  | .hbm, ⟨25, _⟩ => ⟨S_, .f32⟩
  | .hbm, ⟨26, _⟩ => ⟨S8x2048x4x1, .f32⟩
  | .hbm, ⟨27, _⟩ => ⟨S_, .f32⟩
  | .hbm, ⟨28, _⟩ => ⟨S8x2048x4x63, .f32⟩
  | .hbm, ⟨29, _⟩ => ⟨S8x2048x4x128, .f32⟩
  | .hbm, ⟨30, _⟩ => ⟨S8x2048x512, .f32⟩
  | .hbm, ⟨31, _⟩ => ⟨S8x2048x256, .f32⟩
  | .hbm, ⟨32, _⟩ => ⟨S8x2048x4x64, .f32⟩
  | .hbm, ⟨33, _⟩ => ⟨S1x64, .f32⟩
  | .hbm, ⟨34, _⟩ => ⟨S64, .f32⟩
  | .hbm, ⟨35, _⟩ => ⟨S8x2048x4x64, .f32⟩
  | .hbm, ⟨36, _⟩ => ⟨S_, .f32⟩
  | .hbm, ⟨37, _⟩ => ⟨S8x2048x4, .f32⟩
  | .hbm, ⟨38, _⟩ => ⟨S8x2048x4x1, .f32⟩
  | .hbm, ⟨39, _⟩ => ⟨S_, .f32⟩
  | .hbm, ⟨40, _⟩ => ⟨S8x2048x4x1, .f32⟩
  | .hbm, ⟨41, _⟩ => ⟨S8x2048x4x1, .f32⟩
  | .hbm, ⟨42, _⟩ => ⟨S_, .f32⟩
  | .hbm, ⟨43, _⟩ => ⟨S8x2048x4x1, .f32⟩
  | .hbm, ⟨44, _⟩ => ⟨S8x2048x4x1, .f32⟩
  | .hbm, ⟨45, _⟩ => ⟨S8x2048x4x1, .f32⟩
  | .hbm, ⟨46, _⟩ => ⟨S8x2048x4x64, .f32⟩
  | .hbm, ⟨47, _⟩ => ⟨S8x2048x4x64, .f32⟩
  | .hbm, ⟨48, _⟩ => ⟨S1x1x1x64, .f32⟩
  | .hbm, ⟨49, _⟩ => ⟨S8x2048x4x64, .f32⟩
  | .hbm, ⟨50, _⟩ => ⟨S8x2048x4x64, .f32⟩
  | .hbm, ⟨51, _⟩ => ⟨S8x2048x256, .f32⟩
  | .hbm, ⟨52, _⟩ => ⟨S8x2048x256, .f32⟩
  | .hbm, ⟨53, _⟩ => ⟨S8x2048x4x64, .f32⟩
  | .hbm, ⟨54, _⟩ => ⟨S_, .f32⟩
  | .hbm, ⟨55, _⟩ => ⟨S8x2048x4x1, .f32⟩
  | .hbm, ⟨56, _⟩ => ⟨S_, .f32⟩
  | .hbm, ⟨57, _⟩ => ⟨S8x2048x4x63, .f32⟩
  | .hbm, ⟨58, _⟩ => ⟨S8x2048x4x128, .f32⟩
  | .hbm, ⟨59, _⟩ => ⟨S8x2048x512, .f32⟩
  | .hbm, ⟨60, _⟩ => ⟨S8x2048x256, .bf16⟩
  | .hbm, ⟨61, _⟩ => ⟨S8x2048x512, .bf16⟩
  | .hbm, ⟨62, _⟩ => ⟨S8x2048x256, .bf16⟩
  | .hbm, ⟨63, _⟩ => ⟨S8x2048x512, .bf16⟩
  | _, _ => ⟨S8x2048x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_7 : Ref sig .tc := ⟨.hbm, 54, rfl⟩
abbrev main_v44 : Ref sig .tc := ⟨.hbm, 55, rfl⟩
abbrev main_cst_8 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== Rel.lean ====
abbrev S32x16 : Shape := ⟨2, ![32, 16]⟩
abbrev S16x5x128x128 : Shape := ⟨4, ![16, 5, 128, 128]⟩
abbrev S16x128x128 : Shape := ⟨3, ![16, 128, 128]⟩
abbrev S1x5x128x128 : Shape := ⟨4, ![1, 5, 128, 128]⟩
abbrev S1x128x128 : Shape := ⟨3, ![1, 128, 128]⟩
abbrev S128x128 : Shape := ⟨2, ![128, 128]⟩
abbrev S1x1 : Shape := ⟨2, ![1, 1]⟩
abbrev S1x1x128x128 : Shape := ⟨4, ![1, 1, 128, 128]⟩

abbrev nBuf : Space → Nat
  | .hbm => 3
  | .vmem => 4
  | .smem => 1
  | _ => 0

abbrev bufTy : (tb : Table) → Fin (tcTables nBuf tb) → BufTy
  | .hbm, ⟨0, _⟩ => ⟨S32x16, .f32⟩
  | .hbm, ⟨1, _⟩ => ⟨S16x5x128x128, .f32⟩
  | .hbm, ⟨2, _⟩ => ⟨S16x128x128, .f32⟩
  | .local _ .vmem, ⟨0, _⟩ => ⟨S1x5x128x128, .f32⟩
  | .local _ .vmem, ⟨1, _⟩ => ⟨S1x5x128x128, .f32⟩
  | .local _ .vmem, ⟨2, _⟩ => ⟨S1x128x128, .f32⟩
  | .local _ .vmem, ⟨3, _⟩ => ⟨S1x128x128, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c31 : Index := 31#32
  let arg0 : BitVec 32 := BitVec.ofNat 32 (i 0).val
  let v2 : Index := Scalar.indexCast arg0
  ![31, v2.toNat]
def k0_off2 (i : grid0.Coords) : Fin 2 → Nat :=
  let c0 : Index := 0#32
  let arg0 : BitVec 32 := BitVec.ofNat 32 (i 0).val
  let v29 : Index := Scalar.indexCast arg0
  ![0, v29.toNat]
def k0_off3 (i : grid0.Coords) : Fin 2 → Nat :=
  let c1 : Index := 1#32
  let arg0 : BitVec 32 := BitVec.ofNat 32 (i 0).val
  let v35 : Index := Scalar.indexCast arg0
  ![1, v35.toNat]
def k0_off4 (i : grid0.Coords) : Fin 2 → Nat :=
  let c2 : Index := 2#32
  let arg0 : BitVec 32 := BitVec.ofNat 32 (i 0).val
  let v41 : Index := Scalar.indexCast arg0
  ![2, v41.toNat]
def k0_off5 (i : grid0.Coords) : Fin 2 → Nat :=
  let c3 : Index := 3#32
  let arg0 : BitVec 32 := BitVec.ofNat 32 (i 0).val
  let v47 : Index := Scalar.indexCast arg0
  ![3, v47.toNat]
def k0_off6 (i : grid0.Coords) : Fin 2 → Nat :=
  let c4 : Index := 4#32
  let arg0 : BitVec 32 := BitVec.ofNat 32 (i 0).val
  let v53 : Index := Scalar.indexCast arg0
  ![4, v53.toNat]
def k0_off7 (i : grid0.Coords) : Fin 2 → Nat :=
  let c5 : Index := 5#32
  let arg0 : BitVec 32 := BitVec.ofNat 32 (i 0).val
  let v59 : Index := Scalar.indexCast arg0
  ![5, v59.toNat]
def k0_off8 (i : grid0.Coords) : Fin 2 → Nat :=
  let c6 : Index := 6#32
  let arg0 : BitVec 32 := BitVec.ofNat 32 (i 0).val
  let v65 : Index := Scalar.indexCast arg0
  ![6, v65.toNat]
def k0_off9 (i : grid0.Coords) : Fin 2 → Nat :=
  let c7 : Index := 7#32
  let arg0 : BitVec 32 := BitVec.ofNat 32 (i 0).val
  let v71 : Index := Scalar.indexCast arg0
  ![7, v71.toNat]
def k0_off10 (i : grid0.Coords) : Fin 2 → Nat :=
  let c8 : Index := 8#32
  let arg0 : BitVec 32 := BitVec.ofNat 32 (i 0).val
  let v77 : Index := Scalar.indexCast arg0
  ![8, v77.toNat]
def k0_off11 (i : grid0.Coords) : Fin 2 → Nat :=
  let c9 : Index := 9#32
  let arg0 : BitVec 32 := BitVec.ofNat 32 (i 0).val
  let v83 : Index := Scalar.indexCast arg0
  ![9, v83.toNat]
def k0_off12 (i : grid0.Coords) : Fin 2 → Nat :=
  let c10 : Index := 10#32
  let arg0 : BitVec 32 := BitVec.ofNat 32 (i 0).val
  let v89 : Index := Scalar.indexCast arg0
  ![10, v89.toNat]
def k0_off13 (i : grid0.Coords) : Fin 2 → Nat :=
  let c11 : Index := 11#32
  let arg0 : BitVec 32 := BitVec.ofNat 32 (i 0).val
  let v95 : Index := Scalar.indexCast arg0
  ![11, v95.toNat]
def k0_off14 (i : grid0.Coords) : Fin 2 → Nat :=
  let c12 : Index := 12#32
  let arg0 : BitVec 32 := BitVec.ofNat 32 (i 0).val
  let v101 : Index := Scalar.indexCast arg0
  ![12, v101.toNat]
def k0_off15 (i : grid0.Coords) : Fin 2 → Nat :=
  let c13 : Index := 13#32
  let arg0 : BitVec 32 := BitVec.ofNat 32 (i 0).val
  let v107 : Index := Scalar.indexCast arg0
  ![13, v107.toNat]
def k0_off16 (i : grid0.Coords) : Fin 2 → Nat :=
  let c14 : Index := 14#32
  let arg0 : BitVec 32 := BitVec.ofNat 32 (i 0).val
  let v113 : Index := Scalar.indexCast arg0
  ![14, v113.toNat]
def k0_off17 (i : grid0.Coords) : Fin 2 → Nat :=
  let c15 : Index := 15#32
  let arg0 : BitVec 32 := BitVec.ofNat 32 (i 0).val
  let v119 : Index := Scalar.indexCast arg0
  ![15, v119.toNat]
def k0_off18 (i : grid0.Coords) : Fin 2 → Nat :=
  let c16 : Index := 16#32
  let arg0 : BitVec 32 := BitVec.ofNat 32 (i 0).val
  let v125 : Index := Scalar.indexCast arg0
  ![16, v125.toNat]
def k0_off19 (i : grid0.Coords) : Fin 2 → Nat :=
  let c17 : Index := 17#32
  let arg0 : BitVec 32 := BitVec.ofNat 32 (i 0).val
  let v131 : Index := Scalar.indexCast arg0
  ![17, v131.toNat]
def k0_off20 (i : grid0.Coords) : Fin 2 → Nat :=
  let c18 : Index := 18#32
  let arg0 : BitVec 32 := BitVec.ofNat 32 (i 0).val
  let v137 : Index := Scalar.indexCast arg0
  ![18, v137.toNat]
def k0_off21 (i : grid0.Coords) : Fin 2 → Nat :=
  let c19 : Index := 19#32
  let arg0 : BitVec 32 := BitVec.ofNat 32 (i 0).val
  let v143 : Index := Scalar.indexCast arg0
  ![19, v143.toNat]
def k0_off22 (i : grid0.Coords) : Fin 2 → Nat :=
  let c20 : Index := 20#32
  let arg0 : BitVec 32 := BitVec.ofNat 32 (i 0).val
  let v149 : Index := Scalar.indexCast arg0
  ![20, v149.toNat]
def k0_off23 (i : grid0.Coords) : Fin 2 → Nat :=
  let c21 : Index := 21#32
  let arg0 : BitVec 32 := BitVec.ofNat 32 (i 0).val
  let v155 : Index := Scalar.indexCast arg0
  ![21, v155.toNat]
def k0_off24 (i : grid0.Coords) : Fin 2 → Nat :=
  let c22 : Index := 22#32
  let arg0 : BitVec 32 := BitVec.ofNat 32 (i 0).val
  let v161 : Index := Scalar.indexCast arg0
  ![22, v161.toNat]
def k0_off25 (i : grid0.Coords) : Fin 2 → Nat :=
  let c23 : Index := 23#32
  let arg0 : BitVec 32 := BitVec.ofNat 32 (i 0).val
  let v167 : Index := Scalar.indexCast arg0
  ![23, v167.toNat]
def k0_off26 (i : grid0.Coords) : Fin 2 → Nat :=
  let c24 : Index := 24#32
  let arg0 : BitVec 32 := BitVec.ofNat 32 (i 0).val
  let v173 : Index := Scalar.indexCast arg0
  ![24, v173.toNat]
def k0_off27 (i : grid0.Coords) : Fin 2 → Nat :=
  let c25 : Index := 25#32
  let arg0 : BitVec 32 := BitVec.ofNat 32 (i 0).val
  let v179 : Index := Scalar.indexCast arg0
  ![25, v179.toNat]
def k0_off28 (i : grid0.Coords) : Fin 2 → Nat :=
  let c26 : Index := 26#32
  let arg0 : BitVec 32 := BitVec.ofNat 32 (i 0).val
  let v185 : Index := Scalar.indexCast arg0
  ![26, v185.toNat]
def k0_off29 (i : grid0.Coords) : Fin 2 → Nat :=
  let c27 : Index := 27#32
  let arg0 : BitVec 32 := BitVec.ofNat 32 (i 0).val
  let v191 : Index := Scalar.indexCast arg0
  ![27, v191.toNat]
def k0_off30 (i : grid0.Coords) : Fin 2 → Nat :=
  let c28 : Index := 28#32
  let arg0 : BitVec 32 := BitVec.ofNat 32 (i 0).val
  let v197 : Index := Scalar.indexCast arg0
  ![28, v197.toNat]
def k0_off31 (i : grid0.Coords) : Fin 2 → Nat :=
  let c29 : Index := 29#32
  let arg0 : BitVec 32 := BitVec.ofNat 32 (i 0).val
  let v203 : Index := Scalar.indexCast arg0
  ![29, v203.toNat]
def k0_off32 (i : grid0.Coords) : Fin 2 → Nat :=
  let c30 : Index := 30#32
  let arg0 : BitVec 32 := BitVec.ofNat 32 (i 0).val
  let v209 : Index := Scalar.indexCast arg0
  ![30, v209.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x5x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RelRefIdeal.lean ====
abbrev S32x16 : Shape := ⟨2, ![32, 16]⟩
abbrev S128 : Shape := ⟨1, ![128]⟩
abbrev S128x1 : Shape := ⟨2, ![128, 1]⟩
abbrev S1x128 : Shape := ⟨2, ![1, 128]⟩
abbrev S_ : Shape := ⟨0, ![]⟩
abbrev S16x128x128 : Shape := ⟨3, ![16, 128, 128]⟩
abbrev S128x128 : Shape := ⟨2, ![128, 128]⟩
abbrev S1x128x128 : Shape := ⟨3, ![1, 128, 128]⟩
abbrev S128x128x1 : Shape := ⟨3, ![128, 128, 1]⟩
abbrev S128x128x16 : Shape := ⟨3, ![128, 128, 16]⟩
abbrev S16x1x128x128 : Shape := ⟨4, ![16, 1, 128, 128]⟩
abbrev S16x5x128x128 : Shape := ⟨4, ![16, 5, 128, 128]⟩

abbrev nBuf : Space → Nat
  | .hbm => 267
  | .vmem => 0
  | .smem => 0
  | _ => 0

abbrev hbmTy0_0 (i : Nat) : BufTy := match i % 128 with
  | 0 => ⟨S32x16, .f32⟩
  | 1 => ⟨S128, .i32⟩
  | 2 => ⟨S128x1, .i32⟩
  | 3 => ⟨S128, .i32⟩
  | 4 => ⟨S1x128, .i32⟩
  | 5 => ⟨S_, .f32⟩
  | 6 => ⟨S16x128x128, .f32⟩
  | 7 => ⟨S128x128, .i32⟩
  | 8 => ⟨S128x128, .i32⟩
  | 9 => ⟨S128x128, .i32⟩
  | 10 => ⟨S_, .i32⟩
  | 11 => ⟨S128x128, .i32⟩
  | 12 => ⟨S128x128, .i1⟩
  | 13 => ⟨S1x128x128, .i1⟩
  | 14 => ⟨S128x128, .i32⟩
  | 15 => ⟨S128x128, .i32⟩
  | 16 => ⟨S128x128, .i32⟩
  | 17 => ⟨S_, .i32⟩
  | 18 => ⟨S128x128, .i32⟩
  | 19 => ⟨S128x128, .i32⟩
  | 20 => ⟨S_, .i32⟩
  | 21 => ⟨S128x128, .i32⟩
  | 22 => ⟨S128x128, .i32⟩
  | 23 => ⟨S128x128, .f32⟩
  | 24 => ⟨S_, .f32⟩
  | 25 => ⟨S128x128, .f32⟩
  | 26 => ⟨S128x128, .f32⟩
  | 27 => ⟨S128x128, .f32⟩
  | 28 => ⟨S_, .f32⟩
  | 29 => ⟨S128x128, .f32⟩
  | 30 => ⟨S128x128, .f32⟩
  | 31 => ⟨S_, .f32⟩
  | 32 => ⟨S128x128, .f32⟩
  | 33 => ⟨S128x128, .f32⟩
  | 34 => ⟨S128x128, .i32⟩
  | 35 => ⟨S_, .i32⟩
  | 36 => ⟨S128x128, .i32⟩
  | 37 => ⟨S128x128, .i32⟩
  | 38 => ⟨S_, .i32⟩
  | 39 => ⟨S128x128, .i32⟩
  | 40 => ⟨S128x128, .i32⟩
  | 41 => ⟨S_, .i32⟩
  | 42 => ⟨S128x128, .i32⟩
  | 43 => ⟨S128x128, .i1⟩
  | 44 => ⟨S128x128, .i32⟩
  | 45 => ⟨S_, .i32⟩
  | 46 => ⟨S128x128, .i32⟩
  | 47 => ⟨S128x128, .i1⟩
  | 48 => ⟨S_, .i32⟩
  | 49 => ⟨S128x128, .i32⟩
  | 50 => ⟨S128x128, .i32⟩
  | 51 => ⟨S128x128, .i32⟩
  | 52 => ⟨S128x128x1, .i32⟩
  | 53 => ⟨S128x128x16, .f32⟩
  | 54 => ⟨S16x128x128, .f32⟩
  | 55 => ⟨S16x128x128, .i1⟩
  | 56 => ⟨S16x128x128, .f32⟩
  | 57 => ⟨S128x128, .i32⟩
  | 58 => ⟨S128x128, .i32⟩
  | 59 => ⟨S128x128, .i32⟩
  | 60 => ⟨S_, .i32⟩
  | 61 => ⟨S128x128, .i32⟩
  | 62 => ⟨S128x128, .i32⟩
  | 63 => ⟨S_, .i32⟩
  | 64 => ⟨S128x128, .i32⟩
  | 65 => ⟨S128x128, .i32⟩
  | 66 => ⟨S_, .i32⟩
  | 67 => ⟨S128x128, .i32⟩
  | 68 => ⟨S128x128, .i32⟩
  | 69 => ⟨S128x128, .f32⟩
  | 70 => ⟨S_, .f32⟩
  | 71 => ⟨S128x128, .f32⟩
  | 72 => ⟨S128x128, .f32⟩
  | 73 => ⟨S128x128, .f32⟩
  | 74 => ⟨S_, .f32⟩
  | 75 => ⟨S128x128, .f32⟩
  | 76 => ⟨S128x128, .f32⟩
  | 77 => ⟨S_, .f32⟩
  | 78 => ⟨S128x128, .f32⟩
  | 79 => ⟨S128x128, .f32⟩
  | 80 => ⟨S128x128, .i32⟩
  | 81 => ⟨S_, .i32⟩
  | 82 => ⟨S128x128, .i32⟩
  | 83 => ⟨S128x128, .i32⟩
  | 84 => ⟨S_, .i32⟩
  | 85 => ⟨S128x128, .i32⟩
  | 86 => ⟨S128x128, .i32⟩
  | 87 => ⟨S_, .i32⟩
  | 88 => ⟨S128x128, .i32⟩
  | 89 => ⟨S128x128, .i1⟩
  | 90 => ⟨S128x128, .i32⟩
  | 91 => ⟨S_, .i32⟩
  | 92 => ⟨S128x128, .i32⟩
  | 93 => ⟨S128x128, .i1⟩
  | 94 => ⟨S_, .i32⟩
  | 95 => ⟨S128x128, .i32⟩
  | 96 => ⟨S128x128, .i32⟩
  | 97 => ⟨S128x128, .i32⟩
  | 98 => ⟨S128x128x1, .i32⟩
  | 99 => ⟨S128x128x16, .f32⟩
  | 100 => ⟨S16x128x128, .f32⟩
  | 101 => ⟨S128x128, .i32⟩
  | 102 => ⟨S128x128, .i32⟩
  | 103 => ⟨S128x128, .i32⟩
  | 104 => ⟨S_, .i32⟩
  | 105 => ⟨S128x128, .i32⟩
  | 106 => ⟨S128x128, .i32⟩
  | 107 => ⟨S_, .i32⟩
  | 108 => ⟨S128x128, .i32⟩
  | 109 => ⟨S128x128, .i32⟩
  | 110 => ⟨S_, .i32⟩
  | 111 => ⟨S128x128, .i32⟩
  | 112 => ⟨S128x128, .i32⟩
  | 113 => ⟨S128x128, .f32⟩
  | 114 => ⟨S_, .f32⟩
  | 115 => ⟨S128x128, .f32⟩
  | 116 => ⟨S128x128, .f32⟩
  | 117 => ⟨S128x128, .f32⟩
  | 118 => ⟨S_, .f32⟩
  | 119 => ⟨S128x128, .f32⟩
  | 120 => ⟨S128x128, .f32⟩
  | 121 => ⟨S_, .f32⟩
  | 122 => ⟨S128x128, .f32⟩
  | 123 => ⟨S128x128, .f32⟩
  | 124 => ⟨S128x128, .i32⟩
  | 125 => ⟨S_, .i32⟩
  | 126 => ⟨S128x128, .i32⟩
  | 127 => ⟨S128x128, .i32⟩
  | _ => ⟨S32x16, .f32⟩

abbrev hbmTy0_1 (i : Nat) : BufTy := match i % 128 with
  | 0 => ⟨S_, .i32⟩
  | 1 => ⟨S128x128, .i32⟩
  | 2 => ⟨S128x128, .i32⟩
  | 3 => ⟨S_, .i32⟩
  | 4 => ⟨S128x128, .i32⟩
  | 5 => ⟨S128x128, .i1⟩
  | 6 => ⟨S128x128, .i32⟩
  | 7 => ⟨S_, .i32⟩
  | 8 => ⟨S128x128, .i32⟩
  | 9 => ⟨S128x128, .i1⟩
  | 10 => ⟨S_, .i32⟩
  | 11 => ⟨S128x128, .i32⟩
  | 12 => ⟨S128x128, .i32⟩
  | 13 => ⟨S128x128, .i32⟩
  | 14 => ⟨S128x128x1, .i32⟩
  | 15 => ⟨S128x128x16, .f32⟩
  | 16 => ⟨S16x128x128, .f32⟩
  | 17 => ⟨S128x128, .i32⟩
  | 18 => ⟨S128x128, .i32⟩
  | 19 => ⟨S128x128, .i32⟩
  | 20 => ⟨S_, .i32⟩
  | 21 => ⟨S128x128, .i32⟩
  | 22 => ⟨S128x128, .i32⟩
  | 23 => ⟨S_, .i32⟩
  | 24 => ⟨S128x128, .i32⟩
  | 25 => ⟨S128x128, .i1⟩
  | 26 => ⟨S1x128x128, .i1⟩
  | 27 => ⟨S128x128, .i32⟩
  | 28 => ⟨S128x128, .i32⟩
  | 29 => ⟨S128x128, .i32⟩
  | 30 => ⟨S_, .i32⟩
  | 31 => ⟨S128x128, .i32⟩
  | 32 => ⟨S128x128, .i32⟩
  | 33 => ⟨S_, .i32⟩
  | 34 => ⟨S128x128, .i32⟩
  | 35 => ⟨S128x128, .i32⟩
  | 36 => ⟨S_, .i32⟩
  | 37 => ⟨S128x128, .i32⟩
  | 38 => ⟨S128x128, .i32⟩
  | 39 => ⟨S128x128, .f32⟩
  | 40 => ⟨S_, .f32⟩
  | 41 => ⟨S128x128, .f32⟩
  | 42 => ⟨S128x128, .f32⟩
  | 43 => ⟨S128x128, .f32⟩
  | 44 => ⟨S_, .f32⟩
  | 45 => ⟨S128x128, .f32⟩
  | 46 => ⟨S128x128, .f32⟩
  | 47 => ⟨S_, .f32⟩
  | 48 => ⟨S128x128, .f32⟩
  | 49 => ⟨S128x128, .f32⟩
  | 50 => ⟨S128x128, .i32⟩
  | 51 => ⟨S_, .i32⟩
  | 52 => ⟨S128x128, .i32⟩
  | 53 => ⟨S128x128, .i32⟩
  | 54 => ⟨S_, .i32⟩
  | 55 => ⟨S128x128, .i32⟩
  | 56 => ⟨S128x128, .i32⟩
  | 57 => ⟨S_, .i32⟩
  | 58 => ⟨S128x128, .i32⟩
  | 59 => ⟨S128x128, .i1⟩
  | 60 => ⟨S128x128, .i32⟩
  | 61 => ⟨S_, .i32⟩
  | 62 => ⟨S128x128, .i32⟩
  | 63 => ⟨S128x128, .i1⟩
  | 64 => ⟨S_, .i32⟩
  | 65 => ⟨S128x128, .i32⟩
  | 66 => ⟨S128x128, .i32⟩
  | 67 => ⟨S128x128, .i32⟩
  | 68 => ⟨S128x128x1, .i32⟩
  | 69 => ⟨S128x128x16, .f32⟩
  | 70 => ⟨S16x128x128, .f32⟩
  | 71 => ⟨S16x128x128, .i1⟩
  | 72 => ⟨S16x128x128, .f32⟩
  | 73 => ⟨S_, .i32⟩
  | 74 => ⟨S1x128, .i32⟩
  | 75 => ⟨S1x128, .i32⟩
  | 76 => ⟨S_, .i32⟩
  | 77 => ⟨S1x128, .i32⟩
  | 78 => ⟨S1x128, .i32⟩
  | 79 => ⟨S_, .i32⟩
  | 80 => ⟨S1x128, .i32⟩
  | 81 => ⟨S1x128, .i32⟩
  | 82 => ⟨S_, .i32⟩
  | 83 => ⟨S1x128, .i32⟩
  | 84 => ⟨S1x128, .i32⟩
  | 85 => ⟨S128x128, .i32⟩
  | 86 => ⟨S128x128, .i32⟩
  | 87 => ⟨S128x128, .i32⟩
  | 88 => ⟨S16x1x128x128, .f32⟩
  | 89 => ⟨S16x1x128x128, .f32⟩
  | 90 => ⟨S16x1x128x128, .f32⟩
  | 91 => ⟨S16x1x128x128, .f32⟩
  | 92 => ⟨S16x1x128x128, .f32⟩
  | 93 => ⟨S16x5x128x128, .f32⟩
  | 94 => ⟨S_, .i32⟩
  | 95 => ⟨S128x128, .i32⟩
  | 96 => ⟨S128x128, .i1⟩
  | 97 => ⟨S_, .i32⟩
  | 98 => ⟨S128x128, .i32⟩
  | 99 => ⟨S128x128, .i32⟩
  | 100 => ⟨S128x128, .i32⟩
  | 101 => ⟨S_, .i32⟩
  | 102 => ⟨S128x128, .i32⟩
  | 103 => ⟨S128x128, .i32⟩
  | 104 => ⟨S_, .i32⟩
  | 105 => ⟨S128x128, .i32⟩
  | 106 => ⟨S128x128, .i32⟩
  | 107 => ⟨S128x128, .f32⟩
  | 108 => ⟨S_, .f32⟩
  | 109 => ⟨S128x128, .f32⟩
  | 110 => ⟨S128x128, .f32⟩
  | 111 => ⟨S128x128, .f32⟩
  | 112 => ⟨S_, .f32⟩
  | 113 => ⟨S128x128, .f32⟩
  | 114 => ⟨S128x128, .f32⟩
  | 115 => ⟨S_, .f32⟩
  | 116 => ⟨S128x128, .f32⟩
  | 117 => ⟨S128x128, .f32⟩
  | 118 => ⟨S128x128, .i32⟩
  | 119 => ⟨S_, .i32⟩
  | 120 => ⟨S128x128, .i32⟩
  | 121 => ⟨S128x128, .i32⟩
  | 122 => ⟨S_, .i32⟩
  | 123 => ⟨S128x128, .i32⟩
  | 124 => ⟨S128x128, .i32⟩
  | 125 => ⟨S_, .i32⟩
  | 126 => ⟨S128x128, .i32⟩
  | 127 => ⟨S128x128, .i1⟩
  | _ => ⟨S32x16, .f32⟩

abbrev hbmTy0_2 (i : Nat) : BufTy := match i % 128 with
  | 0 => ⟨S128x128, .i32⟩
  | 1 => ⟨S_, .i32⟩
  | 2 => ⟨S128x128, .i32⟩
  | 3 => ⟨S128x128, .i1⟩
  | 4 => ⟨S_, .i32⟩
  | 5 => ⟨S128x128, .i32⟩
  | 6 => ⟨S128x128, .i32⟩
  | 7 => ⟨S128x128, .i32⟩
  | 8 => ⟨S128x128x1, .i32⟩
  | 9 => ⟨S128x128x16, .f32⟩
  | 10 => ⟨S16x128x128, .f32⟩
  | _ => ⟨S32x16, .f32⟩

abbrev hbmTy (i : Nat) : BufTy := match i / 128 with
  | 0 => hbmTy0_0 i
  | 1 => hbmTy0_1 i
  | 2 => hbmTy0_2 i
  | _ => ⟨S32x16, .f32⟩

abbrev bufTy : (tb : Table) → Fin (tcTables nBuf tb) → BufTy
  | .hbm, ⟨i, _⟩ => hbmTy i
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_5 : Ref sig .tc := ⟨.hbm, 35, rfl⟩
abbrev main_v27 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_8 : Ref sig .tc := ⟨.hbm, 45, rfl⟩
abbrev main_v34 : Ref sig .tc := ⟨.hbm, 46, rfl⟩
abbrev main_v35 : Ref sig .tc := ⟨.hbm, 47, rfl⟩
abbrev main_c_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_10 : Ref sig .tc := ⟨.hbm, 60, rfl⟩
abbrev main_v46 : Ref sig .tc := ⟨.hbm, 61, rfl⟩
abbrev main_v47 : Ref sig .tc := ⟨.hbm, 62, rfl⟩
abbrev main_c_11 : Ref sig .tc := ⟨.hbm, 63, rfl⟩
abbrev main_v48 : Ref sig .tc := ⟨.hbm, 64, rfl⟩
abbrev main_v49 : Ref sig .tc := ⟨.hbm, 65, rfl⟩
abbrev main_c_12 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_14 : Ref sig .tc := ⟨.hbm, 74, rfl⟩
abbrev main_v56 : Ref sig .tc := ⟨.hbm, 75, rfl⟩
abbrev main_v57 : Ref sig .tc := ⟨.hbm, 76, rfl⟩
abbrev main_cst_15 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_16 : Ref sig .tc := ⟨.hbm, 81, rfl⟩
abbrev main_v61 : Ref sig .tc := ⟨.hbm, 82, rfl⟩
abbrev main_v62 : Ref sig .tc := ⟨.hbm, 83, rfl⟩
abbrev main_c_17 : Ref sig .tc := ⟨.hbm, 84, rfl⟩
abbrev main_v63 : Ref sig .tc := ⟨.hbm, 85, rfl⟩
abbrev main_v64 : Ref sig .tc := ⟨.hbm, 86, rfl⟩
abbrev main_c_18 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_19 : Ref sig .tc := ⟨.hbm, 91, rfl⟩
abbrev main_v68 : Ref sig .tc := ⟨.hbm, 92, rfl⟩
abbrev main_v69 : Ref sig .tc := ⟨.hbm, 93, rfl⟩
abbrev main_c_20 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_21 : Ref sig .tc := ⟨.hbm, 104, rfl⟩
abbrev main_v79 : Ref sig .tc := ⟨.hbm, 105, rfl⟩
abbrev main_v80 : Ref sig .tc := ⟨.hbm, 106, rfl⟩
abbrev main_c_22 : Ref sig .tc := ⟨.hbm, 107, rfl⟩
abbrev main_v81 : Ref sig .tc := ⟨.hbm, 108, rfl⟩
abbrev main_v82 : Ref sig .tc := ⟨.hbm, 109, rfl⟩
abbrev main_c_23 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_24 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_25 : Ref sig .tc := ⟨.hbm, 118, rfl⟩
abbrev main_v89 : Ref sig .tc := ⟨.hbm, 119, rfl⟩
abbrev main_v90 : Ref sig .tc := ⟨.hbm, 120, rfl⟩
abbrev main_cst_26 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_27 : Ref sig .tc := ⟨.hbm, 125, rfl⟩
abbrev main_v94 : Ref sig .tc := ⟨.hbm, 126, rfl⟩
abbrev main_v95 : Ref sig .tc := ⟨.hbm, 127, rfl⟩
abbrev main_c_28 : Ref sig .tc := ⟨.hbm, 128, rfl⟩
abbrev main_v96 : Ref sig .tc := ⟨.hbm, 129, rfl⟩
abbrev main_v97 : Ref sig .tc := ⟨.hbm, 130, rfl⟩
abbrev main_c_29 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_30 : Ref sig .tc := ⟨.hbm, 135, rfl⟩
abbrev main_v101 : Ref sig .tc := ⟨.hbm, 136, rfl⟩
abbrev main_v102 : Ref sig .tc := ⟨.hbm, 137, rfl⟩
abbrev main_c_31 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_c_32 : Ref sig .tc := ⟨.hbm, 148, rfl⟩
abbrev main_v112 : Ref sig .tc := ⟨.hbm, 149, rfl⟩
abbrev main_v113 : Ref sig .tc := ⟨.hbm, 150, rfl⟩
abbrev main_c_33 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_34 : Ref sig .tc := ⟨.hbm, 158, rfl⟩
abbrev main_v120 : Ref sig .tc := ⟨.hbm, 159, rfl⟩
abbrev main_v121 : Ref sig .tc := ⟨.hbm, 160, rfl⟩
abbrev main_c_35 : Ref sig .tc := ⟨.hbm, 161, rfl⟩
abbrev main_v122 : Ref sig .tc := ⟨.hbm, 162, rfl⟩
abbrev main_v123 : Ref sig .tc := ⟨.hbm, 163, rfl⟩
abbrev main_c_36 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_37 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_38 : Ref sig .tc := ⟨.hbm, 172, rfl⟩
abbrev main_v130 : Ref sig .tc := ⟨.hbm, 173, rfl⟩
abbrev main_v131 : Ref sig .tc := ⟨.hbm, 174, rfl⟩
abbrev main_cst_39 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_40 : Ref sig .tc := ⟨.hbm, 179, rfl⟩
abbrev main_v135 : Ref sig .tc := ⟨.hbm, 180, rfl⟩
abbrev main_v136 : Ref sig .tc := ⟨.hbm, 181, rfl⟩
abbrev main_c_41 : Ref sig .tc := ⟨.hbm, 182, rfl⟩
abbrev main_v137 : Ref sig .tc := ⟨.hbm, 183, rfl⟩
abbrev main_v138 : Ref sig .tc := ⟨.hbm, 184, rfl⟩
abbrev main_c_42 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_43 : Ref sig .tc := ⟨.hbm, 189, rfl⟩
abbrev main_v142 : Ref sig .tc := ⟨.hbm, 190, rfl⟩
abbrev main_v143 : Ref sig .tc := ⟨.hbm, 191, rfl⟩
abbrev main_c_44 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_call5_v0 : Ref sig .tc := ⟨.hbm, 199, rfl⟩
abbrev main_v150 : Ref sig .tc := ⟨.hbm, 200, rfl⟩
abbrev main_c_45 : Ref sig .tc := ⟨.hbm, 201, rfl⟩
abbrev main_v151 : Ref sig .tc := ⟨.hbm, 202, rfl⟩
abbrev main_v152 : Ref sig .tc := ⟨.hbm, 203, rfl⟩
abbrev main_c_46 : Ref sig .tc := ⟨.hbm, 204, rfl⟩
abbrev main_v153 : Ref sig .tc := ⟨.hbm, 205, rfl⟩
abbrev main_v154 : Ref sig .tc := ⟨.hbm, 206, rfl⟩
abbrev main_c_47 : Ref sig .tc := ⟨.hbm, 207, rfl⟩
abbrev main_v155 : Ref sig .tc := ⟨.hbm, 208, rfl⟩
abbrev main_v156 : Ref sig .tc := ⟨.hbm, 209, rfl⟩
abbrev main_c_48 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_c_49 : Ref sig .tc := ⟨.hbm, 222, rfl⟩
abbrev main_v168 : Ref sig .tc := ⟨.hbm, 223, rfl⟩
abbrev main_v169 : Ref sig .tc := ⟨.hbm, 224, rfl⟩
abbrev main_c_50 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_c_51 : Ref sig .tc := ⟨.hbm, 229, rfl⟩
abbrev main_v173 : Ref sig .tc := ⟨.hbm, 230, rfl⟩
abbrev main_v174 : Ref sig .tc := ⟨.hbm, 231, rfl⟩
abbrev main_c_52 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_cst_53 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_cst_54 : Ref sig .tc := ⟨.hbm, 240, rfl⟩
abbrev main_v181 : Ref sig .tc := ⟨.hbm, 241, rfl⟩
abbrev main_v182 : Ref sig .tc := ⟨.hbm, 242, rfl⟩
abbrev main_cst_55 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_c_56 : Ref sig .tc := ⟨.hbm, 247, rfl⟩
abbrev main_v186 : Ref sig .tc := ⟨.hbm, 248, rfl⟩
abbrev main_v187 : Ref sig .tc := ⟨.hbm, 249, rfl⟩
abbrev main_c_57 : Ref sig .tc := ⟨.hbm, 250, rfl⟩
abbrev main_v188 : Ref sig .tc := ⟨.hbm, 251, rfl⟩
abbrev main_v189 : Ref sig .tc := ⟨.hbm, 252, rfl⟩
abbrev main_c_58 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_c_59 : Ref sig .tc := ⟨.hbm, 257, rfl⟩
abbrev main_v193 : Ref sig .tc := ⟨.hbm, 258, rfl⟩
abbrev main_v194 : Ref sig .tc := ⟨.hbm, 259, rfl⟩
abbrev main_c_60 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩

abbrev nD : Nat := 1
abbrev τ : Topo := Topo.v7x

variable {F : FTy → Type} [FloatOps F]
-- ==== Proof.Base.Zero.lean ====
/-
  A scatter whose index words are all zero writes its updates at the start of the operand.
-/
module

public import Idealize.ShloMosaic.Lib.Pointwise
public import Idealize.ShloMosaic.Lib.Routing.OpsSet
public import Idealize.ShloMosaic.Lib.Routing.OpsPair

@[expose] public section

namespace Cert.Base

open Idealize.ShloMosaic Idealize.ShloMosaic.ValueIdx Idealize.ShloMosaic.Routing

/-- The start of a scatter's window is zero on every axis when all its index words are zero. -/
theorem start_zero {s si u : Shape} {w : ℕ} (d : ScatterDims s si u) (k : u.Idx) (idx : IVec si w) (h : ∀ i, idx i = 0#w)
    (a : Fin s.rank) : d.start k idx a = 0 := by
  unfold ScatterDims.start
  split
  · rw [h]; simp
  · rfl

/-- Where such a scatter's update `k` lands in a matrix: at its own window coordinates. -/
theorem lands_zero {R C w : ℕ} {si u : Shape} (d : ScatterDims (shape2 R C) si u) (k : u.Idx) (idx : IVec si w) (h : ∀ i, idx i = 0#w)
    (r : Fin R) (c : Fin C) : d.resultIdx? k idx = some (ValueIdx.ix2 r c) ↔ d.window k 0 = r.val ∧ d.window k 1 = c.val := by
  rw [Routing.resultIdx?_ix2, start_zero _ _ _ h, start_zero _ _ _ h]
  constructor
  · rintro ⟨a, b⟩; exact ⟨by omega, by omega⟩
  · rintro ⟨a, b⟩; exact ⟨by omega, by omega⟩

/-- A matrix set into the corner of a larger one, read inside the corner. -/
theorem corner_hit {α : Type} {R C R' C' w : ℕ} {si : Shape} (d : ScatterDims (shape2 R C) si (shape2 R' C')) (x0 : (shape2 R C).Idx → α)
    (idx : IVec si w) (upd : (shape2 R' C').Idx → α) (hz : ∀ i, idx i = 0#w) (hw0 : ∀ k, d.window k 0 = (k 0).val) (hw1 : ∀ k, d.window k 1 = (k 1).val)
    (r : Fin R) (c : Fin C) (hr : r.val < R') (hc : c.val < C') :
    Host.scatter d (fun _ b => b) x0 idx upd (ValueIdx.ix2 r c) = upd (ValueIdx.ix2 ⟨r.val, hr⟩ ⟨c.val, hc⟩) := by
  refine scatter_set_hit _ _ _ _ _ _ (fun k hk => ?_) (ValueIdx.ix2 ⟨r.val, hr⟩ ⟨c.val, hc⟩) ((lands_zero _ _ _ hz _ _).2 ⟨hw0 _, hw1 _⟩)
  obtain ⟨e0, e1⟩ := (lands_zero _ _ _ hz _ _).1 hk
  rw [hw0] at e0
  rw [hw1] at e1
  exact congrArg upd (funext fun a => Fin.ext (match a with
    | ⟨0, _⟩ => e0
    | ⟨1, _⟩ => e1))

/-- The same read outside the corner: the larger matrix. -/
theorem corner_miss {α : Type} {R C R' C' w : ℕ} {si : Shape} (d : ScatterDims (shape2 R C) si (shape2 R' C')) (x0 : (shape2 R C).Idx → α)
    (idx : IVec si w) (upd : (shape2 R' C').Idx → α) (hz : ∀ i, idx i = 0#w) (hw1 : ∀ k, d.window k 1 = (k 1).val)
    (r : Fin R) (c : Fin C) (hc : C' ≤ c.val) :
    Host.scatter d (fun _ b => b) x0 idx upd (ValueIdx.ix2 r c) = x0 (ValueIdx.ix2 r c) := by
  refine scatter_set_miss _ _ _ _ _ fun k hk => ?_
  have e := ((lands_zero _ _ _ hz _ _).1 hk).2
  rw [hw1] at e
  have h : (k 1).val < C' := (k 1).isLt
  omega

end Cert.Base
-- ==== Proof.Fox.Blocks.lean ====
/-
  What the attention kernel's windows read of its arguments: the query tile, the batch's keys, values and forget gates
  are blocks of the projected input; the bias and the two gains are the arguments under a unit axis (the bias padded).
-/
module

public import proofs.«01_k».proof.Proof.Gen.KernelIdeal.Frame
public import Idealize.ShloMosaic.Lib.Pointwise
public import Idealize.ShloMosaic.Lib.Routing.OpsSet
public import Idealize.ShloMosaic.Lib.Routing.OpsPair
public import Idealize.ShloMosaic.Lib.Tactic
public import proofs.«01_k».proof.Proof.Base.Zero

@[expose] public section

set_option maxRecDepth 16384

noncomputable section

namespace Cert.Fox

open Idealize.ShloMosaic Idealize.ShloMosaic.TcCoe Cert.KernelIdeal Cert.KernelIdeal.Gen Idealize.ShloMosaic.Routing

variable (m : (ℓ : Loc nD τ sig) → Buf (Elt Ideal) ℓ) (c : Dev nD)

/-- The projected input. -/
abbrev argY : Vec Ideal S8x2048x3200 .f32 := m ((c : Thread nD τ).loc main_arg0)
/-- The forget gate's bias. -/
abbrev argB : Vec Ideal S8 .f32 := m ((c : Thread nD τ).loc main_arg1)
/-- The query gains. -/
abbrev argQ : Vec Ideal S64 .f32 := m ((c : Thread nD τ).loc main_arg2)
/-- The key gains. -/
abbrev argK : Vec Ideal S64 .f32 := m ((c : Thread nD τ).loc main_arg3)

theorem ix0 : ∀ t : Fin grid0.N, win0_0.index t 0 = t.val / 8 ∧ win0_0.index t 1 = t.val % 8 ∧ win0_0.index t 2 = 3 := by decide +kernel
theorem ix1' : ∀ t : Fin grid0.N, win0_1.index t 0 = t.val / 8 ∧ win0_1.index t 1 = 0 ∧ win0_1.index t 2 = 4 := by decide +kernel
theorem ix2' : ∀ t : Fin grid0.N, win0_2.index t 0 = t.val / 8 ∧ win0_2.index t 1 = 0 ∧ win0_2.index t 2 = 5 := by decide +kernel
theorem ix3' : ∀ t : Fin grid0.N, win0_3.index t 0 = t.val / 8 ∧ win0_3.index t 1 = 0 ∧ win0_3.index t 2 = 24 := by decide +kernel
theorem ix4' : ∀ t : Fin grid0.N, win0_4.index t 0 = 0 ∧ win0_4.index t 1 = 0 := by decide +kernel
theorem ix5' : ∀ t : Fin grid0.N, win0_5.index t 0 = 0 ∧ win0_5.index t 1 = 0 := by decide +kernel
theorem ix6' : ∀ t : Fin grid0.N, win0_6.index t 0 = 0 ∧ win0_6.index t 1 = 0 := by decide +kernel

/-- A point's batch. -/
def bat (t : Fin cfg0.N) : Fin 8 := ⟨t.val / 8, by have := t.isLt; have h : cfg0.N = 64 := N_0; omega⟩
/-- A point's query tile. -/
def til (t : Fin cfg0.N) : Fin 8 := ⟨t.val % 8, by omega⟩

theorem coords_1 : ∀ t : Fin grid0.N, (grid0.coords t 1).val = t.val % 8 := by decide +kernel

/-- The query tile. -/
theorem block_q (t : Fin cfg0.N) (r : Fin 256) (e : Fin 512) :
    X0_0 m c t (ix3 0 r e) = argY m c (ix3 (bat t) ⟨256 * (til t).val + r.val, by have := (til t).isLt; omega⟩ ⟨1536 + e.val, by omega⟩) := by
  unfold X0_0 Pipeline.Window.fill
  rw [dif_pos (moved0_0 t _)]
  unfold iblk
  rw [View.read_apply]
  show V m c main_arg0 _ = m (c.tc.loc main_arg0) _
  rw [V_main_arg0]
  refine congrArg _ (funext fun a => Fin.ext ?_)
  obtain ⟨h0, h1, h2⟩ := ix0 t
  match a with
  | ⟨0, _⟩ => show win0_0.index t 0 * 1 + 1 * 0 = t.val / 8; omega
  | ⟨1, _⟩ => show win0_0.index t 1 * 256 + 1 * r.val = 256 * (t.val % 8) + r.val; omega
  | ⟨2, _⟩ => show win0_0.index t 2 * 512 + 1 * e.val = 1536 + e.val; omega

/-- The batch's keys. -/
theorem block_k (t : Fin cfg0.N) (j : Fin 2048) (e : Fin 512) :
    X0_1 m c t (ix3 0 j e) = argY m c (ix3 (bat t) j ⟨2048 + e.val, by omega⟩) := by
  unfold X0_1 Pipeline.Window.fill
  rw [dif_pos (moved0_1 t _)]
  unfold iblk
  rw [View.read_apply]
  show V m c main_arg0 _ = m (c.tc.loc main_arg0) _
  rw [V_main_arg0]
  refine congrArg _ (funext fun a => Fin.ext ?_)
  obtain ⟨h0, h1, h2⟩ := ix1' t
  match a with
  | ⟨0, _⟩ => show win0_1.index t 0 * 1 + 1 * 0 = t.val / 8; omega
  | ⟨1, _⟩ => show win0_1.index t 1 * 2048 + 1 * j.val = j.val; omega
  | ⟨2, _⟩ => show win0_1.index t 2 * 512 + 1 * e.val = 2048 + e.val; omega

/-- The batch's values. -/
theorem block_v (t : Fin cfg0.N) (j : Fin 2048) (e : Fin 512) :
    X0_2 m c t (ix3 0 j e) = argY m c (ix3 (bat t) j ⟨2560 + e.val, by omega⟩) := by
  unfold X0_2 Pipeline.Window.fill
  rw [dif_pos (moved0_2 t _)]
  unfold iblk
  rw [View.read_apply]
  show V m c main_arg0 _ = m (c.tc.loc main_arg0) _
  rw [V_main_arg0]
  refine congrArg _ (funext fun a => Fin.ext ?_)
  obtain ⟨h0, h1, h2⟩ := ix2' t
  match a with
  | ⟨0, _⟩ => show win0_2.index t 0 * 1 + 1 * 0 = t.val / 8; omega
  | ⟨1, _⟩ => show win0_2.index t 1 * 2048 + 1 * j.val = j.val; omega
  | ⟨2, _⟩ => show win0_2.index t 2 * 512 + 1 * e.val = 2560 + e.val; omega

/-- The batch's forget gates (and the columns after them). -/
theorem block_f (t : Fin cfg0.N) (j : Fin 2048) (e : Fin 128) :
    (iblk m c 3 t : Vec Ideal S1x2048x128 .f32) (ix3 0 j e) = argY m c (ix3 (bat t) j ⟨3072 + e.val, by omega⟩) := by
  unfold iblk
  rw [View.read_apply]
  show V m c main_arg0 _ = m (c.tc.loc main_arg0) _
  rw [V_main_arg0]
  refine congrArg _ (funext fun a => Fin.ext ?_)
  obtain ⟨h0, h1, h2⟩ := ix3' t
  match a with
  | ⟨0, _⟩ => show win0_3.index t 0 * 1 + 1 * 0 = t.val / 8; omega
  | ⟨1, _⟩ => show win0_3.index t 1 * 2048 + 1 * j.val = j.val; omega
  | ⟨2, _⟩ => show win0_3.index t 2 * 128 + 1 * e.val = 3072 + e.val; omega

/-- The padded bias, at one of the eight heads. -/
theorem padded_bias (h : Fin 8) : (V m c main_v4 : Vec Ideal S1x128 .f32) (ix2 0 ⟨h.val, by omega⟩) = argB m c (ix1 h) := by
  unfold_abbrev_sides
  after_results
  have hz : ∀ i : S2.Idx, (concatenate S2 0
        [⟨S1, broadcastInDim S1 ![] bcast_S_S1 (constantI S_ 32 0#32)⟩,
          ⟨S1, broadcastInDim S1 ![] bcast_S_S1 (constantI S_ 32 0#32)⟩]
        concatenates_S1_S1_S2_d0) i = 0#32 := by
    intro i
    obtain ⟨a, rfl⟩ : ∃ a : Fin 2, i = ix1 a := ⟨i 0, funext fun b => by match b with | ⟨0, _⟩ => rfl⟩
    fin_cases a <;> rfl
  have hw0 : ∀ k : S8.Idx, scatter_S1x128_S2_S8_0_0_01_0.window k 0 = 0 := fun k => rfl
  have hw1 : ∀ k : S8.Idx, scatter_S1x128_S2_S8_0_0_01_0.window k 1 = (k 0).val := fun k => rfl
  refine scatter_set_hit _ _ _ _ _ _ (fun k hk => ?_) (ix1 h) ((Base.lands_zero (R := 1) (C := 128) _ _ _ hz _ _).2 ⟨hw0 _, hw1 _⟩)
  have e := ((Base.lands_zero (R := 1) (C := 128) _ _ _ hz _ _).1 hk).2
  rw [hw1] at e
  refine congrArg (m (c, Proc.tc.devRef main_arg1)) (funext fun b => Fin.ext ?_)
  match b with
  | ⟨0, _⟩ => exact e

/-- The padded bias block. -/
theorem block_b (t : Fin cfg0.N) (h : Fin 8) :
    (iblk m c 4 t : Vec Ideal S1x128 .f32) (ix2 0 ⟨h.val, by omega⟩) = argB m c (ix1 h) := by
  rw [← padded_bias m c h]
  unfold iblk
  rw [View.read_apply]
  show V m c main_v4 _ = V m c main_v4 _
  refine congrArg _ (funext fun a => Fin.ext ?_)
  obtain ⟨h0, h1⟩ := ix4' t
  match a with
  | ⟨0, _⟩ => show win0_4.index t 0 * 1 + 1 * 0 = 0; omega
  | ⟨1, _⟩ => show win0_4.index t 1 * 128 + 1 * h.val = h.val; omega

/-- The query gains' block. -/
theorem block_qg (t : Fin cfg0.N) (e : Fin 64) : (iblk m c 5 t : Vec Ideal S1x64 .f32) (ix2 0 e) = argQ m c (ix1 e) := by
  have hV : (V m c main_v5 : Vec Ideal S1x64 .f32) (ix2 0 e) = argQ m c (ix1 e) := by
    unfold_abbrev_sides
    after_results
    pointwise
  rw [← hV]
  unfold iblk
  rw [View.read_apply]
  show V m c main_v5 _ = V m c main_v5 _
  refine congrArg _ (funext fun a => Fin.ext ?_)
  obtain ⟨h0, h1⟩ := ix5' t
  match a with
  | ⟨0, _⟩ => show win0_5.index t 0 * 1 + 1 * 0 = 0; omega
  | ⟨1, _⟩ => show win0_5.index t 1 * 64 + 1 * e.val = e.val; omega

/-- The key gains' block. -/
theorem block_kg (t : Fin cfg0.N) (e : Fin 64) : (iblk m c 6 t : Vec Ideal S1x64 .f32) (ix2 0 e) = argK m c (ix1 e) := by
  have hV : (V m c main_v6 : Vec Ideal S1x64 .f32) (ix2 0 e) = argK m c (ix1 e) := by
    unfold_abbrev_sides
    after_results
    pointwise
  rw [← hV]
  unfold iblk
  rw [View.read_apply]
  show V m c main_v6 _ = V m c main_v6 _
  refine congrArg _ (funext fun a => Fin.ext ?_)
  obtain ⟨h0, h1⟩ := ix6' t
  match a with
  | ⟨0, _⟩ => show win0_6.index t 0 * 1 + 1 * 0 = 0; omega
  | ⟨1, _⟩ => show win0_6.index t 1 * 64 + 1 * e.val = e.val; omega

end Cert.Fox

end
-- ==== Proof.Fox.Head.lean ====
/-
  What one head of the attention kernel stores for a query tile, read at an index. The kernel's body handles eight heads
  in each of four branches (the first 512, 1024, 1536 or 2048 keys); every one of the thirty-two stored blocks is the
  same function `headK` of its operands.
-/
module

public import proofs.«01_k».proof.Proof.Gen.KernelIdeal.Skeleton
public import Idealize.ShloMosaic.Lib.Pointwise

@[expose] public section

set_option maxRecDepth 16384

noncomputable section

namespace Cert.Fox

open Idealize.ShloMosaic Cert.KernelIdeal Cert.KernelIdeal.Gen

/-- The root-mean-square norm of a row `x` of 64 numbers with gains `g`, at place `d`. -/
def rmsK (x g : Fin 64 → EReal) (d : Fin 64) : EReal :=
  x d * Ideal.rsqrt (Ideal.div (∑ e, x e * x e) (Ideal.ofBits FTy.f32 0x42800000#32) + Ideal.ofBits FTy.f32 0x358637BD#32) * g d

/-- The score of query row `r` of tile `a` against key `x`: the product of the normalised, scaled query with the key, plus
    the difference of the two running sums, plus the causal mask. -/
def scoreK {n : ℕ} (a : BitVec 32) (r : Fin 256) (q g : Fin 64 → EReal) (k : Fin n → Fin 64 → EReal) (cq : EReal)
    (ck : Fin n → EReal) (x : Fin n) : EReal :=
  (∑ e, rmsK q g e * Ideal.ofBits FTy.f32 0x3E000000#32 * k x e)
    + (cq - ck x + Scalar.select (IntOp.cmpi CmpIPredicate.sle (BitVec.ofNat 32 x.val)
        (IntOp.addi (Scalar.muli a 256#32) (BitVec.ofNat 32 r.val))) 0 (Named.named (F := Ideal) κ "mask" (φ := .f32) 0xF149F2CA#32))

/-- The attention of one query row over `n` keys as the kernel computes it: the exponentials of the scores less their
    maximum, summed against the values `v`, over their sum against `one`. -/
def headK {n : ℕ} (s : Fin n → EReal) (v one : Fin n → EReal) : EReal :=
  Ideal.div
    (∑ x, Ideal.exp (s x - Finset.univ.fold max (Ideal.ofBits FTy.f32 0xFF800000#32) s) * v x)
    (∑ x, Ideal.exp (s x - Finset.univ.fold max (Ideal.ofBits FTy.f32 0xFF800000#32) s) * one x)

/-- `headK` over vector operands: query block `q`, gains `g`, keys `k`, the running sums of the queries (column `h` of
    `v6`) and of the keys (`cr`), and the values beside a column of ones (`v`). -/
def rowK {n : ℕ} (a : BitVec 32) (v6 : Vec Ideal S256x128 .f32) (h : Fin 128) (q : Vec Ideal S1x256x64 .f32)
    (g : Vec Ideal S1x64 .f32) (k : Vec Ideal ⟨2, ![n, 64]⟩ .bf16) (cr : Vec Ideal ⟨2, ![1, n]⟩ .f32)
    (v : Vec Ideal ⟨2, ![n, 128]⟩ .bf16) (r : Fin 256) (d : Fin 64) : EReal :=
  headK (scoreK a r (fun e => q (ix3 0 r e)) (fun e => g (ix2 0 e)) (fun x e => k (ix2 x e)) (v6 (ix2 r h)) fun x => cr (ix2 0 x))
    (fun x => v (ix2 x ⟨d.val, by omega⟩)) fun x => v (ix2 x 64)

/-- Head 0 of a query tile that looks at the first 512 keys: the stored block is the attention row `headK`. -/
theorem head0_512 (a : BitVec 32) (v6 : Vec Ideal S256x128 .f32) (q : Vec Ideal S1x256x64 .f32) (g : Vec Ideal S1x64 .f32)
    (k : Vec Ideal S512x64 .bf16) (cr : Vec Ideal S1x512 .f32) (v : Vec Ideal S512x128 .bf16) (r : Fin 256) (d : Fin 64) :
    k0_pay55 (F := Ideal) (k0_pay54 a v6 q g k cr) v (ix3 0 r d)
      = rowK a v6 0 q g k cr v r d := by
  unfold rowK headK scoreK rmsK
  pointwise [k0_pay55, k0_pay54, k0_pay53]

/-- Head 1 of a query tile that looks at the first 512 keys: the stored block is the attention row `headK`. -/
theorem head1_512 (a : BitVec 32) (v6 : Vec Ideal S256x128 .f32) (q : Vec Ideal S1x256x64 .f32) (g : Vec Ideal S1x64 .f32)
    (k : Vec Ideal S512x64 .bf16) (cr : Vec Ideal S1x512 .f32) (v : Vec Ideal S512x128 .bf16) (r : Fin 256) (d : Fin 64) :
    k0_pay57 (F := Ideal) (k0_pay56 v6 (k0_pay53 (F := Ideal) a) q g k cr) v (ix3 0 r d)
      = rowK a v6 1 q g k cr v r d := by
  unfold rowK headK scoreK rmsK
  pointwise [k0_pay57, k0_pay56, k0_pay53]

/-- Head 2 of a query tile that looks at the first 512 keys: the stored block is the attention row `headK`. -/
theorem head2_512 (a : BitVec 32) (v6 : Vec Ideal S256x128 .f32) (q : Vec Ideal S1x256x64 .f32) (g : Vec Ideal S1x64 .f32)
    (k : Vec Ideal S512x64 .bf16) (cr : Vec Ideal S1x512 .f32) (v : Vec Ideal S512x128 .bf16) (r : Fin 256) (d : Fin 64) :
    k0_pay60 (F := Ideal) (k0_pay53 (F := Ideal) a) (k0_pay58 q g k) cr (k0_pay59 v6) v (ix3 0 r d)
      = rowK a v6 2 q g k cr v r d := by
  unfold rowK headK scoreK rmsK
  pointwise [k0_pay60, k0_pay58, k0_pay59, k0_pay53]

/-- Head 3 of a query tile that looks at the first 512 keys: the stored block is the attention row `headK`. -/
theorem head3_512 (a : BitVec 32) (v6 : Vec Ideal S256x128 .f32) (q : Vec Ideal S1x256x64 .f32) (g : Vec Ideal S1x64 .f32)
    (k : Vec Ideal S512x64 .bf16) (cr : Vec Ideal S1x512 .f32) (v : Vec Ideal S512x128 .bf16) (r : Fin 256) (d : Fin 64) :
    k0_pay62 (F := Ideal) v6 (k0_pay53 (F := Ideal) a) (k0_pay61 q g k) cr v (ix3 0 r d)
      = rowK a v6 3 q g k cr v r d := by
  unfold rowK headK scoreK rmsK
  pointwise [k0_pay62, k0_pay61, k0_pay53]

/-- Head 4 of a query tile that looks at the first 512 keys: the stored block is the attention row `headK`. -/
theorem head4_512 (a : BitVec 32) (v6 : Vec Ideal S256x128 .f32) (q : Vec Ideal S1x256x64 .f32) (g : Vec Ideal S1x64 .f32)
    (k : Vec Ideal S512x64 .bf16) (cr : Vec Ideal S1x512 .f32) (v : Vec Ideal S512x128 .bf16) (r : Fin 256) (d : Fin 64) :
    k0_pay64 (F := Ideal) v6 (k0_pay53 (F := Ideal) a) (k0_pay63 q g) k cr v (ix3 0 r d)
      = rowK a v6 4 q g k cr v r d := by
  unfold rowK headK scoreK rmsK
  pointwise [k0_pay64, k0_pay63, k0_pay53]

/-- Head 5 of a query tile that looks at the first 512 keys: the stored block is the attention row `headK`. -/
theorem head5_512 (a : BitVec 32) (v6 : Vec Ideal S256x128 .f32) (q : Vec Ideal S1x256x64 .f32) (g : Vec Ideal S1x64 .f32)
    (k : Vec Ideal S512x64 .bf16) (cr : Vec Ideal S1x512 .f32) (v : Vec Ideal S512x128 .bf16) (r : Fin 256) (d : Fin 64) :
    k0_pay67 (F := Ideal) v6 (k0_pay53 (F := Ideal) a) (k0_pay65 q) (k0_pay66 g) k cr v (ix3 0 r d)
      = rowK a v6 5 q g k cr v r d := by
  unfold rowK headK scoreK rmsK
  pointwise [k0_pay67, k0_pay65, k0_pay66, k0_pay53]

/-- Head 6 of a query tile that looks at the first 512 keys: the stored block is the attention row `headK`. -/
theorem head6_512 (a : BitVec 32) (v6 : Vec Ideal S256x128 .f32) (q : Vec Ideal S1x256x64 .f32) (g : Vec Ideal S1x64 .f32)
    (k : Vec Ideal S512x64 .bf16) (cr : Vec Ideal S1x512 .f32) (v : Vec Ideal S512x128 .bf16) (r : Fin 256) (d : Fin 64) :
    k0_pay72 (F := Ideal) v6 (k0_pay53 (F := Ideal) a) (k0_pay68 q) (k0_pay69 g) (k0_pay70 q) (k0_pay71 (F := Ideal)) k cr v (ix3 0 r d)
      = rowK a v6 6 q g k cr v r d := by
  unfold rowK headK scoreK rmsK
  pointwise [k0_pay72, k0_pay68, k0_pay69, k0_pay70, k0_pay71, k0_pay53]

/-- Head 7 of a query tile that looks at the first 512 keys: the stored block is the attention row `headK`. -/
theorem head7_512 (a : BitVec 32) (v6 : Vec Ideal S256x128 .f32) (q : Vec Ideal S1x256x64 .f32) (g : Vec Ideal S1x64 .f32)
    (k : Vec Ideal S512x64 .bf16) (cr : Vec Ideal S1x512 .f32) (v : Vec Ideal S512x128 .bf16) (r : Fin 256) (d : Fin 64) :
    k0_pay76 (F := Ideal) v6 (k0_pay53 (F := Ideal) a) (k0_pay73 q) (k0_pay74 g) (k0_pay75 q) k cr v (ix3 0 r d)
      = rowK a v6 7 q g k cr v r d := by
  unfold rowK headK scoreK rmsK
  pointwise [k0_pay76, k0_pay73, k0_pay74, k0_pay75, k0_pay53]

/-- Head 0 of a query tile that looks at the first 1024 keys: the stored block is the attention row `headK`. -/
theorem head0_1024 (a : BitVec 32) (v6 : Vec Ideal S256x128 .f32) (q : Vec Ideal S1x256x64 .f32) (g : Vec Ideal S1x64 .f32)
    (k : Vec Ideal S1024x64 .bf16) (cr : Vec Ideal S1x1024 .f32) (v : Vec Ideal S1024x128 .bf16) (r : Fin 256) (d : Fin 64) :
    k0_pay79 (F := Ideal) (k0_pay78 a v6 q g k cr) v (ix3 0 r d)
      = rowK a v6 0 q g k cr v r d := by
  unfold rowK headK scoreK rmsK
  pointwise [k0_pay79, k0_pay78, k0_pay77]

/-- Head 1 of a query tile that looks at the first 1024 keys: the stored block is the attention row `headK`. -/
theorem head1_1024 (a : BitVec 32) (v6 : Vec Ideal S256x128 .f32) (q : Vec Ideal S1x256x64 .f32) (g : Vec Ideal S1x64 .f32)
    (k : Vec Ideal S1024x64 .bf16) (cr : Vec Ideal S1x1024 .f32) (v : Vec Ideal S1024x128 .bf16) (r : Fin 256) (d : Fin 64) :
    k0_pay81 (F := Ideal) (k0_pay80 v6 (k0_pay77 (F := Ideal) a) q g k cr) v (ix3 0 r d)
      = rowK a v6 1 q g k cr v r d := by
  unfold rowK headK scoreK rmsK
  pointwise [k0_pay81, k0_pay80, k0_pay77]

/-- Head 2 of a query tile that looks at the first 1024 keys: the stored block is the attention row `headK`. -/
theorem head2_1024 (a : BitVec 32) (v6 : Vec Ideal S256x128 .f32) (q : Vec Ideal S1x256x64 .f32) (g : Vec Ideal S1x64 .f32)
    (k : Vec Ideal S1024x64 .bf16) (cr : Vec Ideal S1x1024 .f32) (v : Vec Ideal S1024x128 .bf16) (r : Fin 256) (d : Fin 64) :
    k0_pay84 (F := Ideal) (k0_pay77 (F := Ideal) a) (k0_pay82 q g k) cr (k0_pay83 v6) v (ix3 0 r d)
      = rowK a v6 2 q g k cr v r d := by
  unfold rowK headK scoreK rmsK
  pointwise [k0_pay84, k0_pay82, k0_pay83, k0_pay77]

/-- Head 3 of a query tile that looks at the first 1024 keys: the stored block is the attention row `headK`. -/
theorem head3_1024 (a : BitVec 32) (v6 : Vec Ideal S256x128 .f32) (q : Vec Ideal S1x256x64 .f32) (g : Vec Ideal S1x64 .f32)
    (k : Vec Ideal S1024x64 .bf16) (cr : Vec Ideal S1x1024 .f32) (v : Vec Ideal S1024x128 .bf16) (r : Fin 256) (d : Fin 64) :
    k0_pay86 (F := Ideal) v6 (k0_pay77 (F := Ideal) a) (k0_pay85 q g k) cr v (ix3 0 r d)
      = rowK a v6 3 q g k cr v r d := by
  unfold rowK headK scoreK rmsK
  pointwise [k0_pay86, k0_pay85, k0_pay77]

/-- Head 4 of a query tile that looks at the first 1024 keys: the stored block is the attention row `headK`. -/
theorem head4_1024 (a : BitVec 32) (v6 : Vec Ideal S256x128 .f32) (q : Vec Ideal S1x256x64 .f32) (g : Vec Ideal S1x64 .f32)
    (k : Vec Ideal S1024x64 .bf16) (cr : Vec Ideal S1x1024 .f32) (v : Vec Ideal S1024x128 .bf16) (r : Fin 256) (d : Fin 64) :
    k0_pay88 (F := Ideal) v6 (k0_pay77 (F := Ideal) a) (k0_pay87 q g) k cr v (ix3 0 r d)
      = rowK a v6 4 q g k cr v r d := by
  unfold rowK headK scoreK rmsK
  pointwise [k0_pay88, k0_pay87, k0_pay77]

/-- Head 5 of a query tile that looks at the first 1024 keys: the stored block is the attention row `headK`. -/
theorem head5_1024 (a : BitVec 32) (v6 : Vec Ideal S256x128 .f32) (q : Vec Ideal S1x256x64 .f32) (g : Vec Ideal S1x64 .f32)
    (k : Vec Ideal S1024x64 .bf16) (cr : Vec Ideal S1x1024 .f32) (v : Vec Ideal S1024x128 .bf16) (r : Fin 256) (d : Fin 64) :
    k0_pay91 (F := Ideal) v6 (k0_pay77 (F := Ideal) a) (k0_pay89 q) (k0_pay90 g) k cr v (ix3 0 r d)
      = rowK a v6 5 q g k cr v r d := by
  unfold rowK headK scoreK rmsK
  pointwise [k0_pay91, k0_pay89, k0_pay90, k0_pay77]

/-- Head 6 of a query tile that looks at the first 1024 keys: the stored block is the attention row `headK`. -/
theorem head6_1024 (a : BitVec 32) (v6 : Vec Ideal S256x128 .f32) (q : Vec Ideal S1x256x64 .f32) (g : Vec Ideal S1x64 .f32)
    (k : Vec Ideal S1024x64 .bf16) (cr : Vec Ideal S1x1024 .f32) (v : Vec Ideal S1024x128 .bf16) (r : Fin 256) (d : Fin 64) :
    k0_pay96 (F := Ideal) v6 (k0_pay77 (F := Ideal) a) (k0_pay92 q) (k0_pay93 g) (k0_pay94 q) (k0_pay95 (F := Ideal)) k cr v (ix3 0 r d)
      = rowK a v6 6 q g k cr v r d := by
  unfold rowK headK scoreK rmsK
  pointwise [k0_pay96, k0_pay92, k0_pay93, k0_pay94, k0_pay95, k0_pay77]

/-- Head 7 of a query tile that looks at the first 1024 keys: the stored block is the attention row `headK`. -/
theorem head7_1024 (a : BitVec 32) (v6 : Vec Ideal S256x128 .f32) (q : Vec Ideal S1x256x64 .f32) (g : Vec Ideal S1x64 .f32)
    (k : Vec Ideal S1024x64 .bf16) (cr : Vec Ideal S1x1024 .f32) (v : Vec Ideal S1024x128 .bf16) (r : Fin 256) (d : Fin 64) :
    k0_pay100 (F := Ideal) v6 (k0_pay77 (F := Ideal) a) (k0_pay97 q) (k0_pay98 g) (k0_pay99 q) k cr v (ix3 0 r d)
      = rowK a v6 7 q g k cr v r d := by
  unfold rowK headK scoreK rmsK
  pointwise [k0_pay100, k0_pay97, k0_pay98, k0_pay99, k0_pay77]

/-- Head 0 of a query tile that looks at the first 1536 keys: the stored block is the attention row `headK`. -/
theorem head0_1536 (a : BitVec 32) (v6 : Vec Ideal S256x128 .f32) (q : Vec Ideal S1x256x64 .f32) (g : Vec Ideal S1x64 .f32)
    (k : Vec Ideal S1536x64 .bf16) (cr : Vec Ideal S1x1536 .f32) (v : Vec Ideal S1536x128 .bf16) (r : Fin 256) (d : Fin 64) :
    k0_pay103 (F := Ideal) (k0_pay102 a v6 q g k cr) v (ix3 0 r d)
      = rowK a v6 0 q g k cr v r d := by
  unfold rowK headK scoreK rmsK
  pointwise [k0_pay103, k0_pay102, k0_pay101]

/-- Head 1 of a query tile that looks at the first 1536 keys: the stored block is the attention row `headK`. -/
theorem head1_1536 (a : BitVec 32) (v6 : Vec Ideal S256x128 .f32) (q : Vec Ideal S1x256x64 .f32) (g : Vec Ideal S1x64 .f32)
    (k : Vec Ideal S1536x64 .bf16) (cr : Vec Ideal S1x1536 .f32) (v : Vec Ideal S1536x128 .bf16) (r : Fin 256) (d : Fin 64) :
    k0_pay105 (F := Ideal) (k0_pay104 v6 (k0_pay101 (F := Ideal) a) q g k cr) v (ix3 0 r d)
      = rowK a v6 1 q g k cr v r d := by
  unfold rowK headK scoreK rmsK
  pointwise [k0_pay105, k0_pay104, k0_pay101]

/-- Head 2 of a query tile that looks at the first 1536 keys: the stored block is the attention row `headK`. -/
theorem head2_1536 (a : BitVec 32) (v6 : Vec Ideal S256x128 .f32) (q : Vec Ideal S1x256x64 .f32) (g : Vec Ideal S1x64 .f32)
    (k : Vec Ideal S1536x64 .bf16) (cr : Vec Ideal S1x1536 .f32) (v : Vec Ideal S1536x128 .bf16) (r : Fin 256) (d : Fin 64) :
    k0_pay108 (F := Ideal) (k0_pay101 (F := Ideal) a) (k0_pay106 q g k) cr (k0_pay107 v6) v (ix3 0 r d)
      = rowK a v6 2 q g k cr v r d := by
  unfold rowK headK scoreK rmsK
  pointwise [k0_pay108, k0_pay106, k0_pay107, k0_pay101]

/-- Head 3 of a query tile that looks at the first 1536 keys: the stored block is the attention row `headK`. -/
theorem head3_1536 (a : BitVec 32) (v6 : Vec Ideal S256x128 .f32) (q : Vec Ideal S1x256x64 .f32) (g : Vec Ideal S1x64 .f32)
    (k : Vec Ideal S1536x64 .bf16) (cr : Vec Ideal S1x1536 .f32) (v : Vec Ideal S1536x128 .bf16) (r : Fin 256) (d : Fin 64) :
    k0_pay110 (F := Ideal) v6 (k0_pay101 (F := Ideal) a) (k0_pay109 q g k) cr v (ix3 0 r d)
      = rowK a v6 3 q g k cr v r d := by
  unfold rowK headK scoreK rmsK
  pointwise [k0_pay110, k0_pay109, k0_pay101]

/-- Head 4 of a query tile that looks at the first 1536 keys: the stored block is the attention row `headK`. -/
theorem head4_1536 (a : BitVec 32) (v6 : Vec Ideal S256x128 .f32) (q : Vec Ideal S1x256x64 .f32) (g : Vec Ideal S1x64 .f32)
    (k : Vec Ideal S1536x64 .bf16) (cr : Vec Ideal S1x1536 .f32) (v : Vec Ideal S1536x128 .bf16) (r : Fin 256) (d : Fin 64) :
    k0_pay112 (F := Ideal) v6 (k0_pay101 (F := Ideal) a) (k0_pay111 q g) k cr v (ix3 0 r d)
      = rowK a v6 4 q g k cr v r d := by
  unfold rowK headK scoreK rmsK
  pointwise [k0_pay112, k0_pay111, k0_pay101]

/-- Head 5 of a query tile that looks at the first 1536 keys: the stored block is the attention row `headK`. -/
theorem head5_1536 (a : BitVec 32) (v6 : Vec Ideal S256x128 .f32) (q : Vec Ideal S1x256x64 .f32) (g : Vec Ideal S1x64 .f32)
    (k : Vec Ideal S1536x64 .bf16) (cr : Vec Ideal S1x1536 .f32) (v : Vec Ideal S1536x128 .bf16) (r : Fin 256) (d : Fin 64) :
    k0_pay115 (F := Ideal) v6 (k0_pay101 (F := Ideal) a) (k0_pay113 q) (k0_pay114 g) k cr v (ix3 0 r d)
      = rowK a v6 5 q g k cr v r d := by
  unfold rowK headK scoreK rmsK
  pointwise [k0_pay115, k0_pay113, k0_pay114, k0_pay101]

/-- Head 6 of a query tile that looks at the first 1536 keys: the stored block is the attention row `headK`. -/
theorem head6_1536 (a : BitVec 32) (v6 : Vec Ideal S256x128 .f32) (q : Vec Ideal S1x256x64 .f32) (g : Vec Ideal S1x64 .f32)
    (k : Vec Ideal S1536x64 .bf16) (cr : Vec Ideal S1x1536 .f32) (v : Vec Ideal S1536x128 .bf16) (r : Fin 256) (d : Fin 64) :
    k0_pay120 (F := Ideal) v6 (k0_pay101 (F := Ideal) a) (k0_pay116 q) (k0_pay117 g) (k0_pay118 q) (k0_pay119 (F := Ideal)) k cr v (ix3 0 r d)
      = rowK a v6 6 q g k cr v r d := by
  unfold rowK headK scoreK rmsK
  pointwise [k0_pay120, k0_pay116, k0_pay117, k0_pay118, k0_pay119, k0_pay101]

/-- Head 7 of a query tile that looks at the first 1536 keys: the stored block is the attention row `headK`. -/
theorem head7_1536 (a : BitVec 32) (v6 : Vec Ideal S256x128 .f32) (q : Vec Ideal S1x256x64 .f32) (g : Vec Ideal S1x64 .f32)
    (k : Vec Ideal S1536x64 .bf16) (cr : Vec Ideal S1x1536 .f32) (v : Vec Ideal S1536x128 .bf16) (r : Fin 256) (d : Fin 64) :
    k0_pay124 (F := Ideal) v6 (k0_pay101 (F := Ideal) a) (k0_pay121 q) (k0_pay122 g) (k0_pay123 q) k cr v (ix3 0 r d)
      = rowK a v6 7 q g k cr v r d := by
  unfold rowK headK scoreK rmsK
  pointwise [k0_pay124, k0_pay121, k0_pay122, k0_pay123, k0_pay101]

/-- Head 0 of a query tile that looks at the first 2048 keys: the stored block is the attention row `headK`. -/
theorem head0_2048 (a : BitVec 32) (v6 : Vec Ideal S256x128 .f32) (q : Vec Ideal S1x256x64 .f32) (g : Vec Ideal S1x64 .f32)
    (k : Vec Ideal S2048x64 .bf16) (cr : Vec Ideal S1x2048 .f32) (v : Vec Ideal S2048x128 .bf16) (r : Fin 256) (d : Fin 64) :
    k0_pay127 (F := Ideal) (k0_pay126 a v6 q g k cr) v (ix3 0 r d)
      = rowK a v6 0 q g k cr v r d := by
  unfold rowK headK scoreK rmsK
  pointwise [k0_pay127, k0_pay126, k0_pay125]

/-- Head 1 of a query tile that looks at the first 2048 keys: the stored block is the attention row `headK`. -/
theorem head1_2048 (a : BitVec 32) (v6 : Vec Ideal S256x128 .f32) (q : Vec Ideal S1x256x64 .f32) (g : Vec Ideal S1x64 .f32)
    (k : Vec Ideal S2048x64 .bf16) (cr : Vec Ideal S1x2048 .f32) (v : Vec Ideal S2048x128 .bf16) (r : Fin 256) (d : Fin 64) :
    k0_pay129 (F := Ideal) (k0_pay128 v6 (k0_pay125 (F := Ideal) a) q g k cr) v (ix3 0 r d)
      = rowK a v6 1 q g k cr v r d := by
  unfold rowK headK scoreK rmsK
  pointwise [k0_pay129, k0_pay128, k0_pay125]

/-- Head 2 of a query tile that looks at the first 2048 keys: the stored block is the attention row `headK`. -/
theorem head2_2048 (a : BitVec 32) (v6 : Vec Ideal S256x128 .f32) (q : Vec Ideal S1x256x64 .f32) (g : Vec Ideal S1x64 .f32)
    (k : Vec Ideal S2048x64 .bf16) (cr : Vec Ideal S1x2048 .f32) (v : Vec Ideal S2048x128 .bf16) (r : Fin 256) (d : Fin 64) :
    k0_pay132 (F := Ideal) (k0_pay125 (F := Ideal) a) (k0_pay130 q g k) cr (k0_pay131 v6) v (ix3 0 r d)
      = rowK a v6 2 q g k cr v r d := by
  unfold rowK headK scoreK rmsK
  pointwise [k0_pay132, k0_pay130, k0_pay131, k0_pay125]

/-- Head 3 of a query tile that looks at the first 2048 keys: the stored block is the attention row `headK`. -/
theorem head3_2048 (a : BitVec 32) (v6 : Vec Ideal S256x128 .f32) (q : Vec Ideal S1x256x64 .f32) (g : Vec Ideal S1x64 .f32)
    (k : Vec Ideal S2048x64 .bf16) (cr : Vec Ideal S1x2048 .f32) (v : Vec Ideal S2048x128 .bf16) (r : Fin 256) (d : Fin 64) :
    k0_pay134 (F := Ideal) v6 (k0_pay125 (F := Ideal) a) (k0_pay133 q g k) cr v (ix3 0 r d)
      = rowK a v6 3 q g k cr v r d := by
  unfold rowK headK scoreK rmsK
  pointwise [k0_pay134, k0_pay133, k0_pay125]

/-- Head 4 of a query tile that looks at the first 2048 keys: the stored block is the attention row `headK`. -/
theorem head4_2048 (a : BitVec 32) (v6 : Vec Ideal S256x128 .f32) (q : Vec Ideal S1x256x64 .f32) (g : Vec Ideal S1x64 .f32)
    (k : Vec Ideal S2048x64 .bf16) (cr : Vec Ideal S1x2048 .f32) (v : Vec Ideal S2048x128 .bf16) (r : Fin 256) (d : Fin 64) :
    k0_pay136 (F := Ideal) v6 (k0_pay125 (F := Ideal) a) (k0_pay135 q g) k cr v (ix3 0 r d)
      = rowK a v6 4 q g k cr v r d := by
  unfold rowK headK scoreK rmsK
  pointwise [k0_pay136, k0_pay135, k0_pay125]

/-- Head 5 of a query tile that looks at the first 2048 keys: the stored block is the attention row `headK`. -/
theorem head5_2048 (a : BitVec 32) (v6 : Vec Ideal S256x128 .f32) (q : Vec Ideal S1x256x64 .f32) (g : Vec Ideal S1x64 .f32)
    (k : Vec Ideal S2048x64 .bf16) (cr : Vec Ideal S1x2048 .f32) (v : Vec Ideal S2048x128 .bf16) (r : Fin 256) (d : Fin 64) :
    k0_pay139 (F := Ideal) v6 (k0_pay125 (F := Ideal) a) (k0_pay137 q) (k0_pay138 g) k cr v (ix3 0 r d)
      = rowK a v6 5 q g k cr v r d := by
  unfold rowK headK scoreK rmsK
  pointwise [k0_pay139, k0_pay137, k0_pay138, k0_pay125]

/-- Head 6 of a query tile that looks at the first 2048 keys: the stored block is the attention row `headK`. -/
theorem head6_2048 (a : BitVec 32) (v6 : Vec Ideal S256x128 .f32) (q : Vec Ideal S1x256x64 .f32) (g : Vec Ideal S1x64 .f32)
    (k : Vec Ideal S2048x64 .bf16) (cr : Vec Ideal S1x2048 .f32) (v : Vec Ideal S2048x128 .bf16) (r : Fin 256) (d : Fin 64) :
    k0_pay144 (F := Ideal) v6 (k0_pay125 (F := Ideal) a) (k0_pay140 q) (k0_pay141 g) (k0_pay142 q) (k0_pay143 (F := Ideal)) k cr v (ix3 0 r d)
      = rowK a v6 6 q g k cr v r d := by
  unfold rowK headK scoreK rmsK
  pointwise [k0_pay144, k0_pay140, k0_pay141, k0_pay142, k0_pay143, k0_pay125]

/-- Head 7 of a query tile that looks at the first 2048 keys: the stored block is the attention row `headK`. -/
theorem head7_2048 (a : BitVec 32) (v6 : Vec Ideal S256x128 .f32) (q : Vec Ideal S1x256x64 .f32) (g : Vec Ideal S1x64 .f32)
    (k : Vec Ideal S2048x64 .bf16) (cr : Vec Ideal S1x2048 .f32) (v : Vec Ideal S2048x128 .bf16) (r : Fin 256) (d : Fin 64) :
    k0_pay148 (F := Ideal) v6 (k0_pay125 (F := Ideal) a) (k0_pay145 q) (k0_pay146 g) (k0_pay147 q) k cr v (ix3 0 r d)
      = rowK a v6 7 q g k cr v r d := by
  unfold rowK headK scoreK rmsK
  pointwise [k0_pay148, k0_pay145, k0_pay146, k0_pay147, k0_pay125]

end Cert.Fox

end
-- ==== Proof.Fox.Prep.lean ====
/-
  What the attention kernel's first point of a batch stores into its scratch, read at an index: per head the normalised
  keys, the values and the column of ones beside them; and the running sums of the log forget gates, computed by
  doubling, with their transposed copy.
-/
module

public import proofs.«01_k».proof.Proof.Fox.Head
public import Idealize.ShloMosaic.Lib.WordCmp

@[expose] public section

set_option maxRecDepth 16384

noncomputable section

namespace Cert.Fox

open Idealize.ShloMosaic Idealize.ShloMosaic.WordCmp Cert.KernelIdeal Cert.KernelIdeal.Gen

/-! ## Keys, values, ones -/

/-- Head 0's stored keys are the normalised rows. -/
theorem key0 (x : Vec Ideal S1x2048x64 .f32) (g : Vec Ideal S1x64 .f32) (j : Fin 2048) (e : Fin 64) :
    k0_pay3 (F := Ideal) x g (ix2 j e) = rmsK (fun e => x (ix3 0 j e)) (fun e => g (ix2 0 e)) e := by
  unfold rmsK
  pointwise [k0_pay3]

/-- Head 1's stored keys are the normalised rows. -/
theorem key1 (x : Vec Ideal S1x2048x64 .f32) (g : Vec Ideal S1x64 .f32) (j : Fin 2048) (e : Fin 64) :
    k0_pay6 (F := Ideal) x g (ix2 j e) = rmsK (fun e => x (ix3 0 j e)) (fun e => g (ix2 0 e)) e := by
  unfold rmsK
  pointwise [k0_pay6]

/-- Head 2's stored keys are the normalised rows. -/
theorem key2 (x : Vec Ideal S1x2048x64 .f32) (g : Vec Ideal S1x64 .f32) (j : Fin 2048) (e : Fin 64) :
    k0_pay13 (F := Ideal) (k0_pay9 x) (k0_pay10 g) (k0_pay11 x) (k0_pay12 (F := Ideal)) (ix2 j e) = rmsK (fun e => x (ix3 0 j e)) (fun e => g (ix2 0 e)) e := by
  unfold rmsK
  pointwise [k0_pay13, k0_pay9, k0_pay10, k0_pay11, k0_pay12]

/-- Head 3's stored keys are the normalised rows. -/
theorem key3 (x : Vec Ideal S1x2048x64 .f32) (g : Vec Ideal S1x64 .f32) (j : Fin 2048) (e : Fin 64) :
    k0_pay17 (F := Ideal) (k0_pay16 x g) (ix2 j e) = rmsK (fun e => x (ix3 0 j e)) (fun e => g (ix2 0 e)) e := by
  unfold rmsK
  pointwise [k0_pay17, k0_pay16]

/-- Head 4's stored keys are the normalised rows. -/
theorem key4 (x : Vec Ideal S1x2048x64 .f32) (g : Vec Ideal S1x64 .f32) (j : Fin 2048) (e : Fin 64) :
    k0_pay20 (F := Ideal) x g (ix2 j e) = rmsK (fun e => x (ix3 0 j e)) (fun e => g (ix2 0 e)) e := by
  unfold rmsK
  pointwise [k0_pay20]

/-- Head 5's stored keys are the normalised rows. -/
theorem key5 (x : Vec Ideal S1x2048x64 .f32) (g : Vec Ideal S1x64 .f32) (j : Fin 2048) (e : Fin 64) :
    k0_pay24 (F := Ideal) x g (ix2 j e) = rmsK (fun e => x (ix3 0 j e)) (fun e => g (ix2 0 e)) e := by
  unfold rmsK
  pointwise [k0_pay24]

/-- Head 6's stored keys are the normalised rows. -/
theorem key6 (x : Vec Ideal S1x2048x64 .f32) (g : Vec Ideal S1x64 .f32) (j : Fin 2048) (e : Fin 64) :
    k0_pay27 (F := Ideal) x g (ix2 j e) = rmsK (fun e => x (ix3 0 j e)) (fun e => g (ix2 0 e)) e := by
  unfold rmsK
  pointwise [k0_pay27]

/-- Head 7's stored keys are the normalised rows. -/
theorem key7 (x : Vec Ideal S1x2048x64 .f32) (g : Vec Ideal S1x64 .f32) (j : Fin 2048) (e : Fin 64) :
    k0_pay33 (F := Ideal) (k0_pay30 x) (k0_pay31 g) (k0_pay32 x) (ix2 j e) = rmsK (fun e => x (ix3 0 j e)) (fun e => g (ix2 0 e)) e := by
  unfold rmsK
  pointwise [k0_pay33, k0_pay30, k0_pay31, k0_pay32]

/-- Head 0's stored values are the loaded ones. -/
theorem val0 (x : Vec Ideal S1x2048x64 .f32) (j : Fin 2048) (e : Fin 64) : k0_pay4 (F := Ideal) x (ix2 j e) = x (ix3 0 j e) := by
  pointwise [k0_pay4]

/-- Head 1's stored values are the loaded ones. -/
theorem val1 (x : Vec Ideal S1x2048x64 .f32) (j : Fin 2048) (e : Fin 64) : k0_pay7 (F := Ideal) x (ix2 j e) = x (ix3 0 j e) := by
  pointwise [k0_pay7]

/-- Head 2's stored values are the loaded ones. -/
theorem val2 (x : Vec Ideal S1x2048x64 .f32) (j : Fin 2048) (e : Fin 64) : k0_pay14 (F := Ideal) x (ix2 j e) = x (ix3 0 j e) := by
  pointwise [k0_pay14]

/-- Head 3's stored values are the loaded ones. -/
theorem val3 (x : Vec Ideal S1x2048x64 .f32) (j : Fin 2048) (e : Fin 64) : k0_pay18 (F := Ideal) x (ix2 j e) = x (ix3 0 j e) := by
  pointwise [k0_pay18]

/-- Head 4's stored values are the loaded ones. -/
theorem val4 (x : Vec Ideal S1x2048x64 .f32) (j : Fin 2048) (e : Fin 64) : k0_pay22 (F := Ideal) (k0_pay21 x) (ix2 j e) = x (ix3 0 j e) := by
  pointwise [k0_pay22, k0_pay21]

/-- Head 5's stored values are the loaded ones. -/
theorem val5 (x : Vec Ideal S1x2048x64 .f32) (j : Fin 2048) (e : Fin 64) : k0_pay25 (F := Ideal) x (ix2 j e) = x (ix3 0 j e) := by
  pointwise [k0_pay25]

/-- Head 6's stored values are the loaded ones. -/
theorem val6 (x : Vec Ideal S1x2048x64 .f32) (j : Fin 2048) (e : Fin 64) : k0_pay28 (F := Ideal) x (ix2 j e) = x (ix3 0 j e) := by
  pointwise [k0_pay28]

/-- Head 7's stored values are the loaded ones. -/
theorem val7 (x : Vec Ideal S1x2048x64 .f32) (j : Fin 2048) (e : Fin 64) : k0_pay34 (F := Ideal) x (ix2 j e) = x (ix3 0 j e) := by
  pointwise [k0_pay34]

/-- The block stored beside the values holds one in its first column. -/
theorem one_base (j : Fin 2048) : k0_pay2 (F := Ideal) (ix2 j 0) = 1 := by
  pointwise [k0_pay2]
  simp [IntOp.cmpi, FloatOps.sitofp]

/-- Head 0's column of ones. -/
theorem one0 (j : Fin 2048) : k0_pay5 (F := Ideal) (ix2 j 0) = 1 := by
  rw [← one_base j]
  pointwise [k0_pay5]

/-- Head 1's column of ones. -/
theorem one1 (j : Fin 2048) : k0_pay8 (F := Ideal) (k0_pay2 (F := Ideal)) (ix2 j 0) = 1 := by
  rw [← one_base j]
  pointwise [k0_pay8]

/-- Head 2's column of ones. -/
theorem one2 (j : Fin 2048) : k0_pay15 (F := Ideal) (k0_pay2 (F := Ideal)) (ix2 j 0) = 1 := by
  rw [← one_base j]
  pointwise [k0_pay15]

/-- Head 3's column of ones. -/
theorem one3 (j : Fin 2048) : k0_pay19 (F := Ideal) (k0_pay2 (F := Ideal)) (ix2 j 0) = 1 := by
  rw [← one_base j]
  pointwise [k0_pay19]

/-- Head 4's column of ones. -/
theorem one4 (j : Fin 2048) : k0_pay23 (F := Ideal) (k0_pay2 (F := Ideal)) (ix2 j 0) = 1 := by
  rw [← one_base j]
  pointwise [k0_pay23]

/-- Head 5's column of ones. -/
theorem one5 (j : Fin 2048) : k0_pay26 (F := Ideal) (k0_pay2 (F := Ideal)) (ix2 j 0) = 1 := by
  rw [← one_base j]
  pointwise [k0_pay26]

/-- Head 6's column of ones. -/
theorem one6 (j : Fin 2048) : k0_pay29 (F := Ideal) (k0_pay2 (F := Ideal)) (ix2 j 0) = 1 := by
  rw [← one_base j]
  pointwise [k0_pay29]

/-- Head 7's column of ones. -/
theorem one7 (j : Fin 2048) : k0_pay35 (F := Ideal) (k0_pay2 (F := Ideal)) (ix2 j 0) = 1 := by
  rw [← one_base j]
  pointwise [k0_pay35]

/-! ## The running sums -/

/-- One doubling step of the running sum: each row plus the row `w` above it, if there is one. -/
def stepK (w : BitVec 32) (x : FVec Ideal S2048x128 .f32) : FVec Ideal S2048x128 .f32 :=
  addf x (select (cmpi .sge (iota .tc S2048x128 32 [0] iota_S2048x128_d0_w32) (broadcast S2048x128 w))
    (dynamicRotate 0 w none x rotates_S2048x128_d0) (broadcast S2048x128 (Scalar.ofBits .f32 0x00000000#32)))

/-- The log of the forget gate of one projected value `f` with bias `b`: minus the softplus of their sum's negative. -/
def gateK (f b : EReal) : EReal :=
  0 - (max (0 - (f + b)) 0 + Ideal.log1p (Ideal.exp (0 - max (0 - (f + b)) (-(0 - (f + b))))))

/-- The log forget gates of a block of projected values. -/
def gatesK (x : Vec Ideal S1x2048x128 .f32) (b : Vec Ideal S1x128 .f32) : FVec Ideal S2048x128 .f32 :=
  fun i => gateK (x (ix3 0 (i 0) (i 1))) (b (ix2 0 (i 1)))

/-- The first half of the printed running sum: the gates, then five doubling steps. -/
theorem pay41_eq (x : Vec Ideal S1x2048x128 .f32) (b : Vec Ideal S1x128 .f32) :
    k0_pay41 (F := Ideal) (k0_pay36 x b) (k0_pay37 x b) (k0_pay38 x b) (k0_pay39 x b) (k0_pay40 (F := Ideal)) =
      stepK 16#32 (stepK 8#32 (stepK 4#32 (stepK 2#32 (stepK 1#32 (gatesK x b))))) := by
  have e : (subf (broadcast S2048x128 (Scalar.ofBits (F := Ideal) .f32 0x00000000#32)) (select (k0_pay39 (F := Ideal) x b)
      (addf (k0_pay36 (F := Ideal) x b) (k0_pay40 (F := Ideal)))
      (addf (k0_pay37 (F := Ideal) x b) (log1p (exp (subf (broadcast S2048x128 (Scalar.ofBits (F := Ideal) .f32 0x00000000#32))
        (absf (k0_pay38 (F := Ideal) x b)))))))) = gatesK x b := by
    funext i
    idx_vars i
    pointwise [k0_pay36, k0_pay37, k0_pay38, k0_pay39, k0_pay40, gatesK, gateK]
    simp [FloatOps.absf]
  rw [← e]
  rfl

/-- The second half: six more doubling steps. -/
theorem pay43_eq (x : FVec Ideal S2048x128 .f32) :
    k0_pay43 (F := Ideal) (iota .tc S2048x128 32 [0] iota_S2048x128_d0_w32) x k0_pay42 =
      stepK 1024#32 (stepK 512#32 (stepK 256#32 (stepK 128#32 (stepK 64#32 (stepK 32#32 x))))) := rfl

/-- The sum of the last `w` of the first `j + 1` terms. -/
def lastSum (f : ℕ → EReal) (w j : ℕ) : EReal := ∑ i ∈ Finset.range w, if i ≤ j then f (j - i) else 0

/-- Doubling the window adds the window's sum `w` terms back. -/
theorem lastSum_double (f : ℕ → EReal) (w j : ℕ) :
    lastSum f (w + w) j = lastSum f w j + if w ≤ j then lastSum f w (j - w) else 0 := by
  unfold lastSum
  rw [Finset.sum_range_add]
  congr 1
  split_ifs with h
  · refine Finset.sum_congr rfl fun i _ => ?_
    by_cases hi : w + i ≤ j
    · rw [if_pos hi, if_pos (by omega)]; congr 1; omega
    · rw [if_neg hi, if_neg (by omega)]
  · exact Finset.sum_eq_zero fun i _ => if_neg (by omega)

/-- A window that reaches past the start sums all the terms there are. -/
theorem lastSum_all (f : ℕ → EReal) (w j : ℕ) (h : j < w) : lastSum f w j = ∑ i ∈ Finset.range (j + 1), f i := by
  obtain ⟨d, rfl⟩ := Nat.exists_eq_add_of_le (show j + 1 ≤ w from h)
  unfold lastSum
  rw [Finset.sum_range_add, Finset.sum_eq_zero (s := Finset.range d) fun i _ => if_neg (by omega), add_zero, ← Finset.sum_range_reflect]
  refine Finset.sum_congr rfl fun i hi => ?_
  have := Finset.mem_range.1 hi
  rw [if_pos (by omega)]
  congr 1; omega

/-- Column `h` of a block as a sequence (zero past its end). -/
def colSeq (x : FVec Ideal S2048x128 .f32) (h : Fin 128) (i : ℕ) : EReal := if hi : i < 2048 then x (ix2 ⟨i, hi⟩ h) else 0

/-- The doubling step by 1 rows at an index. -/
theorem step1 (x : FVec Ideal S2048x128 .f32) (j : Fin 2048) (h : Fin 128) :
    stepK 1#32 x (ix2 j h) = x (ix2 j h) + if hj : 1 ≤ j.val then x (ix2 ⟨j.val - 1, by omega⟩ h) else 0 := by
  have hlt := j.isLt
  have hc : IntOp.cmpi .sge (BitVec.ofNat 32 j.val) 1#32 = BitVec.ofBool (decide (1 ≤ j.val)) :=
    cmpi_sge_ofNat (by omega) (by norm_num)
  pointwise [stepK]
  refine congrArg₂ (· + ·) rfl ?_
  refine (congrArg (fun c => Scalar.select c _ _) hc).trans ?_
  by_cases hj : 1 ≤ j.val
  · rw [dif_pos hj, decide_eq_true hj]
    refine congrArg (fun i => x (ix2 i h)) (Fin.ext ?_)
    show (j.val + 2048 - 1) % 2048 = j.val - 1
    omega
  · rw [dif_neg hj, decide_eq_false hj]
    rfl

/-- The doubling step by 2 rows at an index. -/
theorem step2 (x : FVec Ideal S2048x128 .f32) (j : Fin 2048) (h : Fin 128) :
    stepK 2#32 x (ix2 j h) = x (ix2 j h) + if hj : 2 ≤ j.val then x (ix2 ⟨j.val - 2, by omega⟩ h) else 0 := by
  have hlt := j.isLt
  have hc : IntOp.cmpi .sge (BitVec.ofNat 32 j.val) 2#32 = BitVec.ofBool (decide (2 ≤ j.val)) :=
    cmpi_sge_ofNat (by omega) (by norm_num)
  pointwise [stepK]
  refine congrArg₂ (· + ·) rfl ?_
  refine (congrArg (fun c => Scalar.select c _ _) hc).trans ?_
  by_cases hj : 2 ≤ j.val
  · rw [dif_pos hj, decide_eq_true hj]
    refine congrArg (fun i => x (ix2 i h)) (Fin.ext ?_)
    show (j.val + 2048 - 2) % 2048 = j.val - 2
    omega
  · rw [dif_neg hj, decide_eq_false hj]
    rfl

/-- The doubling step by 4 rows at an index. -/
theorem step4 (x : FVec Ideal S2048x128 .f32) (j : Fin 2048) (h : Fin 128) :
    stepK 4#32 x (ix2 j h) = x (ix2 j h) + if hj : 4 ≤ j.val then x (ix2 ⟨j.val - 4, by omega⟩ h) else 0 := by
  have hlt := j.isLt
  have hc : IntOp.cmpi .sge (BitVec.ofNat 32 j.val) 4#32 = BitVec.ofBool (decide (4 ≤ j.val)) :=
    cmpi_sge_ofNat (by omega) (by norm_num)
  pointwise [stepK]
  refine congrArg₂ (· + ·) rfl ?_
  refine (congrArg (fun c => Scalar.select c _ _) hc).trans ?_
  by_cases hj : 4 ≤ j.val
  · rw [dif_pos hj, decide_eq_true hj]
    refine congrArg (fun i => x (ix2 i h)) (Fin.ext ?_)
    show (j.val + 2048 - 4) % 2048 = j.val - 4
    omega
  · rw [dif_neg hj, decide_eq_false hj]
    rfl

/-- The doubling step by 8 rows at an index. -/
theorem step8 (x : FVec Ideal S2048x128 .f32) (j : Fin 2048) (h : Fin 128) :
    stepK 8#32 x (ix2 j h) = x (ix2 j h) + if hj : 8 ≤ j.val then x (ix2 ⟨j.val - 8, by omega⟩ h) else 0 := by
  have hlt := j.isLt
  have hc : IntOp.cmpi .sge (BitVec.ofNat 32 j.val) 8#32 = BitVec.ofBool (decide (8 ≤ j.val)) :=
    cmpi_sge_ofNat (by omega) (by norm_num)
  pointwise [stepK]
  refine congrArg₂ (· + ·) rfl ?_
  refine (congrArg (fun c => Scalar.select c _ _) hc).trans ?_
  by_cases hj : 8 ≤ j.val
  · rw [dif_pos hj, decide_eq_true hj]
    refine congrArg (fun i => x (ix2 i h)) (Fin.ext ?_)
    show (j.val + 2048 - 8) % 2048 = j.val - 8
    omega
  · rw [dif_neg hj, decide_eq_false hj]
    rfl

/-- The doubling step by 16 rows at an index. -/
theorem step16 (x : FVec Ideal S2048x128 .f32) (j : Fin 2048) (h : Fin 128) :
    stepK 16#32 x (ix2 j h) = x (ix2 j h) + if hj : 16 ≤ j.val then x (ix2 ⟨j.val - 16, by omega⟩ h) else 0 := by
  have hlt := j.isLt
  have hc : IntOp.cmpi .sge (BitVec.ofNat 32 j.val) 16#32 = BitVec.ofBool (decide (16 ≤ j.val)) :=
    cmpi_sge_ofNat (by omega) (by norm_num)
  pointwise [stepK]
  refine congrArg₂ (· + ·) rfl ?_
  refine (congrArg (fun c => Scalar.select c _ _) hc).trans ?_
  by_cases hj : 16 ≤ j.val
  · rw [dif_pos hj, decide_eq_true hj]
    refine congrArg (fun i => x (ix2 i h)) (Fin.ext ?_)
    show (j.val + 2048 - 16) % 2048 = j.val - 16
    omega
  · rw [dif_neg hj, decide_eq_false hj]
    rfl

/-- The doubling step by 32 rows at an index. -/
theorem step32 (x : FVec Ideal S2048x128 .f32) (j : Fin 2048) (h : Fin 128) :
    stepK 32#32 x (ix2 j h) = x (ix2 j h) + if hj : 32 ≤ j.val then x (ix2 ⟨j.val - 32, by omega⟩ h) else 0 := by
  have hlt := j.isLt
  have hc : IntOp.cmpi .sge (BitVec.ofNat 32 j.val) 32#32 = BitVec.ofBool (decide (32 ≤ j.val)) :=
    cmpi_sge_ofNat (by omega) (by norm_num)
  pointwise [stepK]
  refine congrArg₂ (· + ·) rfl ?_
  refine (congrArg (fun c => Scalar.select c _ _) hc).trans ?_
  by_cases hj : 32 ≤ j.val
  · rw [dif_pos hj, decide_eq_true hj]
    refine congrArg (fun i => x (ix2 i h)) (Fin.ext ?_)
    show (j.val + 2048 - 32) % 2048 = j.val - 32
    omega
  · rw [dif_neg hj, decide_eq_false hj]
    rfl

/-- The doubling step by 64 rows at an index. -/
theorem step64 (x : FVec Ideal S2048x128 .f32) (j : Fin 2048) (h : Fin 128) :
    stepK 64#32 x (ix2 j h) = x (ix2 j h) + if hj : 64 ≤ j.val then x (ix2 ⟨j.val - 64, by omega⟩ h) else 0 := by
  have hlt := j.isLt
  have hc : IntOp.cmpi .sge (BitVec.ofNat 32 j.val) 64#32 = BitVec.ofBool (decide (64 ≤ j.val)) :=
    cmpi_sge_ofNat (by omega) (by norm_num)
  pointwise [stepK]
  refine congrArg₂ (· + ·) rfl ?_
  refine (congrArg (fun c => Scalar.select c _ _) hc).trans ?_
  by_cases hj : 64 ≤ j.val
  · rw [dif_pos hj, decide_eq_true hj]
    refine congrArg (fun i => x (ix2 i h)) (Fin.ext ?_)
    show (j.val + 2048 - 64) % 2048 = j.val - 64
    omega
  · rw [dif_neg hj, decide_eq_false hj]
    rfl

/-- The doubling step by 128 rows at an index. -/
theorem step128 (x : FVec Ideal S2048x128 .f32) (j : Fin 2048) (h : Fin 128) :
    stepK 128#32 x (ix2 j h) = x (ix2 j h) + if hj : 128 ≤ j.val then x (ix2 ⟨j.val - 128, by omega⟩ h) else 0 := by
  have hlt := j.isLt
  have hc : IntOp.cmpi .sge (BitVec.ofNat 32 j.val) 128#32 = BitVec.ofBool (decide (128 ≤ j.val)) :=
    cmpi_sge_ofNat (by omega) (by norm_num)
  pointwise [stepK]
  refine congrArg₂ (· + ·) rfl ?_
  refine (congrArg (fun c => Scalar.select c _ _) hc).trans ?_
  by_cases hj : 128 ≤ j.val
  · rw [dif_pos hj, decide_eq_true hj]
    refine congrArg (fun i => x (ix2 i h)) (Fin.ext ?_)
    show (j.val + 2048 - 128) % 2048 = j.val - 128
    omega
  · rw [dif_neg hj, decide_eq_false hj]
    rfl

/-- The doubling step by 256 rows at an index. -/
theorem step256 (x : FVec Ideal S2048x128 .f32) (j : Fin 2048) (h : Fin 128) :
    stepK 256#32 x (ix2 j h) = x (ix2 j h) + if hj : 256 ≤ j.val then x (ix2 ⟨j.val - 256, by omega⟩ h) else 0 := by
  have hlt := j.isLt
  have hc : IntOp.cmpi .sge (BitVec.ofNat 32 j.val) 256#32 = BitVec.ofBool (decide (256 ≤ j.val)) :=
    cmpi_sge_ofNat (by omega) (by norm_num)
  pointwise [stepK]
  refine congrArg₂ (· + ·) rfl ?_
  refine (congrArg (fun c => Scalar.select c _ _) hc).trans ?_
  by_cases hj : 256 ≤ j.val
  · rw [dif_pos hj, decide_eq_true hj]
    refine congrArg (fun i => x (ix2 i h)) (Fin.ext ?_)
    show (j.val + 2048 - 256) % 2048 = j.val - 256
    omega
  · rw [dif_neg hj, decide_eq_false hj]
    rfl

/-- The doubling step by 512 rows at an index. -/
theorem step512 (x : FVec Ideal S2048x128 .f32) (j : Fin 2048) (h : Fin 128) :
    stepK 512#32 x (ix2 j h) = x (ix2 j h) + if hj : 512 ≤ j.val then x (ix2 ⟨j.val - 512, by omega⟩ h) else 0 := by
  have hlt := j.isLt
  have hc : IntOp.cmpi .sge (BitVec.ofNat 32 j.val) 512#32 = BitVec.ofBool (decide (512 ≤ j.val)) :=
    cmpi_sge_ofNat (by omega) (by norm_num)
  pointwise [stepK]
  refine congrArg₂ (· + ·) rfl ?_
  refine (congrArg (fun c => Scalar.select c _ _) hc).trans ?_
  by_cases hj : 512 ≤ j.val
  · rw [dif_pos hj, decide_eq_true hj]
    refine congrArg (fun i => x (ix2 i h)) (Fin.ext ?_)
    show (j.val + 2048 - 512) % 2048 = j.val - 512
    omega
  · rw [dif_neg hj, decide_eq_false hj]
    rfl

/-- The doubling step by 1024 rows at an index. -/
theorem step1024 (x : FVec Ideal S2048x128 .f32) (j : Fin 2048) (h : Fin 128) :
    stepK 1024#32 x (ix2 j h) = x (ix2 j h) + if hj : 1024 ≤ j.val then x (ix2 ⟨j.val - 1024, by omega⟩ h) else 0 := by
  have hlt := j.isLt
  have hc : IntOp.cmpi .sge (BitVec.ofNat 32 j.val) 1024#32 = BitVec.ofBool (decide (1024 ≤ j.val)) :=
    cmpi_sge_ofNat (by omega) (by norm_num)
  pointwise [stepK]
  refine congrArg₂ (· + ·) rfl ?_
  refine (congrArg (fun c => Scalar.select c _ _) hc).trans ?_
  by_cases hj : 1024 ≤ j.val
  · rw [dif_pos hj, decide_eq_true hj]
    refine congrArg (fun i => x (ix2 i h)) (Fin.ext ?_)
    show (j.val + 2048 - 1024) % 2048 = j.val - 1024
    omega
  · rw [dif_neg hj, decide_eq_false hj]
    rfl

/-- One doubling step on a block whose columns already hold the sums of the last `w` gates. -/
theorem step_lastSum (w : ℕ) (wb : BitVec 32) (f : ℕ → EReal) (x : FVec Ideal S2048x128 .f32) (h : Fin 128)
    (hx : ∀ j : Fin 2048, x (ix2 j h) = lastSum f w j.val)
    (hs : ∀ j : Fin 2048, stepK wb x (ix2 j h) = x (ix2 j h) + if hj : w ≤ j.val then x (ix2 ⟨j.val - w, by omega⟩ h) else 0)
    (j : Fin 2048) : stepK wb x (ix2 j h) = lastSum f (w + w) j.val := by
  rw [hs j, hx j, lastSum_double]
  congr 1
  by_cases hj : w ≤ j.val
  · rw [dif_pos hj, if_pos hj, hx]
  · rw [dif_neg hj, if_neg hj]

/-- The running sums stored for a batch: the printed eleven doubling steps of its log forget gates. -/
def cumK (x : Vec Ideal S1x2048x128 .f32) (b : Vec Ideal S1x128 .f32) : FVec Ideal S2048x128 .f32 :=
  k0_pay43 (F := Ideal) (iota .tc S2048x128 32 [0] iota_S2048x128_d0_w32)
    (k0_pay41 (F := Ideal) (k0_pay36 x b) (k0_pay37 x b) (k0_pay38 x b) (k0_pay39 x b) (k0_pay40 (F := Ideal))) k0_pay42

/-- The log forget gates of column `h` as a sequence. -/
def gateSeq (x : Vec Ideal S1x2048x128 .f32) (b : Vec Ideal S1x128 .f32) (h : Fin 128) (i : ℕ) : EReal :=
  if hi : i < 2048 then gateK (x (ix3 0 ⟨i, hi⟩ h)) (b (ix2 0 h)) else 0

/-- Row `j` of the running sums is the sum of the first `j + 1` log forget gates. -/
theorem cumK_apply (x : Vec Ideal S1x2048x128 .f32) (b : Vec Ideal S1x128 .f32) (j : Fin 2048) (h : Fin 128) :
    cumK x b (ix2 j h) = ∑ i ∈ Finset.range (j.val + 1), gateSeq x b h i := by
  have h0 : ∀ j : Fin 2048, gatesK x b (ix2 j h) = lastSum (gateSeq x b h) 1 j.val := fun j => by
    simp [lastSum, gateSeq, gatesK]
  unfold cumK
  rw [pay41_eq, pay43_eq]
  have h1 := step_lastSum 1 1#32 _ _ h h0 fun j => step1 _ j h
  have h2 := step_lastSum 2 2#32 _ _ h h1 fun j => step2 _ j h
  have h3 := step_lastSum 4 4#32 _ _ h h2 fun j => step4 _ j h
  have h4 := step_lastSum 8 8#32 _ _ h h3 fun j => step8 _ j h
  have h5 := step_lastSum 16 16#32 _ _ h h4 fun j => step16 _ j h
  have h6 := step_lastSum 32 32#32 _ _ h h5 fun j => step32 _ j h
  have h7 := step_lastSum 64 64#32 _ _ h h6 fun j => step64 _ j h
  have h8 := step_lastSum 128 128#32 _ _ h h7 fun j => step128 _ j h
  have h9 := step_lastSum 256 256#32 _ _ h h8 fun j => step256 _ j h
  have h10 := step_lastSum 512 512#32 _ _ h h9 fun j => step512 _ j h
  have h11 := step_lastSum 1024 1024#32 _ _ h h10 fun j => step1024 _ j h
  rw [h11 j, lastSum_all _ _ _ j.isLt]

/-- The stored running sums are `cumK`. -/
theorem pay44_eq (x : Vec Ideal S1x2048x128 .f32) (b : Vec Ideal S1x128 .f32) :
    k0_pay44 (F := Ideal) (iota .tc S2048x128 32 [0] iota_S2048x128_d0_w32)
      (k0_pay41 (F := Ideal) (k0_pay36 x b) (k0_pay37 x b) (k0_pay38 x b) (k0_pay39 x b) (k0_pay40 (F := Ideal))) k0_pay42
      = cumK x b := by
  funext i
  idx_vars i
  pointwise [k0_pay44]
  rfl

/-- The first block of the transposed copy. -/
theorem row0 (v289 : IVec S2048x128 32) (v319 : FVec Ideal S2048x128 .f32) (v320 : IVec S2048x128 32) (h : Fin 8) (r : Fin 256) :
    k0_pay46 (F := Ideal) (k0_pay45 v289 v319 v320) (ix2 h r) = k0_pay43 v289 v319 v320 (ix2 ⟨r.val, by omega⟩ ⟨h.val, by omega⟩) := by
  unfold k0_pay46 k0_pay45
  generalize k0_pay43 (F := Ideal) v289 v319 v320 = y
  pointwise

/-- Block 1 of the transposed copy. -/
theorem row1 (y : FVec Ideal S2048x128 .f32) (h : Fin 8) (r : Fin 256) :
    k0_pay47 (F := Ideal) y (ix2 h r) = y (ix2 ⟨256 + r.val, by omega⟩ ⟨h.val, by omega⟩) := by
  pointwise [k0_pay47]

/-- Block 2 of the transposed copy. -/
theorem row2 (y : FVec Ideal S2048x128 .f32) (h : Fin 8) (r : Fin 256) :
    k0_pay48 (F := Ideal) y (ix2 h r) = y (ix2 ⟨512 + r.val, by omega⟩ ⟨h.val, by omega⟩) := by
  pointwise [k0_pay48]

/-- Block 3 of the transposed copy. -/
theorem row3 (y : FVec Ideal S2048x128 .f32) (h : Fin 8) (r : Fin 256) :
    k0_pay49 (F := Ideal) y (ix2 h r) = y (ix2 ⟨768 + r.val, by omega⟩ ⟨h.val, by omega⟩) := by
  pointwise [k0_pay49]

/-- Block 4 of the transposed copy. -/
theorem row4 (y : FVec Ideal S2048x128 .f32) (h : Fin 8) (r : Fin 256) :
    k0_pay50 (F := Ideal) y (ix2 h r) = y (ix2 ⟨1024 + r.val, by omega⟩ ⟨h.val, by omega⟩) := by
  pointwise [k0_pay50]

/-- Block 5 of the transposed copy. -/
theorem row5 (y : FVec Ideal S2048x128 .f32) (h : Fin 8) (r : Fin 256) :
    k0_pay51 (F := Ideal) y (ix2 h r) = y (ix2 ⟨1280 + r.val, by omega⟩ ⟨h.val, by omega⟩) := by
  pointwise [k0_pay51]

/-- Block 6 of the transposed copy. -/
theorem row6 (y : FVec Ideal S2048x128 .f32) (h : Fin 8) (r : Fin 256) :
    k0_pay52 (F := Ideal) y (ix2 h r) = y (ix2 ⟨1536 + r.val, by omega⟩ ⟨h.val, by omega⟩) := by
  pointwise [k0_pay52]

/-- Block 7 of the transposed copy. -/
theorem row7 (y : FVec Ideal S2048x128 .f32) (h : Fin 8) (r : Fin 256) :
    k0_pay1 (F := Ideal) y (ix2 h r) = y (ix2 ⟨1792 + r.val, by omega⟩ ⟨h.val, by omega⟩) := by
  pointwise [k0_pay1]

end Cert.Fox

end
-- ==== Proof.Fox.Tile.lean ====
/-
  The output block of one grid point of the attention kernel as a function of its query block and of the scratch the
  batch's first point filled.
-/
module

public import proofs.«01_k».proof.Proof.Fox.Prep
public import Idealize.ShloMosaic.Lib.Pipeline.ValueKit

@[expose] public section

set_option maxRecDepth 16384

noncomputable section

namespace Cert.Fox

open Idealize.ShloMosaic Cert.KernelIdeal Cert.KernelIdeal.Gen

/-- Column `64 h + e` of the 512 columns of eight heads. -/
def col64 (h : Fin 8) (e : Fin 64) : Fin 512 := ⟨64 * h.val + e.val, by omega⟩

/-- Column `128 h + e` of the 1024 columns of eight heads. -/
def col128 (h : Fin 8) (e : Fin 128) : Fin 1024 := ⟨128 * h.val + e.val, by omega⟩

/-- Row `256 a + r` of the 2048 rows. -/
def row256 (a : Fin 8) (r : Fin 256) : Fin 2048 := ⟨256 * a.val + r.val, by omega⟩

/-- The first `n` rows among the 2048 rows. -/
def upTo {n : ℕ} (hn : n ≤ 2048) (x : Fin n) : Fin 2048 := ⟨x.val, by omega⟩

/-- Head `h`, query row `r`, place `d` of the block of query tile `a`: attention over the first `n` keys. -/
def tileK {n : ℕ} (hn : n ≤ 2048) (a : Fin 8) (x0 : Vec Ideal S1x256x512 .f32) (x5 : Vec Ideal S1x64 .f32)
    (xs0 : Vec Ideal S2048x512 .bf16) (xs1 : Vec Ideal S2048x1024 .bf16) (xs2 : Vec Ideal S2048x128 .f32)
    (xs3 : Vec Ideal S8x2048 .f32) (h : Fin 8) (r : Fin 256) (d : Fin 64) : EReal :=
  headK (scoreK (BitVec.ofNat 32 a.val) r (fun e => x0 (ix3 0 r (col64 h e))) (fun e => x5 (ix2 0 e))
      (fun x e => xs0 (ix2 (upTo hn x) (col64 h e))) (xs2 (ix2 (row256 a r) ⟨h.val, by omega⟩)) fun x => xs3 (ix2 h (upTo hn x)))
    (fun x => xs1 (ix2 (upTo hn x) (col128 h ⟨d.val, by omega⟩))) fun x => xs1 (ix2 (upTo hn x) (col128 h 64))

/-- The row offset of query tile `a`. -/
theorem off1_eq : ∀ i : grid0.Coords, k0_off1 i = ![256 * (i 1).val, 0] := by
  have : ∀ a : Fin 8, (Scalar.indexCast (Scalar.muli (BitVec.ofNat 32 a.val) 256#32) : BitVec 32).toNat = 256 * a.val := by decide +kernel
  intro i
  unfold k0_off1
  have e := this (i 1)
  dsimp only
  rw [e]

/-- One head's stored block over loads of the named blocks is `tileK`. -/
theorem rowK_eq_tileK {n : ℕ} (hn : n ≤ 2048) (i : grid0.Coords) (h : Fin 8) (x0 : Vec Ideal S1x256x512 .f32) (x5 : Vec Ideal S1x64 .f32)
    (xs0 : Vec Ideal S2048x512 .bf16) (xs1 : Vec Ideal S2048x1024 .bf16) (xs2 : Vec Ideal S2048x128 .f32)
    (xs3 : Vec Ideal S8x2048 .f32) (v6 : Vec Ideal S256x128 .f32) (h' : Fin 128) (q : Vec Ideal S1x256x64 .f32)
    (g : Vec Ideal S1x64 .f32) (k : Vec Ideal ⟨2, ![n, 64]⟩ .bf16) (cr : Vec Ideal ⟨2, ![1, n]⟩ .f32)
    (v : Vec Ideal ⟨2, ![n, 128]⟩ .bf16) (r : Fin 256) (d : Fin 64) (o6 : ∀ a, k0_off1 i a + ![256, 128] a ≤ S2048x128.size a)
    (o0 : ∀ a, (![0, 0, 64 * h.val] : Fin 3 → ℕ) a + ![1, 256, 64] a ≤ S1x256x512.size a)
    (o5 : ∀ a, (![0, 0] : Fin 2 → ℕ) a + ![1, 64] a ≤ S1x64.size a)
    (ok : ∀ a, (![0, 64 * h.val] : Fin 2 → ℕ) a + ![n, 64] a ≤ S2048x512.size a)
    (oc : ∀ a, (![h.val, 0] : Fin 2 → ℕ) a + ![1, n] a ≤ S8x2048.size a)
    (ov : ∀ a, (![0, 128 * h.val] : Fin 2 → ℕ) a + ![n, 128] a ≤ S2048x1024.size a)
    (hh : h'.val = h.val) (h6 : v6 = View.ld (Val := Elt Ideal) xs2 (Rect.unit (k0_off1 i) ![256, 128] o6))
    (hq : q = View.ld (Val := Elt Ideal) x0 (Rect.unit ![0, 0, 64 * h.val] ![1, 256, 64] o0))
    (hg : g = View.ld (Val := Elt Ideal) x5 (Rect.unit ![0, 0] ![1, 64] o5))
    (hk : k = View.ld (Val := Elt Ideal) xs0 (Rect.unit ![0, 64 * h.val] ![n, 64] ok))
    (hc : cr = View.ld (Val := Elt Ideal) xs3 (Rect.unit ![h.val, 0] ![1, n] oc))
    (hv : v = View.ld (Val := Elt Ideal) xs1 (Rect.unit ![0, 128 * h.val] ![n, 128] ov)) :
    rowK (BitVec.ofNat 32 (i 1).val) v6 h' q g k cr v r d = tileK hn (i 1) x0 x5 xs0 xs1 xs2 xs3 h r d := by
  subst h6 hq hg hk hc hv
  have e0 : ∀ e : Fin 64, View.ld (Val := Elt Ideal) x0 (Rect.unit ![0, 0, 64 * h.val] ![1, 256, 64] o0) (ix3 0 r e) = x0 (ix3 0 r (col64 h e)) := fun e =>
    View.ld_unit_apply_of _ _ _ _ _ _ fun a => by fin_cases a <;> simp [ix3, col64]
  have e5 : ∀ e : Fin 64, View.ld (Val := Elt Ideal) x5 (Rect.unit ![0, 0] ![1, 64] o5) (ix2 0 e) = x5 (ix2 0 e) := fun e =>
    View.ld_unit_apply_of _ _ _ _ _ _ fun a => by fin_cases a <;> simp [ix2]
  have e1 : ∀ (x : Fin n) (e : Fin 64), View.ld (Val := Elt Ideal) xs0 (Rect.unit ![0, 64 * h.val] ![n, 64] ok) (ix2 x e) = xs0 (ix2 (upTo hn x) (col64 h e)) := fun x e =>
    View.ld_unit_apply_of _ _ _ _ _ _ fun a => by fin_cases a <;> simp [ix2, col64, upTo]
  have e2 : ∀ (x : Fin n) (e : Fin 128), View.ld (Val := Elt Ideal) xs1 (Rect.unit ![0, 128 * h.val] ![n, 128] ov) (ix2 x e) = xs1 (ix2 (upTo hn x) (col128 h e)) := fun x e =>
    View.ld_unit_apply_of _ _ _ _ _ _ fun a => by fin_cases a <;> simp [ix2, col128, upTo]
  have e3 : ∀ x : Fin n, View.ld (Val := Elt Ideal) xs3 (Rect.unit ![h.val, 0] ![1, n] oc) (ix2 0 x) = xs3 (ix2 h (upTo hn x)) := fun x =>
    View.ld_unit_apply_of _ _ _ _ _ _ fun a => by fin_cases a <;> simp [ix2, upTo]
  have e6 : View.ld (Val := Elt Ideal) xs2 (Rect.unit (k0_off1 i) ![256, 128] o6) (ix2 r h') = xs2 (ix2 (row256 (i 1) r) ⟨h.val, by omega⟩) :=
    View.ld_unit_apply_of _ _ _ _ _ _ fun a =>
      Eq.trans (by fin_cases a <;> simp [ix2, row256, hh]) (congrArg (· + ((ix2 r h' : S256x128.Idx) a).val) (congrFun (off1_eq i) a).symm)
  unfold rowK tileK
  simp only [e0, e5, e1, e2, e3, e6]

end Cert.Fox

end
-- ==== Proof.Fox.CaseA0.lean ====
/-
  What the first point of a batch leaves in its first scratch array: the normalised keys of the eight heads.
-/
module

public import proofs.«01_k».proof.Proof.Fox.Tile
public import proofs.«01_k».proof.Proof.Gen.KernelIdeal.Frame
public import Idealize.ShloMosaic.Lib.Tactic

@[expose] public section

set_option maxRecDepth 16384

noncomputable section

namespace Cert.Fox

open Idealize.ShloMosaic Cert.KernelIdeal Cert.KernelIdeal.Gen

/-- A loaded, normalised row of head `h`'s keys, in terms of the whole block. -/
theorem key_piece (h : Fin 8) (x1 : Vec Ideal S1x2048x512 .f32) (x6 : Vec Ideal S1x64 .f32) (q : Vec Ideal S1x2048x64 .f32)
    (g : Vec Ideal S1x64 .f32) (j : Fin 2048) (e : Fin 64)
    (o : ∀ a, (![0, 0, 64 * h.val] : Fin 3 → ℕ) a + ![1, 2048, 64] a ≤ S1x2048x512.size a)
    (o' : ∀ a, (![0, 0] : Fin 2 → ℕ) a + ![1, 64] a ≤ S1x64.size a)
    (hq : q = View.ld (Val := Elt Ideal) x1 (Rect.unit ![0, 0, 64 * h.val] ![1, 2048, 64] o))
    (hg : g = View.ld (Val := Elt Ideal) x6 (Rect.unit ![0, 0] ![1, 64] o')) :
    rmsK (fun e => q (ix3 0 j e)) (fun e => g (ix2 0 e)) e = rmsK (fun e => x1 (ix3 0 j (col64 h e))) (fun e => x6 (ix2 0 e)) e := by
  subst hq hg
  have e0 : ∀ e : Fin 64, View.ld (Val := Elt Ideal) x1 (Rect.unit ![0, 0, 64 * h.val] ![1, 2048, 64] o) (ix3 0 j e) = x1 (ix3 0 j (col64 h e)) := fun e =>
    View.ld_unit_apply_of _ _ _ _ _ _ fun a => by fin_cases a <;> simp [ix3, col64]
  have e1 : ∀ e : Fin 64, View.ld (Val := Elt Ideal) x6 (Rect.unit ![0, 0] ![1, 64] o') (ix2 0 e) = x6 (ix2 0 e) := fun e =>
    View.ld_unit_apply_of _ _ _ _ _ _ fun a => by fin_cases a <;> simp [ix2]
  simp only [e0, e1]

set_option maxHeartbeats 1000000 in
/-- The first scratch holds the normalised keys of the eight heads. -/
theorem scratch_key  (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x256x512 .f32) (harg9 : arg9.IsWhole) (arg10 : Memref sig .tc .vmem S2048x512 .bf16) (harg10 : arg10.IsWhole) (arg11 : Memref sig .tc .vmem S2048x1024 .bf16) (harg11 : arg11.IsWhole) (arg12 : Memref sig .tc .vmem S2048x128 .f32) (harg12 : arg12.IsWhole) (arg13 : Memref sig .tc .vmem S8x2048 .f32) (harg13 : arg13.IsWhole) (hc0 : cond0_0 i) (hc1 : cond0_1 i) (hc2 : ¬cond0_2 i) (hc3 : ¬cond0_3 i) (hc4 : ¬cond0_4 i)
    (x0 : Vec Ideal S1x256x512 .f32) (x1 : Vec Ideal S1x2048x512 .f32) (x2 : Vec Ideal S1x2048x512 .f32) (x3 : Vec Ideal S1x2048x128 .f32) (x4 : Vec Ideal S1x128 .f32) (x5 : Vec Ideal S1x64 .f32) (x6 : Vec Ideal S1x64 .f32) (h : Fin 8) (j : Fin 2048) (e : Fin 64) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 (ix2 j (col64 h e))
      = rmsK (fun e => x1 (ix3 0 j (col64 h e))) (fun e => x6 (ix2 0 e)) e := by
  have hd := e.isLt
  unfold sout0_A_0
  rw [View.read_writes_junk_eq_canon]
  unfold kernelRun0_A
  dsimp only
  unfold kernelRun0_A.sl.HS0_8
  canon_tiles x hx
  · have hx0' : j.val = (x 0).val := hx0
    have hx1' : (col64 h e).val = 448 + (x 1).val := hx1
    have hxl : (x 1).val < 64 := x1_lt
    obtain rfl : h = 7 := Fin.ext (by simp only [col64] at hx1'; show h.val = 7; omega)
    obtain rfl : x = ix2 j e := by
      funext a; apply Fin.ext
      match a with
      | ⟨0, _⟩ => show (x 0).val = j.val; omega
      | ⟨1, _⟩ => show (x 1).val = e.val; simp only [col64] at hx1'; omega
    refine (key7 _ _ j e).trans ?_
    exact key_piece 7 x1 x6 _ _ j e (by decide) (by decide)
      (congrArg (fun X => View.ld X _) (harg3.read_unread x1)) (congrArg (fun X => View.ld X _) (harg8.read_unread x6))
  · have hx0' : j.val = (x 0).val := hx0
    have hx1' : (col64 h e).val = 384 + (x 1).val := hx1
    have hxl : (x 1).val < 64 := x1_lt
    obtain rfl : h = 6 := Fin.ext (by simp only [col64] at hx1'; show h.val = 6; omega)
    obtain rfl : x = ix2 j e := by
      funext a; apply Fin.ext
      match a with
      | ⟨0, _⟩ => show (x 0).val = j.val; omega
      | ⟨1, _⟩ => show (x 1).val = e.val; simp only [col64] at hx1'; omega
    refine (key6 _ _ j e).trans ?_
    exact key_piece 6 x1 x6 _ _ j e (by decide) (by decide)
      (congrArg (fun X => View.ld X _) (harg3.read_unread x1)) (congrArg (fun X => View.ld X _) (harg8.read_unread x6))
  · have hx0' : j.val = (x 0).val := hx0
    have hx1' : (col64 h e).val = 320 + (x 1).val := hx1
    have hxl : (x 1).val < 64 := x1_lt
    obtain rfl : h = 5 := Fin.ext (by simp only [col64] at hx1'; show h.val = 5; omega)
    obtain rfl : x = ix2 j e := by
      funext a; apply Fin.ext
      match a with
      | ⟨0, _⟩ => show (x 0).val = j.val; omega
      | ⟨1, _⟩ => show (x 1).val = e.val; simp only [col64] at hx1'; omega
    refine (key5 _ _ j e).trans ?_
    exact key_piece 5 x1 x6 _ _ j e (by decide) (by decide)
      (congrArg (fun X => View.ld X _) (harg3.read_unread x1)) (congrArg (fun X => View.ld X _) (harg8.read_unread x6))
  · have hx0' : j.val = (x 0).val := hx0
    have hx1' : (col64 h e).val = 256 + (x 1).val := hx1
    have hxl : (x 1).val < 64 := x1_lt
    obtain rfl : h = 4 := Fin.ext (by simp only [col64] at hx1'; show h.val = 4; omega)
    obtain rfl : x = ix2 j e := by
      funext a; apply Fin.ext
      match a with
      | ⟨0, _⟩ => show (x 0).val = j.val; omega
      | ⟨1, _⟩ => show (x 1).val = e.val; simp only [col64] at hx1'; omega
    refine (key4 _ _ j e).trans ?_
    exact key_piece 4 x1 x6 _ _ j e (by decide) (by decide)
      (congrArg (fun X => View.ld X _) (harg3.read_unread x1)) (congrArg (fun X => View.ld X _) (harg8.read_unread x6))
  · have hx0' : j.val = (x 0).val := hx0
    have hx1' : (col64 h e).val = 192 + (x 1).val := hx1
    have hxl : (x 1).val < 64 := x1_lt
    obtain rfl : h = 3 := Fin.ext (by simp only [col64] at hx1'; show h.val = 3; omega)
    obtain rfl : x = ix2 j e := by
      funext a; apply Fin.ext
      match a with
      | ⟨0, _⟩ => show (x 0).val = j.val; omega
      | ⟨1, _⟩ => show (x 1).val = e.val; simp only [col64] at hx1'; omega
    refine (key3 _ _ j e).trans ?_
    exact key_piece 3 x1 x6 _ _ j e (by decide) (by decide)
      (congrArg (fun X => View.ld X _) (harg3.read_unread x1)) (congrArg (fun X => View.ld X _) (harg8.read_unread x6))
  · have hx0' : j.val = (x 0).val := hx0
    have hx1' : (col64 h e).val = 128 + (x 1).val := hx1
    have hxl : (x 1).val < 64 := x1_lt
    obtain rfl : h = 2 := Fin.ext (by simp only [col64] at hx1'; show h.val = 2; omega)
    obtain rfl : x = ix2 j e := by
      funext a; apply Fin.ext
      match a with
      | ⟨0, _⟩ => show (x 0).val = j.val; omega
      | ⟨1, _⟩ => show (x 1).val = e.val; simp only [col64] at hx1'; omega
    refine (key2 _ _ j e).trans ?_
    exact key_piece 2 x1 x6 _ _ j e (by decide) (by decide)
      (congrArg (fun X => View.ld X _) (harg3.read_unread x1)) (congrArg (fun X => View.ld X _) (harg8.read_unread x6))
  · have hx0' : j.val = (x 0).val := hx0
    have hx1' : (col64 h e).val = 64 + (x 1).val := hx1
    have hxl : (x 1).val < 64 := x1_lt
    obtain rfl : h = 1 := Fin.ext (by simp only [col64] at hx1'; show h.val = 1; omega)
    obtain rfl : x = ix2 j e := by
      funext a; apply Fin.ext
      match a with
      | ⟨0, _⟩ => show (x 0).val = j.val; omega
      | ⟨1, _⟩ => show (x 1).val = e.val; simp only [col64] at hx1'; omega
    refine (key1 _ _ j e).trans ?_
    exact key_piece 1 x1 x6 _ _ j e (by decide) (by decide)
      (congrArg (fun X => View.ld X _) (harg3.read_unread x1)) (congrArg (fun X => View.ld X _) (harg8.read_unread x6))
  · have hx0' : j.val = (x 0).val := hx0
    have hx1' : (col64 h e).val = (x 1).val := hx1
    have hxl : (x 1).val < 64 := x1_lt
    obtain rfl : h = 0 := Fin.ext (by simp only [col64] at hx1'; show h.val = 0; omega)
    obtain rfl : x = ix2 j e := by
      funext a; apply Fin.ext
      match a with
      | ⟨0, _⟩ => show (x 0).val = j.val; omega
      | ⟨1, _⟩ => show (x 1).val = e.val; simp only [col64] at hx1'; omega
    refine (key0 _ _ j e).trans ?_
    exact key_piece 0 x1 x6 _ _ j e (by decide) (by decide)
      (congrArg (fun X => View.ld X _) (harg3.read_unread x1)) (congrArg (fun X => View.ld X _) (harg8.read_unread x6))

end Cert.Fox

end
-- ==== Proof.Fox.CaseA1.lean ====
/-
  What the first point of a batch leaves in its second scratch array: the values of the eight heads, a column of ones
  beside each.
-/
module

public import proofs.«01_k».proof.Proof.Fox.Tile
public import proofs.«01_k».proof.Proof.Gen.KernelIdeal.Frame
public import Idealize.ShloMosaic.Lib.Tactic

@[expose] public section

set_option maxRecDepth 16384

noncomputable section

namespace Cert.Fox

open Idealize.ShloMosaic Cert.KernelIdeal Cert.KernelIdeal.Gen

/-- A loaded row of head `h`'s values, in terms of the whole block. -/
theorem val_piece (h : Fin 8) (x2 : Vec Ideal S1x2048x512 .f32) (q : Vec Ideal S1x2048x64 .f32)
    (j : Fin 2048) (e : Fin 64) (o : ∀ a, (![0, 0, 64 * h.val] : Fin 3 → ℕ) a + ![1, 2048, 64] a ≤ S1x2048x512.size a)
    (hq : q = View.ld (Val := Elt Ideal) x2 (Rect.unit ![0, 0, 64 * h.val] ![1, 2048, 64] o)) :
    q (ix3 0 j e) = x2 (ix3 0 j (col64 h e)) := by
  subst hq
  exact View.ld_unit_apply_of _ _ _ _ _ _ fun a => by fin_cases a <;> simp [ix3, col64]

set_option maxHeartbeats 2000000 in
/-- The second scratch holds the values of the eight heads … -/
theorem scratch_val  (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x256x512 .f32) (harg9 : arg9.IsWhole) (arg10 : Memref sig .tc .vmem S2048x512 .bf16) (harg10 : arg10.IsWhole) (arg11 : Memref sig .tc .vmem S2048x1024 .bf16) (harg11 : arg11.IsWhole) (arg12 : Memref sig .tc .vmem S2048x128 .f32) (harg12 : arg12.IsWhole) (arg13 : Memref sig .tc .vmem S8x2048 .f32) (harg13 : arg13.IsWhole) (hc0 : cond0_0 i) (hc1 : cond0_1 i) (hc2 : ¬cond0_2 i) (hc3 : ¬cond0_3 i) (hc4 : ¬cond0_4 i)
    (x0 : Vec Ideal S1x256x512 .f32) (x1 : Vec Ideal S1x2048x512 .f32) (x2 : Vec Ideal S1x2048x512 .f32) (x3 : Vec Ideal S1x2048x128 .f32) (x4 : Vec Ideal S1x128 .f32) (x5 : Vec Ideal S1x64 .f32) (x6 : Vec Ideal S1x64 .f32) (h : Fin 8) (j : Fin 2048) (e : Fin 64) :
    sout0_A_1 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 (ix2 j (col128 h ⟨e.val, by omega⟩)) = x2 (ix3 0 j (col64 h e)) := by
  have hd := e.isLt
  unfold sout0_A_1
  rw [View.read_writes_junk_eq_canon]
  unfold kernelRun0_A
  dsimp only
  unfold kernelRun0_A.sl.HS1_16
  canon_tiles x hx
  · have hx0' : j.val = (x 0).val := hx0
    have hx1' : 128 * h.val + e.val = 960 + (x 1).val := hx1
    have hxl : (x 1).val < 64 := x1_lt
    exfalso; omega
  · have hx0' : j.val = (x 0).val := hx0
    have hx1' : 128 * h.val + e.val = 896 + (x 1).val := hx1
    have hxl : (x 1).val < 64 := x1_lt
    obtain rfl : h = 7 := Fin.ext (by show h.val = 7; omega)
    obtain rfl : x = ix2 j e := by
      funext a; apply Fin.ext
      match a with
      | ⟨0, _⟩ => show (x 0).val = j.val; omega
      | ⟨1, _⟩ => show (x 1).val = e.val; omega
    refine (val7 _ j e).trans ?_
    exact val_piece 7 x2 _ j e (by decide) (congrArg (fun X => View.ld X _) (harg4.read_unread x2))
  · have hx0' : j.val = (x 0).val := hx0
    have hx1' : 128 * h.val + e.val = 832 + (x 1).val := hx1
    have hxl : (x 1).val < 64 := x1_lt
    exfalso; omega
  · have hx0' : j.val = (x 0).val := hx0
    have hx1' : 128 * h.val + e.val = 768 + (x 1).val := hx1
    have hxl : (x 1).val < 64 := x1_lt
    obtain rfl : h = 6 := Fin.ext (by show h.val = 6; omega)
    obtain rfl : x = ix2 j e := by
      funext a; apply Fin.ext
      match a with
      | ⟨0, _⟩ => show (x 0).val = j.val; omega
      | ⟨1, _⟩ => show (x 1).val = e.val; omega
    refine (val6 _ j e).trans ?_
    exact val_piece 6 x2 _ j e (by decide) (congrArg (fun X => View.ld X _) (harg4.read_unread x2))
  · have hx0' : j.val = (x 0).val := hx0
    have hx1' : 128 * h.val + e.val = 704 + (x 1).val := hx1
    have hxl : (x 1).val < 64 := x1_lt
    exfalso; omega
  · have hx0' : j.val = (x 0).val := hx0
    have hx1' : 128 * h.val + e.val = 640 + (x 1).val := hx1
    have hxl : (x 1).val < 64 := x1_lt
    obtain rfl : h = 5 := Fin.ext (by show h.val = 5; omega)
    obtain rfl : x = ix2 j e := by
      funext a; apply Fin.ext
      match a with
      | ⟨0, _⟩ => show (x 0).val = j.val; omega
      | ⟨1, _⟩ => show (x 1).val = e.val; omega
    refine (val5 _ j e).trans ?_
    exact val_piece 5 x2 _ j e (by decide) (congrArg (fun X => View.ld X _) (harg4.read_unread x2))
  · have hx0' : j.val = (x 0).val := hx0
    have hx1' : 128 * h.val + e.val = 576 + (x 1).val := hx1
    have hxl : (x 1).val < 64 := x1_lt
    exfalso; omega
  · have hx0' : j.val = (x 0).val := hx0
    have hx1' : 128 * h.val + e.val = 512 + (x 1).val := hx1
    have hxl : (x 1).val < 64 := x1_lt
    obtain rfl : h = 4 := Fin.ext (by show h.val = 4; omega)
    obtain rfl : x = ix2 j e := by
      funext a; apply Fin.ext
      match a with
      | ⟨0, _⟩ => show (x 0).val = j.val; omega
      | ⟨1, _⟩ => show (x 1).val = e.val; omega
    refine (val4 _ j e).trans ?_
    exact val_piece 4 x2 _ j e (by decide) (congrArg (fun X => View.ld X _) (harg4.read_unread x2))
  · have hx0' : j.val = (x 0).val := hx0
    have hx1' : 128 * h.val + e.val = 448 + (x 1).val := hx1
    have hxl : (x 1).val < 64 := x1_lt
    exfalso; omega
  · have hx0' : j.val = (x 0).val := hx0
    have hx1' : 128 * h.val + e.val = 384 + (x 1).val := hx1
    have hxl : (x 1).val < 64 := x1_lt
    obtain rfl : h = 3 := Fin.ext (by show h.val = 3; omega)
    obtain rfl : x = ix2 j e := by
      funext a; apply Fin.ext
      match a with
      | ⟨0, _⟩ => show (x 0).val = j.val; omega
      | ⟨1, _⟩ => show (x 1).val = e.val; omega
    refine (val3 _ j e).trans ?_
    exact val_piece 3 x2 _ j e (by decide) (congrArg (fun X => View.ld X _) (harg4.read_unread x2))
  · have hx0' : j.val = (x 0).val := hx0
    have hx1' : 128 * h.val + e.val = 320 + (x 1).val := hx1
    have hxl : (x 1).val < 64 := x1_lt
    exfalso; omega
  · have hx0' : j.val = (x 0).val := hx0
    have hx1' : 128 * h.val + e.val = 256 + (x 1).val := hx1
    have hxl : (x 1).val < 64 := x1_lt
    obtain rfl : h = 2 := Fin.ext (by show h.val = 2; omega)
    obtain rfl : x = ix2 j e := by
      funext a; apply Fin.ext
      match a with
      | ⟨0, _⟩ => show (x 0).val = j.val; omega
      | ⟨1, _⟩ => show (x 1).val = e.val; omega
    refine (val2 _ j e).trans ?_
    exact val_piece 2 x2 _ j e (by decide) (congrArg (fun X => View.ld X _) (harg4.read_unread x2))
  · have hx0' : j.val = (x 0).val := hx0
    have hx1' : 128 * h.val + e.val = 192 + (x 1).val := hx1
    have hxl : (x 1).val < 64 := x1_lt
    exfalso; omega
  · have hx0' : j.val = (x 0).val := hx0
    have hx1' : 128 * h.val + e.val = 128 + (x 1).val := hx1
    have hxl : (x 1).val < 64 := x1_lt
    obtain rfl : h = 1 := Fin.ext (by show h.val = 1; omega)
    obtain rfl : x = ix2 j e := by
      funext a; apply Fin.ext
      match a with
      | ⟨0, _⟩ => show (x 0).val = j.val; omega
      | ⟨1, _⟩ => show (x 1).val = e.val; omega
    refine (val1 _ j e).trans ?_
    exact val_piece 1 x2 _ j e (by decide) (congrArg (fun X => View.ld X _) (harg4.read_unread x2))
  · have hx0' : j.val = (x 0).val := hx0
    have hx1' : 128 * h.val + e.val = 64 + (x 1).val := hx1
    have hxl : (x 1).val < 64 := x1_lt
    exfalso; omega
  · have hx0' : j.val = (x 0).val := hx0
    have hx1' : 128 * h.val + e.val = (x 1).val := hx1
    have hxl : (x 1).val < 64 := x1_lt
    obtain rfl : h = 0 := Fin.ext (by show h.val = 0; omega)
    obtain rfl : x = ix2 j e := by
      funext a; apply Fin.ext
      match a with
      | ⟨0, _⟩ => show (x 0).val = j.val; omega
      | ⟨1, _⟩ => show (x 1).val = e.val; omega
    refine (val0 _ j e).trans ?_
    exact val_piece 0 x2 _ j e (by decide) (congrArg (fun X => View.ld X _) (harg4.read_unread x2))

set_option maxHeartbeats 2000000 in
/-- … and beside each a column of ones. -/
theorem scratch_one  (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x256x512 .f32) (harg9 : arg9.IsWhole) (arg10 : Memref sig .tc .vmem S2048x512 .bf16) (harg10 : arg10.IsWhole) (arg11 : Memref sig .tc .vmem S2048x1024 .bf16) (harg11 : arg11.IsWhole) (arg12 : Memref sig .tc .vmem S2048x128 .f32) (harg12 : arg12.IsWhole) (arg13 : Memref sig .tc .vmem S8x2048 .f32) (harg13 : arg13.IsWhole) (hc0 : cond0_0 i) (hc1 : cond0_1 i) (hc2 : ¬cond0_2 i) (hc3 : ¬cond0_3 i) (hc4 : ¬cond0_4 i)
    (x0 : Vec Ideal S1x256x512 .f32) (x1 : Vec Ideal S1x2048x512 .f32) (x2 : Vec Ideal S1x2048x512 .f32) (x3 : Vec Ideal S1x2048x128 .f32) (x4 : Vec Ideal S1x128 .f32) (x5 : Vec Ideal S1x64 .f32) (x6 : Vec Ideal S1x64 .f32) (h : Fin 8) (j : Fin 2048) :
    sout0_A_1 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 (ix2 j (col128 h 64)) = 1 := by
  unfold sout0_A_1
  rw [View.read_writes_junk_eq_canon]
  unfold kernelRun0_A
  dsimp only
  unfold kernelRun0_A.sl.HS1_16
  canon_tiles x hx
  · have hx0' : j.val = (x 0).val := hx0
    have hx1' : 128 * h.val + 64 = 960 + (x 1).val := hx1
    have hxl : (x 1).val < 64 := x1_lt
    obtain rfl : h = 7 := Fin.ext (by show h.val = 7; omega)
    obtain rfl : x = ix2 j 0 := by
      funext a; apply Fin.ext
      match a with
      | ⟨0, _⟩ => show (x 0).val = j.val; omega
      | ⟨1, _⟩ => show (x 1).val = 0; omega
    exact one7 j
  · have hx0' : j.val = (x 0).val := hx0
    have hx1' : 128 * h.val + 64 = 896 + (x 1).val := hx1
    have hxl : (x 1).val < 64 := x1_lt
    exfalso; omega
  · have hx0' : j.val = (x 0).val := hx0
    have hx1' : 128 * h.val + 64 = 832 + (x 1).val := hx1
    have hxl : (x 1).val < 64 := x1_lt
    obtain rfl : h = 6 := Fin.ext (by show h.val = 6; omega)
    obtain rfl : x = ix2 j 0 := by
      funext a; apply Fin.ext
      match a with
      | ⟨0, _⟩ => show (x 0).val = j.val; omega
      | ⟨1, _⟩ => show (x 1).val = 0; omega
    exact one6 j
  · have hx0' : j.val = (x 0).val := hx0
    have hx1' : 128 * h.val + 64 = 768 + (x 1).val := hx1
    have hxl : (x 1).val < 64 := x1_lt
    exfalso; omega
  · have hx0' : j.val = (x 0).val := hx0
    have hx1' : 128 * h.val + 64 = 704 + (x 1).val := hx1
    have hxl : (x 1).val < 64 := x1_lt
    obtain rfl : h = 5 := Fin.ext (by show h.val = 5; omega)
    obtain rfl : x = ix2 j 0 := by
      funext a; apply Fin.ext
      match a with
      | ⟨0, _⟩ => show (x 0).val = j.val; omega
      | ⟨1, _⟩ => show (x 1).val = 0; omega
    exact one5 j
  · have hx0' : j.val = (x 0).val := hx0
    have hx1' : 128 * h.val + 64 = 640 + (x 1).val := hx1
    have hxl : (x 1).val < 64 := x1_lt
    exfalso; omega
  · have hx0' : j.val = (x 0).val := hx0
    have hx1' : 128 * h.val + 64 = 576 + (x 1).val := hx1
    have hxl : (x 1).val < 64 := x1_lt
    obtain rfl : h = 4 := Fin.ext (by show h.val = 4; omega)
    obtain rfl : x = ix2 j 0 := by
      funext a; apply Fin.ext
      match a with
      | ⟨0, _⟩ => show (x 0).val = j.val; omega
      | ⟨1, _⟩ => show (x 1).val = 0; omega
    exact one4 j
  · have hx0' : j.val = (x 0).val := hx0
    have hx1' : 128 * h.val + 64 = 512 + (x 1).val := hx1
    have hxl : (x 1).val < 64 := x1_lt
    exfalso; omega
  · have hx0' : j.val = (x 0).val := hx0
    have hx1' : 128 * h.val + 64 = 448 + (x 1).val := hx1
    have hxl : (x 1).val < 64 := x1_lt
    obtain rfl : h = 3 := Fin.ext (by show h.val = 3; omega)
    obtain rfl : x = ix2 j 0 := by
      funext a; apply Fin.ext
      match a with
      | ⟨0, _⟩ => show (x 0).val = j.val; omega
      | ⟨1, _⟩ => show (x 1).val = 0; omega
    exact one3 j
  · have hx0' : j.val = (x 0).val := hx0
    have hx1' : 128 * h.val + 64 = 384 + (x 1).val := hx1
    have hxl : (x 1).val < 64 := x1_lt
    exfalso; omega
  · have hx0' : j.val = (x 0).val := hx0
    have hx1' : 128 * h.val + 64 = 320 + (x 1).val := hx1
    have hxl : (x 1).val < 64 := x1_lt
    obtain rfl : h = 2 := Fin.ext (by show h.val = 2; omega)
    obtain rfl : x = ix2 j 0 := by
      funext a; apply Fin.ext
      match a with
      | ⟨0, _⟩ => show (x 0).val = j.val; omega
      | ⟨1, _⟩ => show (x 1).val = 0; omega
    exact one2 j
  · have hx0' : j.val = (x 0).val := hx0
    have hx1' : 128 * h.val + 64 = 256 + (x 1).val := hx1
    have hxl : (x 1).val < 64 := x1_lt
    exfalso; omega
  · have hx0' : j.val = (x 0).val := hx0
    have hx1' : 128 * h.val + 64 = 192 + (x 1).val := hx1
    have hxl : (x 1).val < 64 := x1_lt
    obtain rfl : h = 1 := Fin.ext (by show h.val = 1; omega)
    obtain rfl : x = ix2 j 0 := by
      funext a; apply Fin.ext
      match a with
      | ⟨0, _⟩ => show (x 0).val = j.val; omega
      | ⟨1, _⟩ => show (x 1).val = 0; omega
    exact one1 j
  · have hx0' : j.val = (x 0).val := hx0
    have hx1' : 128 * h.val + 64 = 128 + (x 1).val := hx1
    have hxl : (x 1).val < 64 := x1_lt
    exfalso; omega
  · have hx0' : j.val = (x 0).val := hx0
    have hx1' : 128 * h.val + 64 = 64 + (x 1).val := hx1
    have hxl : (x 1).val < 64 := x1_lt
    obtain rfl : h = 0 := Fin.ext (by show h.val = 0; omega)
    obtain rfl : x = ix2 j 0 := by
      funext a; apply Fin.ext
      match a with
      | ⟨0, _⟩ => show (x 0).val = j.val; omega
      | ⟨1, _⟩ => show (x 1).val = 0; omega
    exact one0 j
  · have hx0' : j.val = (x 0).val := hx0
    have hx1' : 128 * h.val + 64 = (x 1).val := hx1
    have hxl : (x 1).val < 64 := x1_lt
    exfalso; omega

end Cert.Fox

end
-- ==== Proof.Fox.CaseA2.lean ====
/-
  What the first point of a batch leaves in its third and fourth scratch arrays: the running sums of the log forget gates,
  by rows and by columns.
-/
module

public import proofs.«01_k».proof.Proof.Fox.Tile
public import proofs.«01_k».proof.Proof.Gen.KernelIdeal.Frame
public import Idealize.ShloMosaic.Lib.Tactic

@[expose] public section

set_option maxRecDepth 16384

noncomputable section

namespace Cert.Fox

open Idealize.ShloMosaic Cert.KernelIdeal Cert.KernelIdeal.Gen

/-- The running sums of whole-block loads are those of the blocks. -/
theorem cum_loaded (arg5 : Memref sig .tc .vmem S1x2048x128 .f32) (harg5 : arg5.IsWhole) (arg6 : Memref sig .tc .vmem S1x128 .f32)
    (harg6 : arg6.IsWhole) (x3 : Vec Ideal S1x2048x128 .f32) (x4 : Vec Ideal S1x128 .f32)
    (o : ∀ a, (![0, 0, 0] : Fin 3 → ℕ) a + S1x2048x128.size a ≤ S1x2048x128.size a)
    (o' : ∀ a, (![0, 0] : Fin 2 → ℕ) a + S1x128.size a ≤ S1x128.size a) :
    cumK (View.readAt (Elt Ideal) arg5.view (Rect.unit (s := S1x2048x128) ![0, 0, 0] S1x2048x128.size o).toLoadRect (harg5.unread x3))
      (View.readAt (Elt Ideal) arg6.view (Rect.unit (s := S1x128) ![0, 0] S1x128.size o').toLoadRect (harg6.unread x4)) = cumK x3 x4 := by
  have e3 : View.readAt (Elt Ideal) arg5.view (Rect.unit (s := S1x2048x128) ![0, 0, 0] S1x2048x128.size o).toLoadRect (harg5.unread x3) = x3 := by
    rw [View.readAt_eq_ld, harg5.read_unread]
    exact View.ld_unit_zero (funext fun a => by fin_cases a <;> rfl) _ _
  have e4 : View.readAt (Elt Ideal) arg6.view (Rect.unit (s := S1x128) ![0, 0] S1x128.size o').toLoadRect (harg6.unread x4) = x4 := by
    rw [View.readAt_eq_ld, harg6.read_unread]
    exact View.ld_unit_zero (funext fun a => by fin_cases a <;> rfl) _ _
  rw [e3, e4]

/-- The third scratch holds the running sums. -/
theorem scratch_cum  (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x256x512 .f32) (harg9 : arg9.IsWhole) (arg10 : Memref sig .tc .vmem S2048x512 .bf16) (harg10 : arg10.IsWhole) (arg11 : Memref sig .tc .vmem S2048x1024 .bf16) (harg11 : arg11.IsWhole) (arg12 : Memref sig .tc .vmem S2048x128 .f32) (harg12 : arg12.IsWhole) (arg13 : Memref sig .tc .vmem S8x2048 .f32) (harg13 : arg13.IsWhole) (hc0 : cond0_0 i) (hc1 : cond0_1 i) (hc2 : ¬cond0_2 i) (hc3 : ¬cond0_3 i) (hc4 : ¬cond0_4 i)
    (x0 : Vec Ideal S1x256x512 .f32) (x1 : Vec Ideal S1x2048x512 .f32) (x2 : Vec Ideal S1x2048x512 .f32) (x3 : Vec Ideal S1x2048x128 .f32) (x4 : Vec Ideal S1x128 .f32) (x5 : Vec Ideal S1x64 .f32) (x6 : Vec Ideal S1x64 .f32) :
    sout0_A_2 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 = cumK x3 x4 := by
  unfold sout0_A_2
  rw [View.read_writes_junk_eq_canon]
  unfold kernelRun0_A
  dsimp only
  refine (View.canon_unit_zero (funext fun a => by fin_cases a <;> rfl) _ _).trans ?_
  exact (pay44_eq _ _).trans (cum_loaded arg5 harg5 arg6 harg6 x3 x4 (by decide) (by decide))

set_option maxHeartbeats 1000000 in
/-- The fourth scratch holds the running sums, transposed. -/
theorem scratch_row  (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x256x512 .f32) (harg9 : arg9.IsWhole) (arg10 : Memref sig .tc .vmem S2048x512 .bf16) (harg10 : arg10.IsWhole) (arg11 : Memref sig .tc .vmem S2048x1024 .bf16) (harg11 : arg11.IsWhole) (arg12 : Memref sig .tc .vmem S2048x128 .f32) (harg12 : arg12.IsWhole) (arg13 : Memref sig .tc .vmem S8x2048 .f32) (harg13 : arg13.IsWhole) (hc0 : cond0_0 i) (hc1 : cond0_1 i) (hc2 : ¬cond0_2 i) (hc3 : ¬cond0_3 i) (hc4 : ¬cond0_4 i)
    (x0 : Vec Ideal S1x256x512 .f32) (x1 : Vec Ideal S1x2048x512 .f32) (x2 : Vec Ideal S1x2048x512 .f32) (x3 : Vec Ideal S1x2048x128 .f32) (x4 : Vec Ideal S1x128 .f32) (x5 : Vec Ideal S1x64 .f32) (x6 : Vec Ideal S1x64 .f32) (h : Fin 8) (j : Fin 2048) :
    sout0_A_3 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 (ix2 h j) = cumK x3 x4 (ix2 j ⟨h.val, by omega⟩) := by
  unfold sout0_A_3
  rw [View.read_writes_junk_eq_canon]
  unfold kernelRun0_A
  dsimp only
  unfold kernelRun0_A.sl.HS3_8
  canon_tiles x hx
  · have hx0' : h.val = (x 0).val := hx0
    have hx1' : j.val = 1792 + (x 1).val := hx1
    have hxl : (x 1).val < 256 := x1_lt
    have hl : (x 0).val < 8 := x0_lt
    obtain ⟨r, hr⟩ : ∃ r : Fin 256, r.val = (x 1).val := ⟨⟨_, hxl⟩, rfl⟩
    obtain rfl : x = ix2 h r := by
      funext a; apply Fin.ext
      match a with
      | ⟨0, _⟩ => show (x 0).val = h.val; omega
      | ⟨1, _⟩ => show (x 1).val = r.val; omega
    refine (row7 _ h r).trans ?_
    have hj : (⟨1792 + r.val, by omega⟩ : Fin 2048) = j := Fin.ext (by show 1792 + r.val = j.val; omega)
    rw [← hj]
    exact congrFun (cum_loaded arg5 harg5 arg6 harg6 x3 x4 (by decide) (by decide)) _
  · have hx0' : h.val = (x 0).val := hx0
    have hx1' : j.val = 1536 + (x 1).val := hx1
    have hxl : (x 1).val < 256 := x1_lt
    have hl : (x 0).val < 8 := x0_lt
    obtain ⟨r, hr⟩ : ∃ r : Fin 256, r.val = (x 1).val := ⟨⟨_, hxl⟩, rfl⟩
    obtain rfl : x = ix2 h r := by
      funext a; apply Fin.ext
      match a with
      | ⟨0, _⟩ => show (x 0).val = h.val; omega
      | ⟨1, _⟩ => show (x 1).val = r.val; omega
    refine (row6 _ h r).trans ?_
    have hj : (⟨1536 + r.val, by omega⟩ : Fin 2048) = j := Fin.ext (by show 1536 + r.val = j.val; omega)
    rw [← hj]
    exact congrFun (cum_loaded arg5 harg5 arg6 harg6 x3 x4 (by decide) (by decide)) _
  · have hx0' : h.val = (x 0).val := hx0
    have hx1' : j.val = 1280 + (x 1).val := hx1
    have hxl : (x 1).val < 256 := x1_lt
    have hl : (x 0).val < 8 := x0_lt
    obtain ⟨r, hr⟩ : ∃ r : Fin 256, r.val = (x 1).val := ⟨⟨_, hxl⟩, rfl⟩
    obtain rfl : x = ix2 h r := by
      funext a; apply Fin.ext
      match a with
      | ⟨0, _⟩ => show (x 0).val = h.val; omega
      | ⟨1, _⟩ => show (x 1).val = r.val; omega
    refine (row5 _ h r).trans ?_
    have hj : (⟨1280 + r.val, by omega⟩ : Fin 2048) = j := Fin.ext (by show 1280 + r.val = j.val; omega)
    rw [← hj]
    exact congrFun (cum_loaded arg5 harg5 arg6 harg6 x3 x4 (by decide) (by decide)) _
  · have hx0' : h.val = (x 0).val := hx0
    have hx1' : j.val = 1024 + (x 1).val := hx1
    have hxl : (x 1).val < 256 := x1_lt
    have hl : (x 0).val < 8 := x0_lt
    obtain ⟨r, hr⟩ : ∃ r : Fin 256, r.val = (x 1).val := ⟨⟨_, hxl⟩, rfl⟩
    obtain rfl : x = ix2 h r := by
      funext a; apply Fin.ext
      match a with
      | ⟨0, _⟩ => show (x 0).val = h.val; omega
      | ⟨1, _⟩ => show (x 1).val = r.val; omega
    refine (row4 _ h r).trans ?_
    have hj : (⟨1024 + r.val, by omega⟩ : Fin 2048) = j := Fin.ext (by show 1024 + r.val = j.val; omega)
    rw [← hj]
    exact congrFun (cum_loaded arg5 harg5 arg6 harg6 x3 x4 (by decide) (by decide)) _
  · have hx0' : h.val = (x 0).val := hx0
    have hx1' : j.val = 768 + (x 1).val := hx1
    have hxl : (x 1).val < 256 := x1_lt
    have hl : (x 0).val < 8 := x0_lt
    obtain ⟨r, hr⟩ : ∃ r : Fin 256, r.val = (x 1).val := ⟨⟨_, hxl⟩, rfl⟩
    obtain rfl : x = ix2 h r := by
      funext a; apply Fin.ext
      match a with
      | ⟨0, _⟩ => show (x 0).val = h.val; omega
      | ⟨1, _⟩ => show (x 1).val = r.val; omega
    refine (row3 _ h r).trans ?_
    have hj : (⟨768 + r.val, by omega⟩ : Fin 2048) = j := Fin.ext (by show 768 + r.val = j.val; omega)
    rw [← hj]
    exact congrFun (cum_loaded arg5 harg5 arg6 harg6 x3 x4 (by decide) (by decide)) _
  · have hx0' : h.val = (x 0).val := hx0
    have hx1' : j.val = 512 + (x 1).val := hx1
    have hxl : (x 1).val < 256 := x1_lt
    have hl : (x 0).val < 8 := x0_lt
    obtain ⟨r, hr⟩ : ∃ r : Fin 256, r.val = (x 1).val := ⟨⟨_, hxl⟩, rfl⟩
    obtain rfl : x = ix2 h r := by
      funext a; apply Fin.ext
      match a with
      | ⟨0, _⟩ => show (x 0).val = h.val; omega
      | ⟨1, _⟩ => show (x 1).val = r.val; omega
    refine (row2 _ h r).trans ?_
    have hj : (⟨512 + r.val, by omega⟩ : Fin 2048) = j := Fin.ext (by show 512 + r.val = j.val; omega)
    rw [← hj]
    exact congrFun (cum_loaded arg5 harg5 arg6 harg6 x3 x4 (by decide) (by decide)) _
  · have hx0' : h.val = (x 0).val := hx0
    have hx1' : j.val = 256 + (x 1).val := hx1
    have hxl : (x 1).val < 256 := x1_lt
    have hl : (x 0).val < 8 := x0_lt
    obtain ⟨r, hr⟩ : ∃ r : Fin 256, r.val = (x 1).val := ⟨⟨_, hxl⟩, rfl⟩
    obtain rfl : x = ix2 h r := by
      funext a; apply Fin.ext
      match a with
      | ⟨0, _⟩ => show (x 0).val = h.val; omega
      | ⟨1, _⟩ => show (x 1).val = r.val; omega
    refine (row1 _ h r).trans ?_
    have hj : (⟨256 + r.val, by omega⟩ : Fin 2048) = j := Fin.ext (by show 256 + r.val = j.val; omega)
    rw [← hj]
    exact congrFun (cum_loaded arg5 harg5 arg6 harg6 x3 x4 (by decide) (by decide)) _
  · have hx0' : h.val = (x 0).val := hx0
    have hx1' : j.val = (x 1).val := hx1
    have hxl : (x 1).val < 256 := x1_lt
    have hl : (x 0).val < 8 := x0_lt
    obtain ⟨r, hr⟩ : ∃ r : Fin 256, r.val = (x 1).val := ⟨⟨_, hxl⟩, rfl⟩
    obtain rfl : x = ix2 h r := by
      funext a; apply Fin.ext
      match a with
      | ⟨0, _⟩ => show (x 0).val = h.val; omega
      | ⟨1, _⟩ => show (x 1).val = r.val; omega
    refine (row0 _ _ _ h r).trans ?_
    have hj : (⟨r.val, by omega⟩ : Fin 2048) = j := Fin.ext (by show r.val = j.val; omega)
    rw [← hj]
    exact congrFun (cum_loaded arg5 harg5 arg6 harg6 x3 x4 (by decide) (by decide)) _

end Cert.Fox

end
-- ==== Proof.Fox.CaseA7.lean ====
/-
  The output block of the first point of a batch, read at an index.
-/
module

public import proofs.«01_k».proof.Proof.Fox.Tile
public import proofs.«01_k».proof.Proof.Gen.KernelIdeal.Frame
public import Idealize.ShloMosaic.Lib.Tactic

@[expose] public section

set_option maxRecDepth 16384

noncomputable section

namespace Cert.Fox

open Idealize.ShloMosaic Cert.KernelIdeal Cert.KernelIdeal.Gen

/-- The output block the first point of a batch leaves: the attention over the first 512 keys of the scratch it filled. -/
theorem out_A  (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x256x512 .f32) (harg9 : arg9.IsWhole) (arg10 : Memref sig .tc .vmem S2048x512 .bf16) (harg10 : arg10.IsWhole) (arg11 : Memref sig .tc .vmem S2048x1024 .bf16) (harg11 : arg11.IsWhole) (arg12 : Memref sig .tc .vmem S2048x128 .f32) (harg12 : arg12.IsWhole) (arg13 : Memref sig .tc .vmem S8x2048 .f32) (harg13 : arg13.IsWhole) (hc0 : cond0_0 i) (hc1 : cond0_1 i) (hc2 : ¬cond0_2 i) (hc3 : ¬cond0_3 i) (hc4 : ¬cond0_4 i)
    (x0 : Vec Ideal S1x256x512 .f32) (x1 : Vec Ideal S1x2048x512 .f32) (x2 : Vec Ideal S1x2048x512 .f32) (x3 : Vec Ideal S1x2048x128 .f32) (x4 : Vec Ideal S1x128 .f32) (x5 : Vec Ideal S1x64 .f32) (x6 : Vec Ideal S1x64 .f32) (h : Fin 8) (r : Fin 256) (d : Fin 64) :
    out0_A_7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 (ix3 0 r (col64 h d)) = tileK (n := 512) (by norm_num) (i 1) x0 x5 (sout0_A_0 c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6) (sout0_A_1 c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6)
      (sout0_A_2 c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6) (sout0_A_3 c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6) h r d := by
  have hd := d.isLt
  unfold out0_A_7
  rw [View.read_writes_junk_eq_canon]
  unfold kernelRun0_A
  dsimp only
  canon_tiles x hx
  · have hx0 : (col64 h d).val = 448 + (x 2).val := hx2
    have hx1' : r.val = (x 1).val := hx1
    have hxl : (x 2).val < 64 := x2_lt
    obtain rfl : h = 7 := Fin.ext (by simp only [col64] at hx0; show h.val = 7; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head7_512 (BitVec.ofNat 32 (i 1).val) _ _ _ _ _ _ r d).trans ?_
    exact rowK_eq_tileK (by norm_num) i 7 x0 x5 _ _ _ _ _ _ _ _ _ _ _ r d (k0_off1_inb i)
      (by decide) (by decide) (by decide) (by decide) (by decide) rfl
      ((View.readCov_eq_canon' _ _ _).trans (congrArg (fun X => View.ld X _) (View.read_writes_junk_eq_canon _ _).symm))
      (congrArg (fun X => View.ld X _) (harg2.read_unread x0)) (congrArg (fun X => View.ld X _) (harg7.read_unread x5))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
  · have hx0 : (col64 h d).val = 384 + (x 2).val := hx2
    have hx1' : r.val = (x 1).val := hx1
    have hxl : (x 2).val < 64 := x2_lt
    obtain rfl : h = 6 := Fin.ext (by simp only [col64] at hx0; show h.val = 6; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head6_512 (BitVec.ofNat 32 (i 1).val) _ _ _ _ _ _ r d).trans ?_
    exact rowK_eq_tileK (by norm_num) i 6 x0 x5 _ _ _ _ _ _ _ _ _ _ _ r d (k0_off1_inb i)
      (by decide) (by decide) (by decide) (by decide) (by decide) rfl
      ((View.readCov_eq_canon' _ _ _).trans (congrArg (fun X => View.ld X _) (View.read_writes_junk_eq_canon _ _).symm))
      (congrArg (fun X => View.ld X _) (harg2.read_unread x0)) (congrArg (fun X => View.ld X _) (harg7.read_unread x5))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
  · have hx0 : (col64 h d).val = 320 + (x 2).val := hx2
    have hx1' : r.val = (x 1).val := hx1
    have hxl : (x 2).val < 64 := x2_lt
    obtain rfl : h = 5 := Fin.ext (by simp only [col64] at hx0; show h.val = 5; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head5_512 (BitVec.ofNat 32 (i 1).val) _ _ _ _ _ _ r d).trans ?_
    exact rowK_eq_tileK (by norm_num) i 5 x0 x5 _ _ _ _ _ _ _ _ _ _ _ r d (k0_off1_inb i)
      (by decide) (by decide) (by decide) (by decide) (by decide) rfl
      ((View.readCov_eq_canon' _ _ _).trans (congrArg (fun X => View.ld X _) (View.read_writes_junk_eq_canon _ _).symm))
      (congrArg (fun X => View.ld X _) (harg2.read_unread x0)) (congrArg (fun X => View.ld X _) (harg7.read_unread x5))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
  · have hx0 : (col64 h d).val = 256 + (x 2).val := hx2
    have hx1' : r.val = (x 1).val := hx1
    have hxl : (x 2).val < 64 := x2_lt
    obtain rfl : h = 4 := Fin.ext (by simp only [col64] at hx0; show h.val = 4; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head4_512 (BitVec.ofNat 32 (i 1).val) _ _ _ _ _ _ r d).trans ?_
    exact rowK_eq_tileK (by norm_num) i 4 x0 x5 _ _ _ _ _ _ _ _ _ _ _ r d (k0_off1_inb i)
      (by decide) (by decide) (by decide) (by decide) (by decide) rfl
      ((View.readCov_eq_canon' _ _ _).trans (congrArg (fun X => View.ld X _) (View.read_writes_junk_eq_canon _ _).symm))
      (congrArg (fun X => View.ld X _) (harg2.read_unread x0)) (congrArg (fun X => View.ld X _) (harg7.read_unread x5))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
  · have hx0 : (col64 h d).val = 192 + (x 2).val := hx2
    have hx1' : r.val = (x 1).val := hx1
    have hxl : (x 2).val < 64 := x2_lt
    obtain rfl : h = 3 := Fin.ext (by simp only [col64] at hx0; show h.val = 3; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head3_512 (BitVec.ofNat 32 (i 1).val) _ _ _ _ _ _ r d).trans ?_
    exact rowK_eq_tileK (by norm_num) i 3 x0 x5 _ _ _ _ _ _ _ _ _ _ _ r d (k0_off1_inb i)
      (by decide) (by decide) (by decide) (by decide) (by decide) rfl
      ((View.readCov_eq_canon' _ _ _).trans (congrArg (fun X => View.ld X _) (View.read_writes_junk_eq_canon _ _).symm))
      (congrArg (fun X => View.ld X _) (harg2.read_unread x0)) (congrArg (fun X => View.ld X _) (harg7.read_unread x5))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
  · have hx0 : (col64 h d).val = 128 + (x 2).val := hx2
    have hx1' : r.val = (x 1).val := hx1
    have hxl : (x 2).val < 64 := x2_lt
    obtain rfl : h = 2 := Fin.ext (by simp only [col64] at hx0; show h.val = 2; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head2_512 (BitVec.ofNat 32 (i 1).val) _ _ _ _ _ _ r d).trans ?_
    exact rowK_eq_tileK (by norm_num) i 2 x0 x5 _ _ _ _ _ _ _ _ _ _ _ r d (k0_off1_inb i)
      (by decide) (by decide) (by decide) (by decide) (by decide) rfl
      ((View.readCov_eq_canon' _ _ _).trans (congrArg (fun X => View.ld X _) (View.read_writes_junk_eq_canon _ _).symm))
      (congrArg (fun X => View.ld X _) (harg2.read_unread x0)) (congrArg (fun X => View.ld X _) (harg7.read_unread x5))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
  · have hx0 : (col64 h d).val = 64 + (x 2).val := hx2
    have hx1' : r.val = (x 1).val := hx1
    have hxl : (x 2).val < 64 := x2_lt
    obtain rfl : h = 1 := Fin.ext (by simp only [col64] at hx0; show h.val = 1; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head1_512 (BitVec.ofNat 32 (i 1).val) _ _ _ _ _ _ r d).trans ?_
    exact rowK_eq_tileK (by norm_num) i 1 x0 x5 _ _ _ _ _ _ _ _ _ _ _ r d (k0_off1_inb i)
      (by decide) (by decide) (by decide) (by decide) (by decide) rfl
      ((View.readCov_eq_canon' _ _ _).trans (congrArg (fun X => View.ld X _) (View.read_writes_junk_eq_canon _ _).symm))
      (congrArg (fun X => View.ld X _) (harg2.read_unread x0)) (congrArg (fun X => View.ld X _) (harg7.read_unread x5))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
  · have hx0 : (col64 h d).val = (x 2).val := hx2
    have hx1' : r.val = (x 1).val := hx1
    have hxl : (x 2).val < 64 := x2_lt
    obtain rfl : h = 0 := Fin.ext (by simp only [col64] at hx0; show h.val = 0; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head0_512 (BitVec.ofNat 32 (i 1).val) _ _ _ _ _ _ r d).trans ?_
    exact rowK_eq_tileK (by norm_num) i 0 x0 x5 _ _ _ _ _ _ _ _ _ _ _ r d (k0_off1_inb i)
      (by decide) (by decide) (by decide) (by decide) (by decide) rfl
      ((View.readCov_eq_canon' _ _ _).trans (congrArg (fun X => View.ld X _) (View.read_writes_junk_eq_canon _ _).symm))
      (congrArg (fun X => View.ld X _) (harg2.read_unread x0)) (congrArg (fun X => View.ld X _) (harg7.read_unread x5))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))
      ((View.readCov_eq_canon' _ _ _).trans (congrArg (fun X => View.ld X _) (View.read_writes_junk_eq_canon _ _).symm))

end Cert.Fox

end
-- ==== Proof.Fox.CaseB.lean ====
/-
  The attention kernel's output block in the case of the first 512 keys, read at an index.
-/
module

public import proofs.«01_k».proof.Proof.Fox.Tile
public import proofs.«01_k».proof.Proof.Gen.KernelIdeal.Frame
public import Idealize.ShloMosaic.Lib.Tactic

@[expose] public section

set_option maxRecDepth 16384

noncomputable section

namespace Cert.Fox

open Idealize.ShloMosaic Cert.KernelIdeal Cert.KernelIdeal.Gen

/-- The output block a point of case B leaves: the attention over the first 512 keys of the scratch. -/
theorem out_B  (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x256x512 .f32) (harg9 : arg9.IsWhole) (arg10 : Memref sig .tc .vmem S2048x512 .bf16) (harg10 : arg10.IsWhole) (arg11 : Memref sig .tc .vmem S2048x1024 .bf16) (harg11 : arg11.IsWhole) (arg12 : Memref sig .tc .vmem S2048x128 .f32) (harg12 : arg12.IsWhole) (arg13 : Memref sig .tc .vmem S8x2048 .f32) (harg13 : arg13.IsWhole) (hc0 : ¬cond0_0 i) (hc1 : cond0_1 i) (hc2 : ¬cond0_2 i) (hc3 : ¬cond0_3 i) (hc4 : ¬cond0_4 i)
    (x0 : Vec Ideal S1x256x512 .f32) (x1 : Vec Ideal S1x2048x512 .f32) (x2 : Vec Ideal S1x2048x512 .f32) (x3 : Vec Ideal S1x2048x128 .f32) (x4 : Vec Ideal S1x128 .f32) (x5 : Vec Ideal S1x64 .f32) (x6 : Vec Ideal S1x64 .f32) (xs0 : Vec Ideal S2048x512 .bf16) (xs1 : Vec Ideal S2048x1024 .bf16) (xs2 : Vec Ideal S2048x128 .f32) (xs3 : Vec Ideal S8x2048 .f32) (h : Fin 8) (r : Fin 256) (d : Fin 64) :
    out0_B_7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 xs0 xs1 xs2 xs3 (ix3 0 r (col64 h d)) = tileK (n := 512) (by norm_num) (i 1) x0 x5 xs0 xs1 xs2 xs3 h r d := by
  have hd := d.isLt
  unfold out0_B_7
  rw [View.read_writes_junk_eq_canon]
  unfold kernelRun0_B
  dsimp only
  canon_tiles x hx
  · have hx0 : (col64 h d).val = 448 + (x 2).val := hx2
    have hx1' : r.val = (x 1).val := hx1
    have hxl : (x 2).val < 64 := x2_lt
    obtain rfl : h = 7 := Fin.ext (by simp only [col64] at hx0; show h.val = 7; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head7_512 (BitVec.ofNat 32 (i 1).val) _ _ _ _ _ _ r d).trans ?_
    exact rowK_eq_tileK (by norm_num) i 7 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 384 + (x 2).val := hx2
    have hx1' : r.val = (x 1).val := hx1
    have hxl : (x 2).val < 64 := x2_lt
    obtain rfl : h = 6 := Fin.ext (by simp only [col64] at hx0; show h.val = 6; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head6_512 (BitVec.ofNat 32 (i 1).val) _ _ _ _ _ _ r d).trans ?_
    exact rowK_eq_tileK (by norm_num) i 6 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 320 + (x 2).val := hx2
    have hx1' : r.val = (x 1).val := hx1
    have hxl : (x 2).val < 64 := x2_lt
    obtain rfl : h = 5 := Fin.ext (by simp only [col64] at hx0; show h.val = 5; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head5_512 (BitVec.ofNat 32 (i 1).val) _ _ _ _ _ _ r d).trans ?_
    exact rowK_eq_tileK (by norm_num) i 5 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 256 + (x 2).val := hx2
    have hx1' : r.val = (x 1).val := hx1
    have hxl : (x 2).val < 64 := x2_lt
    obtain rfl : h = 4 := Fin.ext (by simp only [col64] at hx0; show h.val = 4; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head4_512 (BitVec.ofNat 32 (i 1).val) _ _ _ _ _ _ r d).trans ?_
    exact rowK_eq_tileK (by norm_num) i 4 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 192 + (x 2).val := hx2
    have hx1' : r.val = (x 1).val := hx1
    have hxl : (x 2).val < 64 := x2_lt
    obtain rfl : h = 3 := Fin.ext (by simp only [col64] at hx0; show h.val = 3; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head3_512 (BitVec.ofNat 32 (i 1).val) _ _ _ _ _ _ r d).trans ?_
    exact rowK_eq_tileK (by norm_num) i 3 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 128 + (x 2).val := hx2
    have hx1' : r.val = (x 1).val := hx1
    have hxl : (x 2).val < 64 := x2_lt
    obtain rfl : h = 2 := Fin.ext (by simp only [col64] at hx0; show h.val = 2; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head2_512 (BitVec.ofNat 32 (i 1).val) _ _ _ _ _ _ r d).trans ?_
    exact rowK_eq_tileK (by norm_num) i 2 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 64 + (x 2).val := hx2
    have hx1' : r.val = (x 1).val := hx1
    have hxl : (x 2).val < 64 := x2_lt
    obtain rfl : h = 1 := Fin.ext (by simp only [col64] at hx0; show h.val = 1; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head1_512 (BitVec.ofNat 32 (i 1).val) _ _ _ _ _ _ r d).trans ?_
    exact rowK_eq_tileK (by norm_num) i 1 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = (x 2).val := hx2
    have hx1' : r.val = (x 1).val := hx1
    have hxl : (x 2).val < 64 := x2_lt
    obtain rfl : h = 0 := Fin.ext (by simp only [col64] at hx0; show h.val = 0; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head0_512 (BitVec.ofNat 32 (i 1).val) _ _ _ _ _ _ r d).trans ?_
    exact rowK_eq_tileK (by norm_num) i 0 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))

end Cert.Fox

end
-- ==== Proof.Fox.CaseC.lean ====
/-
  The attention kernel's output block in the case of the first 1024 keys, read at an index.
-/
module

public import proofs.«01_k».proof.Proof.Fox.Tile
public import proofs.«01_k».proof.Proof.Gen.KernelIdeal.Frame
public import Idealize.ShloMosaic.Lib.Tactic

@[expose] public section

set_option maxRecDepth 16384

noncomputable section

namespace Cert.Fox

open Idealize.ShloMosaic Cert.KernelIdeal Cert.KernelIdeal.Gen

/-- The output block a point of case C leaves: the attention over the first 1024 keys of the scratch. -/
theorem out_C  (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x256x512 .f32) (harg9 : arg9.IsWhole) (arg10 : Memref sig .tc .vmem S2048x512 .bf16) (harg10 : arg10.IsWhole) (arg11 : Memref sig .tc .vmem S2048x1024 .bf16) (harg11 : arg11.IsWhole) (arg12 : Memref sig .tc .vmem S2048x128 .f32) (harg12 : arg12.IsWhole) (arg13 : Memref sig .tc .vmem S8x2048 .f32) (harg13 : arg13.IsWhole) (hc0 : ¬cond0_0 i) (hc1 : ¬cond0_1 i) (hc2 : cond0_2 i) (hc3 : ¬cond0_3 i) (hc4 : ¬cond0_4 i)
    (x0 : Vec Ideal S1x256x512 .f32) (x1 : Vec Ideal S1x2048x512 .f32) (x2 : Vec Ideal S1x2048x512 .f32) (x3 : Vec Ideal S1x2048x128 .f32) (x4 : Vec Ideal S1x128 .f32) (x5 : Vec Ideal S1x64 .f32) (x6 : Vec Ideal S1x64 .f32) (xs0 : Vec Ideal S2048x512 .bf16) (xs1 : Vec Ideal S2048x1024 .bf16) (xs2 : Vec Ideal S2048x128 .f32) (xs3 : Vec Ideal S8x2048 .f32) (h : Fin 8) (r : Fin 256) (d : Fin 64) :
    out0_C_7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 xs0 xs1 xs2 xs3 (ix3 0 r (col64 h d)) = tileK (n := 1024) (by norm_num) (i 1) x0 x5 xs0 xs1 xs2 xs3 h r d := by
  have hd := d.isLt
  unfold out0_C_7
  rw [View.read_writes_junk_eq_canon]
  unfold kernelRun0_C
  dsimp only
  canon_tiles x hx
  · have hx0 : (col64 h d).val = 448 + (x 2).val := hx2
    have hx1' : r.val = (x 1).val := hx1
    have hxl : (x 2).val < 64 := x2_lt
    obtain rfl : h = 7 := Fin.ext (by simp only [col64] at hx0; show h.val = 7; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head7_1024 (BitVec.ofNat 32 (i 1).val) _ _ _ _ _ _ r d).trans ?_
    exact rowK_eq_tileK (by norm_num) i 7 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 384 + (x 2).val := hx2
    have hx1' : r.val = (x 1).val := hx1
    have hxl : (x 2).val < 64 := x2_lt
    obtain rfl : h = 6 := Fin.ext (by simp only [col64] at hx0; show h.val = 6; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head6_1024 (BitVec.ofNat 32 (i 1).val) _ _ _ _ _ _ r d).trans ?_
    exact rowK_eq_tileK (by norm_num) i 6 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 320 + (x 2).val := hx2
    have hx1' : r.val = (x 1).val := hx1
    have hxl : (x 2).val < 64 := x2_lt
    obtain rfl : h = 5 := Fin.ext (by simp only [col64] at hx0; show h.val = 5; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head5_1024 (BitVec.ofNat 32 (i 1).val) _ _ _ _ _ _ r d).trans ?_
    exact rowK_eq_tileK (by norm_num) i 5 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 256 + (x 2).val := hx2
    have hx1' : r.val = (x 1).val := hx1
    have hxl : (x 2).val < 64 := x2_lt
    obtain rfl : h = 4 := Fin.ext (by simp only [col64] at hx0; show h.val = 4; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head4_1024 (BitVec.ofNat 32 (i 1).val) _ _ _ _ _ _ r d).trans ?_
    exact rowK_eq_tileK (by norm_num) i 4 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 192 + (x 2).val := hx2
    have hx1' : r.val = (x 1).val := hx1
    have hxl : (x 2).val < 64 := x2_lt
    obtain rfl : h = 3 := Fin.ext (by simp only [col64] at hx0; show h.val = 3; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head3_1024 (BitVec.ofNat 32 (i 1).val) _ _ _ _ _ _ r d).trans ?_
    exact rowK_eq_tileK (by norm_num) i 3 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 128 + (x 2).val := hx2
    have hx1' : r.val = (x 1).val := hx1
    have hxl : (x 2).val < 64 := x2_lt
    obtain rfl : h = 2 := Fin.ext (by simp only [col64] at hx0; show h.val = 2; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head2_1024 (BitVec.ofNat 32 (i 1).val) _ _ _ _ _ _ r d).trans ?_
    exact rowK_eq_tileK (by norm_num) i 2 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 64 + (x 2).val := hx2
    have hx1' : r.val = (x 1).val := hx1
    have hxl : (x 2).val < 64 := x2_lt
    obtain rfl : h = 1 := Fin.ext (by simp only [col64] at hx0; show h.val = 1; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head1_1024 (BitVec.ofNat 32 (i 1).val) _ _ _ _ _ _ r d).trans ?_
    exact rowK_eq_tileK (by norm_num) i 1 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = (x 2).val := hx2
    have hx1' : r.val = (x 1).val := hx1
    have hxl : (x 2).val < 64 := x2_lt
    obtain rfl : h = 0 := Fin.ext (by simp only [col64] at hx0; show h.val = 0; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head0_1024 (BitVec.ofNat 32 (i 1).val) _ _ _ _ _ _ r d).trans ?_
    exact rowK_eq_tileK (by norm_num) i 0 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))

end Cert.Fox

end
-- ==== Proof.Fox.CaseD.lean ====
/-
  The attention kernel's output block in the case of the first 1536 keys, read at an index.
-/
module

public import proofs.«01_k».proof.Proof.Fox.Tile
public import proofs.«01_k».proof.Proof.Gen.KernelIdeal.Frame
public import Idealize.ShloMosaic.Lib.Tactic

@[expose] public section

set_option maxRecDepth 16384

noncomputable section

namespace Cert.Fox

open Idealize.ShloMosaic Cert.KernelIdeal Cert.KernelIdeal.Gen

/-- The output block a point of case D leaves: the attention over the first 1536 keys of the scratch. -/
theorem out_D  (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x256x512 .f32) (harg9 : arg9.IsWhole) (arg10 : Memref sig .tc .vmem S2048x512 .bf16) (harg10 : arg10.IsWhole) (arg11 : Memref sig .tc .vmem S2048x1024 .bf16) (harg11 : arg11.IsWhole) (arg12 : Memref sig .tc .vmem S2048x128 .f32) (harg12 : arg12.IsWhole) (arg13 : Memref sig .tc .vmem S8x2048 .f32) (harg13 : arg13.IsWhole) (hc0 : ¬cond0_0 i) (hc1 : ¬cond0_1 i) (hc2 : ¬cond0_2 i) (hc3 : cond0_3 i) (hc4 : ¬cond0_4 i)
    (x0 : Vec Ideal S1x256x512 .f32) (x1 : Vec Ideal S1x2048x512 .f32) (x2 : Vec Ideal S1x2048x512 .f32) (x3 : Vec Ideal S1x2048x128 .f32) (x4 : Vec Ideal S1x128 .f32) (x5 : Vec Ideal S1x64 .f32) (x6 : Vec Ideal S1x64 .f32) (xs0 : Vec Ideal S2048x512 .bf16) (xs1 : Vec Ideal S2048x1024 .bf16) (xs2 : Vec Ideal S2048x128 .f32) (xs3 : Vec Ideal S8x2048 .f32) (h : Fin 8) (r : Fin 256) (d : Fin 64) :
    out0_D_7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 xs0 xs1 xs2 xs3 (ix3 0 r (col64 h d)) = tileK (n := 1536) (by norm_num) (i 1) x0 x5 xs0 xs1 xs2 xs3 h r d := by
  have hd := d.isLt
  unfold out0_D_7
  rw [View.read_writes_junk_eq_canon]
  unfold kernelRun0_D
  dsimp only
  canon_tiles x hx
  · have hx0 : (col64 h d).val = 448 + (x 2).val := hx2
    have hx1' : r.val = (x 1).val := hx1
    have hxl : (x 2).val < 64 := x2_lt
    obtain rfl : h = 7 := Fin.ext (by simp only [col64] at hx0; show h.val = 7; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head7_1536 (BitVec.ofNat 32 (i 1).val) _ _ _ _ _ _ r d).trans ?_
    exact rowK_eq_tileK (by norm_num) i 7 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 384 + (x 2).val := hx2
    have hx1' : r.val = (x 1).val := hx1
    have hxl : (x 2).val < 64 := x2_lt
    obtain rfl : h = 6 := Fin.ext (by simp only [col64] at hx0; show h.val = 6; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head6_1536 (BitVec.ofNat 32 (i 1).val) _ _ _ _ _ _ r d).trans ?_
    exact rowK_eq_tileK (by norm_num) i 6 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 320 + (x 2).val := hx2
    have hx1' : r.val = (x 1).val := hx1
    have hxl : (x 2).val < 64 := x2_lt
    obtain rfl : h = 5 := Fin.ext (by simp only [col64] at hx0; show h.val = 5; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head5_1536 (BitVec.ofNat 32 (i 1).val) _ _ _ _ _ _ r d).trans ?_
    exact rowK_eq_tileK (by norm_num) i 5 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 256 + (x 2).val := hx2
    have hx1' : r.val = (x 1).val := hx1
    have hxl : (x 2).val < 64 := x2_lt
    obtain rfl : h = 4 := Fin.ext (by simp only [col64] at hx0; show h.val = 4; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head4_1536 (BitVec.ofNat 32 (i 1).val) _ _ _ _ _ _ r d).trans ?_
    exact rowK_eq_tileK (by norm_num) i 4 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 192 + (x 2).val := hx2
    have hx1' : r.val = (x 1).val := hx1
    have hxl : (x 2).val < 64 := x2_lt
    obtain rfl : h = 3 := Fin.ext (by simp only [col64] at hx0; show h.val = 3; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head3_1536 (BitVec.ofNat 32 (i 1).val) _ _ _ _ _ _ r d).trans ?_
    exact rowK_eq_tileK (by norm_num) i 3 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 128 + (x 2).val := hx2
    have hx1' : r.val = (x 1).val := hx1
    have hxl : (x 2).val < 64 := x2_lt
    obtain rfl : h = 2 := Fin.ext (by simp only [col64] at hx0; show h.val = 2; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head2_1536 (BitVec.ofNat 32 (i 1).val) _ _ _ _ _ _ r d).trans ?_
    exact rowK_eq_tileK (by norm_num) i 2 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 64 + (x 2).val := hx2
    have hx1' : r.val = (x 1).val := hx1
    have hxl : (x 2).val < 64 := x2_lt
    obtain rfl : h = 1 := Fin.ext (by simp only [col64] at hx0; show h.val = 1; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head1_1536 (BitVec.ofNat 32 (i 1).val) _ _ _ _ _ _ r d).trans ?_
    exact rowK_eq_tileK (by norm_num) i 1 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = (x 2).val := hx2
    have hx1' : r.val = (x 1).val := hx1
    have hxl : (x 2).val < 64 := x2_lt
    obtain rfl : h = 0 := Fin.ext (by simp only [col64] at hx0; show h.val = 0; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head0_1536 (BitVec.ofNat 32 (i 1).val) _ _ _ _ _ _ r d).trans ?_
    exact rowK_eq_tileK (by norm_num) i 0 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))

end Cert.Fox

end
-- ==== Proof.Fox.CaseE.lean ====
/-
  The attention kernel's output block in the case of the first 2048 keys, read at an index.
-/
module

public import proofs.«01_k».proof.Proof.Fox.Tile
public import proofs.«01_k».proof.Proof.Gen.KernelIdeal.Frame
public import Idealize.ShloMosaic.Lib.Tactic

@[expose] public section

set_option maxRecDepth 16384

noncomputable section

namespace Cert.Fox

open Idealize.ShloMosaic Cert.KernelIdeal Cert.KernelIdeal.Gen

/-- The output block a point of case E leaves: the attention over the first 2048 keys of the scratch. -/
theorem out_E  (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x256x512 .f32) (harg9 : arg9.IsWhole) (arg10 : Memref sig .tc .vmem S2048x512 .bf16) (harg10 : arg10.IsWhole) (arg11 : Memref sig .tc .vmem S2048x1024 .bf16) (harg11 : arg11.IsWhole) (arg12 : Memref sig .tc .vmem S2048x128 .f32) (harg12 : arg12.IsWhole) (arg13 : Memref sig .tc .vmem S8x2048 .f32) (harg13 : arg13.IsWhole) (hc0 : ¬cond0_0 i) (hc1 : ¬cond0_1 i) (hc2 : ¬cond0_2 i) (hc3 : ¬cond0_3 i) (hc4 : cond0_4 i)
    (x0 : Vec Ideal S1x256x512 .f32) (x1 : Vec Ideal S1x2048x512 .f32) (x2 : Vec Ideal S1x2048x512 .f32) (x3 : Vec Ideal S1x2048x128 .f32) (x4 : Vec Ideal S1x128 .f32) (x5 : Vec Ideal S1x64 .f32) (x6 : Vec Ideal S1x64 .f32) (xs0 : Vec Ideal S2048x512 .bf16) (xs1 : Vec Ideal S2048x1024 .bf16) (xs2 : Vec Ideal S2048x128 .f32) (xs3 : Vec Ideal S8x2048 .f32) (h : Fin 8) (r : Fin 256) (d : Fin 64) :
    out0_E_7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 xs0 xs1 xs2 xs3 (ix3 0 r (col64 h d)) = tileK (n := 2048) (by norm_num) (i 1) x0 x5 xs0 xs1 xs2 xs3 h r d := by
  have hd := d.isLt
  unfold out0_E_7
  rw [View.read_writes_junk_eq_canon]
  unfold kernelRun0_E
  dsimp only
  canon_tiles x hx
  · have hx0 : (col64 h d).val = 448 + (x 2).val := hx2
    have hx1' : r.val = (x 1).val := hx1
    have hxl : (x 2).val < 64 := x2_lt
    obtain rfl : h = 7 := Fin.ext (by simp only [col64] at hx0; show h.val = 7; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head7_2048 (BitVec.ofNat 32 (i 1).val) _ _ _ _ _ _ r d).trans ?_
    exact rowK_eq_tileK (by norm_num) i 7 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 384 + (x 2).val := hx2
    have hx1' : r.val = (x 1).val := hx1
    have hxl : (x 2).val < 64 := x2_lt
    obtain rfl : h = 6 := Fin.ext (by simp only [col64] at hx0; show h.val = 6; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head6_2048 (BitVec.ofNat 32 (i 1).val) _ _ _ _ _ _ r d).trans ?_
    exact rowK_eq_tileK (by norm_num) i 6 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 320 + (x 2).val := hx2
    have hx1' : r.val = (x 1).val := hx1
    have hxl : (x 2).val < 64 := x2_lt
    obtain rfl : h = 5 := Fin.ext (by simp only [col64] at hx0; show h.val = 5; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head5_2048 (BitVec.ofNat 32 (i 1).val) _ _ _ _ _ _ r d).trans ?_
    exact rowK_eq_tileK (by norm_num) i 5 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 256 + (x 2).val := hx2
    have hx1' : r.val = (x 1).val := hx1
    have hxl : (x 2).val < 64 := x2_lt
    obtain rfl : h = 4 := Fin.ext (by simp only [col64] at hx0; show h.val = 4; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head4_2048 (BitVec.ofNat 32 (i 1).val) _ _ _ _ _ _ r d).trans ?_
    exact rowK_eq_tileK (by norm_num) i 4 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 192 + (x 2).val := hx2
    have hx1' : r.val = (x 1).val := hx1
    have hxl : (x 2).val < 64 := x2_lt
    obtain rfl : h = 3 := Fin.ext (by simp only [col64] at hx0; show h.val = 3; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head3_2048 (BitVec.ofNat 32 (i 1).val) _ _ _ _ _ _ r d).trans ?_
    exact rowK_eq_tileK (by norm_num) i 3 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 128 + (x 2).val := hx2
    have hx1' : r.val = (x 1).val := hx1
    have hxl : (x 2).val < 64 := x2_lt
    obtain rfl : h = 2 := Fin.ext (by simp only [col64] at hx0; show h.val = 2; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head2_2048 (BitVec.ofNat 32 (i 1).val) _ _ _ _ _ _ r d).trans ?_
    exact rowK_eq_tileK (by norm_num) i 2 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = 64 + (x 2).val := hx2
    have hx1' : r.val = (x 1).val := hx1
    have hxl : (x 2).val < 64 := x2_lt
    obtain rfl : h = 1 := Fin.ext (by simp only [col64] at hx0; show h.val = 1; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head1_2048 (BitVec.ofNat 32 (i 1).val) _ _ _ _ _ _ r d).trans ?_
    exact rowK_eq_tileK (by norm_num) i 1 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))
  · have hx0 : (col64 h d).val = (x 2).val := hx2
    have hx1' : r.val = (x 1).val := hx1
    have hxl : (x 2).val < 64 := x2_lt
    obtain rfl : h = 0 := Fin.ext (by simp only [col64] at hx0; show h.val = 0; omega)
    obtain rfl : x = ix3 0 r d := by
      funext a; apply Fin.ext
      match a with
      | ⟨0, _⟩ => have := (x 0).isLt; show (x 0).val = 0; have h1 : (x 0).val < 1 := x0_lt; omega
      | ⟨1, _⟩ => show (x 1).val = r.val; omega
      | ⟨2, _⟩ => show (x 2).val = d.val; simp only [col64] at hx0; omega
    refine (head0_2048 (BitVec.ofNat 32 (i 1).val) _ _ _ _ _ _ r d).trans ?_
    exact rowK_eq_tileK (by norm_num) i 0 x0 x5 xs0 xs1 xs2 xs3 _ _ _ _ _ _ _ r d (k0_off1_inb i)
      (by decide) (by decide) (by decide) (by decide) (by decide) rfl
      (congrArg (fun X => View.ld X _) (harg12.read_unread xs2)) (congrArg (fun X => View.ld X _) (harg2.read_unread x0)) (congrArg (fun X => View.ld X _) (harg7.read_unread x5))
      (congrArg (fun X => View.ld X _) (harg10.read_unread xs0)) (congrArg (fun X => View.ld X _) (harg13.read_unread xs3)) (congrArg (fun X => View.ld X _) (harg11.read_unread xs1))

end Cert.Fox

end
-- ==== Proof.Fox.Value.lean ====
/-
  What the attention kernel leaves at every grid point: its four scratch arrays hold the batch's normalised keys, its values
  beside a column of ones, and the running sums of its log forget gates; the block stored for a query tile is the attention
  over the keys up to the tile's part.
-/
module

public import proofs.«01_k».proof.Proof.Fox.Blocks
public import proofs.«01_k».proof.Proof.Fox.CaseA0
public import proofs.«01_k».proof.Proof.Fox.CaseA1
public import proofs.«01_k».proof.Proof.Fox.CaseA2
public import proofs.«01_k».proof.Proof.Fox.CaseA7
public import proofs.«01_k».proof.Proof.Fox.CaseB
public import proofs.«01_k».proof.Proof.Fox.CaseC
public import proofs.«01_k».proof.Proof.Fox.CaseD
public import proofs.«01_k».proof.Proof.Fox.CaseE

@[expose] public section

set_option maxRecDepth 16384

noncomputable section

namespace Cert.Fox

open Idealize.ShloMosaic Idealize.ShloMosaic.TcCoe Cert.KernelIdeal Cert.KernelIdeal.Gen

/-! ## The closed forms, over the arguments -/

/-- Head `h`'s log forget gate at position `i` of batch `b` (zero past the end). -/
def gateAt (y : Vec Ideal S8x2048x3200 .f32) (bf : Vec Ideal S8 .f32) (b h : Fin 8) (i : ℕ) : EReal :=
  if hi : i < 2048 then gateK (y (ix3 b ⟨i, hi⟩ ⟨3072 + h.val, by omega⟩)) (bf (ix1 h)) else 0

/-- The sum of the first `j + 1` log forget gates. -/
def cumAt (y : Vec Ideal S8x2048x3200 .f32) (bf : Vec Ideal S8 .f32) (b h : Fin 8) (j : Fin 2048) : EReal :=
  ∑ i ∈ Finset.range (j.val + 1), gateAt y bf b h i

/-- A normalised key. -/
def keyAt (y : Vec Ideal S8x2048x3200 .f32) (kg : Vec Ideal S64 .f32) (b h : Fin 8) (j : Fin 2048) (e : Fin 64) : EReal :=
  rmsK (fun e => y (ix3 b j ⟨2048 + (col64 h e).val, by omega⟩)) (fun e => kg (ix1 e)) e

/-- Attention of query row `r` of tile `a` over the first `n` keys of batch `b`, head `h`, place `d`. -/
def foxK {n : ℕ} (hn : n ≤ 2048) (y : Vec Ideal S8x2048x3200 .f32) (bf : Vec Ideal S8 .f32) (qg kg : Vec Ideal S64 .f32)
    (b a : Fin 8) (h : Fin 8) (r : Fin 256) (d : Fin 64) : EReal :=
  headK (scoreK (BitVec.ofNat 32 a.val) r (fun e => y (ix3 b (row256 a r) ⟨1536 + (col64 h e).val, by omega⟩)) (fun e => qg (ix1 e))
      (fun x e => keyAt y kg b h (upTo hn x) e) (cumAt y bf b h (row256 a r)) fun x => cumAt y bf b h (upTo hn x))
    (fun x => y (ix3 b (upTo hn x) ⟨2560 + (col64 h d).val, by omega⟩)) fun _ => 1

/-- How many keys query tile `a` looks at. -/
def keysOf (a : Fin 8) : ℕ := 512 * (a.val / 2 + 1)

theorem keysOf_le (a : Fin 8) : keysOf a ≤ 2048 := by unfold keysOf; omega

theorem foxK_congr {n n' : ℕ} (e : n = n') (hn : n ≤ 2048) (hn' : n' ≤ 2048) (y : Vec Ideal S8x2048x3200 .f32) (bf : Vec Ideal S8 .f32)
    (qg kg : Vec Ideal S64 .f32) (b a : Fin 8) (h : Fin 8) (r : Fin 256) (d : Fin 64) :
    foxK hn y bf qg kg b a h r d = foxK hn' y bf qg kg b a h r d := by
  subst e; rfl

variable (m : (ℓ : Loc nD τ sig) → Buf (Elt Ideal) ℓ) (c : Dev nD)

/-! ## The scratch -/

/-- The scratch arrays hold batch `b`'s keys, values, ones and running sums. -/
structure Held (b : Fin 8) (s : Vec Ideal S2048x512 .bf16 × Vec Ideal S2048x1024 .bf16 × Vec Ideal S2048x128 .f32 × Vec Ideal S8x2048 .f32) : Prop where
  key : ∀ (h : Fin 8) (j : Fin 2048) (e : Fin 64), s.1 (ix2 j (col64 h e)) = keyAt (argY m c) (argK m c) b h j e
  val : ∀ (h : Fin 8) (j : Fin 2048) (e : Fin 64), s.2.1 (ix2 j (col128 h ⟨e.val, by omega⟩)) = argY m c (ix3 b j ⟨2560 + (col64 h e).val, by omega⟩)
  one : ∀ (h : Fin 8) (j : Fin 2048), s.2.1 (ix2 j (col128 h 64)) = 1
  cum : ∀ (h : Fin 8) (j : Fin 2048), s.2.2.1 (ix2 j ⟨h.val, by omega⟩) = cumAt (argY m c) (argB m c) b h j
  row : ∀ (h : Fin 8) (j : Fin 2048), s.2.2.2 (ix2 h j) = cumAt (argY m c) (argB m c) b h j

/-- The running sums over the blocks are those over the arguments. -/
theorem cumK_blocks (t : Fin cfg0.N) (h : Fin 8) (j : Fin 2048) :
    cumK (iblk m c 3 t : Vec Ideal S1x2048x128 .f32) (iblk m c 4 t : Vec Ideal S1x128 .f32) (ix2 j ⟨h.val, by omega⟩)
      = cumAt (argY m c) (argB m c) (bat t) h j := by
  rw [cumK_apply]
  unfold cumAt
  refine Finset.sum_congr rfl fun i _ => ?_
  unfold gateSeq gateAt
  by_cases hi : i < 2048
  · rw [dif_pos hi, dif_pos hi, block_f, block_b]
  · rw [dif_neg hi, dif_neg hi]

section Fill

variable (t : Fin cfg0.N) (h0 : t.val % 8 = 0) (h1 : t.val % 8 ≤ 1) (h2 : ¬(2 ≤ t.val % 8 ∧ t.val % 8 ≤ 3)) (h3 : ¬(4 ≤ t.val % 8 ∧ t.val % 8 ≤ 5)) (h4 : ¬6 ≤ t.val % 8)

theorem fill_0 : (outsAt0 m c t.val t.isLt).2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (fun h => h4 ((hcond0_4 t).mp h)) (X0_0 m c t) (X0_1 m c t) (X0_2 m c t) (iblk m c 3 t) (iblk m c 4 t) (iblk m c 5 t) (iblk m c 6 t) := by
  rw [outsAt0_A m c t h0 h1 h2 h3 h4]
theorem fill_1 : (outsAt0 m c t.val t.isLt).2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (fun h => h4 ((hcond0_4 t).mp h)) (X0_0 m c t) (X0_1 m c t) (X0_2 m c t) (iblk m c 3 t) (iblk m c 4 t) (iblk m c 5 t) (iblk m c 6 t) := by
  rw [outsAt0_A m c t h0 h1 h2 h3 h4]
theorem fill_2 : (outsAt0 m c t.val t.isLt).2.2.2.1 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (fun h => h4 ((hcond0_4 t).mp h)) (X0_0 m c t) (X0_1 m c t) (X0_2 m c t) (iblk m c 3 t) (iblk m c 4 t) (iblk m c 5 t) (iblk m c 6 t) := by
  rw [outsAt0_A m c t h0 h1 h2 h3 h4]
theorem fill_3 : (outsAt0 m c t.val t.isLt).2.2.2.2 = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (fun h => h4 ((hcond0_4 t).mp h)) (X0_0 m c t) (X0_1 m c t) (X0_2 m c t) (iblk m c 3 t) (iblk m c 4 t) (iblk m c 5 t) (iblk m c 6 t) := by
  rw [outsAt0_A m c t h0 h1 h2 h3 h4]

include h0 h1 h2 h3 h4 in
/-- The first point of a batch fills the scratch. -/
theorem held_fill : Held m c (bat t) (outsAt0 m c t.val t.isLt).2 := by
  refine ⟨fun h j e => ?_, fun h j e => ?_, fun h j => ?_, fun h j => ?_, fun h j => ?_⟩
  · rw [fill_0 m c t h0 h1 h2 h3 h4, scratch_key]
    unfold keyAt
    simp only [block_k, block_kg]
  · rw [fill_1 m c t h0 h1 h2 h3 h4, scratch_val, block_v]
  · rw [fill_1 m c t h0 h1 h2 h3 h4, scratch_one]
  · rw [fill_2 m c t h0 h1 h2 h3 h4, scratch_cum, cumK_blocks]
  · rw [fill_3 m c t h0 h1 h2 h3 h4, scratch_row, cumK_blocks]

end Fill

/-- A later point of a batch leaves the scratch as it was. -/
theorem held_carry (t : Fin cfg0.N) (h0 : ¬t.val % 8 = 0) :
    (outsAt0 m c t.val t.isLt).2 = (outsAt0 m c (t.val - 1) (Nat.lt_of_le_of_lt (Nat.sub_le _ _) t.isLt)).2 := by
  by_cases h1 : t.val % 8 ≤ 1
  · rw [outsAt0_B m c t h0 h1 (by omega) (by omega) (by omega)]; rfl
  · by_cases h2 : 2 ≤ t.val % 8 ∧ t.val % 8 ≤ 3
    · rw [outsAt0_C m c t h0 h1 h2 (by omega) (by omega)]; rfl
    · by_cases h3 : 4 ≤ t.val % 8 ∧ t.val % 8 ≤ 5
      · rw [outsAt0_D m c t h0 h1 h2 h3 (by omega)]; rfl
      · rw [outsAt0_E m c t h0 h1 h2 h3 (by omega)]; rfl

/-- After every point the scratch holds its batch. -/
theorem held : ∀ (n : ℕ) (hn : n < cfg0.N), Held m c (bat ⟨n, hn⟩) (outsAt0 m c n hn).2
  | 0, hn => held_fill m c ⟨0, hn⟩ rfl (by simp) (by simp) (by simp) (by simp)
  | n + 1, hn => by
    by_cases h0 : (n + 1) % 8 = 0
    · exact held_fill m c ⟨n + 1, hn⟩ h0 (by simp only; omega) (by simp only; omega) (by simp only; omega) (by simp only; omega)
    · have e := held_carry m c ⟨n + 1, hn⟩ h0
      have ih := held n (Nat.lt_of_succ_lt hn)
      have hb : bat ⟨n + 1, hn⟩ = bat ⟨n, Nat.lt_of_succ_lt hn⟩ := Fin.ext (by show (n + 1) / 8 = n / 8; omega)
      rw [hb]
      exact e.symm ▸ ih

/-! ## The stored blocks -/

/-- A tile's block over scratch that holds the batch is the attention over the arguments. -/
theorem tileK_held {n : ℕ} (hn : n ≤ 2048) (t : Fin cfg0.N) (a : Fin 8) (ha : a = til t)
    (s : Vec Ideal S2048x512 .bf16 × Vec Ideal S2048x1024 .bf16 × Vec Ideal S2048x128 .f32 × Vec Ideal S8x2048 .f32)
    (hs : Held m c (bat t) s) (h : Fin 8) (r : Fin 256) (d : Fin 64) :
    tileK hn a (X0_0 m c t) (iblk m c 5 t) s.1 s.2.1 s.2.2.1 s.2.2.2 h r d
      = foxK hn (argY m c) (argB m c) (argQ m c) (argK m c) (bat t) (til t) h r d := by
  subst ha
  unfold tileK foxK
  simp only [hs.key, hs.val, hs.one, hs.cum, hs.row, block_q, block_qg]
  rfl

/-- The block stored at a point that looks at the first 512 keys and fills the scratch. -/
theorem stored_A (t : Fin cfg0.N) (h0 : t.val % 8 = 0) (h1 : t.val % 8 ≤ 1) (h2 : ¬(2 ≤ t.val % 8 ∧ t.val % 8 ≤ 3)) (h3 : ¬(4 ≤ t.val % 8 ∧ t.val % 8 ≤ 5)) (h4 : ¬6 ≤ t.val % 8) (h : Fin 8) (r : Fin 256) (d : Fin 64) :
    (outsAt0 m c t.val t.isLt).1 (ix3 0 r (col64 h d))
      = foxK (n := 512) (by norm_num) (argY m c) (argB m c) (argQ m c) (argK m c) (bat t) (til t) h r d := by
  have hs := held m c t.val t.isLt
  have e3 := tileK_held m c (n := 512) (by norm_num) t _ (Fin.ext (coords_1 t)) _ hs h r d
  rw [fill_0 m c t h0 h1 h2 h3 h4, fill_1 m c t h0 h1 h2 h3 h4, fill_2 m c t h0 h1 h2 h3 h4, fill_3 m c t h0 h1 h2 h3 h4] at e3
  rw [outsAt0_A m c t h0 h1 h2 h3 h4]
  dsimp only
  rw [out_A]
  exact e3

/-- The block stored at a point that looks at the first 512 keys. -/
theorem stored_B (t : Fin cfg0.N) (h0 : ¬t.val % 8 = 0) (h1 : t.val % 8 ≤ 1) (h2 : ¬(2 ≤ t.val % 8 ∧ t.val % 8 ≤ 3)) (h3 : ¬(4 ≤ t.val % 8 ∧ t.val % 8 ≤ 5)) (h4 : ¬6 ≤ t.val % 8) (h : Fin 8) (r : Fin 256) (d : Fin 64) :
    (outsAt0 m c t.val t.isLt).1 (ix3 0 r (col64 h d))
      = foxK (n := 512) (by norm_num) (argY m c) (argB m c) (argQ m c) (argK m c) (bat t) (til t) h r d := by
  have hs := held m c t.val t.isLt
  have e3 := tileK_held m c (n := 512) (by norm_num) t _ (Fin.ext (coords_1 t)) _ hs h r d
  rw [held_carry m c t h0] at e3
  rw [outsAt0_B m c t h0 h1 h2 h3 h4]
  dsimp only
  rw [out_B]
  exact e3

/-- The block stored at a point that looks at the first 1024 keys. -/
theorem stored_C (t : Fin cfg0.N) (h0 : ¬t.val % 8 = 0) (h1 : ¬t.val % 8 ≤ 1) (h2 : (2 ≤ t.val % 8 ∧ t.val % 8 ≤ 3)) (h3 : ¬(4 ≤ t.val % 8 ∧ t.val % 8 ≤ 5)) (h4 : ¬6 ≤ t.val % 8) (h : Fin 8) (r : Fin 256) (d : Fin 64) :
    (outsAt0 m c t.val t.isLt).1 (ix3 0 r (col64 h d))
      = foxK (n := 1024) (by norm_num) (argY m c) (argB m c) (argQ m c) (argK m c) (bat t) (til t) h r d := by
  have hs := held m c t.val t.isLt
  have e3 := tileK_held m c (n := 1024) (by norm_num) t _ (Fin.ext (coords_1 t)) _ hs h r d
  rw [held_carry m c t h0] at e3
  rw [outsAt0_C m c t h0 h1 h2 h3 h4]
  dsimp only
  rw [out_C]
  exact e3

/-- The block stored at a point that looks at the first 1536 keys. -/
theorem stored_D (t : Fin cfg0.N) (h0 : ¬t.val % 8 = 0) (h1 : ¬t.val % 8 ≤ 1) (h2 : ¬(2 ≤ t.val % 8 ∧ t.val % 8 ≤ 3)) (h3 : (4 ≤ t.val % 8 ∧ t.val % 8 ≤ 5)) (h4 : ¬6 ≤ t.val % 8) (h : Fin 8) (r : Fin 256) (d : Fin 64) :
    (outsAt0 m c t.val t.isLt).1 (ix3 0 r (col64 h d))
      = foxK (n := 1536) (by norm_num) (argY m c) (argB m c) (argQ m c) (argK m c) (bat t) (til t) h r d := by
  have hs := held m c t.val t.isLt
  have e3 := tileK_held m c (n := 1536) (by norm_num) t _ (Fin.ext (coords_1 t)) _ hs h r d
  rw [held_carry m c t h0] at e3
  rw [outsAt0_D m c t h0 h1 h2 h3 h4]
  dsimp only
  rw [out_D]
  exact e3

/-- The block stored at a point that looks at the first 2048 keys. -/
theorem stored_E (t : Fin cfg0.N) (h0 : ¬t.val % 8 = 0) (h1 : ¬t.val % 8 ≤ 1) (h2 : ¬(2 ≤ t.val % 8 ∧ t.val % 8 ≤ 3)) (h3 : ¬(4 ≤ t.val % 8 ∧ t.val % 8 ≤ 5)) (h4 : 6 ≤ t.val % 8) (h : Fin 8) (r : Fin 256) (d : Fin 64) :
    (outsAt0 m c t.val t.isLt).1 (ix3 0 r (col64 h d))
      = foxK (n := 2048) (by norm_num) (argY m c) (argB m c) (argQ m c) (argK m c) (bat t) (til t) h r d := by
  have hs := held m c t.val t.isLt
  have e3 := tileK_held m c (n := 2048) (by norm_num) t _ (Fin.ext (coords_1 t)) _ hs h r d
  rw [held_carry m c t h0] at e3
  rw [outsAt0_E m c t h0 h1 h2 h3 h4]
  dsimp only
  rw [out_E]
  exact e3

/-- The block that a point stores. -/
theorem stored (t : Fin cfg0.N) (h : Fin 8) (r : Fin 256) (d : Fin 64) :
    (outsAt0 m c t.val t.isLt).1 (ix3 0 r (col64 h d))
      = foxK (keysOf_le (til t)) (argY m c) (argB m c) (argQ m c) (argK m c) (bat t) (til t) h r d := by
  have hk : keysOf (til t) = 512 * (t.val % 8 / 2 + 1) := rfl
  by_cases h0 : t.val % 8 = 0
  · exact (stored_A m c t h0 (by omega) (by omega) (by omega) (by omega) h r d).trans (foxK_congr (by rw [hk]; omega) _ _ _ _ _ _ _ _ _ _ _)
  · by_cases h1 : t.val % 8 ≤ 1
    · exact (stored_B m c t h0 h1 (by omega) (by omega) (by omega) h r d).trans (foxK_congr (by rw [hk]; omega) _ _ _ _ _ _ _ _ _ _ _)
    · by_cases h2 : 2 ≤ t.val % 8 ∧ t.val % 8 ≤ 3
      · exact (stored_C m c t h0 h1 h2 (by omega) (by omega) h r d).trans (foxK_congr (by rw [hk]; omega) _ _ _ _ _ _ _ _ _ _ _)
      · by_cases h3 : 4 ≤ t.val % 8 ∧ t.val % 8 ≤ 5
        · exact (stored_D m c t h0 h1 h2 h3 (by omega) h r d).trans (foxK_congr (by rw [hk]; omega) _ _ _ _ _ _ _ _ _ _ _)
        · exact (stored_E m c t h0 h1 h2 h3 (by omega) h r d).trans (foxK_congr (by rw [hk]; omega) _ _ _ _ _ _ _ _ _ _ _)

end Cert.Fox

end
-- ==== Proof.Base.Cumsum.lean ====
/-
  A running sum along the middle axis, written as a sum over windows padded in front, read at an index.
-/
module

public import Idealize.ShloMosaic.Lib.Pointwise

@[expose] public section

set_option maxRecDepth 16384

namespace Cert.Base

open Idealize.ShloMosaic

/-- A left fold that adds is a sum. -/
theorem foldl_add {ι : Type} (f : ι → EReal) (l : List ι) (a : EReal) : l.foldl (fun r n => r + f n) a = a + (l.map f).sum := by
  induction l generalizing a with
  | nil => simp
  | cons x l ih => rw [List.foldl_cons, ih, List.map_cons, List.sum_cons, add_assoc]

/-- … over all positions below `n`. -/
theorem foldl_add_fin {n : ℕ} (f : Fin n → EReal) : (List.finRange n).foldl (fun r k => r + f k) 0 = ∑ k, f k := by
  rw [foldl_add, zero_add, ← Fin.sum_univ_def]

/-- The windows' positions, one per place of the middle axis. -/
def windowEquiv (N : ℕ) : (⟨3, ![1, N, 1]⟩ : Shape).Idx ≃ Fin N where
  toFun w := w 1
  invFun k := ix3 (0 : Fin 1) k (0 : Fin 1)
  left_inv w := by
    funext a
    match a with
    | ⟨0, _⟩ => exact Fin.ext (by have h : (w 0).val < 1 := (w 0).isLt; show 0 = (w 0).val; omega)
    | ⟨1, _⟩ => rfl
    | ⟨2, _⟩ => exact Fin.ext (by have h : (w 2).val < 1 := (w 2).isLt; show 0 = (w 2).val; omega)
  right_inv k := rfl

/-- The running sum at place `j` is the sum of the places up to `j`. -/
theorem cumsum_apply {A N C : ℕ} {u : Shape} (x : FVec Ideal ⟨3, ![A, N, C]⟩ .f32) (init : u.Idx → EReal) (hu : 0 < u.numel)
    (hi : ∀ i, init i = 0) (h : (⟨3, ![A, N, C]⟩ : Shape).ReduceWindows ![1, N, 1] ![1, 1, 1] ![0, N - 1, 0] ![0, 0, 0] ⟨3, ![A, N, C]⟩)
    (b : Fin A) (j : Fin N) (c : Fin C) :
    Host.reduceWindowAdd (F := Ideal) (φ := .f32) ![1, N, 1] ![1, 1, 1] ![0, N - 1, 0] ![0, 0, 0] x init h hu (ix3 b j c)
      = ∑ i ∈ Finset.range (j.val + 1), if hi : i < N then x (ix3 b ⟨i, hi⟩ c) else 0 := by
  have hN : j.val < N := j.isLt
  let F : ℕ → EReal := fun k => if N - 1 ≤ j.val + k then (if hi : j.val + k - (N - 1) < N then x (ix3 b ⟨j.val + k - (N - 1), hi⟩ c) else 0) else 0
  have e : Host.reduceWindowAdd (F := Ideal) (φ := .f32) ![1, N, 1] ![1, 1, 1] ![0, N - 1, 0] ![0, 0, 0] x init h hu (ix3 b j c)
      = ∑ k : Fin N, F k.val := by
    rw [← (windowEquiv N).sum_comp, ← (⟨3, ![1, N, 1]⟩ : Shape).rowMajor.symm.sum_comp, ← foldl_add_fin]
    unfold Host.reduceWindowAdd
    rw [hi]
    show (List.finRange _).foldl _ (0 : EReal) = (List.finRange _).foldl _ 0
    congr 1
    funext r n
    refine congrArg (r + ·) ?_
    let w : (⟨3, ![1, N, 1]⟩ : Shape).Idx := (⟨3, ![1, N, 1]⟩ : Shape).rowMajor.symm n
    have h0 : (w 0).val = 0 := by have h : (w 0).val < 1 := (w 0).isLt; omega
    have h2 : (w 2).val = 0 := by have h : (w 2).val < 1 := (w 2).isLt; omega
    have h1 : (w 1).val < N := (w 1).isLt
    by_cases hk : N - 1 ≤ j.val + (w 1).val
    · have hin : ∀ a : Fin 3, (![0, N - 1, 0] : Fin 3 → ℕ) a ≤ ((ix3 b j c : (⟨3, ![A, N, C]⟩ : Shape).Idx) a).val * (![1, 1, 1] : Fin 3 → ℕ) a + (w a).val
          ∧ ((ix3 b j c : (⟨3, ![A, N, C]⟩ : Shape).Idx) a).val * (![1, 1, 1] : Fin 3 → ℕ) a + (w a).val - (![0, N - 1, 0] : Fin 3 → ℕ) a < (![A, N, C] : Fin 3 → ℕ) a := by
        intro a
        match a with
        | ⟨0, _⟩ => exact ⟨Nat.zero_le _, by show b.val * 1 + (w 0).val - 0 < A; have := b.isLt; omega⟩
        | ⟨1, _⟩ => exact ⟨by show N - 1 ≤ j.val * 1 + (w 1).val; omega, by show j.val * 1 + (w 1).val - (N - 1) < N; omega⟩
        | ⟨2, _⟩ => exact ⟨Nat.zero_le _, by show c.val * 1 + (w 2).val - 0 < C; have := c.isLt; omega⟩
      refine (dif_pos hin).trans ?_
      show _ = F (w 1).val
      simp only [F]
      rw [if_pos hk, dif_pos (by omega)]
      refine congrArg x (funext fun a => Fin.ext ?_)
      match a with
      | ⟨0, _⟩ => show b.val * 1 + (w 0).val - 0 = b.val; omega
      | ⟨1, _⟩ => show j.val * 1 + (w 1).val - (N - 1) = j.val + (w 1).val - (N - 1); omega
      | ⟨2, _⟩ => show c.val * 1 + (w 2).val - 0 = c.val; omega
    · refine (dif_neg fun hin => hk ?_).trans ?_
      · have := (hin (1 : Fin 3)).1
        have t : N - 1 ≤ j.val * 1 + (w 1).val := this
        omega
      · show _ = F (w 1).val
        simp only [F]
        rw [if_neg hk]
  rw [e, Fin.sum_univ_eq_sum_range F N]
  have hs : N = (N - 1 - j.val) + (j.val + 1) := by omega
  have e2 : ∑ k ∈ Finset.range N, F k = ∑ k ∈ Finset.range ((N - 1 - j.val) + (j.val + 1)), F k := by rw [← hs]
  rw [e2, Finset.sum_range_add, Finset.sum_eq_zero, zero_add]
  · refine Finset.sum_congr rfl fun i hi => ?_
    have hi' := Finset.mem_range.1 hi
    simp only [F]
    rw [if_pos (by omega), dif_pos (by omega), dif_pos (by omega)]
    congr 2
    exact Fin.ext (by show j.val + (N - 1 - j.val + i) - (N - 1) = i; omega)
  · intro k hk
    have hk' := Finset.mem_range.1 hk
    simp only [F]
    rw [if_neg (by omega)]

end Cert.Base
-- ==== Proof.Fox.Ref.lean ====
/-
  The attention's reference read at an index, stage by stage.
-/
module

public import proofs.«01_k».proof.Proof.Gen.ReferenceIdeal.Read
public import proofs.«01_k».proof.Proof.Fox.Value
public import proofs.«01_k».proof.Proof.Base.Cumsum
public import Idealize.ShloMosaic.Lib.Pointwise
public import Idealize.ShloMosaic.Lib.WordCmp

@[expose] public section

set_option maxRecDepth 16384

noncomputable section

namespace Cert.Fox.Ref

open Idealize.ShloMosaic Cert.ReferenceIdeal Cert.ReferenceIdeal.Gen Cert.ReferenceIdeal.Value Cert.ReferenceIdeal.Read

variable (y : Vec Ideal S8x2048x3200 .f32) (bf : Vec Ideal S8 .f32) (qg kg : Vec Ideal S64 .f32)

/-- The reference's log forget gate. -/
theorem gate (b : Fin 8) (j : Fin 2048) (h : Fin 8) :
    val_main_v36 (F := Ideal) y bf (ix3 b j h) = gateK (y (ix3 b j ⟨3072 + h.val, by omega⟩)) (bf (ix1 h)) := by
  unfold gateK
  pointwise [val_main_v32, val_main_v33, val_main_v34, val_main_v35, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v36]
  simp [FloatOps.absf]

/-- The reference's normalised queries. -/
theorem query (b : Fin 8) (j : Fin 2048) (h : Fin 8) (e : Fin 64) :
    val_main_v14 (F := Ideal) y qg (ix4 b j h e)
      = rmsK (fun e => y (ix3 b j ⟨1536 + (col64 h e).val, by omega⟩)) (fun e => qg (ix1 e)) e := by
  unfold rmsK col64
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  simp only [Nat.mul_comm h.val 64]

/-- The reference's normalised keys. -/
theorem key (b : Fin 8) (j : Fin 2048) (h : Fin 8) (e : Fin 64) :
    val_main_v29 (F := Ideal) y kg (ix4 b j h e) = keyAt y kg b h j e := by
  unfold keyAt rmsK col64
  pointwise [val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29]
  simp only [Nat.mul_comm h.val 64]

/-- The reference's values. -/
theorem value (b : Fin 8) (j : Fin 2048) (h : Fin 8) (e : Fin 64) :
    val_main_v31 (F := Ideal) y (ix4 b j h e) = y (ix3 b j ⟨2560 + (col64 h e).val, by omega⟩) := by
  unfold col64
  pointwise [val_main_v30, val_main_v31]
  simp only [Nat.mul_comm h.val 64]

/-- The reference's running sum of the gates. -/
theorem cum (b : Fin 8) (j : Fin 2048) (h : Fin 8) :
    val_main_v37 (F := Ideal) y bf (ix3 b j h) = cumAt y bf b h j := by
  unfold val_main_v37
  have hz : ∀ i, val_main_call1_call0_v0 (F := Ideal) i = 0 := fun i => by
    obtain rfl : i = fun a => a.elim0 := funext fun a => a.elim0
    rw [val_main_call1_call0_v0_apply, val_main_call1_call0_cst_apply]
    exact Ideal.ofBits_zero_f32
  refine (Base.cumsum_apply (A := 8) (N := 2048) (C := 8) _ _ _ hz _ b j h).trans ?_
  unfold cumAt gateAt
  refine Finset.sum_congr rfl fun i _ => ?_
  split
  · exact gate y bf b _ h
  · rfl

/-- The reference's score of query `j` against key `x`: minus infinity at later keys. -/
def scoreR (b h : Fin 8) (j x : Fin 2048) : EReal :=
  if x.val ≤ j.val then
    (∑ e, rmsK (fun e => y (ix3 b j ⟨1536 + (col64 h e).val, by omega⟩)) (fun e => qg (ix1 e)) e * keyAt y kg b h x e)
      * Ideal.ofBits .f32 0x3E000000#32 + (cumAt y bf b h j - cumAt y bf b h x)
  else ⊥

/-- The reference's mask at an index. -/
theorem mask (j x : Fin 2048) : val_main_v53 (F := Ideal) (ix2 j x) = BitVec.ofBool (decide (x.val ≤ j.val)) := by
  pointwise [val_main_v48, val_main_v49, val_main_v50, val_main_v51, val_main_v52, val_main_v53]
  exact WordCmp.cmpi_sge_ofNat (by omega) (by omega)

/-- The masked scores at an index. -/
theorem score (b h : Fin 8) (j x : Fin 2048) :
    val_main_v54 (F := Ideal) y bf qg kg (ix4 b h j x) = scoreR y bf qg kg b h j x := by
  unfold scoreR
  pointwise [val_main_v38, val_main_v39, val_main_cst_5, val_main_v40, val_main_v41, val_main_v42, val_main_v43, val_main_v44, val_main_v45, val_main_v46, val_main_v47, val_main_cst_6, val_main_call2_v0, val_main_call2_v1, val_main_call2_v2, val_main_v54]
  simp only [query, key, cum, mask, WordCmp.select_decide]
  rfl

/-- A row's greatest score. -/
theorem top (b h : Fin 8) (j : Fin 2048) :
    val_main_v55 (F := Ideal) y bf qg kg (ix3 b h j)
      = Finset.univ.fold max (Ideal.ofBits .f32 0xFF800000#32) fun x => scoreR y bf qg kg b h j x := by
  pointwise [val_main_cst_7, val_main_v55]
  simp only [score]

/-- The exponential of a score less the row's greatest. -/
theorem expo (b h : Fin 8) (j x : Fin 2048) :
    val_main_v61 (F := Ideal) y bf qg kg (ix4 b h j x)
      = Ideal.exp (scoreR y bf qg kg b h j x - max (Ideal.ofBits .f32 0xFF800000#32) (Finset.univ.fold max (Ideal.ofBits .f32 0xFF800000#32) fun x => scoreR y bf qg kg b h j x)) := by
  have e : idx_main_v58 (idx_main_v59 (ix4 b h j x)) = ix3 b h j := by
    funext a
    match a with
    | ⟨0, _⟩ => rfl
    | ⟨1, _⟩ => rfl
    | ⟨2, _⟩ => rfl
  rw [val_main_v61_apply, val_main_v60_apply, val_main_v59_apply, val_main_v58_apply, e, val_main_v57_apply, val_main_v56_apply,
    val_main_cst_8_apply, score, top]
  rfl

/-- The sum of a row's exponentials. -/
theorem total (b h : Fin 8) (j x : Fin 2048) :
    val_main_v64 (F := Ideal) y bf qg kg (ix4 b h j x) = ∑ x : Fin 2048, val_main_v61 (F := Ideal) y bf qg kg (ix4 b h j x) := by
  rw [val_main_v64_apply, val_main_v63_apply, val_main_v62_apply, val_main_cst_9_apply]
  refine (congrArg (· + _) Ideal.ofBits_zero_f32).trans ((zero_add _).trans (Finset.sum_congr rfl fun k _ => congrArg _ ?_))
  funext a
  match a with
  | ⟨0, _⟩ => rfl
  | ⟨1, _⟩ => rfl
  | ⟨2, _⟩ => rfl
  | ⟨3, _⟩ => rfl

/-- A row's weight on key `x`. -/
theorem weight (b h : Fin 8) (j x : Fin 2048) :
    val_main_v69 (F := Ideal) y bf qg kg (ix4 b h j x)
      = Ideal.div (val_main_v61 (F := Ideal) y bf qg kg (ix4 b h j x)) (∑ x : Fin 2048, val_main_v61 (F := Ideal) y bf qg kg (ix4 b h j x))
        * FloatOps.uitofp (F := Ideal) .f32 (BitVec.ofBool (decide (x.val ≤ j.val))) := by
  have e : idx_main_v67 (idx_main_v68 (ix4 b h j x)) = ix2 j x := by
    funext a
    match a with
    | ⟨0, _⟩ => rfl
    | ⟨1, _⟩ => rfl
  rw [val_main_v69_apply, val_main_v65_apply, val_main_v68_apply, val_main_v67_apply, val_main_v66_apply, e, mask, total]
  rfl

/-- Where the result's place `(b, j, 64 h + d)` lies in the weighted sums. -/
theorem place (b h : Fin 8) (j : Fin 2048) (d : Fin 64) :
    idx_main_v71 (idx_main_v72 (ix3 b j (col64 h d))) = ix4 b h d j := by
  have hb := b.isLt; have hh := h.isLt; have hj := j.isLt; have hd := d.isLt
  funext a
  match a with
  | ⟨0, _⟩ => exact Fin.ext (by show ((b.val * 2048 + j.val) * 512 + (64 * h.val + d.val)) / 1048576 = b.val; omega)
  | ⟨1, _⟩ => exact Fin.ext (by show ((b.val * 2048 + j.val) * 512 + (64 * h.val + d.val)) / 64 % 8 = h.val; omega)
  | ⟨2, _⟩ => exact Fin.ext (by show ((b.val * 2048 + j.val) * 512 + (64 * h.val + d.val)) % 64 = d.val; omega)
  | ⟨3, _⟩ => exact Fin.ext (by show ((b.val * 2048 + j.val) * 512 + (64 * h.val + d.val)) / 512 % 2048 = j.val; omega)

/-- The reference's result at an index: the weighted sum of the values. -/
theorem out (b h : Fin 8) (j : Fin 2048) (d : Fin 64) :
    val_main_v72 (F := Ideal) y bf qg kg (ix3 b j (col64 h d))
      = ∑ x : Fin 2048, y (ix3 b x ⟨2560 + (col64 h d).val, by omega⟩) * val_main_v69 (F := Ideal) y bf qg kg (ix4 b h j x) := by
  rw [val_main_v72_apply, val_main_v71_apply, val_main_v70_apply, place]
  refine Finset.sum_congr rfl fun x _ => ?_
  have e1 : lidx_main_v70 (ix4 b h d j) x = ix4 b x h d := by
    funext a
    match a with
    | ⟨0, _⟩ => rfl
    | ⟨1, _⟩ => rfl
    | ⟨2, _⟩ => rfl
    | ⟨3, _⟩ => rfl
  have e2 : ridx_main_v70 (ix4 b h d j) x = ix4 b h j x := by
    funext a
    match a with
    | ⟨0, _⟩ => rfl
    | ⟨1, _⟩ => rfl
    | ⟨2, _⟩ => rfl
    | ⟨3, _⟩ => rfl
  rw [e1, e2, value]

end Cert.Fox.Ref

end
-- ==== Proof.Fox.Reals.lean ====
/-
  The attention's quantities are real numbers when its arguments are, and the two ways of writing a row of attention over
  real scores agree.
-/
module

public import proofs.«01_k».proof.Proof.Fox.Value
public import Idealize.ShloMosaic.Lib.IdealHost

@[expose] public section

set_option maxRecDepth 16384

noncomputable section

namespace Cert.Fox

open Idealize.ShloMosaic

/-- The sum of real numbers is the same number in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
def Real' (x : EReal) : Prop := ∃ r : ℝ, x = (r : EReal)

theorem Real'.add {x y : EReal} : Real' x → Real' y → Real' (x + y)
  | ⟨a, ha⟩, ⟨b, hb⟩ => ⟨a + b, by rw [ha, hb, EReal.coe_add]⟩

theorem Real'.sub {x y : EReal} : Real' x → Real' y → Real' (x - y)
  | ⟨a, ha⟩, ⟨b, hb⟩ => ⟨a - b, by rw [ha, hb, EReal.coe_sub]⟩

theorem Real'.mul {x y : EReal} : Real' x → Real' y → Real' (x * y)
  | ⟨a, ha⟩, ⟨b, hb⟩ => ⟨a * b, by rw [ha, hb, EReal.coe_mul]⟩

theorem Real'.sum {ι : Type} (s : Finset ι) {f : ι → EReal} (h : ∀ i, Real' (f i)) : Real' (∑ i ∈ s, f i) := by
  choose g hg using h
  exact ⟨∑ i ∈ s, g i, by rw [Finset.sum_congr rfl fun i _ => hg i, ← coe_sum]⟩

/-- The constants the attention uses are real. -/
theorem ofBits_head : ∃ r : ℝ, 0 < r ∧ Ideal.ofBits .f32 0x42800000#32 = (r : EReal) := by
  refine ⟨?r, ?p, ?e⟩
  case e =>
    simp [Ideal.ofBits, Ideal.ieee]
    rfl
  case p => norm_num

theorem ofBits_eps : ∃ r : ℝ, 0 < r ∧ Ideal.ofBits .f32 0x358637BD#32 = (r : EReal) := by
  refine ⟨?r, ?p, ?e⟩
  case e =>
    simp [Ideal.ofBits, Ideal.ieee]
    rfl
  case p => norm_num

theorem ofBits_scale : Real' (Ideal.ofBits .f32 0x3E000000#32) :=
  ⟨_, by simp [Ideal.ofBits, Ideal.ieee]; rfl⟩

theorem ofBits_bot : Ideal.ofBits .f32 0xFF800000#32 = ⊥ := by simp [Ideal.ofBits, Ideal.ieee]

/-- A normalised vector is real. -/
theorem rmsK_real {x g : Fin 64 → EReal} (hx : ∀ e, Real' (x e)) (hg : ∀ e, Real' (g e)) (d : Fin 64) : Real' (rmsK x g d) := by
  unfold rmsK
  refine ((hx d).mul ?_).mul (hg d)
  obtain ⟨n, hn, en⟩ := ofBits_head
  obtain ⟨p, hp, ep⟩ := ofBits_eps
  choose u hu using hx
  have hs : (∑ e, x e * x e) = ((∑ e, u e * u e : ℝ) : EReal) := by
    rw [coe_sum]
    exact Finset.sum_congr rfl fun e _ => by rw [hu, EReal.coe_mul]
  have hpos : 0 < (∑ e, u e * u e) * (1 / n) + p :=
    add_pos_of_nonneg_of_pos (mul_nonneg (Finset.sum_nonneg fun e _ => mul_self_nonneg _) (one_div_pos.2 hn).le) hp
  rw [hs, en, ep, Ideal.div_coe hn.ne', ← EReal.coe_mul, ← EReal.coe_add, Ideal.rsqrt_coe, if_neg (not_lt.2 hpos.le), if_neg hpos.ne']
  exact ⟨_, rfl⟩

theorem max_real {x y : EReal} : Real' x → Real' y → Real' (max x y) := fun hx hy => by
  rcases max_choice x y with h | h <;> rw [h] <;> assumption

/-- A log forget gate is real. -/
theorem gateK_real {f b : EReal} (hf : Real' f) (hb : Real' b) : Real' (gateK f b) := by
  have h0 : Real' 0 := ⟨0, by simp⟩
  unfold gateK
  have hn : Real' (0 - (f + b)) := h0.sub (hf.add hb)
  have hneg : Real' (-(0 - (f + b))) := by obtain ⟨r, hr⟩ := hn; exact ⟨-r, by rw [hr, EReal.coe_neg]⟩
  refine h0.sub ((max_real hn h0).add ?_)
  obtain ⟨r, hr⟩ := h0.sub (max_real hn hneg)
  rw [hr, Ideal.exp_coe, Ideal.log1p, ← EReal.coe_one, ← EReal.coe_add, Ideal.log_coe, if_neg (not_le.2 (by positivity))]
  exact ⟨_, rfl⟩

/-- A sum over the first keys is the sum over all keys when the others contribute nothing. -/
theorem sum_upTo {n : ℕ} (hn : n ≤ 2048) (f : Fin 2048 → ℝ) (hf : ∀ x : Fin 2048, n ≤ x.val → f x = 0) :
    ∑ x : Fin n, f (upTo hn x) = ∑ x, f x := by
  let g : ℕ → ℝ := fun i => if h : i < 2048 then f ⟨i, h⟩ else 0
  have e1 : ∑ x : Fin n, f (upTo hn x) = ∑ x : Fin n, g x.val :=
    Finset.sum_congr rfl fun x _ => by
      simp only [g]
      rw [dif_pos (lt_of_lt_of_le x.isLt hn)]
      rfl
  have e2 : ∑ x : Fin 2048, f x = ∑ x : Fin 2048, g x.val := Finset.sum_congr rfl fun x _ => by
    simp only [g]
    rw [dif_pos x.isLt]
  rw [e1, e2, Fin.sum_univ_eq_sum_range, Fin.sum_univ_eq_sum_range]
  refine Finset.sum_subset (Finset.range_mono hn) fun i hi hni => ?_
  have h1 := Finset.mem_range.1 hi
  have h2 : n ≤ i := by simpa using hni
  exact (dif_pos h1).trans (hf _ h2)

/-- The greatest of the scores of the keys up to `j`. -/
theorem sup_real (j : Fin 2048) (S : Fin 2048 → ℝ) :
    ∃ M : ℝ, (Finset.univ.fold max ⊥ fun x : Fin 2048 => if x.val ≤ j.val then (S x : EReal) else ⊥) = (M : EReal) := by
  show ∃ M : ℝ, (Finset.univ.sup fun x : Fin 2048 => if x.val ≤ j.val then (S x : EReal) else ⊥) = (M : EReal)
  obtain ⟨x, _, hx⟩ := Finset.exists_mem_eq_sup Finset.univ ⟨j, Finset.mem_univ _⟩ fun x : Fin 2048 => if x.val ≤ j.val then (S x : EReal) else ⊥
  rw [hx]
  by_cases h : x.val ≤ j.val
  · exact ⟨S x, if_pos h⟩
  · have hle : (if j.val ≤ j.val then (S j : EReal) else ⊥) ≤ _ :=
      Finset.le_sup (f := fun x : Fin 2048 => if x.val ≤ j.val then (S x : EReal) else ⊥) (Finset.mem_univ j)
    rw [hx] at hle
    simp only [if_neg h, le_refl, if_true] at hle
    exact absurd hle (by simp)

/-- The greatest over the first keys is the greatest over all keys when the others are masked. -/
theorem sup_upTo {n : ℕ} (hn : n ≤ 2048) (f : Fin 2048 → EReal) (hf : ∀ x : Fin 2048, n ≤ x.val → f x = ⊥) :
    (Finset.univ.fold max ⊥ fun x : Fin n => f (upTo hn x)) = Finset.univ.fold max ⊥ f := by
  show Finset.univ.sup (fun x : Fin n => f (upTo hn x)) = Finset.univ.sup f
  refine le_antisymm (Finset.sup_le fun x _ => Finset.le_sup (f := f) (Finset.mem_univ _)) (Finset.sup_le fun x _ => ?_)
  by_cases h : x.val < n
  · exact Finset.le_sup (f := fun x : Fin n => f (upTo hn x)) (Finset.mem_univ (⟨x.val, h⟩ : Fin n))
  · rw [hf x (not_lt.1 h)]; exact bot_le

/-- A row of attention: exponentials of real scores against the first `n` keys, summed and then divided, are the weighted
    sum over all keys with the weights divided first. -/
theorem row_eq {n : ℕ} (hn : n ≤ 2048) (j : Fin 2048) (hj : j.val < n) (S : Fin 2048 → ℝ) (v : Fin 2048 → EReal)
    (hv : ∀ x, Real' (v x)) (w : Fin 2048 → EReal)
    (hw : ∀ x, w x = Ideal.exp ((if x.val ≤ j.val then (S x : EReal) else ⊥)
      - max ⊥ (Finset.univ.fold max ⊥ fun x : Fin 2048 => if x.val ≤ j.val then (S x : EReal) else ⊥))) :
    headK (fun x : Fin n => if x.val ≤ j.val then (S (upTo hn x) : EReal) else ⊥) (fun x => v (upTo hn x)) (fun _ => 1)
      = ∑ x, v x * (Ideal.div (w x) (∑ x, w x) * FloatOps.uitofp (F := Ideal) .f32 (BitVec.ofBool (decide (x.val ≤ j.val)))) := by
  obtain ⟨M, hM⟩ := sup_real j S
  choose V hV using hv
  let E : Fin 2048 → ℝ := fun x => if x.val ≤ j.val then Real.exp (S x - M) else 0
  have hexp : ∀ x : Fin 2048, Ideal.exp ((if x.val ≤ j.val then (S x : EReal) else ⊥) - (M : EReal)) = (E x : EReal) := fun x => by
    simp only [E]
    split
    · rw [← EReal.coe_sub, Ideal.exp_coe]
    · simp
  have hwE : ∀ x, w x = (E x : EReal) := fun x => by rw [hw, hM, max_eq_right bot_le, hexp]
  have hE0 : ∀ x : Fin 2048, n ≤ x.val → E x = 0 := fun x hx => if_neg (by omega)
  have hL : 0 < ∑ x, E x := by
    refine Finset.sum_pos' (fun x _ => ?_) ⟨j, Finset.mem_univ _, ?_⟩
    · simp only [E]; split <;> positivity
    · simp only [E, le_refl, if_true]; positivity
  have hMn : (Finset.univ.fold max ⊥ fun x : Fin n => if x.val ≤ j.val then (S (upTo hn x) : EReal) else ⊥) = (M : EReal) :=
    (sup_upTo hn (fun x : Fin 2048 => if x.val ≤ j.val then (S x : EReal) else ⊥) fun x hx => if_neg (by omega)).trans hM
  have hk : ∀ x : Fin n, Ideal.exp ((if x.val ≤ j.val then (S (upTo hn x) : EReal) else ⊥) - (M : EReal)) = (E (upTo hn x) : EReal) :=
    fun x => hexp (upTo hn x)
  have hnum : ∑ x : Fin n, (E (upTo hn x) : EReal) * v (upTo hn x) = ((∑ x, E x * V x : ℝ) : EReal) := by
    rw [← sum_upTo hn (fun x => E x * V x) fun x hx => by rw [hE0 x hx, zero_mul], coe_sum]
    exact Finset.sum_congr rfl fun x _ => by rw [hV, EReal.coe_mul]
  have hden : ∑ x : Fin n, (E (upTo hn x) : EReal) * 1 = ((∑ x, E x : ℝ) : EReal) := by
    rw [← sum_upTo hn E hE0, coe_sum]
    exact Finset.sum_congr rfl fun x _ => mul_one _
  have htot : ∑ x, w x = ((∑ x, E x : ℝ) : EReal) := by
    rw [coe_sum]; exact Finset.sum_congr rfl fun x _ => hwE x
  unfold headK
  rw [ofBits_bot, hMn]
  simp only [hk]
  rw [hnum, hden, Ideal.div_coe hL.ne', ← EReal.coe_mul, Finset.sum_mul, coe_sum]
  refine Finset.sum_congr rfl fun x _ => ?_
  rw [hwE, hV, htot, Ideal.div_coe hL.ne']
  have hm : (E x : EReal) = E x * FloatOps.uitofp (F := Ideal) .f32 (BitVec.ofBool (decide (x.val ≤ j.val))) := by
    by_cases h : x.val ≤ j.val
    · rw [decide_eq_true h]
      have : FloatOps.uitofp (F := Ideal) .f32 (BitVec.ofBool true) = 1 := by
        show (((BitVec.ofBool true).toNat : ℝ) : EReal) = 1
        simp
      rw [this, mul_one]
    · have : E x = 0 := if_neg h
      rw [this]; simp
  rw [EReal.coe_mul, EReal.coe_mul, hm]
  rw [← hm]
  calc (E x : EReal) * V x * ((1 / ∑ x, E x : ℝ) : EReal) = V x * (E x * ((1 / ∑ x, E x : ℝ) : EReal)) := by
        rw [mul_comm (E x : EReal), mul_assoc]
    _ = V x * (E x * FloatOps.uitofp (F := Ideal) .f32 (BitVec.ofBool (decide (x.val ≤ j.val))) * ((1 / ∑ x, E x : ℝ) : EReal)) := by rw [← hm]
    _ = _ := by rw [mul_right_comm]

end Cert.Fox

end
-- ==== Proof.Fox.Eq.lean ====
/-
  With real arguments, the attention the kernel stores is the reference's.
-/
module

public import proofs.«01_k».proof.Proof.Fox.Ref
public import proofs.«01_k».proof.Proof.Fox.Reals
public import proofs.«01_k».proof.Proof.Gen.Pre_finite
public import Idealize.ShloMosaic.Lib.ReduceAll

@[expose] public section

set_option maxRecDepth 16384

noncomputable section

namespace Cert.Fox

open Idealize.ShloMosaic

/-- An extended real whose absolute value is below infinity is real. -/
theorem real_of_abs {x : EReal} (h : FloatOps.cmpf (F := Ideal) (φ := .f32) .olt (FloatOps.hostAbsf (F := Ideal) (φ := .f32) x) (Ideal.ofBits .f32 0x7F800000#32) = 1#1) :
    Real' x := by
  have ht : Ideal.ofBits .f32 0x7F800000#32 = ⊤ := by simp [Ideal.ofBits, Ideal.ieee]
  rw [ht] at h
  have h' : BitVec.ofBool (decide (max x (-x) < ⊤)) = 1#1 := h
  have hl : max x (-x) < ⊤ := by
    by_contra hc
    rw [decide_eq_false hc] at h'
    exact absurd h' (by decide)
  induction x with
  | bot => exact absurd hl (by simp)
  | top => exact absurd hl (by simp)
  | coe r => exact ⟨r, rfl⟩

theorem andi_one {x y : BitVec 1} (h : IntOp.andi x y = 1#1) : x = 1#1 ∧ y = 1#1 := by
  have : ∀ x y : BitVec 1, x &&& y = 1#1 → x = 1#1 ∧ y = 1#1 := by decide
  exact this x y h

/-- The precondition says that every argument is real. -/
theorem real_of_finite (y : FVec Ideal ⟨3, ![8, 2048, 3200]⟩ .f32) (bf : FVec Ideal ⟨1, ![8]⟩ .f32) (qg kg : FVec Ideal ⟨1, ![64]⟩ .f32)
    (h : Cert.Pre_finite.fn (F := Ideal) y bf qg kg = fun _ => 1#1) :
    (∀ i, Real' (y i)) ∧ (∀ i, Real' (bf i)) ∧ (∀ i, Real' (qg i)) ∧ ∀ i, Real' (kg i) := by
  have hs : Subsingleton Cert.Pre_finite.S_.Idx := ⟨fun a b => funext fun i => i.elim0⟩
  have h0 := congrFun h fun a => a.elim0
  unfold Cert.Pre_finite.fn Cert.Pre_finite.fn_part1 at h0
  obtain ⟨h1, hk⟩ := andi_one h0
  obtain ⟨h2, hq⟩ := andi_one h1
  obtain ⟨hy, hb⟩ := andi_one h2
  exact ⟨fun i => real_of_abs (Host.reduce_andi_all _ _ _ _ _ hy i), fun i => real_of_abs (Host.reduce_andi_all _ _ _ _ _ hb i),
    fun i => real_of_abs (Host.reduce_andi_all _ _ _ _ _ hq i), fun i => real_of_abs (Host.reduce_andi_all _ _ _ _ _ hk i)⟩

variable {y : Vec Ideal Cert.ReferenceIdeal.S8x2048x3200 .f32} {bf : Vec Ideal Cert.ReferenceIdeal.S8 .f32}
  {qg kg : Vec Ideal Cert.ReferenceIdeal.S64 .f32}

theorem cumAt_real (hy : ∀ i, Real' (y i)) (hb : ∀ i, Real' (bf i)) (b h : Fin 8) (j : Fin 2048) : Real' (cumAt y bf b h j) := by
  unfold cumAt
  refine Real'.sum _ fun i => ?_
  unfold gateAt
  split
  · exact gateK_real (hy _) (hb _)
  · exact ⟨0, by simp⟩

/-- The unmasked score. -/
def dotS (y : Vec Ideal Cert.ReferenceIdeal.S8x2048x3200 .f32) (bf : Vec Ideal Cert.ReferenceIdeal.S8 .f32)
    (qg kg : Vec Ideal Cert.ReferenceIdeal.S64 .f32) (b h : Fin 8) (j x : Fin 2048) : EReal :=
  (∑ e, rmsK (fun e => y (ix3 b j ⟨1536 + (col64 h e).val, by omega⟩)) (fun e => qg (ix1 e)) e * keyAt y kg b h x e)
    * Ideal.ofBits .f32 0x3E000000#32 + (cumAt y bf b h j - cumAt y bf b h x)

theorem dotS_real (hy : ∀ i, Real' (y i)) (hb : ∀ i, Real' (bf i)) (hq : ∀ i, Real' (qg i)) (hk : ∀ i, Real' (kg i)) (b h : Fin 8)
    (j x : Fin 2048) : Real' (dotS y bf qg kg b h j x) := by
  unfold dotS
  refine ((Real'.sum _ fun e => ?_).mul ofBits_scale).add ((cumAt_real hy hb b h j).sub (cumAt_real hy hb b h x))
  exact (rmsK_real (fun _ => hy _) (fun _ => hq _) e).mul (rmsK_real (fun _ => hy _) (fun _ => hk _) e)

theorem word_row (a : Fin 8) (r : Fin 256) :
    IntOp.addi (Scalar.muli (BitVec.ofNat 32 a.val) 256#32) (BitVec.ofNat 32 r.val) = BitVec.ofNat 32 (row256 a r).val := by
  have ha := a.isLt
  have hr := r.isLt
  show BitVec.ofNat 32 a.val * 256#32 + BitVec.ofNat 32 r.val = BitVec.ofNat 32 (256 * a.val + r.val)
  apply BitVec.eq_of_toNat_eq
  simp only [BitVec.toNat_add, BitVec.toNat_mul, BitVec.toNat_ofNat]
  omega

/-- The kernel's score is the unmasked score up to the query's own place and minus infinity after it. -/
theorem scoreK_eq (hy : ∀ i, Real' (y i)) (hb : ∀ i, Real' (bf i)) (hq : ∀ i, Real' (qg i)) (hk : ∀ i, Real' (kg i)) {n : ℕ}
    (hn : n ≤ 2048) (b a h : Fin 8) (r : Fin 256) (x : Fin n) :
    scoreK (BitVec.ofNat 32 a.val) r (fun e => y (ix3 b (row256 a r) ⟨1536 + (col64 h e).val, by omega⟩)) (fun e => qg (ix1 e))
      (fun x e => keyAt y kg b h (upTo hn x) e) (cumAt y bf b h (row256 a r)) (fun x => cumAt y bf b h (upTo hn x)) x
    = if x.val ≤ (row256 a r).val then dotS y bf qg kg b h (row256 a r) (upTo hn x) else ⊥ := by
  have hx := x.isLt
  have hr := (row256 a r).isLt
  unfold scoreK dotS
  rw [word_row, WordCmp.cmpi_sle_ofNat (by omega) (by omega), WordCmp.select_decide]
  have hqr := fun e => rmsK_real (x := fun e => y (ix3 b (row256 a r) ⟨1536 + (col64 h e).val, by omega⟩)) (g := fun e => qg (ix1 e))
    (fun _ => hy _) (fun _ => hq _) e
  have hkr : ∀ e, Real' (keyAt y kg b h (upTo hn x) e) := fun e => rmsK_real (x := fun e => y (ix3 b (upTo hn x) ⟨2048 + (col64 h e).val, by omega⟩)) (g := fun e => kg (ix1 e))
    (fun _ => hy _) (fun _ => hk _) e
  split
  · rw [add_zero]
    congr 1
    choose Q hQ using hqr
    choose K hK using hkr
    obtain ⟨s, hs⟩ := ofBits_scale
    simp only [hQ, hK, hs, ← EReal.coe_mul]
    rw [← coe_sum, ← coe_sum, ← EReal.coe_mul, Finset.sum_mul]
    exact congrArg _ (Finset.sum_congr rfl fun e _ => by ring)
  · rw [IdealRules.named_const.ideal_named_scalar _ _ _ _ rfl]
    simp

/-- What the kernel stores is the reference's result. -/
theorem foxK_eq (hy : ∀ i, Real' (y i)) (hb : ∀ i, Real' (bf i)) (hq : ∀ i, Real' (qg i)) (hk : ∀ i, Real' (kg i)) (b a h : Fin 8)
    (r : Fin 256) (d : Fin 64) :
    foxK (keysOf_le a) y bf qg kg b a h r d
      = Cert.ReferenceIdeal.Read.val_main_v72 (F := Ideal) y bf qg kg (ix3 b (row256 a r) (col64 h d)) := by
  have hS := fun x => dotS_real hy hb hq hk b h (row256 a r) x
  choose S hS using hS
  have hj : (row256 a r).val < keysOf a := by
    have hr := r.isLt
    show 256 * a.val + r.val < 512 * (a.val / 2 + 1)
    omega
  have hR : ∀ x, Ref.scoreR y bf qg kg b h (row256 a r) x = if x.val ≤ (row256 a r).val then (S x : EReal) else ⊥ := fun x => by
    rw [← hS]; rfl
  have hK : ∀ x, scoreK (BitVec.ofNat 32 a.val) r (fun e => y (ix3 b (row256 a r) ⟨1536 + (col64 h e).val, by omega⟩)) (fun e => qg (ix1 e))
      (fun x e => keyAt y kg b h (upTo (keysOf_le a) x) e) (cumAt y bf b h (row256 a r)) (fun x => cumAt y bf b h (upTo (keysOf_le a) x)) x
      = if x.val ≤ (row256 a r).val then (S (upTo (keysOf_le a) x) : EReal) else ⊥ := fun x => by
    rw [scoreK_eq hy hb hq hk (keysOf_le a), ← hS]
  rw [Ref.out]
  unfold foxK
  rw [funext hK, row_eq (keysOf_le a) (row256 a r) hj S (fun x => y (ix3 b x ⟨2560 + (col64 h d).val, by omega⟩)) (fun x => hy _)
    (fun x => Cert.ReferenceIdeal.Read.val_main_v61 (F := Ideal) y bf qg kg (ix4 b h (row256 a r) x)) fun x => ?_]
  · exact Finset.sum_congr rfl fun x _ => by rw [Ref.weight]
  · rw [Ref.expo, ofBits_bot, hR, funext hR]

end Cert.Fox

end
-- ==== Proof.Fox.Final.lean ====
/-
  The attention's certificate: the kernel's array after the run is the reference's result.
-/
module

public import proofs.«01_k».proof.Defs
public import proofs.«01_k».proof.Proof.Fox.Eq
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit

@[expose] public section

set_option maxRecDepth 16384

noncomputable section

namespace Cert.Fox

open Idealize.ShloMosaic Idealize.SL.Sem Cert.KernelIdeal Cert.KernelIdeal.Gen Cert.KernelIdeal.Value

/-- The reference's result over the kernel's arguments. -/
def result (m : (ℓ : Loc nD τ sig) → Buf (Elt Ideal) ℓ) (c : Dev nD) : Vec Ideal Cert.ReferenceIdeal.S8x2048x512 .f32 :=
  Cert.ReferenceIdeal.Read.val_main_v72 (F := Ideal) (argY m c) (argB m c) (argQ m c) (argK m c)

theorem index7 : ∀ t : Fin grid0.N, win0_7.index t 0 = t.val / 8 ∧ win0_7.index t 1 = t.val % 8 ∧ win0_7.index t 2 = 0 := by decide +kernel

/-- The array the kernel writes is the reference's result. -/
theorem array_eq (m : (ℓ : Loc nD τ sig) → Buf (Elt Ideal) ℓ) (c : Dev nD) (hy : ∀ i, Real' (argY m c i)) (hb : ∀ i, Real' (argB m c i))
    (hq : ∀ i, Real' (argQ m c i)) (hk : ∀ i, Real' (argK m c i)) : (dats m 0 c).arrAt 7 cfg0.N = result m c := by
  refine (dats m 0 c).arrAt_eq_of_covers 7 _ (by decide +kernel) fun t hf y => ?_
  blk_simp
  rw [after0_7]
  obtain ⟨r, k, rfl⟩ : ∃ (r : Fin 256) (k : Fin 512), y = ix3 (0 : Fin 1) r k :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  obtain ⟨h, d, rfl⟩ : ∃ (h : Fin 8) (d : Fin 64), k = col64 h d :=
    ⟨⟨k.val / 64, by omega⟩, ⟨k.val % 64, by omega⟩, Fin.ext (by show k.val = 64 * (k.val / 64) + k.val % 64; omega)⟩
  refine (stored m c t h r d).trans ((foxK_eq hy hb hq hk (bat t) (til t) h r d).trans (congrArg (result m c) ?_))
  obtain ⟨h0, h1, h2⟩ := index7 t
  funext a
  match a with
  | ⟨0, _⟩ => exact Fin.ext (by show t.val / 8 = win0_7.index t 0 * 1 + 1 * 0; omega)
  | ⟨1, _⟩ => exact Fin.ext (by show 256 * (t.val % 8) + r.val = win0_7.index t 1 * 256 + 1 * r.val; omega)
  | ⟨2, _⟩ => exact Fin.ext (by show (col64 h d).val = win0_7.index t 2 * 512 + 1 * (col64 h d).val; omega)

/-- Under the precondition the two programs end with equal results. -/
theorem algebraic : Cert.algebraic_KernelIdeal_ReferenceIdeal_pre_finite := by
  intro m g m' g' hpre hagree
  refine ⟨fun c => result m c, ?_, ?_⟩
  · refine (θ_run Cert.KernelIdeal.defs _ _).mono (fun r hr c => ?_) (run_blocks (F := Ideal) m g)
    obtain ⟨hy, hb, hq, hk⟩ := real_of_finite _ _ _ _ (hpre c)
    obtain ⟨h0, h1⟩ := hr c
    exact ⟨h0.trans (array_eq m c hy hb hq hk), h1⟩
  · refine (θ_run Cert.ReferenceIdeal.defs _ _).mono (fun r hr c => ?_) (Cert.ReferenceIdeal.Value.run (F := Ideal) m' g')
    obtain ⟨e0, e1, e2, e3⟩ := hagree c
    obtain ⟨h0, h1⟩ := hr c
    refine ⟨h0.trans ((Cert.ReferenceIdeal.Read.val_main_v72_eq m' c).trans ?_), h1⟩
    rw [e0, e1, e2, e3]
    rfl

end Cert.Fox

end
-- ==== Proof.Dense.Norm.lean ====
/-
  The normalised input of a projection: the layer's input over its root mean square, times a gain, modulated by a scale
  and a shift of the batch. It is the same for the even and the odd layers.
-/
module

public import proofs.«01_k».proof.Proof.Gen.InEvenRefIdeal.Run
public import Idealize.ShloMosaic.Lib.Pointwise

@[expose] public section

set_option maxRecDepth 16384

noncomputable section

namespace Cert.Dense

open Idealize.ShloMosaic Cert.InEvenRefIdeal Cert.InEvenRefIdeal.Gen

/-- A row of the normalised input, at a column: over the row, the batch's shift and scale, and the gains. -/
def normed (x sh sc ng : Fin 1024 → EReal) (k : Fin 1024) : EReal :=
  x k * Ideal.rsqrt (Ideal.div (∑ e : Fin 1024, x e * x e) (Ideal.ofBits .f32 0x44800000#32) + Ideal.ofBits .f32 0x358637BD#32) * ng k
    * (1 + sc k) + sh k

/-- The reference's normalised input. -/
def normRef (x : Vec Ideal S8x2048x1024 .f32) (sh sc : Vec Ideal S8x1024 .f32) (ng : Vec Ideal S1024 .f32) : FVec Ideal S8x2048x1024 .f32 :=
  addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (F := Ideal) (φ := .f32) (mulf (F := Ideal) (φ := .f32) x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 ng))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 sc)))) (broadcastInDim S8x2048x1024 ![0, 1, 2] bcast_S8x1x1024_S8x2048x1024_0_1_2 (broadcastInDim S8x1x1024 ![0, 2] bcast_S8x1024_S8x1x1024_0_2 sh))

/-- It at a point. -/
theorem normRef_apply (x : Vec Ideal S8x2048x1024 .f32) (sh sc : Vec Ideal S8x1024 .f32) (ng : Vec Ideal S1024 .f32) (b : Fin 8) (s : Fin 2048) (k : Fin 1024) :
    normRef x sh sc ng (ix3 b s k) = normed (fun e => x (ix3 b s e)) (fun e => sh (ix2 b e)) (fun e => sc (ix2 b e)) (fun e => ng (ix1 e)) k := by
  unfold normed
  pointwise [normRef]

end Cert.Dense

end
-- ==== Proof.Dense.InEven.lean ====
/-
  The even layers' input projection: the kernel's array is the reference's result. The kernel pads the weight with zero
  columns, the reference pads its result.
-/
module

public import proofs.«01_k».proof.Defs
public import proofs.«01_k».proof.Proof.Base.Zero
public import proofs.«01_k».proof.Proof.Dense.Norm
public import proofs.«01_k».proof.Proof.Gen.InEvenIdeal.Value
public import proofs.«01_k».proof.Proof.Gen.InEvenRefIdeal.Run
public import Idealize.ShloMosaic.Lib.Pointwise
public import Idealize.ShloMosaic.Lib.Pipeline.ValueKit
public import Idealize.ShloMosaic.Lib.Tactic

@[expose] public section

set_option maxRecDepth 16384

noncomputable section

namespace Cert.Dense.InEven

open Idealize.ShloMosaic Idealize.ShloMosaic.TcCoe Idealize.SL.Sem Cert.InEvenIdeal Cert.InEvenIdeal.Gen Cert.InEvenIdeal.Value

/-- The reference's result over its arguments. -/
def ref (x : Vec Ideal S8x2048x1024 .f32) (sh sc : Vec Ideal S8x1024 .f32) (ng : Vec Ideal S1024 .f32) (w : Vec Ideal S1024x3080 .f32) :
    Vec Ideal S8x2048x3200 .f32 :=
  pad S8x2048x3200 ![0, 0, 0] ![0, 0, 120] ![0, 0, 0]
    (Host.dotGeneral (F := Ideal) (φ₁ := .f32) (φ₂ := .f32) Cert.InEvenRefIdeal.dot_S8x2048x1024_S1024x3080_S8x2048x3080_2_0_01_1_n_n none (normRef x sh sc ng) w)
    (sitofp (F := Ideal) .f32 (constantI Cert.InEvenRefIdeal.S_ 32 0#32)) Cert.InEvenRefIdeal.Gen.pads_S8x2048x3080_S8x2048x3200_000_000_01200 Cert.InEvenRefIdeal.Gen.h_S_

/-- The reference at a column of the weight. -/
theorem ref_left (x : Vec Ideal S8x2048x1024 .f32) (sh sc : Vec Ideal S8x1024 .f32) (ng : Vec Ideal S1024 .f32) (w : Vec Ideal S1024x3080 .f32)
    (b : Fin 8) (s : Fin 2048) (n : Fin 3200) (h : n.val < 3080) :
    ref x sh sc ng w (ix3 b s n) = ∑ k : Fin 1024, normRef x sh sc ng (ix3 b s k) * w (ix2 k ⟨n.val, h⟩) := by
  unfold ref
  generalize normRef x sh sc ng = y
  pointwise
  exact dif_pos h

/-- The reference right of the weight's columns. -/
theorem ref_right (x : Vec Ideal S8x2048x1024 .f32) (sh sc : Vec Ideal S8x1024 .f32) (ng : Vec Ideal S1024 .f32) (w : Vec Ideal S1024x3080 .f32)
    (b : Fin 8) (s : Fin 2048) (n : Fin 3200) (h : 3080 ≤ n.val) : ref x sh sc ng w (ix3 b s n) = 0 := by
  unfold ref
  generalize normRef x sh sc ng = y
  pointwise
  refine (dif_neg (by omega)).trans ?_
  show (((0#32 : BitVec 32).toInt : ℝ) : EReal) = 0
  simp

/-- The kernel's block at a point. -/
theorem pay_apply (v0 : Vec Ideal S1x512x1024 .f32) (v2 : Vec Ideal S1x1024 .f32) (v16 v22 : Vec Ideal S1x1x1024 .f32)
    (v27 : Vec Ideal S1024x3200 .bf16) (r : Fin 512) (n : Fin 3200) :
    k0_pay1 (F := Ideal) v0 v2 v16 v22 v27 (ix3 0 r n)
      = ∑ k : Fin 1024, normed (fun e => v0 (ix3 0 r e)) (fun e => v22 (ix3 0 0 e)) (fun e => v16 (ix3 0 0 e)) (fun e => v2 (ix2 0 e)) k * v27 (ix2 k n) := by
  unfold normed
  pointwise [k0_pay1]

variable (m : (ℓ : Loc nD τ sig) → Buf (Elt Ideal) ℓ) (c : Dev nD)

/-- The layer's input. -/
abbrev argX : Vec Ideal S8x2048x1024 .f32 := m ((c : Thread nD τ).loc main_arg0)
/-- The shift. -/
abbrev argS : Vec Ideal S8x1024 .f32 := m ((c : Thread nD τ).loc main_arg1)
/-- The scale. -/
abbrev argC : Vec Ideal S8x1024 .f32 := m ((c : Thread nD τ).loc main_arg2)
/-- The gains. -/
abbrev argN : Vec Ideal S1024 .f32 := m ((c : Thread nD τ).loc main_arg3)
/-- The weight. -/
abbrev argW : Vec Ideal S1024x3080 .f32 := m ((c : Thread nD τ).loc main_arg4)

theorem index0 : ∀ t : Fin grid0.N, win0_0.index t 0 = t.val / 4 ∧ win0_0.index t 1 = t.val % 4 ∧ win0_0.index t 2 = 0 := by decide +kernel
theorem index1 : ∀ t : Fin grid0.N, win0_1.index t 0 = t.val / 4 ∧ win0_1.index t 1 = 0 ∧ win0_1.index t 2 = 0 := by decide +kernel
theorem index2 : ∀ t : Fin grid0.N, win0_2.index t 0 = t.val / 4 ∧ win0_2.index t 1 = 0 ∧ win0_2.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val / 4 ∧ win0_5.index t 1 = t.val % 4 ∧ win0_5.index t 2 = 0 := by decide +kernel

/-- A point's batch. -/
def bat (t : Fin cfg0.N) : Fin 8 := ⟨t.val / 4, by have := t.isLt; have h : cfg0.N = 32 := N_0; omega⟩
/-- A tile's row in the array. -/
def row (t : Fin cfg0.N) (r : Fin 512) : Fin 2048 := ⟨512 * (t.val % 4) + r.val, by omega⟩

/-- The input's tile. -/
theorem block0 (t : Fin cfg0.N) (r : Fin 512) (n : Fin 1024) :
    (iblk m c 0 t : Vec Ideal S1x512x1024 .f32) (ix3 0 r n) = argX m c (ix3 (bat t) (row t r) n) := by
  unfold iblk
  rw [View.read_apply]
  show V m c main_arg0 _ = m (c.tc.loc main_arg0) _
  rw [V_main_arg0]
  refine congrArg _ (funext fun a => Fin.ext ?_)
  obtain ⟨h0, h1, h2⟩ := index0 t
  match a with
  | ⟨0, _⟩ => show win0_0.index t 0 * 1 + 1 * 0 = t.val / 4; omega
  | ⟨1, _⟩ => show win0_0.index t 1 * 512 + 1 * r.val = 512 * (t.val % 4) + r.val; omega
  | ⟨2, _⟩ => show win0_0.index t 2 * 1024 + 1 * n.val = n.val; omega

/-- The batch's shift. -/
theorem block1 (t : Fin cfg0.N) (n : Fin 1024) : (iblk m c 1 t : Vec Ideal S1x1x1024 .f32) (ix3 0 0 n) = argS m c (ix2 (bat t) n) := by
  have hV : (V m c main_v4 : Vec Ideal S8x1x1024 .f32) (ix3 (bat t) 0 n) = argS m c (ix2 (bat t) n) := by
    unfold_abbrev_sides
    after_results
    pointwise
  rw [← hV]
  unfold iblk
  rw [View.read_apply]
  show V m c main_v4 _ = V m c main_v4 _
  refine congrArg _ (funext fun a => Fin.ext ?_)
  obtain ⟨h0, h1, h2⟩ := index1 t
  match a with
  | ⟨0, _⟩ => show win0_1.index t 0 * 1 + 1 * 0 = t.val / 4; omega
  | ⟨1, _⟩ => show win0_1.index t 1 * 1 + 1 * 0 = 0; omega
  | ⟨2, _⟩ => show win0_1.index t 2 * 1024 + 1 * n.val = n.val; omega

/-- The batch's scale. -/
theorem block2 (t : Fin cfg0.N) (n : Fin 1024) : (iblk m c 2 t : Vec Ideal S1x1x1024 .f32) (ix3 0 0 n) = argC m c (ix2 (bat t) n) := by
  have hV : (V m c main_v5 : Vec Ideal S8x1x1024 .f32) (ix3 (bat t) 0 n) = argC m c (ix2 (bat t) n) := by
    unfold_abbrev_sides
    after_results
    pointwise
  rw [← hV]
  unfold iblk
  rw [View.read_apply]
  show V m c main_v5 _ = V m c main_v5 _
  refine congrArg _ (funext fun a => Fin.ext ?_)
  obtain ⟨h0, h1, h2⟩ := index2 t
  match a with
  | ⟨0, _⟩ => show win0_2.index t 0 * 1 + 1 * 0 = t.val / 4; omega
  | ⟨1, _⟩ => show win0_2.index t 1 * 1 + 1 * 0 = 0; omega
  | ⟨2, _⟩ => show win0_2.index t 2 * 1024 + 1 * n.val = n.val; omega

/-- The gains. -/
theorem block3 (t : Fin cfg0.N) (n : Fin 1024) : (iblk m c 3 t : Vec Ideal S1x1024 .f32) (ix2 0 n) = argN m c (ix1 n) := by
  have hV : (V m c main_v6 : Vec Ideal S1x1024 .f32) (ix2 0 n) = argN m c (ix1 n) := by
    unfold_abbrev_sides
    after_results
    pointwise
  rw [← hV]
  unfold iblk
  rw [View.read_apply]
  show V m c main_v6 _ = V m c main_v6 _
  refine congrArg _ (funext fun a => Fin.ext ?_)
  obtain ⟨h0, h1⟩ := index3 t
  match a with
  | ⟨0, _⟩ => show win0_3.index t 0 * 1 + 1 * 0 = 0; omega
  | ⟨1, _⟩ => show win0_3.index t 1 * 1024 + 1 * n.val = n.val; omega

/-- The weight's window reads the whole of its array. -/
theorem read4 (A : Vec Ideal S1024x3200 .bf16) (t : Fin cfg0.N) (k : Fin 1024) (n : Fin 3200) :
    (((cfg0.win 4).blk t).view.read (Elt Ideal) A : Vec Ideal S1024x3200 .bf16) (ix2 k n) = A (ix2 k n) := by
  rw [View.read_apply]
  show A _ = A _
  refine congrArg A (funext fun a => Fin.ext ?_)
  obtain ⟨h0, h1⟩ := index4 t
  match a with
  | ⟨0, _⟩ => show win0_4.index t 0 * 1024 + 1 * k.val = k.val; omega
  | ⟨1, _⟩ => show win0_4.index t 1 * 3200 + 1 * n.val = n.val; omega

/-- The weight's block is the padded weight. -/
theorem block4 (t : Fin cfg0.N) (k : Fin 1024) (n : Fin 3200) :
    (iblk m c 4 t : Vec Ideal S1024x3200 .bf16) (ix2 k n) = (V m c main_v3 : Vec Ideal S1024x3200 .bf16) (ix2 k n) :=
  read4 (V m c main_v3) t k n

/-- The one index word of the weight's placement is zero. -/
theorem start (i : S1.Idx) : broadcastInDim S1 ![] bcast_S_S1 (constantI S_ 32 0#32) i = 0#32 := by
  obtain ⟨a, rfl⟩ : ∃ a : Fin 1, i = ix1 a := ⟨i 0, funext fun b => by match b with | ⟨0, _⟩ => rfl⟩
  fin_cases a
  rfl

/-- The padded weight at a column of the weight. -/
theorem weight_left (k : Fin 1024) (n : Fin 3200) (h : n.val < 3080) :
    (V m c main_v3 : Vec Ideal S1024x3200 .bf16) (ix2 k n) = argW m c (ix2 k ⟨n.val, h⟩) := by
  unfold_abbrev_sides
  after_results
  exact Base.corner_hit (R := 1024) (C := 3200) (R' := 1024) (C' := 3080) _ _ _ _ start (fun _ => rfl) (fun _ => rfl) k n k.isLt h

/-- The padded weight right of the weight's columns. -/
theorem weight_right (k : Fin 1024) (n : Fin 3200) (h : 3080 ≤ n.val) :
    (V m c main_v3 : Vec Ideal S1024x3200 .bf16) (ix2 k n) = (0 : EReal) := by
  unfold_abbrev_sides
  after_results
  refine (Base.corner_miss (R := 1024) (C := 3200) (R' := 1024) (C' := 3080) _ _ _ _ start (fun _ => rfl) k n h).trans ?_
  pointwise
  rfl

/-- The array the kernel writes is the reference's result. -/
theorem array_eq : (dats m 0 c).arrAt 5 cfg0.N = ref (argX m c) (argS m c) (argC m c) (argN m c) (argW m c) := by
  refine (dats m 0 c).arrAt_eq_of_covers 5 _ (by decide +kernel) fun t hf y => ?_
  blk_simp
  rw [after0_5]
  frame_out
  obtain ⟨r, n, rfl⟩ : ∃ (r : Fin 512) (n : Fin 3200), y = ix3 (0 : Fin 1) r n :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  have e : ∑ k : Fin 1024, normRef (argX m c) (argS m c) (argC m c) (argN m c) (ix3 (bat t) (row t r) k)
      * (V m c main_v3 : Vec Ideal S1024x3200 .bf16) (ix2 k n) = ref (argX m c) (argS m c) (argC m c) (argN m c) (argW m c) (ix3 (bat t) (row t r) n) := by
    rcases Nat.lt_or_ge n.val 3080 with h | h
    · rw [ref_left _ _ _ _ _ _ _ _ h]
      exact Finset.sum_congr rfl fun k _ => by rw [weight_left m c k n h]
    · rw [ref_right _ _ _ _ _ _ _ _ h]
      exact Finset.sum_eq_zero fun k _ => by rw [weight_right m c k n h]; exact mul_zero _
  refine (pay_apply _ _ _ _ _ r n).trans ?_
  simp only [block0, block1, block2, block3, block4]
  simp only [normRef_apply] at e
  refine e.trans (congrArg (ref (argX m c) (argS m c) (argC m c) (argN m c) (argW m c)) ?_)
  obtain ⟨h0, h1, h2⟩ := index5 t
  funext a
  match a with
  | ⟨0, _⟩ => exact Fin.ext (by show t.val / 4 = win0_5.index t 0 * 1 + 1 * 0; omega)
  | ⟨1, _⟩ => exact Fin.ext (by show 512 * (t.val % 4) + r.val = win0_5.index t 1 * 512 + 1 * r.val; omega)
  | ⟨2, _⟩ => exact Fin.ext (by show n.val = win0_5.index t 2 * 3200 + 1 * n.val; omega)

/-- The two programs end with equal results. -/
theorem algebraic : Cert.algebraic_InEvenIdeal_InEvenRefIdeal := by
  intro m g m' g' _ hagree
  refine ⟨fun c => ref (argX m c) (argS m c) (argC m c) (argN m c) (argW m c), ?_, ?_⟩
  · refine (θ_run Cert.InEvenIdeal.defs _ _).mono (fun r hr c => ?_) (run_blocks (F := Ideal) m g)
    obtain ⟨h0, h1⟩ := hr c
    exact ⟨h0.trans (array_eq m c), h1⟩
  · refine (θ_run Cert.InEvenRefIdeal.defs _ _).mono (fun r hr c => ?_) (Cert.InEvenRefIdeal.Value.run (F := Ideal) m' g')
    obtain ⟨e0, e1, e2, e3, e4⟩ := hagree c
    obtain ⟨h0, h1⟩ := hr c
    refine ⟨h0.trans ?_, h1⟩
    rw [e0, e1, e2, e3, e4]
    rfl

end Cert.Dense.InEven

end
-- ==== Proof.Dense.InOdd.lean ====
/-
  The odd layers' input projection: the kernel's array is the reference's result. The kernel pads the weight with zero
  columns, the reference pads its result.
-/
module

public import proofs.«01_k».proof.Defs
public import proofs.«01_k».proof.Proof.Base.Zero
public import proofs.«01_k».proof.Proof.Dense.Norm
public import proofs.«01_k».proof.Proof.Gen.InOddIdeal.Value
public import proofs.«01_k».proof.Proof.Gen.InOddRefIdeal.Run
public import Idealize.ShloMosaic.Lib.Pointwise
public import Idealize.ShloMosaic.Lib.Pipeline.ValueKit
public import Idealize.ShloMosaic.Lib.Tactic

@[expose] public section

set_option maxRecDepth 16384

noncomputable section

namespace Cert.Dense.InOdd

open Idealize.ShloMosaic Idealize.ShloMosaic.TcCoe Idealize.SL.Sem Cert.InOddIdeal Cert.InOddIdeal.Gen Cert.InOddIdeal.Value

/-- The reference's result over its arguments. -/
def ref (x : Vec Ideal S8x2048x1024 .f32) (sh sc : Vec Ideal S8x1024 .f32) (ng : Vec Ideal S1024 .f32) (w : Vec Ideal S1024x2608 .f32) :
    Vec Ideal S8x2048x2688 .f32 :=
  pad S8x2048x2688 ![0, 0, 0] ![0, 0, 80] ![0, 0, 0]
    (Host.dotGeneral (F := Ideal) (φ₁ := .f32) (φ₂ := .f32) Cert.InOddRefIdeal.dot_S8x2048x1024_S1024x2608_S8x2048x2608_2_0_01_1_n_n none (normRef x sh sc ng) w)
    (sitofp (F := Ideal) .f32 (constantI Cert.InOddRefIdeal.S_ 32 0#32)) Cert.InOddRefIdeal.Gen.pads_S8x2048x2608_S8x2048x2688_000_000_0800 Cert.InOddRefIdeal.Gen.h_S_

/-- The reference at a column of the weight. -/
theorem ref_left (x : Vec Ideal S8x2048x1024 .f32) (sh sc : Vec Ideal S8x1024 .f32) (ng : Vec Ideal S1024 .f32) (w : Vec Ideal S1024x2608 .f32)
    (b : Fin 8) (s : Fin 2048) (n : Fin 2688) (h : n.val < 2608) :
    ref x sh sc ng w (ix3 b s n) = ∑ k : Fin 1024, normRef x sh sc ng (ix3 b s k) * w (ix2 k ⟨n.val, h⟩) := by
  unfold ref
  generalize normRef x sh sc ng = y
  pointwise
  exact dif_pos h

/-- The reference right of the weight's columns. -/
theorem ref_right (x : Vec Ideal S8x2048x1024 .f32) (sh sc : Vec Ideal S8x1024 .f32) (ng : Vec Ideal S1024 .f32) (w : Vec Ideal S1024x2608 .f32)
    (b : Fin 8) (s : Fin 2048) (n : Fin 2688) (h : 2608 ≤ n.val) : ref x sh sc ng w (ix3 b s n) = 0 := by
  unfold ref
  generalize normRef x sh sc ng = y
  pointwise
  refine (dif_neg (by omega)).trans ?_
  show (((0#32 : BitVec 32).toInt : ℝ) : EReal) = 0
  simp

/-- The kernel's block at a point. -/
theorem pay_apply (v0 : Vec Ideal S1x512x1024 .f32) (v2 : Vec Ideal S1x1024 .f32) (v16 v22 : Vec Ideal S1x1x1024 .f32)
    (v27 : Vec Ideal S1024x2688 .bf16) (r : Fin 512) (n : Fin 2688) :
    k0_pay1 (F := Ideal) v0 v2 v16 v22 v27 (ix3 0 r n)
      = ∑ k : Fin 1024, normed (fun e => v0 (ix3 0 r e)) (fun e => v22 (ix3 0 0 e)) (fun e => v16 (ix3 0 0 e)) (fun e => v2 (ix2 0 e)) k * v27 (ix2 k n) := by
  unfold normed
  pointwise [k0_pay1]

variable (m : (ℓ : Loc nD τ sig) → Buf (Elt Ideal) ℓ) (c : Dev nD)

/-- The layer's input. -/
abbrev argX : Vec Ideal S8x2048x1024 .f32 := m ((c : Thread nD τ).loc main_arg0)
/-- The shift. -/
abbrev argS : Vec Ideal S8x1024 .f32 := m ((c : Thread nD τ).loc main_arg1)
/-- The scale. -/
abbrev argC : Vec Ideal S8x1024 .f32 := m ((c : Thread nD τ).loc main_arg2)
/-- The gains. -/
abbrev argN : Vec Ideal S1024 .f32 := m ((c : Thread nD τ).loc main_arg3)
/-- The weight. -/
abbrev argW : Vec Ideal S1024x2608 .f32 := m ((c : Thread nD τ).loc main_arg4)

theorem index0 : ∀ t : Fin grid0.N, win0_0.index t 0 = t.val / 4 ∧ win0_0.index t 1 = t.val % 4 ∧ win0_0.index t 2 = 0 := by decide +kernel
theorem index1 : ∀ t : Fin grid0.N, win0_1.index t 0 = t.val / 4 ∧ win0_1.index t 1 = 0 ∧ win0_1.index t 2 = 0 := by decide +kernel
theorem index2 : ∀ t : Fin grid0.N, win0_2.index t 0 = t.val / 4 ∧ win0_2.index t 1 = 0 ∧ win0_2.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val / 4 ∧ win0_5.index t 1 = t.val % 4 ∧ win0_5.index t 2 = 0 := by decide +kernel

/-- A point's batch. -/
def bat (t : Fin cfg0.N) : Fin 8 := ⟨t.val / 4, by have := t.isLt; have h : cfg0.N = 32 := N_0; omega⟩
/-- A tile's row in the array. -/
def row (t : Fin cfg0.N) (r : Fin 512) : Fin 2048 := ⟨512 * (t.val % 4) + r.val, by omega⟩

/-- The input's tile. -/
theorem block0 (t : Fin cfg0.N) (r : Fin 512) (n : Fin 1024) :
    (iblk m c 0 t : Vec Ideal S1x512x1024 .f32) (ix3 0 r n) = argX m c (ix3 (bat t) (row t r) n) := by
  unfold iblk
  rw [View.read_apply]
  show V m c main_arg0 _ = m (c.tc.loc main_arg0) _
  rw [V_main_arg0]
  refine congrArg _ (funext fun a => Fin.ext ?_)
  obtain ⟨h0, h1, h2⟩ := index0 t
  match a with
  | ⟨0, _⟩ => show win0_0.index t 0 * 1 + 1 * 0 = t.val / 4; omega
  | ⟨1, _⟩ => show win0_0.index t 1 * 512 + 1 * r.val = 512 * (t.val % 4) + r.val; omega
  | ⟨2, _⟩ => show win0_0.index t 2 * 1024 + 1 * n.val = n.val; omega

/-- The batch's shift. -/
theorem block1 (t : Fin cfg0.N) (n : Fin 1024) : (iblk m c 1 t : Vec Ideal S1x1x1024 .f32) (ix3 0 0 n) = argS m c (ix2 (bat t) n) := by
  have hV : (V m c main_v4 : Vec Ideal S8x1x1024 .f32) (ix3 (bat t) 0 n) = argS m c (ix2 (bat t) n) := by
    unfold_abbrev_sides
    after_results
    pointwise
  rw [← hV]
  unfold iblk
  rw [View.read_apply]
  show V m c main_v4 _ = V m c main_v4 _
  refine congrArg _ (funext fun a => Fin.ext ?_)
  obtain ⟨h0, h1, h2⟩ := index1 t
  match a with
  | ⟨0, _⟩ => show win0_1.index t 0 * 1 + 1 * 0 = t.val / 4; omega
  | ⟨1, _⟩ => show win0_1.index t 1 * 1 + 1 * 0 = 0; omega
  | ⟨2, _⟩ => show win0_1.index t 2 * 1024 + 1 * n.val = n.val; omega

/-- The batch's scale. -/
theorem block2 (t : Fin cfg0.N) (n : Fin 1024) : (iblk m c 2 t : Vec Ideal S1x1x1024 .f32) (ix3 0 0 n) = argC m c (ix2 (bat t) n) := by
  have hV : (V m c main_v5 : Vec Ideal S8x1x1024 .f32) (ix3 (bat t) 0 n) = argC m c (ix2 (bat t) n) := by
    unfold_abbrev_sides
    after_results
    pointwise
  rw [← hV]
  unfold iblk
  rw [View.read_apply]
  show V m c main_v5 _ = V m c main_v5 _
  refine congrArg _ (funext fun a => Fin.ext ?_)
  obtain ⟨h0, h1, h2⟩ := index2 t
  match a with
  | ⟨0, _⟩ => show win0_2.index t 0 * 1 + 1 * 0 = t.val / 4; omega
  | ⟨1, _⟩ => show win0_2.index t 1 * 1 + 1 * 0 = 0; omega
  | ⟨2, _⟩ => show win0_2.index t 2 * 1024 + 1 * n.val = n.val; omega

/-- The gains. -/
theorem block3 (t : Fin cfg0.N) (n : Fin 1024) : (iblk m c 3 t : Vec Ideal S1x1024 .f32) (ix2 0 n) = argN m c (ix1 n) := by
  have hV : (V m c main_v6 : Vec Ideal S1x1024 .f32) (ix2 0 n) = argN m c (ix1 n) := by
    unfold_abbrev_sides
    after_results
    pointwise
  rw [← hV]
  unfold iblk
  rw [View.read_apply]
  show V m c main_v6 _ = V m c main_v6 _
  refine congrArg _ (funext fun a => Fin.ext ?_)
  obtain ⟨h0, h1⟩ := index3 t
  match a with
  | ⟨0, _⟩ => show win0_3.index t 0 * 1 + 1 * 0 = 0; omega
  | ⟨1, _⟩ => show win0_3.index t 1 * 1024 + 1 * n.val = n.val; omega

/-- The weight's window reads the whole of its array. -/
theorem read4 (A : Vec Ideal S1024x2688 .bf16) (t : Fin cfg0.N) (k : Fin 1024) (n : Fin 2688) :
    (((cfg0.win 4).blk t).view.read (Elt Ideal) A : Vec Ideal S1024x2688 .bf16) (ix2 k n) = A (ix2 k n) := by
  rw [View.read_apply]
  show A _ = A _
  refine congrArg A (funext fun a => Fin.ext ?_)
  obtain ⟨h0, h1⟩ := index4 t
  match a with
  | ⟨0, _⟩ => show win0_4.index t 0 * 1024 + 1 * k.val = k.val; omega
  | ⟨1, _⟩ => show win0_4.index t 1 * 2688 + 1 * n.val = n.val; omega

/-- The weight's block is the padded weight. -/
theorem block4 (t : Fin cfg0.N) (k : Fin 1024) (n : Fin 2688) :
    (iblk m c 4 t : Vec Ideal S1024x2688 .bf16) (ix2 k n) = (V m c main_v3 : Vec Ideal S1024x2688 .bf16) (ix2 k n) :=
  read4 (V m c main_v3) t k n

/-- The one index word of the weight's placement is zero. -/
theorem start (i : S1.Idx) : broadcastInDim S1 ![] bcast_S_S1 (constantI S_ 32 0#32) i = 0#32 := by
  obtain ⟨a, rfl⟩ : ∃ a : Fin 1, i = ix1 a := ⟨i 0, funext fun b => by match b with | ⟨0, _⟩ => rfl⟩
  fin_cases a
  rfl

/-- The padded weight at a column of the weight. -/
theorem weight_left (k : Fin 1024) (n : Fin 2688) (h : n.val < 2608) :
    (V m c main_v3 : Vec Ideal S1024x2688 .bf16) (ix2 k n) = argW m c (ix2 k ⟨n.val, h⟩) := by
  unfold_abbrev_sides
  after_results
  exact Base.corner_hit (R := 1024) (C := 2688) (R' := 1024) (C' := 2608) _ _ _ _ start (fun _ => rfl) (fun _ => rfl) k n k.isLt h

/-- The padded weight right of the weight's columns. -/
theorem weight_right (k : Fin 1024) (n : Fin 2688) (h : 2608 ≤ n.val) :
    (V m c main_v3 : Vec Ideal S1024x2688 .bf16) (ix2 k n) = (0 : EReal) := by
  unfold_abbrev_sides
  after_results
  refine (Base.corner_miss (R := 1024) (C := 2688) (R' := 1024) (C' := 2608) _ _ _ _ start (fun _ => rfl) k n h).trans ?_
  pointwise
  rfl

/-- The array the kernel writes is the reference's result. -/
theorem array_eq : (dats m 0 c).arrAt 5 cfg0.N = ref (argX m c) (argS m c) (argC m c) (argN m c) (argW m c) := by
  refine (dats m 0 c).arrAt_eq_of_covers 5 _ (by decide +kernel) fun t hf y => ?_
  blk_simp
  rw [after0_5]
  frame_out
  obtain ⟨r, n, rfl⟩ : ∃ (r : Fin 512) (n : Fin 2688), y = ix3 (0 : Fin 1) r n :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  have e : ∑ k : Fin 1024, normRef (argX m c) (argS m c) (argC m c) (argN m c) (ix3 (bat t) (row t r) k)
      * (V m c main_v3 : Vec Ideal S1024x2688 .bf16) (ix2 k n) = ref (argX m c) (argS m c) (argC m c) (argN m c) (argW m c) (ix3 (bat t) (row t r) n) := by
    rcases Nat.lt_or_ge n.val 2608 with h | h
    · rw [ref_left _ _ _ _ _ _ _ _ h]
      exact Finset.sum_congr rfl fun k _ => by rw [weight_left m c k n h]
    · rw [ref_right _ _ _ _ _ _ _ _ h]
      exact Finset.sum_eq_zero fun k _ => by rw [weight_right m c k n h]; exact mul_zero _
  refine (pay_apply _ _ _ _ _ r n).trans ?_
  simp only [block0, block1, block2, block3, block4]
  simp only [normRef_apply] at e
  refine e.trans (congrArg (ref (argX m c) (argS m c) (argC m c) (argN m c) (argW m c)) ?_)
  obtain ⟨h0, h1, h2⟩ := index5 t
  funext a
  match a with
  | ⟨0, _⟩ => exact Fin.ext (by show t.val / 4 = win0_5.index t 0 * 1 + 1 * 0; omega)
  | ⟨1, _⟩ => exact Fin.ext (by show 512 * (t.val % 4) + r.val = win0_5.index t 1 * 512 + 1 * r.val; omega)
  | ⟨2, _⟩ => exact Fin.ext (by show n.val = win0_5.index t 2 * 2688 + 1 * n.val; omega)

/-- The two programs end with equal results. -/
theorem algebraic : Cert.algebraic_InOddIdeal_InOddRefIdeal := by
  intro m g m' g' _ hagree
  refine ⟨fun c => ref (argX m c) (argS m c) (argC m c) (argN m c) (argW m c), ?_, ?_⟩
  · refine (θ_run Cert.InOddIdeal.defs _ _).mono (fun r hr c => ?_) (run_blocks (F := Ideal) m g)
    obtain ⟨h0, h1⟩ := hr c
    exact ⟨h0.trans (array_eq m c), h1⟩
  · refine (θ_run Cert.InOddRefIdeal.defs _ _).mono (fun r hr c => ?_) (Cert.InOddRefIdeal.Value.run (F := Ideal) m' g')
    obtain ⟨e0, e1, e2, e3, e4⟩ := hagree c
    obtain ⟨h0, h1⟩ := hr c
    refine ⟨h0.trans ?_, h1⟩
    rw [e0, e1, e2, e3, e4]
    rfl

end Cert.Dense.InOdd

end
-- ==== Proof.Base.Halves.lean ====
/-
  A sum over 1024 terms, in two halves.
-/
module

public import Mathlib.Algebra.BigOperators.Fin

@[expose] public section

namespace Cert.Base

/-- A sum over 1024 terms is the sum of the first 512 and the sum of the last 512. -/
theorem sum_halves {M : Type*} [AddCommMonoid M] (f : Fin 1024 → M) :
    ∑ k : Fin 1024, f k = ∑ k : Fin 512, f ⟨k.val, by omega⟩ + ∑ k : Fin 512, f ⟨512 + k.val, by omega⟩ :=
  Fin.sum_univ_add (a := 512) (b := 512) f

end Cert.Base
-- ==== Proof.Dense.OutOdd.lean ====
/-
  The odd layers' output projection: the kernel's array is the reference's result. The kernel adds two products of half
  the contraction each; the reference contracts at once.
-/
module

public import proofs.«01_k».proof.Defs
public import proofs.«01_k».proof.Proof.Base.Halves
public import proofs.«01_k».proof.Proof.Gen.OutOddIdeal.Value
public import proofs.«01_k».proof.Proof.Gen.OutOddRefIdeal.Run
public import Idealize.ShloMosaic.Lib.Pointwise
public import Idealize.ShloMosaic.Lib.Pipeline.ValueKit
public import Idealize.ShloMosaic.Lib.Tactic

@[expose] public section

set_option maxRecDepth 16384

noncomputable section

namespace Cert.Dense.OutOdd

open Idealize.ShloMosaic Idealize.ShloMosaic.TcCoe Idealize.SL.Sem Cert.OutOddIdeal Cert.OutOddIdeal.Gen Cert.OutOddIdeal.Value

/-- The reference's result over its arguments. -/
def ref (x : Vec Ideal S8x2048x1024 .f32) (o : Vec Ideal S8x2048x1024 .f32) (w : Vec Ideal S1024x1024 .f32) (g : Vec Ideal S8x1024 .f32) :
    Vec Ideal S8x2048x1024 .f32 :=
  addf (F := Ideal) (φ := .f32) x (mulf (broadcastInDim S8x2048x1024 ![0, 1, 2] Cert.OutOddRefIdeal.Gen.bcast_S8x1x1024_S8x2048x1024_0_1_2 (broadcastInDim S8x1x1024 ![0, 2] Cert.OutOddRefIdeal.Gen.bcast_S8x1024_S8x1x1024_0_2 g))
    (Host.dotGeneral (F := Ideal) (φ₁ := .f32) (φ₂ := .f32) Cert.OutOddRefIdeal.dot_S8x2048x1024_S1024x1024_S8x2048x1024_2_0_01_1_n_n none o w))

/-- The reference at a point. -/
theorem ref_apply (x : Vec Ideal S8x2048x1024 .f32) (o : Vec Ideal S8x2048x1024 .f32) (w : Vec Ideal S1024x1024 .f32) (g : Vec Ideal S8x1024 .f32)
    (b : Fin 8) (s : Fin 2048) (n : Fin 1024) :
    ref x o w g (ix3 b s n) = x (ix3 b s n) + g (ix2 b n) * ∑ k : Fin 1024, o (ix3 b s k) * w (ix2 k n) := by
  pointwise [ref]

/-- The kernel's block at a point. -/
theorem pay_apply (v0 : Vec Ideal S1x512x512 .f32) (v3 : Vec Ideal S512x1024 .bf16) (v6 : Vec Ideal S1x512x512 .f32) (v9 : Vec Ideal S512x1024 .bf16)
    (v13 : Vec Ideal S1x512x1024 .f32) (v15 : Vec Ideal S1x1x1024 .f32) (r : Fin 512) (n : Fin 1024) :
    k0_pay1 (F := Ideal) v0 v3 v6 v9 v13 v15 (ix3 0 r n)
      = v13 (ix3 0 r n) + v15 (ix3 0 0 n) * (∑ k : Fin 512, v0 (ix3 0 r k) * v3 (ix2 k n) + ∑ k : Fin 512, v6 (ix3 0 r k) * v9 (ix2 k n)) := by
  pointwise [k0_pay1]

variable (m : (ℓ : Loc nD τ sig) → Buf (Elt Ideal) ℓ) (c : Dev nD)

/-- The residual. -/
abbrev argX : Vec Ideal S8x2048x1024 .f32 := m ((c : Thread nD τ).loc main_arg0)
/-- The layer's output before the projection. -/
abbrev argO : Vec Ideal S8x2048x1024 .f32 := m ((c : Thread nD τ).loc main_arg1)
/-- The projection's weight. -/
abbrev argW : Vec Ideal S1024x1024 .f32 := m ((c : Thread nD τ).loc main_arg2)
/-- The gate. -/
abbrev argG : Vec Ideal S8x1024 .f32 := m ((c : Thread nD τ).loc main_arg3)

theorem index0 : ∀ t : Fin grid0.N, win0_0.index t 0 = t.val / 4 ∧ win0_0.index t 1 = t.val % 4 ∧ win0_0.index t 2 = 0 := by decide +kernel
theorem index1 : ∀ t : Fin grid0.N, win0_1.index t 0 = t.val / 4 ∧ win0_1.index t 1 = t.val % 4 ∧ win0_1.index t 2 = 0 := by decide +kernel
theorem index2 : ∀ t : Fin grid0.N, win0_2.index t 0 = t.val / 4 ∧ win0_2.index t 1 = t.val % 4 ∧ win0_2.index t 2 = 1 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val / 4 ∧ win0_5.index t 1 = 0 ∧ win0_5.index t 2 = 0 := by decide +kernel
theorem index6 : ∀ t : Fin grid0.N, win0_6.index t 0 = t.val / 4 ∧ win0_6.index t 1 = t.val % 4 ∧ win0_6.index t 2 = 0 := by decide +kernel

/-- A point's batch. -/
def bat (t : Fin cfg0.N) : Fin 8 := ⟨t.val / 4, by have := t.isLt; have h : cfg0.N = 32 := N_0; omega⟩
/-- A tile's row in the array. -/
def row (t : Fin cfg0.N) (r : Fin 512) : Fin 2048 := ⟨512 * (t.val % 4) + r.val, by omega⟩

theorem block0 (t : Fin cfg0.N) (r : Fin 512) (n : Fin 1024) :
    (iblk m c 0 t : Vec Ideal S1x512x1024 .f32) (ix3 0 r n) = argX m c (ix3 (bat t) (row t r) n) := by
  unfold iblk
  rw [View.read_apply]
  show V m c main_arg0 _ = m (c.tc.loc main_arg0) _
  rw [V_main_arg0]
  refine congrArg _ (funext fun a => Fin.ext ?_)
  obtain ⟨h0, h1, h2⟩ := index0 t
  match a with
  | ⟨0, _⟩ => show win0_0.index t 0 * 1 + 1 * 0 = t.val / 4; omega
  | ⟨1, _⟩ => show win0_0.index t 1 * 512 + 1 * r.val = 512 * (t.val % 4) + r.val; omega
  | ⟨2, _⟩ => show win0_0.index t 2 * 1024 + 1 * n.val = n.val; omega

theorem block1 (t : Fin cfg0.N) (r : Fin 512) (k : Fin 512) :
    (iblk m c 1 t : Vec Ideal S1x512x512 .f32) (ix3 0 r k) = argO m c (ix3 (bat t) (row t r) ⟨k.val, by omega⟩) := by
  unfold iblk
  rw [View.read_apply]
  show V m c main_arg1 _ = m (c.tc.loc main_arg1) _
  rw [V_main_arg1]
  refine congrArg _ (funext fun a => Fin.ext ?_)
  obtain ⟨h0, h1, h2⟩ := index1 t
  match a with
  | ⟨0, _⟩ => show win0_1.index t 0 * 1 + 1 * 0 = t.val / 4; omega
  | ⟨1, _⟩ => show win0_1.index t 1 * 512 + 1 * r.val = 512 * (t.val % 4) + r.val; omega
  | ⟨2, _⟩ => show win0_1.index t 2 * 512 + 1 * k.val = k.val; omega

theorem block2 (t : Fin cfg0.N) (r : Fin 512) (k : Fin 512) :
    (iblk m c 2 t : Vec Ideal S1x512x512 .f32) (ix3 0 r k) = argO m c (ix3 (bat t) (row t r) ⟨512 + k.val, by omega⟩) := by
  unfold iblk
  rw [View.read_apply]
  show V m c main_arg1 _ = m (c.tc.loc main_arg1) _
  rw [V_main_arg1]
  refine congrArg _ (funext fun a => Fin.ext ?_)
  obtain ⟨h0, h1, h2⟩ := index2 t
  match a with
  | ⟨0, _⟩ => show win0_2.index t 0 * 1 + 1 * 0 = t.val / 4; omega
  | ⟨1, _⟩ => show win0_2.index t 1 * 512 + 1 * r.val = 512 * (t.val % 4) + r.val; omega
  | ⟨2, _⟩ => show win0_2.index t 2 * 512 + 1 * k.val = 512 + k.val; omega

/-- The weight's first half of rows. -/
theorem block3 (t : Fin cfg0.N) (k : Fin 512) (n : Fin 1024) :
    (iblk m c 3 t : Vec Ideal S512x1024 .bf16) (ix2 k n) = argW m c (ix2 ⟨k.val, by omega⟩ n) := by
  have hV : (V m c main_v2 : Vec Ideal S512x1024 .bf16) (ix2 k n) = argW m c (ix2 ⟨k.val, by omega⟩ n) := by
    unfold_abbrev_sides
    after_results
    pointwise
  rw [← hV]
  unfold iblk
  rw [View.read_apply]
  show V m c main_v2 _ = V m c main_v2 _
  refine congrArg _ (funext fun a => Fin.ext ?_)
  obtain ⟨h0, h1⟩ := index3 t
  match a with
  | ⟨0, _⟩ => show win0_3.index t 0 * 512 + 1 * k.val = k.val; omega
  | ⟨1, _⟩ => show win0_3.index t 1 * 1024 + 1 * n.val = n.val; omega

/-- The weight's second half of rows. -/
theorem block4 (t : Fin cfg0.N) (k : Fin 512) (n : Fin 1024) :
    (iblk m c 4 t : Vec Ideal S512x1024 .bf16) (ix2 k n) = argW m c (ix2 ⟨512 + k.val, by omega⟩ n) := by
  have hV : (V m c main_v3 : Vec Ideal S512x1024 .bf16) (ix2 k n) = argW m c (ix2 ⟨512 + k.val, by omega⟩ n) := by
    unfold_abbrev_sides
    after_results
    pointwise
  rw [← hV]
  unfold iblk
  rw [View.read_apply]
  show V m c main_v3 _ = V m c main_v3 _
  refine congrArg _ (funext fun a => Fin.ext ?_)
  obtain ⟨h0, h1⟩ := index4 t
  match a with
  | ⟨0, _⟩ => show win0_4.index t 0 * 512 + 1 * k.val = k.val; omega
  | ⟨1, _⟩ => show win0_4.index t 1 * 1024 + 1 * n.val = n.val; omega

/-- The batch's gate. -/
theorem block5 (t : Fin cfg0.N) (n : Fin 1024) : (iblk m c 5 t : Vec Ideal S1x1x1024 .f32) (ix3 0 0 n) = argG m c (ix2 (bat t) n) := by
  have hV : (V m c main_v1 : Vec Ideal S8x1x1024 .f32) (ix3 (bat t) 0 n) = argG m c (ix2 (bat t) n) := by
    unfold_abbrev_sides
    after_results
    pointwise
  rw [← hV]
  unfold iblk
  rw [View.read_apply]
  show V m c main_v1 _ = V m c main_v1 _
  refine congrArg _ (funext fun a => Fin.ext ?_)
  obtain ⟨h0, h1, h2⟩ := index5 t
  match a with
  | ⟨0, _⟩ => show win0_5.index t 0 * 1 + 1 * 0 = t.val / 4; omega
  | ⟨1, _⟩ => show win0_5.index t 1 * 1 + 1 * 0 = 0; omega
  | ⟨2, _⟩ => show win0_5.index t 2 * 1024 + 1 * n.val = n.val; omega

/-- The array the kernel writes is the reference's result. -/
theorem array_eq : (dats m 0 c).arrAt 6 cfg0.N = ref (argX m c) (argO m c) (argW m c) (argG m c) := by
  refine (dats m 0 c).arrAt_eq_of_covers 6 _ (by decide +kernel) fun t hf y => ?_
  blk_simp
  rw [after0_6]
  frame_out
  obtain ⟨r, n, rfl⟩ : ∃ (r : Fin 512) (n : Fin 1024), y = ix3 (0 : Fin 1) r n :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  have e := ref_apply (argX m c) (argO m c) (argW m c) (argG m c) (bat t) (row t r) n
  rw [Base.sum_halves] at e
  refine (pay_apply _ _ _ _ _ _ r n).trans ?_
  simp only [block0, block1, block2, block3, block4, block5]
  refine e.symm.trans (congrArg (ref (argX m c) (argO m c) (argW m c) (argG m c)) ?_)
  obtain ⟨h0, h1, h2⟩ := index6 t
  funext a
  match a with
  | ⟨0, _⟩ => exact Fin.ext (by show t.val / 4 = win0_6.index t 0 * 1 + 1 * 0; omega)
  | ⟨1, _⟩ => exact Fin.ext (by show 512 * (t.val % 4) + r.val = win0_6.index t 1 * 512 + 1 * r.val; omega)
  | ⟨2, _⟩ => exact Fin.ext (by show n.val = win0_6.index t 2 * 1024 + 1 * n.val; omega)

/-- The two programs end with equal results. -/
theorem algebraic : Cert.algebraic_OutOddIdeal_OutOddRefIdeal := by
  intro m g m' g' _ hagree
  refine ⟨fun c => ref (argX m c) (argO m c) (argW m c) (argG m c), ?_, ?_⟩
  · refine (θ_run Cert.OutOddIdeal.defs _ _).mono (fun r hr c => ?_) (run_blocks (F := Ideal) m g)
    obtain ⟨h0, h1⟩ := hr c
    exact ⟨h0.trans (array_eq m c), h1⟩
  · refine (θ_run Cert.OutOddRefIdeal.defs _ _).mono (fun r hr c => ?_) (Cert.OutOddRefIdeal.Value.run (F := Ideal) m' g')
    obtain ⟨e0, e1, e2, e3⟩ := hagree c
    obtain ⟨h0, h1⟩ := hr c
    refine ⟨h0.trans ?_, h1⟩
    rw [e0, e1, e2, e3]
    rfl

end Cert.Dense.OutOdd

end
-- ==== Proof.Dense.OutEven.lean ====
/-
  The even layers' output projection: the kernel's array is the reference's result. The kernel projects the convolution's
  and the attention's outputs apart and adds; the reference projects the joined operand.
-/
module

public import proofs.«01_k».proof.Defs
public import proofs.«01_k».proof.Proof.Dense.OutOdd
public import proofs.«01_k».proof.Proof.Gen.OutEvenIdeal.Value
public import proofs.«01_k».proof.Proof.Gen.OutEvenRefIdeal.Run
public import Idealize.ShloMosaic.Lib.Pointwise
public import Idealize.ShloMosaic.Lib.Pipeline.ValueKit
public import Idealize.ShloMosaic.Lib.Tactic

@[expose] public section

set_option maxRecDepth 16384

noncomputable section

namespace Cert.Dense.OutEven

open Idealize.ShloMosaic Idealize.ShloMosaic.TcCoe Idealize.SL.Sem Cert.OutEvenIdeal Cert.OutEvenIdeal.Gen Cert.OutEvenIdeal.Value

/-- The reference's result over its arguments. -/
def ref (x : Vec Ideal S8x2048x1024 .f32) (p q : Vec Ideal S8x2048x512 .f32) (w : Vec Ideal S1024x1024 .f32) (g : Vec Ideal S8x1024 .f32) :
    Vec Ideal S8x2048x1024 .f32 :=
  addf (F := Ideal) (φ := .f32) x (mulf (broadcastInDim S8x2048x1024 ![0, 1, 2] Cert.OutEvenRefIdeal.Gen.bcast_S8x1x1024_S8x2048x1024_0_1_2 (broadcastInDim S8x1x1024 ![0, 2] Cert.OutEvenRefIdeal.Gen.bcast_S8x1024_S8x1x1024_0_2 g))
    (Host.dotGeneral (F := Ideal) (φ₁ := .f32) (φ₂ := .f32) Cert.OutEvenRefIdeal.dot_S8x2048x1024_S1024x1024_S8x2048x1024_2_0_01_1_n_n none
      (concatenate S8x2048x1024 2 [⟨S8x2048x512, p⟩, ⟨S8x2048x512, q⟩] Cert.OutEvenRefIdeal.Gen.concatenates_S8x2048x512_S8x2048x512_S8x2048x1024_d2) w))

/-- The reference at a point: the contraction over the joined operand is one over each of the two. -/
theorem ref_apply (x : Vec Ideal S8x2048x1024 .f32) (p q : Vec Ideal S8x2048x512 .f32) (w : Vec Ideal S1024x1024 .f32) (g : Vec Ideal S8x1024 .f32)
    (b : Fin 8) (s : Fin 2048) (n : Fin 1024) :
    ref x p q w g (ix3 b s n) = x (ix3 b s n) + g (ix2 b n) * (∑ k : Fin 512, p (ix3 b s k) * w (ix2 ⟨k.val, by omega⟩ n)
      + ∑ k : Fin 512, q (ix3 b s k) * w (ix2 ⟨512 + k.val, by omega⟩ n)) := by
  refine (OutOdd.ref_apply x (concatenate S8x2048x1024 2 [⟨S8x2048x512, p⟩, ⟨S8x2048x512, q⟩]
    Cert.OutEvenRefIdeal.Gen.concatenates_S8x2048x512_S8x2048x512_S8x2048x1024_d2) w g b s n).trans ?_
  rw [Base.sum_halves]
  have hp : ∀ k : Fin 512, concatenate S8x2048x1024 2 [⟨S8x2048x512, p⟩, ⟨S8x2048x512, q⟩]
      Cert.OutEvenRefIdeal.Gen.concatenates_S8x2048x512_S8x2048x512_S8x2048x1024_d2 (ix3 b s (⟨k.val, by omega⟩ : Fin 1024)) = p (ix3 b s k) := by
    intro k
    pointwise
  have hq : ∀ k : Fin 512, concatenate S8x2048x1024 2 [⟨S8x2048x512, p⟩, ⟨S8x2048x512, q⟩]
      Cert.OutEvenRefIdeal.Gen.concatenates_S8x2048x512_S8x2048x512_S8x2048x1024_d2 (ix3 b s (⟨512 + k.val, by omega⟩ : Fin 1024)) = q (ix3 b s k) := by
    intro k
    pointwise
  simp only [hp, hq]

variable (m : (ℓ : Loc nD τ sig) → Buf (Elt Ideal) ℓ) (c : Dev nD)

/-- The residual. -/
abbrev argX : Vec Ideal S8x2048x1024 .f32 := m ((c : Thread nD τ).loc main_arg0)
/-- The convolution's output. -/
abbrev argP : Vec Ideal S8x2048x512 .f32 := m ((c : Thread nD τ).loc main_arg1)
/-- The attention's output. -/
abbrev argQ : Vec Ideal S8x2048x512 .f32 := m ((c : Thread nD τ).loc main_arg2)
/-- The projection's weight. -/
abbrev argW : Vec Ideal S1024x1024 .f32 := m ((c : Thread nD τ).loc main_arg3)
/-- The gate. -/
abbrev argG : Vec Ideal S8x1024 .f32 := m ((c : Thread nD τ).loc main_arg4)

theorem index0 : ∀ t : Fin grid0.N, win0_0.index t 0 = t.val / 4 ∧ win0_0.index t 1 = t.val % 4 ∧ win0_0.index t 2 = 0 := by decide +kernel
theorem index1 : ∀ t : Fin grid0.N, win0_1.index t 0 = t.val / 4 ∧ win0_1.index t 1 = t.val % 4 ∧ win0_1.index t 2 = 0 := by decide +kernel
theorem index2 : ∀ t : Fin grid0.N, win0_2.index t 0 = t.val / 4 ∧ win0_2.index t 1 = t.val % 4 ∧ win0_2.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val / 4 ∧ win0_5.index t 1 = 0 ∧ win0_5.index t 2 = 0 := by decide +kernel
theorem index6 : ∀ t : Fin grid0.N, win0_6.index t 0 = t.val / 4 ∧ win0_6.index t 1 = t.val % 4 ∧ win0_6.index t 2 = 0 := by decide +kernel

/-- A point's batch. -/
def bat (t : Fin cfg0.N) : Fin 8 := ⟨t.val / 4, by have := t.isLt; have h : cfg0.N = 32 := N_0; omega⟩
/-- A tile's row in the array. -/
def row (t : Fin cfg0.N) (r : Fin 512) : Fin 2048 := ⟨512 * (t.val % 4) + r.val, by omega⟩

theorem block0 (t : Fin cfg0.N) (r : Fin 512) (n : Fin 1024) :
    (iblk m c 0 t : Vec Ideal S1x512x1024 .f32) (ix3 0 r n) = argX m c (ix3 (bat t) (row t r) n) := by
  unfold iblk
  rw [View.read_apply]
  show V m c main_arg0 _ = m (c.tc.loc main_arg0) _
  rw [V_main_arg0]
  refine congrArg _ (funext fun a => Fin.ext ?_)
  obtain ⟨h0, h1, h2⟩ := index0 t
  match a with
  | ⟨0, _⟩ => show win0_0.index t 0 * 1 + 1 * 0 = t.val / 4; omega
  | ⟨1, _⟩ => show win0_0.index t 1 * 512 + 1 * r.val = 512 * (t.val % 4) + r.val; omega
  | ⟨2, _⟩ => show win0_0.index t 2 * 1024 + 1 * n.val = n.val; omega

theorem block1 (t : Fin cfg0.N) (r : Fin 512) (k : Fin 512) :
    (iblk m c 1 t : Vec Ideal S1x512x512 .f32) (ix3 0 r k) = argP m c (ix3 (bat t) (row t r) k) := by
  unfold iblk
  rw [View.read_apply]
  show V m c main_arg1 _ = m (c.tc.loc main_arg1) _
  rw [V_main_arg1]
  refine congrArg _ (funext fun a => Fin.ext ?_)
  obtain ⟨h0, h1, h2⟩ := index1 t
  match a with
  | ⟨0, _⟩ => show win0_1.index t 0 * 1 + 1 * 0 = t.val / 4; omega
  | ⟨1, _⟩ => show win0_1.index t 1 * 512 + 1 * r.val = 512 * (t.val % 4) + r.val; omega
  | ⟨2, _⟩ => show win0_1.index t 2 * 512 + 1 * k.val = k.val; omega

theorem block2 (t : Fin cfg0.N) (r : Fin 512) (k : Fin 512) :
    (iblk m c 2 t : Vec Ideal S1x512x512 .f32) (ix3 0 r k) = argQ m c (ix3 (bat t) (row t r) k) := by
  unfold iblk
  rw [View.read_apply]
  show V m c main_arg2 _ = m (c.tc.loc main_arg2) _
  rw [V_main_arg2]
  refine congrArg _ (funext fun a => Fin.ext ?_)
  obtain ⟨h0, h1, h2⟩ := index2 t
  match a with
  | ⟨0, _⟩ => show win0_2.index t 0 * 1 + 1 * 0 = t.val / 4; omega
  | ⟨1, _⟩ => show win0_2.index t 1 * 512 + 1 * r.val = 512 * (t.val % 4) + r.val; omega
  | ⟨2, _⟩ => show win0_2.index t 2 * 512 + 1 * k.val = k.val; omega

/-- The weight's first half of rows. -/
theorem block3 (t : Fin cfg0.N) (k : Fin 512) (n : Fin 1024) :
    (iblk m c 3 t : Vec Ideal S512x1024 .bf16) (ix2 k n) = argW m c (ix2 ⟨k.val, by omega⟩ n) := by
  have hV : (V m c main_v2 : Vec Ideal S512x1024 .bf16) (ix2 k n) = argW m c (ix2 ⟨k.val, by omega⟩ n) := by
    unfold_abbrev_sides
    after_results
    pointwise
  rw [← hV]
  unfold iblk
  rw [View.read_apply]
  show V m c main_v2 _ = V m c main_v2 _
  refine congrArg _ (funext fun a => Fin.ext ?_)
  obtain ⟨h0, h1⟩ := index3 t
  match a with
  | ⟨0, _⟩ => show win0_3.index t 0 * 512 + 1 * k.val = k.val; omega
  | ⟨1, _⟩ => show win0_3.index t 1 * 1024 + 1 * n.val = n.val; omega

/-- The weight's second half of rows. -/
theorem block4 (t : Fin cfg0.N) (k : Fin 512) (n : Fin 1024) :
    (iblk m c 4 t : Vec Ideal S512x1024 .bf16) (ix2 k n) = argW m c (ix2 ⟨512 + k.val, by omega⟩ n) := by
  have hV : (V m c main_v3 : Vec Ideal S512x1024 .bf16) (ix2 k n) = argW m c (ix2 ⟨512 + k.val, by omega⟩ n) := by
    unfold_abbrev_sides
    after_results
    pointwise
  rw [← hV]
  unfold iblk
  rw [View.read_apply]
  show V m c main_v3 _ = V m c main_v3 _
  refine congrArg _ (funext fun a => Fin.ext ?_)
  obtain ⟨h0, h1⟩ := index4 t
  match a with
  | ⟨0, _⟩ => show win0_4.index t 0 * 512 + 1 * k.val = k.val; omega
  | ⟨1, _⟩ => show win0_4.index t 1 * 1024 + 1 * n.val = n.val; omega

/-- The batch's gate. -/
theorem block5 (t : Fin cfg0.N) (n : Fin 1024) : (iblk m c 5 t : Vec Ideal S1x1x1024 .f32) (ix3 0 0 n) = argG m c (ix2 (bat t) n) := by
  have hV : (V m c main_v1 : Vec Ideal S8x1x1024 .f32) (ix3 (bat t) 0 n) = argG m c (ix2 (bat t) n) := by
    unfold_abbrev_sides
    after_results
    pointwise
  rw [← hV]
  unfold iblk
  rw [View.read_apply]
  show V m c main_v1 _ = V m c main_v1 _
  refine congrArg _ (funext fun a => Fin.ext ?_)
  obtain ⟨h0, h1, h2⟩ := index5 t
  match a with
  | ⟨0, _⟩ => show win0_5.index t 0 * 1 + 1 * 0 = t.val / 4; omega
  | ⟨1, _⟩ => show win0_5.index t 1 * 1 + 1 * 0 = 0; omega
  | ⟨2, _⟩ => show win0_5.index t 2 * 1024 + 1 * n.val = n.val; omega

/-- The array the kernel writes is the reference's result. -/
theorem array_eq : (dats m 0 c).arrAt 6 cfg0.N = ref (argX m c) (argP m c) (argQ m c) (argW m c) (argG m c) := by
  refine (dats m 0 c).arrAt_eq_of_covers 6 _ (by decide +kernel) fun t hf y => ?_
  blk_simp
  rw [after0_6]
  frame_out
  obtain ⟨r, n, rfl⟩ : ∃ (r : Fin 512) (n : Fin 1024), y = ix3 (0 : Fin 1) r n :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  have e := ref_apply (argX m c) (argP m c) (argQ m c) (argW m c) (argG m c) (bat t) (row t r) n
  refine (OutOdd.pay_apply _ _ _ _ _ _ r n).trans ?_
  simp only [block0, block1, block2, block3, block4, block5]
  refine e.symm.trans (congrArg (ref (argX m c) (argP m c) (argQ m c) (argW m c) (argG m c)) ?_)
  obtain ⟨h0, h1, h2⟩ := index6 t
  funext a
  match a with
  | ⟨0, _⟩ => exact Fin.ext (by show t.val / 4 = win0_6.index t 0 * 1 + 1 * 0; omega)
  | ⟨1, _⟩ => exact Fin.ext (by show 512 * (t.val % 4) + r.val = win0_6.index t 1 * 512 + 1 * r.val; omega)
  | ⟨2, _⟩ => exact Fin.ext (by show n.val = win0_6.index t 2 * 1024 + 1 * n.val; omega)

/-- The two programs end with equal results. -/
theorem algebraic : Cert.algebraic_OutEvenIdeal_OutEvenRefIdeal := by
  intro m g m' g' _ hagree
  refine ⟨fun c => ref (argX m c) (argP m c) (argQ m c) (argW m c) (argG m c), ?_, ?_⟩
  · refine (θ_run Cert.OutEvenIdeal.defs _ _).mono (fun r hr c => ?_) (run_blocks (F := Ideal) m g)
    obtain ⟨h0, h1⟩ := hr c
    exact ⟨h0.trans (array_eq m c), h1⟩
  · refine (θ_run Cert.OutEvenRefIdeal.defs _ _).mono (fun r hr c => ?_) (Cert.OutEvenRefIdeal.Value.run (F := Ideal) m' g')
    obtain ⟨e0, e1, e2, e3, e4⟩ := hagree c
    obtain ⟨h0, h1⟩ := hr c
    refine ⟨h0.trans ?_, h1⟩
    rw [e0, e1, e2, e3, e4]
    rfl

end Cert.Dense.OutEven

end
-- ==== Proof.Dense.Conv.lean ====
/-
  The short convolution: the kernel's array is the reference's result. The kernel turns the product of two of its inputs by
  one and by two rows and blanks the rows that came round; the reference pads the product with two rows of zeros in front.
-/
module

public import proofs.«01_k».proof.Defs
public import proofs.«01_k».proof.Proof.Base.Zero
public import proofs.«01_k».proof.Proof.Gen.ConvIdeal.Value
public import proofs.«01_k».proof.Proof.Gen.ConvRefIdeal.Run
public import Idealize.ShloMosaic.Lib.Pointwise
public import Idealize.ShloMosaic.Lib.Pipeline.ValueKit
public import Idealize.ShloMosaic.Lib.Tactic

@[expose] public section

set_option maxRecDepth 16384

noncomputable section

namespace Cert.Dense.Conv

open Idealize.ShloMosaic

/-- A column of the convolution at row `s`: three taps over the product of two inputs and its two earlier rows. -/
def taps (w0 w1 w2 : EReal) (u : Fin 2048 → EReal) (s : Fin 2048) : EReal :=
  w0 * (if 2 ≤ s.val then u ⟨s.val - 2, by omega⟩ else 0) + w1 * (if 1 ≤ s.val then u ⟨s.val - 1, by omega⟩ else 0) + w2 * u s

section Reference

open Cert.ConvRefIdeal Cert.ConvRefIdeal.Gen

/-- The reference's padded product. -/
def past (y : Vec Ideal S8x2048x3200 .f32) : FVec Ideal S8x2050x512 .f32 :=
  pad S8x2050x512 ![0, 2, 0] ![0, 0, 0] ![0, 0, 0] (mulf (F := Ideal) (φ := .f32) (extractStridedSlice S8x2048x512 ![0, 0, 512] y slices_S8x2048x3200_S8x2048x512_0_0_512) (extractStridedSlice S8x2048x512 ![0, 0, 1024] y slices_S8x2048x3200_S8x2048x512_0_0_1024))
    (sitofp (F := Ideal) .f32 (constantI S_ 32 0#32)) pads_S8x2048x512_S8x2050x512_000_200_000 h_S_

/-- The reference's result over its arguments. -/
def ref (y : Vec Ideal S8x2048x3200 .f32) (w : Vec Ideal S3x512 .f32) : FVec Ideal S8x2048x512 .f32 :=
  mulf (extractStridedSlice S8x2048x512 ![0, 0, 0] y slices_S8x2048x3200_S8x2048x512_0_0_0) (addf (addf (mulf (extractStridedSlice S8x2048x512 ![0, 0, 0] (past y) slices_S8x2050x512_S8x2048x512_0_0_0) (broadcastInDim S8x2048x512 ![0, 1, 2] bcast_S1x1x512_S8x2048x512_0_1_2 (broadcastInDim S1x1x512 ![2] bcast_S512_S1x1x512_2 (shapeCast _ (extractStridedSlice S1x512 ![0, 0] w slices_S3x512_S1x512_0_0) shapeCasts_S1x512_S512)))) (mulf (extractStridedSlice S8x2048x512 ![0, 1, 0] (past y) slices_S8x2050x512_S8x2048x512_0_1_0) (broadcastInDim S8x2048x512 ![0, 1, 2] bcast_S1x1x512_S8x2048x512_0_1_2 (broadcastInDim S1x1x512 ![2] bcast_S512_S1x1x512_2 (shapeCast _ (extractStridedSlice S1x512 ![1, 0] w slices_S3x512_S1x512_1_0) shapeCasts_S1x512_S512))))) (mulf (extractStridedSlice S8x2048x512 ![0, 2, 0] (past y) slices_S8x2050x512_S8x2048x512_0_2_0) (broadcastInDim S8x2048x512 ![0, 1, 2] bcast_S1x1x512_S8x2048x512_0_1_2 (broadcastInDim S1x1x512 ![2] bcast_S512_S1x1x512_2 (shapeCast _ (extractStridedSlice S1x512 ![2, 0] w slices_S3x512_S1x512_2_0) shapeCasts_S1x512_S512)))))

theorem past_apply (y : Vec Ideal S8x2048x3200 .f32) (b : Fin 8) (s : Fin 2050) (n : Fin 512) :
    past y (ix3 b s n) = if h : 2 ≤ s.val then y (ix3 b ⟨s.val - 2, by omega⟩ ⟨512 + n.val, by omega⟩) * y (ix3 b ⟨s.val - 2, by omega⟩ ⟨1024 + n.val, by omega⟩) else 0 := by
  pointwise [past]
  by_cases h : 2 ≤ s.val
  · rw [dif_pos ⟨h, by omega⟩, dif_pos h]
  · rw [dif_neg (fun q => h q.1), dif_neg h]
    show (((0#32 : BitVec 32).toInt : ℝ) : EReal) = 0
    simp

/-- The reference at a point. -/
theorem ref_apply (y : Vec Ideal S8x2048x3200 .f32) (w : Vec Ideal S3x512 .f32) (b : Fin 8) (s : Fin 2048) (n : Fin 512) :
    ref y w (ix3 b s n) = y (ix3 b s ⟨n.val, by omega⟩) * taps (w (ix2 0 n)) (w (ix2 1 n)) (w (ix2 2 n))
      (fun s => y (ix3 b s ⟨512 + n.val, by omega⟩) * y (ix3 b s ⟨1024 + n.val, by omega⟩)) s := by
  unfold ref
  have hp := past_apply y
  generalize past y = p at hp ⊢
  pointwise
  unfold taps
  have e0 : p (ix3 b (⟨s.val, by omega⟩ : Fin 2050) n) = if h : 2 ≤ s.val then y (ix3 b (⟨s.val - 2, by omega⟩ : Fin 2048) ⟨512 + n.val, by omega⟩) * y (ix3 b (⟨s.val - 2, by omega⟩ : Fin 2048) ⟨1024 + n.val, by omega⟩) else 0 :=
    hp b ⟨s.val, by omega⟩ n
  have e1 : p (ix3 b (⟨1 + s.val, by omega⟩ : Fin 2050) n) = if h : 1 ≤ s.val then y (ix3 b (⟨s.val - 1, by omega⟩ : Fin 2048) ⟨512 + n.val, by omega⟩) * y (ix3 b (⟨s.val - 1, by omega⟩ : Fin 2048) ⟨1024 + n.val, by omega⟩) else 0 := by
    rw [hp]
    by_cases h : 1 ≤ s.val
    · have q : (1 + s.val) - 2 = s.val - 1 := by omega
      rw [dif_pos (show 2 ≤ 1 + s.val by omega), dif_pos h]
      simp only [q]
    · rw [dif_neg (show ¬ 2 ≤ 1 + s.val by omega), dif_neg h]
  have e2 : p (ix3 b (⟨2 + s.val, by omega⟩ : Fin 2050) n) = y (ix3 b s ⟨512 + n.val, by omega⟩) * y (ix3 b s ⟨1024 + n.val, by omega⟩) := by
    rw [hp, dif_pos (show 2 ≤ 2 + s.val by omega)]
    have q : (2 + s.val) - 2 = s.val := by omega
    simp only [q]
  rw [e0, e1, e2]
  refine congrArg (_ * ·) (congrArg₂ (· + ·) (congrArg₂ (· + ·) ?_ ?_) ?_)
  · rw [mul_comm]; rfl
  · rw [mul_comm]; rfl
  · rw [mul_comm]

end Reference

open Idealize.ShloMosaic.TcCoe Idealize.SL.Sem Cert.ConvIdeal Cert.ConvIdeal.Gen Cert.ConvIdeal.Value

/-- A row turned by `d` with the rows that came round blanked is the row `d` earlier, or zero. -/
theorem turned (d : ℕ) (hd : d < 2048) (w : EReal) (u : Fin 2048 → EReal) (s : Fin 2048) :
    Scalar.select (IntOp.cmpi CmpIPredicate.sge (BitVec.ofNat 32 s.val) (BitVec.ofNat 32 d)) (w * u ⟨(s.val + 2048 - d) % 2048, by omega⟩) 0
      = w * (if d ≤ s.val then u ⟨s.val - d, by omega⟩ else 0) := by
  rw [WordCmp.cmpi_sge_ofNat (by omega) (by omega), WordCmp.select_decide]
  by_cases h : d ≤ s.val
  · have q : (s.val + 2048 - d) % 2048 = s.val - d := by omega
    rw [if_pos h, if_pos h]
    simp only [q]
  · rw [if_neg h, if_neg h, mul_zero]

/-- The kernel's block at a point. -/
theorem pay_apply (v0 v2 : Vec Ideal S1x2048x128 .f32) (v16 : Vec Ideal S8x128 .f32) (v18 : Vec Ideal S1x2048x128 .f32) (s : Fin 2048) (n : Fin 128) :
    k0_pay1 (F := Ideal) v0 v2 v16 v18 (ix3 0 s n)
      = v18 (ix3 0 s n) * taps (v16 (ix2 0 n)) (v16 (ix2 1 n)) (v16 (ix2 2 n)) (fun s => v0 (ix3 0 s n) * v2 (ix3 0 s n)) s := by
  unfold taps
  pointwise [k0_pay1]
  refine congrArg (_ * ·) (congrArg₂ (· + ·) (congrArg₂ (· + ·) ?_ ?_) rfl)
  · exact turned 2 (by omega) (v16 (ix2 0 n)) (fun s => v0 (ix3 0 s n) * v2 (ix3 0 s n)) s
  · exact turned 1 (by omega) (v16 (ix2 1 n)) (fun s => v0 (ix3 0 s n) * v2 (ix3 0 s n)) s

variable (m : (ℓ : Loc nD τ sig) → Buf (Elt Ideal) ℓ) (c : Dev nD)

/-- The projected input. -/
abbrev argY : Vec Ideal S8x2048x3200 .f32 := m ((c : Thread nD τ).loc main_arg0)
/-- The taps. -/
abbrev argW : Vec Ideal S3x512 .f32 := m ((c : Thread nD τ).loc main_arg1)

theorem index0 : ∀ t : Fin grid0.N, win0_0.index t 0 = t.val / 4 ∧ win0_0.index t 1 = 0 ∧ win0_0.index t 2 = t.val % 4 := by decide +kernel
theorem index1 : ∀ t : Fin grid0.N, win0_1.index t 0 = t.val / 4 ∧ win0_1.index t 1 = 0 ∧ win0_1.index t 2 = 4 + t.val % 4 := by decide +kernel
theorem index2 : ∀ t : Fin grid0.N, win0_2.index t 0 = t.val / 4 ∧ win0_2.index t 1 = 0 ∧ win0_2.index t 2 = 8 + t.val % 4 := by decide +kernel
theorem index3 : ∀ t : Fin grid0.N, win0_3.index t 0 = 0 ∧ win0_3.index t 1 = t.val % 4 := by decide +kernel
theorem index4 : ∀ t : Fin grid0.N, win0_4.index t 0 = t.val / 4 ∧ win0_4.index t 1 = 0 ∧ win0_4.index t 2 = t.val % 4 := by decide +kernel

/-- A point's batch. -/
def bat (t : Fin cfg0.N) : Fin 8 := ⟨t.val / 4, by have := t.isLt; have h : cfg0.N = 32 := N_0; omega⟩
/-- A block's column among the 512. -/
def col (t : Fin cfg0.N) (n : Fin 128) : Fin 512 := ⟨128 * (t.val % 4) + n.val, by omega⟩

/-- The gate's block. -/
theorem block0 (t : Fin cfg0.N) (s : Fin 2048) (n : Fin 128) :
    (iblk m c 0 t : Vec Ideal S1x2048x128 .f32) (ix3 0 s n) = argY m c (ix3 (bat t) s ⟨(col t n).val, by have := (col t n).isLt; omega⟩) := by
  unfold iblk
  rw [View.read_apply]
  show V m c main_arg0 _ = m (c.tc.loc main_arg0) _
  rw [V_main_arg0]
  refine congrArg _ (funext fun a => Fin.ext ?_)
  obtain ⟨h0, h1, h2⟩ := index0 t
  match a with
  | ⟨0, _⟩ => show win0_0.index t 0 * 1 + 1 * 0 = t.val / 4; omega
  | ⟨1, _⟩ => show win0_0.index t 1 * 2048 + 1 * s.val = s.val; omega
  | ⟨2, _⟩ => show win0_0.index t 2 * 128 + 1 * n.val = 128 * (t.val % 4) + n.val; omega

/-- The first factor's block. -/
theorem block1 (t : Fin cfg0.N) (s : Fin 2048) (n : Fin 128) :
    (iblk m c 1 t : Vec Ideal S1x2048x128 .f32) (ix3 0 s n) = argY m c (ix3 (bat t) s ⟨512 + (col t n).val, by have := (col t n).isLt; omega⟩) := by
  unfold iblk
  rw [View.read_apply]
  show V m c main_arg0 _ = m (c.tc.loc main_arg0) _
  rw [V_main_arg0]
  refine congrArg _ (funext fun a => Fin.ext ?_)
  obtain ⟨h0, h1, h2⟩ := index1 t
  match a with
  | ⟨0, _⟩ => show win0_1.index t 0 * 1 + 1 * 0 = t.val / 4; omega
  | ⟨1, _⟩ => show win0_1.index t 1 * 2048 + 1 * s.val = s.val; omega
  | ⟨2, _⟩ => show win0_1.index t 2 * 128 + 1 * n.val = 512 + (128 * (t.val % 4) + n.val); omega

/-- The second factor's block. -/
theorem block2 (t : Fin cfg0.N) (s : Fin 2048) (n : Fin 128) :
    (iblk m c 2 t : Vec Ideal S1x2048x128 .f32) (ix3 0 s n) = argY m c (ix3 (bat t) s ⟨1024 + (col t n).val, by have := (col t n).isLt; omega⟩) := by
  unfold iblk
  rw [View.read_apply]
  show V m c main_arg0 _ = m (c.tc.loc main_arg0) _
  rw [V_main_arg0]
  refine congrArg _ (funext fun a => Fin.ext ?_)
  obtain ⟨h0, h1, h2⟩ := index2 t
  match a with
  | ⟨0, _⟩ => show win0_2.index t 0 * 1 + 1 * 0 = t.val / 4; omega
  | ⟨1, _⟩ => show win0_2.index t 1 * 2048 + 1 * s.val = s.val; omega
  | ⟨2, _⟩ => show win0_2.index t 2 * 128 + 1 * n.val = 1024 + (128 * (t.val % 4) + n.val); omega

/-- The taps' window at a point. -/
theorem read3 (A : Vec Ideal S8x512 .f32) (t : Fin cfg0.N) (k : Fin 8) (n : Fin 128) :
    (((cfg0.win 3).blk t).view.read (Elt Ideal) A : Vec Ideal S8x128 .f32) (ix2 k n) = A (ix2 k (col t n)) := by
  rw [View.read_apply]
  show A _ = A _
  refine congrArg A (funext fun a => Fin.ext ?_)
  obtain ⟨h0, h1⟩ := index3 t
  match a with
  | ⟨0, _⟩ => show win0_3.index t 0 * 8 + 1 * k.val = k.val; omega
  | ⟨1, _⟩ => show win0_3.index t 1 * 128 + 1 * n.val = 128 * (t.val % 4) + n.val; omega

/-- The one index word of the taps' placement is zero. -/
theorem start (i : S1.Idx) : broadcastInDim S1 ![] bcast_S_S1 (constantI S_ 32 0#32) i = 0#32 := by
  obtain ⟨a, rfl⟩ : ∃ a : Fin 1, i = ix1 a := ⟨i 0, funext fun b => by match b with | ⟨0, _⟩ => rfl⟩
  fin_cases a
  rfl

/-- The padded taps in their first three rows. -/
theorem padded (k : Fin 8) (n : Fin 512) (h : k.val < 3) :
    (V m c main_v2 : Vec Ideal S8x512 .f32) (ix2 k n) = argW m c (ix2 ⟨k.val, h⟩ n) := by
  unfold_abbrev_sides
  after_results
  exact Base.corner_hit (R := 8) (C := 512) (R' := 3) (C' := 512) _ _ _ _ start (fun _ => rfl) (fun _ => rfl) k n h n.isLt

/-- The taps' block. -/
theorem block3 (t : Fin cfg0.N) (k : Fin 8) (n : Fin 128) (h : k.val < 3) :
    (iblk m c 3 t : Vec Ideal S8x128 .f32) (ix2 k n) = argW m c (ix2 ⟨k.val, h⟩ (col t n)) :=
  (read3 (V m c main_v2) t k n).trans (padded m c k (col t n) h)

/-- The array the kernel writes is the reference's result. -/
theorem array_eq : (dats m 0 c).arrAt 4 cfg0.N = ref (argY m c) (argW m c) := by
  refine (dats m 0 c).arrAt_eq_of_covers 4 _ (by decide +kernel) fun t hf y => ?_
  blk_simp
  rw [after0_4]
  frame_out
  obtain ⟨s, n, rfl⟩ : ∃ (s : Fin 2048) (n : Fin 128), y = ix3 (0 : Fin 1) s n :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  have w0 := block3 m c t 0 n (by decide)
  have w1 := block3 m c t 1 n (by decide)
  have w2 := block3 m c t 2 n (by decide)
  refine (pay_apply _ _ _ _ s n).trans ?_
  simp only [block0, block1, block2]
  rw [w0, w1, w2]
  refine (ref_apply (argY m c) (argW m c) (bat t) s (col t n)).symm.trans (congrArg (ref (argY m c) (argW m c)) ?_)
  obtain ⟨h0, h1, h2⟩ := index4 t
  funext a
  match a with
  | ⟨0, _⟩ => exact Fin.ext (by show t.val / 4 = win0_4.index t 0 * 1 + 1 * 0; omega)
  | ⟨1, _⟩ => exact Fin.ext (by show s.val = win0_4.index t 1 * 2048 + 1 * s.val; omega)
  | ⟨2, _⟩ => exact Fin.ext (by show 128 * (t.val % 4) + n.val = win0_4.index t 2 * 128 + 1 * n.val; omega)

/-- The two programs end with equal results. -/
theorem algebraic : Cert.algebraic_ConvIdeal_ConvRefIdeal := by
  intro m g m' g' _ hagree
  refine ⟨fun c => ref (argY m c) (argW m c), ?_, ?_⟩
  · refine (θ_run Cert.ConvIdeal.defs _ _).mono (fun r hr c => ?_) (run_blocks (F := Ideal) m g)
    obtain ⟨h0, h1⟩ := hr c
    exact ⟨h0.trans (array_eq m c), h1⟩
  · refine (θ_run Cert.ConvRefIdeal.defs _ _).mono (fun r hr c => ?_) (Cert.ConvRefIdeal.Value.run (F := Ideal) m' g')
    obtain ⟨e0, e1⟩ := hagree c
    obtain ⟨h0, h1⟩ := hr c
    refine ⟨h0.trans ?_, h1⟩
    rw [e0, e1]
    rfl

end Cert.Dense.Conv

end
-- ==== Proof.Dense.Ada.lean ====
/-
  The modulations: the kernel's array is the reference's result. The kernel multiplies the gated condition by the weight, the
  reference the weight by the gated condition.
-/
module

public import proofs.«01_k».proof.Defs
public import proofs.«01_k».proof.Proof.Gen.AdaIdeal.Value
public import proofs.«01_k».proof.Proof.Gen.AdaRefIdeal.Run
public import Idealize.ShloMosaic.Lib.Pointwise
public import Idealize.ShloMosaic.Lib.Pipeline.ValueKit
public import Idealize.ShloMosaic.Lib.Tactic

@[expose] public section

set_option maxRecDepth 16384

noncomputable section

namespace Cert.Dense.Ada

open Idealize.ShloMosaic

/-- The condition times its logistic. -/
def silu (x : EReal) : EReal := x * Ideal.logistic x

section Reference

open Cert.AdaRefIdeal Cert.AdaRefIdeal.Gen

/-- The reference's gated condition. -/
def gated (c : Vec Ideal S8x1024 .f32) : FVec Ideal S8x1024 .f32 :=
  mulf (F := Ideal) (φ := .f32) c (Host.divf (broadcastInDim S8x1024 ![] bcast_S_S8x1024 (constant S_ .f32 0x3F800000#32)) (addf (broadcastInDim S8x1024 ![] bcast_S_S8x1024 (constant S_ .f32 0x3F800000#32)) (Host.exp (Host.negf c))))

theorem gated_apply (c : Vec Ideal S8x1024 .f32) (b : Fin 8) (k : Fin 1024) : gated c (ix2 b k) = silu (c (ix2 b k)) := by
  unfold silu
  pointwise [gated]
  rfl

/-- The reference's result over its arguments. -/
def ref (c : Vec Ideal S8x1024 .f32) (w : Vec Ideal S4x1024x6144 .f32) (b : Vec Ideal S4x6144 .f32) : FVec Ideal S4x8x6144 .f32 :=
  addf (transpose S4x8x6144 [0, 2, 1] (Host.dotGeneral (F := Ideal) (φ₁ := .f32) (φ₂ := .f32) dot_S4x1024x6144_S8x1024_S4x6144x8_1_1_02_0_n_n none w (gated c)) transposes_S4x6144x8_S4x8x6144_0_2_1) (broadcastInDim S4x8x6144 ![0, 1, 2] bcast_S4x1x6144_S4x8x6144_0_1_2 (broadcastInDim S4x1x6144 ![0, 2] bcast_S4x6144_S4x1x6144_0_2 b))

/-- The reference at a point. -/
theorem ref_apply (c : Vec Ideal S8x1024 .f32) (w : Vec Ideal S4x1024x6144 .f32) (a : Vec Ideal S4x6144 .f32) (l : Fin 4) (b : Fin 8) (n : Fin 6144) :
    ref c w a (ix3 l b n) = ∑ k : Fin 1024, silu (c (ix2 b k)) * w (ix3 l k n) + a (ix2 l n) := by
  unfold ref
  have hp := gated_apply c
  generalize gated c = p at hp ⊢
  pointwise
  refine congrArg (· + _) (Finset.sum_congr rfl fun k _ => ?_)
  rw [hp, mul_comm]

end Reference

open Idealize.ShloMosaic.TcCoe Idealize.SL.Sem Cert.AdaIdeal Cert.AdaIdeal.Gen Cert.AdaIdeal.Value

/-- The kernel's block at a point. -/
theorem pay_apply (v0 : Vec Ideal S8x1024 .f32) (v3 : Vec Ideal S1x1024x2048 .f32) (v6 : Vec Ideal S1x1x2048 .f32) (b : Fin 8) (n : Fin 2048) :
    k0_pay1 (F := Ideal) v0 v3 v6 (ix3 0 b n) = ∑ k : Fin 1024, silu (v0 (ix2 b k)) * v3 (ix3 0 k n) + v6 (ix3 0 0 n) := by
  unfold silu
  pointwise [k0_pay1]

variable (m : (ℓ : Loc nD τ sig) → Buf (Elt Ideal) ℓ) (c : Dev nD)

/-- The condition. -/
abbrev argC : Vec Ideal S8x1024 .f32 := m ((c : Thread nD τ).loc main_arg0)
/-- The weight. -/
abbrev argW : Vec Ideal S4x1024x6144 .f32 := m ((c : Thread nD τ).loc main_arg1)
/-- The bias. -/
abbrev argB : Vec Ideal S4x6144 .f32 := m ((c : Thread nD τ).loc main_arg2)

theorem index0 : ∀ t : Fin grid0.N, win0_0.index t 0 = 0 ∧ win0_0.index t 1 = 0 := by decide +kernel
theorem index1 : ∀ t : Fin grid0.N, win0_1.index t 0 = t.val / 3 ∧ win0_1.index t 1 = 0 ∧ win0_1.index t 2 = t.val % 3 := by decide +kernel
theorem index2 : ∀ t : Fin grid0.N, win0_2.index t 0 = t.val / 3 ∧ win0_2.index t 1 = 0 ∧ win0_2.index t 2 = t.val % 3 := by decide +kernel
theorem index3 : ∀ t : Fin grid0.N, win0_3.index t 0 = t.val / 3 ∧ win0_3.index t 1 = 0 ∧ win0_3.index t 2 = t.val % 3 := by decide +kernel

/-- A point's layer. -/
def lay (t : Fin cfg0.N) : Fin 4 := ⟨t.val / 3, by have := t.isLt; have h : cfg0.N = 12 := N_0; omega⟩
/-- A block's column in the array. -/
def col (t : Fin cfg0.N) (n : Fin 2048) : Fin 6144 := ⟨2048 * (t.val % 3) + n.val, by omega⟩

/-- The condition's block. -/
theorem block0 (t : Fin cfg0.N) (b : Fin 8) (k : Fin 1024) : (iblk m c 0 t : Vec Ideal S8x1024 .f32) (ix2 b k) = argC m c (ix2 b k) := by
  unfold iblk
  rw [View.read_apply]
  show V m c main_arg0 _ = m (c.tc.loc main_arg0) _
  rw [V_main_arg0]
  refine congrArg _ (funext fun a => Fin.ext ?_)
  obtain ⟨h0, h1⟩ := index0 t
  match a with
  | ⟨0, _⟩ => show win0_0.index t 0 * 8 + 1 * b.val = b.val; omega
  | ⟨1, _⟩ => show win0_0.index t 1 * 1024 + 1 * k.val = k.val; omega

/-- The weight's block. -/
theorem block1 (t : Fin cfg0.N) (k : Fin 1024) (n : Fin 2048) :
    (iblk m c 1 t : Vec Ideal S1x1024x2048 .f32) (ix3 0 k n) = argW m c (ix3 (lay t) k (col t n)) := by
  unfold iblk
  rw [View.read_apply]
  show V m c main_arg1 _ = m (c.tc.loc main_arg1) _
  rw [V_main_arg1]
  refine congrArg _ (funext fun a => Fin.ext ?_)
  obtain ⟨h0, h1, h2⟩ := index1 t
  match a with
  | ⟨0, _⟩ => show win0_1.index t 0 * 1 + 1 * 0 = t.val / 3; omega
  | ⟨1, _⟩ => show win0_1.index t 1 * 1024 + 1 * k.val = k.val; omega
  | ⟨2, _⟩ => show win0_1.index t 2 * 2048 + 1 * n.val = 2048 * (t.val % 3) + n.val; omega

/-- The bias's block. -/
theorem block2 (t : Fin cfg0.N) (n : Fin 2048) : (iblk m c 2 t : Vec Ideal S1x1x2048 .f32) (ix3 0 0 n) = argB m c (ix2 (lay t) (col t n)) := by
  have hV : (V m c main_v0 : Vec Ideal S4x1x6144 .f32) (ix3 (lay t) 0 (col t n)) = argB m c (ix2 (lay t) (col t n)) := by
    unfold_abbrev_sides
    after_results
    pointwise
  rw [← hV]
  unfold iblk
  rw [View.read_apply]
  show V m c main_v0 _ = V m c main_v0 _
  refine congrArg _ (funext fun a => Fin.ext ?_)
  obtain ⟨h0, h1, h2⟩ := index2 t
  match a with
  | ⟨0, _⟩ => show win0_2.index t 0 * 1 + 1 * 0 = t.val / 3; omega
  | ⟨1, _⟩ => show win0_2.index t 1 * 1 + 1 * 0 = 0; omega
  | ⟨2, _⟩ => show win0_2.index t 2 * 2048 + 1 * n.val = 2048 * (t.val % 3) + n.val; omega

/-- The array the kernel writes is the reference's result. -/
theorem array_eq : (dats m 0 c).arrAt 3 cfg0.N = ref (argC m c) (argW m c) (argB m c) := by
  refine (dats m 0 c).arrAt_eq_of_covers 3 _ (by decide +kernel) fun t hf y => ?_
  blk_simp
  rw [after0_3]
  frame_out
  obtain ⟨b, n, rfl⟩ : ∃ (b : Fin 8) (n : Fin 2048), y = ix3 (0 : Fin 1) b n :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  refine (pay_apply _ _ _ b n).trans ?_
  simp only [block0, block1, block2]
  refine (ref_apply (argC m c) (argW m c) (argB m c) (lay t) b (col t n)).symm.trans (congrArg (ref (argC m c) (argW m c) (argB m c)) ?_)
  obtain ⟨h0, h1, h2⟩ := index3 t
  funext a
  match a with
  | ⟨0, _⟩ => exact Fin.ext (by show t.val / 3 = win0_3.index t 0 * 1 + 1 * 0; omega)
  | ⟨1, _⟩ => exact Fin.ext (by show b.val = win0_3.index t 1 * 8 + 1 * b.val; omega)
  | ⟨2, _⟩ => exact Fin.ext (by show 2048 * (t.val % 3) + n.val = win0_3.index t 2 * 2048 + 1 * n.val; omega)

/-- The two programs end with equal results. -/
theorem algebraic : Cert.algebraic_AdaIdeal_AdaRefIdeal := by
  intro m g m' g' _ hagree
  refine ⟨fun c => ref (argC m c) (argW m c) (argB m c), ?_, ?_⟩
  · refine (θ_run Cert.AdaIdeal.defs _ _).mono (fun r hr c => ?_) (run_blocks (F := Ideal) m g)
    obtain ⟨h0, h1⟩ := hr c
    exact ⟨h0.trans (array_eq m c), h1⟩
  · refine (θ_run Cert.AdaRefIdeal.defs _ _).mono (fun r hr c => ?_) (Cert.AdaRefIdeal.Value.run (F := Ideal) m' g')
    obtain ⟨e0, e1, e2⟩ := hagree c
    obtain ⟨h0, h1⟩ := hr c
    refine ⟨h0.trans ?_, h1⟩
    rw [e0, e1, e2]
    rfl

end Cert.Dense.Ada

end
-- ==== Proof.Dense.Cmp.lean ====
/-
  The compressed keys and values: the kernel's array is the reference's result. The kernel multiplies a block's own sixteen
  rows and its following sixteen by the two halves of the first weight, turning the second product by one row; the reference
  joins the rows and contracts at once.
-/
module

public import proofs.«01_k».proof.Defs
public import proofs.«01_k».proof.Proof.Gen.CmpIdeal.Value
public import proofs.«01_k».proof.Proof.Gen.CmpRefIdeal.Read
public import Idealize.ShloMosaic.Lib.Pointwise
public import Idealize.ShloMosaic.Lib.Pipeline.ValueKit
public import Idealize.ShloMosaic.Lib.Tactic

@[expose] public section

set_option maxRecDepth 16384

noncomputable section

namespace Cert.Dense.Cmp

open Idealize.ShloMosaic

/-- The row after a row, the first after the last. -/
def next (n : Fin 128) : Fin 128 := ⟨(n.val + 128 - 127) % 128, by omega⟩

/-- The hidden layer of a block before its activation: over the sixteen rows of every block, the positions' addends and the first weight. -/
def hid (X : Fin 128 → Fin 1024 → EReal) (p : Fin 2048 → EReal) (w : Fin 2048 → Fin 64 → EReal) (n : Fin 128) (d : Fin 64) : EReal :=
  ∑ k : Fin 1024, (X n k + p ⟨k.val, by omega⟩) * w ⟨k.val, by omega⟩ d
    + ∑ k : Fin 1024, (X (next n) k + p ⟨1024 + k.val, by omega⟩) * w ⟨1024 + k.val, by omega⟩ d

/-- The activation. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- A block's compressed row. -/
def compressed (X : Fin 128 → Fin 1024 → EReal) (p : Fin 2048 → EReal) (w : Fin 2048 → Fin 64 → EReal) (u : Fin 64 → Fin 64 → EReal)
    (n : Fin 128) (e : Fin 64) : EReal :=
  ∑ d : Fin 64, gelu (hid X p w n d) * u d e

/-- A row over its root mean square, times the gains. -/
def normed (x g : Fin 64 → EReal) (e : Fin 64) : EReal :=
  x e * Ideal.rsqrt (Ideal.div (∑ d : Fin 64, x d * x d) (Ideal.ofBits .f32 0x42800000#32) + Ideal.ofBits .f32 0x358637BD#32) * g e

/-- A sum over 2048 terms is the sum of the first 1024 and the sum of the last 1024. -/
theorem sum_halves (f : Fin 2048 → EReal) : ∑ k : Fin 2048, f k = ∑ k : Fin 1024, f ⟨k.val, by omega⟩ + ∑ k : Fin 1024, f ⟨1024 + k.val, by omega⟩ :=
  Fin.sum_univ_add (a := 1024) (b := 1024) f

section Reference

open Cert.CmpRefIdeal Cert.CmpRefIdeal.Gen Cert.CmpRefIdeal.Read

/-- The rows in blocks of sixteen. -/
def own (a : Vec Ideal S8x2048x4x64 .f32) : Vec Ideal S8x128x16x4x64 .f32 := shapeCast _ a shapeCasts_S8x2048x4x64_S8x128x16x4x64

/-- The block after every block. -/
def following (a : Vec Ideal S8x2048x4x64 .f32) : Vec Ideal S8x128x16x4x64 .f32 :=
  concatenate S8x128x16x4x64 1 [⟨S8x127x16x4x64, extractStridedSlice S8x127x16x4x64 ![0, 1, 0, 0, 0] (own a) slices_S8x128x16x4x64_S8x127x16x4x64_0_1_0_0_0⟩, ⟨S8x1x16x4x64, extractStridedSlice S8x1x16x4x64 ![0, 0, 0, 0, 0] (own a) slices_S8x128x16x4x64_S8x1x16x4x64_0_0_0_0_0⟩] concatenates_S8x127x16x4x64_S8x1x16x4x64_S8x128x16x4x64_d1

/-- The blocks of thirty-two rows. -/
def joined (a : Vec Ideal S8x2048x4x64 .f32) : FVec Ideal S8x128x32x4x64 .f32 :=
  concatenate S8x128x32x4x64 2 [⟨S8x128x16x4x64, own a⟩, ⟨S8x128x16x4x64, following a⟩] concatenates_S8x128x16x4x64_S8x128x16x4x64_S8x128x32x4x64_d2

/-- A block in one row, with the positions' addends. -/
def flat (x : FVec Ideal S8x128x32x4x64 .f32) (p : Vec Ideal S32x64 .f32) : FVec Ideal S8x128x4x2048 .f32 :=
  shapeCast _ (transpose S8x128x4x32x64 [0, 1, 3, 2, 4] (addf (F := Ideal) (φ := .f32) x
    (broadcastInDim S8x128x32x4x64 ![0, 1, 2, 3, 4] bcast_S1x1x32x1x64_S8x128x32x4x64_0_1_2_3_4 (broadcastInDim S1x1x32x1x64 ![2, 3, 4] bcast_S32x1x64_S1x1x32x1x64_2_3_4 (broadcastInDim S32x1x64 ![0, 2] bcast_S32x64_S32x1x64_0_2 p))))
    transposes_S8x128x32x4x64_S8x128x4x32x64_0_1_3_2_4) shapeCasts_S8x128x4x32x64_S8x128x4x2048

/-- The blocks with the positions' addends. -/
def blocks (a : Vec Ideal S8x2048x4x64 .f32) (p : Vec Ideal S32x64 .f32) : FVec Ideal S8x128x4x2048 .f32 := flat (joined a) p

/-- The reference's activation. -/
def geluRef (x : FVec Ideal S8x128x4x64 .f32) : FVec Ideal S8x128x4x64 .f32 :=
  mulf x (mulf (broadcastInDim S8x128x4x64 ![] bcast_S_S8x128x4x64 (constant S_ .f32 0x3F000000#32)) (addf (broadcastInDim S8x128x4x64 ![] bcast_S_S8x128x4x64 (constant S_ .f32 0x3F800000#32)) (Host.tanh (mulf (broadcastInDim S8x128x4x64 ![] bcast_S_S8x128x4x64 (constant S_ .f32 0x3F4C422A#32)) (addf x (mulf (broadcastInDim S8x128x4x64 ![] bcast_S_S8x128x4x64 (constant S_ .f32 0x3D372713#32)) (mulf (mulf x x) x)))))))

/-- The reference's compressed rows. -/
def compRef (a : Vec Ideal S8x2048x4x64 .f32) (p : Vec Ideal S32x64 .f32) (w : Vec Ideal S2048x64 .f32) (u : Vec Ideal S64x64 .f32) : FVec Ideal S8x128x4x64 .f32 :=
  Host.dotGeneral (F := Ideal) (φ₁ := .f32) (φ₂ := .f32) dot_S8x128x4x64_S64x64_S8x128x4x64_3_0_012_1_n_n none
    (geluRef (Host.dotGeneral (F := Ideal) (φ₁ := .f32) (φ₂ := .f32) dot_S8x128x4x2048_S2048x64_S8x128x4x64_3_0_012_1_n_n none (blocks a p) w)) u

theorem own_apply (a : Vec Ideal S8x2048x4x64 .f32) (b : Fin 8) (n : Fin 128) (r : Fin 16) (g : Fin 4) (e : Fin 64) :
    own a (ix5 b n r g e) = a (ix4 b ⟨n.val * 16 + r.val, by omega⟩ g e) := by
  pointwise [own]

theorem following_apply (a : Vec Ideal S8x2048x4x64 .f32) (b : Fin 8) (n : Fin 128) (r : Fin 16) (g : Fin 4) (e : Fin 64) :
    following a (ix5 b n r g e) = own a (ix5 b (next n) r g e) := by
  unfold following
  generalize own a = o
  pointwise
  unfold next
  by_cases h : n.val < 127
  · have q : (n.val + 128 - 127) % 128 = 1 + n.val := by omega
    rw [dif_pos h]
    simp only [q]
  · have q : (n.val + 128 - 127) % 128 = n.val - 127 := by omega
    rw [dif_neg h]
    simp only [q]

/-- The rows of a group's blocks. -/
def rows (a : Vec Ideal S8x2048x4x64 .f32) (b : Fin 8) (g : Fin 4) (n : Fin 128) (k : Fin 1024) : EReal :=
  a (ix4 b ⟨n.val * 16 + k.val / 64, by omega⟩ g ⟨k.val % 64, by omega⟩)

theorem joined_own (a : Vec Ideal S8x2048x4x64 .f32) (b : Fin 8) (n : Fin 128) (r : Fin 32) (h : r.val < 16) (g : Fin 4) (e : Fin 64) :
    joined a (ix5 b n r g e) = own a (ix5 b n ⟨r.val, h⟩ g e) := by
  unfold joined
  generalize own a = o
  generalize following a = f
  pointwise
  rw [dif_pos h]

theorem joined_following (a : Vec Ideal S8x2048x4x64 .f32) (b : Fin 8) (n : Fin 128) (r : Fin 32) (h : ¬ r.val < 16) (g : Fin 4) (e : Fin 64) :
    joined a (ix5 b n r g e) = following a (ix5 b n ⟨r.val - 16, by omega⟩ g e) := by
  unfold joined
  generalize own a = o
  generalize following a = f
  pointwise
  rw [dif_neg h]

theorem flat_apply (x : FVec Ideal S8x128x32x4x64 .f32) (p : Vec Ideal S32x64 .f32) (b : Fin 8) (n : Fin 128) (g : Fin 4) (k : Fin 2048) :
    flat x p (ix4 b n g k) = x (ix5 b n ⟨k.val / 64, by omega⟩ g ⟨k.val % 64, by omega⟩) + p (ix2 ⟨k.val / 64, by omega⟩ ⟨k.val % 64, by omega⟩) := by
  pointwise [flat]

theorem blocks_own (a : Vec Ideal S8x2048x4x64 .f32) (p : Vec Ideal S32x64 .f32) (b : Fin 8) (n : Fin 128) (g : Fin 4) (k : Fin 1024) :
    blocks a p (ix4 b n g ⟨k.val, by omega⟩) = rows a b g n k + p (ix2 ⟨k.val / 64, by omega⟩ ⟨k.val % 64, by omega⟩) := by
  unfold blocks rows
  rw [flat_apply, joined_own _ _ _ _ (show k.val / 64 < 16 by omega), own_apply]

theorem blocks_following (a : Vec Ideal S8x2048x4x64 .f32) (p : Vec Ideal S32x64 .f32) (b : Fin 8) (n : Fin 128) (g : Fin 4) (k : Fin 1024) :
    blocks a p (ix4 b n g ⟨1024 + k.val, by omega⟩) = rows a b g (next n) k + p (ix2 ⟨(1024 + k.val) / 64, by omega⟩ ⟨(1024 + k.val) % 64, by omega⟩) := by
  unfold blocks rows
  rw [flat_apply, joined_following _ _ _ _ (show ¬ (1024 + k.val) / 64 < 16 by omega), following_apply, own_apply]
  refine congrArg₂ (· + ·) (congrArg a ?_) rfl
  funext i
  refine Fin.ext ?_
  match i with
  | ⟨0, _⟩ => rfl
  | ⟨1, _⟩ => show (next n).val * 16 + ((1024 + k.val) / 64 - 16) = (next n).val * 16 + k.val / 64; omega
  | ⟨2, _⟩ => rfl
  | ⟨3, _⟩ => show (1024 + k.val) % 64 = k.val % 64; omega

theorem geluRef_apply (x : FVec Ideal S8x128x4x64 .f32) (b : Fin 8) (n : Fin 128) (g : Fin 4) (d : Fin 64) : geluRef x (ix4 b n g d) = gelu (x (ix4 b n g d)) := by
  unfold gelu
  pointwise [geluRef]
  rw [mul_comm (x (ix4 b n g d) * x (ix4 b n g d)) (x (ix4 b n g d))]

/-- The reference's compressed row of a group. -/
theorem compRef_apply (a : Vec Ideal S8x2048x4x64 .f32) (p : Vec Ideal S32x64 .f32) (w : Vec Ideal S2048x64 .f32) (u : Vec Ideal S64x64 .f32)
    (b : Fin 8) (n : Fin 128) (g : Fin 4) (e : Fin 64) :
    compRef a p w u (ix4 b n g e) = compressed (rows a b g) (fun k => p (ix2 ⟨k.val / 64, by omega⟩ ⟨k.val % 64, by omega⟩)) (fun k d => w (ix2 k d)) (fun d e => u (ix2 d e)) n e := by
  unfold compRef compressed
  have hh : ∀ d : Fin 64, (Host.dotGeneral (F := Ideal) (φ₁ := .f32) (φ₂ := .f32) dot_S8x128x4x2048_S2048x64_S8x128x4x64_3_0_012_1_n_n none (blocks a p) w) (ix4 b n g d)
      = hid (rows a b g) (fun k => p (ix2 ⟨k.val / 64, by omega⟩ ⟨k.val % 64, by omega⟩)) (fun k d => w (ix2 k d)) n d := by
    intro d
    have h0 := blocks_own a p b n g
    have h1 := blocks_following a p b n g
    generalize blocks a p = q at h0 h1 ⊢
    pointwise
    rw [sum_halves]
    unfold hid
    simp only [h0, h1]
  generalize (Host.dotGeneral (F := Ideal) (φ₁ := .f32) (φ₂ := .f32) dot_S8x128x4x2048_S2048x64_S8x128x4x64_3_0_012_1_n_n none (blocks a p) w) = x at hh ⊢
  have hg := geluRef_apply x b n g
  generalize geluRef x = y at hg ⊢
  pointwise
  simp only [hg, hh]

/-- The reference's normalised keys. -/
def keyRef (x : FVec Ideal S8x128x4x64 .f32) (kg : Vec Ideal S3x64 .f32) : FVec Ideal S8x128x4x64 .f32 :=
  mulf (mulf x (broadcastInDim S8x128x4x64 ![0, 1, 2, 3] bcast_S8x128x4x1_S8x128x4x64_0_1_2_3 (Host.rsqrt (addf (Host.divf (broadcastInDim S8x128x4x1 ![0, 1, 2] bcast_S8x128x4_S8x128x4x1_0_1_2 (Host.reduceAdd (F := Ideal) (φ := .f32) (mulf x x) (constant S_ .f32 0x00000000#32) reducesTo_S8x128x4x64_S8x128x4_d3 h_S_)) (broadcastInDim S8x128x4x1 ![] bcast_S_S8x128x4x1 (constant S_ .f32 0x42800000#32))) (broadcastInDim S8x128x4x1 ![] bcast_S_S8x128x4x1 (constant S_ .f32 0x358637BD#32))))))
    (broadcastInDim S8x128x4x64 ![0, 1, 2, 3] bcast_S1x1x1x64_S8x128x4x64_0_1_2_3 (broadcastInDim S1x1x1x64 ![3] bcast_S64_S1x1x1x64_3 (shapeCast _ (extractStridedSlice S1x64 ![0, 0] kg slices_S3x64_S1x64_0_0) shapeCasts_S1x64_S64)))

theorem keyRef_apply (x : FVec Ideal S8x128x4x64 .f32) (kg : Vec Ideal S3x64 .f32) (b : Fin 8) (n : Fin 128) (g : Fin 4) (e : Fin 64) :
    keyRef x kg (ix4 b n g e) = normed (fun d => x (ix4 b n g d)) (fun d => kg (ix2 0 d)) e := by
  unfold normed
  pointwise [keyRef]

/-- The reference's result over its arguments. -/
def ref (y : Vec Ideal S8x2048x2688 .f32) (kg : Vec Ideal S3x64 .f32) (pos : Vec Ideal S2x32x64 .f32) (w1 : Vec Ideal S2x2048x64 .f32) (w2 : Vec Ideal S2x64x64 .f32) :
    Vec Ideal S8x8x128x64 .f32 :=
  concatenate S8x8x128x64 1
    [⟨S8x4x128x64, transpose S8x4x128x64 [0, 2, 1, 3] (keyRef (compRef (val_main_v1 y) (val_main_v5 pos) (val_main_v7 w1) (val_main_v9 w2)) kg) transposes_S8x128x4x64_S8x4x128x64_0_2_1_3⟩,
      ⟨S8x4x128x64, transpose S8x4x128x64 [0, 2, 1, 3] (compRef (val_main_v3 y) (val_main_v52 pos) (val_main_v54 w1) (val_main_v56 w2)) transposes_S8x128x4x64_S8x4x128x64_0_2_1_3⟩]
    concatenates_S8x4x128x64_S8x4x128x64_S8x8x128x64_d1

theorem ref_eq (y : Vec Ideal S8x2048x2688 .f32) (kg : Vec Ideal S3x64 .f32) (pos : Vec Ideal S2x32x64 .f32) (w1 : Vec Ideal S2x2048x64 .f32) (w2 : Vec Ideal S2x64x64 .f32) :
    val_main_v85 (F := Ideal) y kg pos w1 w2 = ref y kg pos w1 w2 := rfl

end Reference

open Cert.CmpIdeal

/-- A group's rows of the projected input, the groups of the keys before those of the values. -/
def input (y : Vec Ideal S8x2048x2688 .f32) (b j : Fin 8) (n : Fin 128) (k : Fin 1024) : EReal :=
  y (ix3 b ⟨n.val * 16 + k.val / 64, by omega⟩ ⟨1024 + (j.val / 4 * 256 + j.val % 4 * 64 + k.val % 64), by omega⟩)

/-- A group's side: keys or values. -/
def side (j : Fin 8) : Fin 2 := ⟨j.val / 4, by omega⟩

/-- A group's compressed row over the arguments. -/
def row (y : Vec Ideal S8x2048x2688 .f32) (pos : Vec Ideal S2x32x64 .f32) (w1 : Vec Ideal S2x2048x64 .f32) (w2 : Vec Ideal S2x64x64 .f32) (b j : Fin 8) (n : Fin 128) : Fin 64 → EReal :=
  compressed (input y b j) (fun k => pos (ix3 (side j) ⟨k.val / 64, by omega⟩ ⟨k.val % 64, by omega⟩)) (fun k d => w1 (ix3 (side j) k d)) (fun d e => w2 (ix3 (side j) d e)) n

open Cert.CmpRefIdeal.Read in
/-- The reference at a point. -/
theorem ref_apply (y : Vec Ideal S8x2048x2688 .f32) (kg : Vec Ideal S3x64 .f32) (pos : Vec Ideal S2x32x64 .f32) (w1 : Vec Ideal S2x2048x64 .f32) (w2 : Vec Ideal S2x64x64 .f32)
    (b j : Fin 8) (n : Fin 128) (e : Fin 64) :
    ref y kg pos w1 w2 (ix4 b j n e) = if j.val < 4 then normed (row y pos w1 w2 b j n) (fun d => kg (ix2 0 d)) e else row y pos w1 w2 b j n e := by
  unfold ref
  have hk := keyRef_apply (compRef (val_main_v1 y) (val_main_v5 pos) (val_main_v7 w1) (val_main_v9 w2)) kg b n
  have h0 := compRef_apply (val_main_v1 y) (val_main_v5 pos) (val_main_v7 w1) (val_main_v9 w2) b n
  have h1 := compRef_apply (val_main_v3 y) (val_main_v52 pos) (val_main_v54 w1) (val_main_v56 w2) b n
  generalize keyRef (compRef (val_main_v1 y) (val_main_v5 pos) (val_main_v7 w1) (val_main_v9 w2)) kg = K at hk ⊢
  generalize compRef (val_main_v1 y) (val_main_v5 pos) (val_main_v7 w1) (val_main_v9 w2) = C at hk h0
  generalize compRef (val_main_v3 y) (val_main_v52 pos) (val_main_v54 w1) (val_main_v56 w2) = C' at h1 ⊢
  pointwise
  by_cases h : j.val < 4
  · rw [dif_pos h, if_pos h, hk]
    simp only [h0]
    have e0 : side j = 0 := Fin.ext (by show j.val / 4 = 0; omega)
    have er : rows (val_main_v1 y) b ⟨j.val, h⟩ = input y b j := by
      funext n k
      unfold rows input
      pointwise [val_main_v1, val_main_v0]
      refine congrArg _ (congrArg _ (Fin.ext ?_))
      show 1024 + (j.val * 64 + k.val % 64) = 1024 + (j.val / 4 * 256 + j.val % 4 * 64 + k.val % 64)
      omega
    have ep : ∀ k : Fin 2048, val_main_v5 (F := Ideal) pos (ix2 ⟨k.val / 64, by omega⟩ ⟨k.val % 64, by omega⟩) = pos (ix3 0 ⟨k.val / 64, by omega⟩ ⟨k.val % 64, by omega⟩) := by
      intro k
      pointwise [val_main_v5, val_main_v4]
    have ew : ∀ (k : Fin 2048) (d : Fin 64), val_main_v7 (F := Ideal) w1 (ix2 k d) = w1 (ix3 0 k d) := by
      intro k d
      pointwise [val_main_v7, val_main_v6]
    have eu : ∀ (k : Fin 64) (d : Fin 64), val_main_v9 (F := Ideal) w2 (ix2 k d) = w2 (ix3 0 k d) := by
      intro k d
      pointwise [val_main_v9, val_main_v8]
    unfold row
    simp only [er, ep, ew, eu, e0]
  · rw [dif_neg h, if_neg h, h1]
    have e0 : side j = 1 := Fin.ext (by show j.val / 4 = 1; omega)
    have er : rows (val_main_v3 y) b ⟨j.val - 4, by omega⟩ = input y b j := by
      funext n k
      unfold rows input
      pointwise [val_main_v3, val_main_v2]
      refine congrArg _ (congrArg _ (Fin.ext ?_))
      show 1280 + ((j.val - 4) * 64 + k.val % 64) = 1024 + (j.val / 4 * 256 + j.val % 4 * 64 + k.val % 64)
      omega
    have ep : ∀ k : Fin 2048, val_main_v52 (F := Ideal) pos (ix2 ⟨k.val / 64, by omega⟩ ⟨k.val % 64, by omega⟩) = pos (ix3 1 ⟨k.val / 64, by omega⟩ ⟨k.val % 64, by omega⟩) := by
      intro k
      pointwise [val_main_v52, val_main_v51]
    have ew : ∀ (k : Fin 2048) (d : Fin 64), val_main_v54 (F := Ideal) w1 (ix2 k d) = w1 (ix3 1 k d) := by
      intro k d
      pointwise [val_main_v54, val_main_v53]
    have eu : ∀ (k : Fin 64) (d : Fin 64), val_main_v56 (F := Ideal) w2 (ix2 k d) = w2 (ix3 1 k d) := by
      intro k d
      pointwise [val_main_v56, val_main_v55]
    unfold row
    simp only [er, ep, ew, eu, e0]

open Idealize.ShloMosaic.TcCoe Idealize.SL.Sem Cert.CmpIdeal.Gen Cert.CmpIdeal.Value

/-- The kernel's hidden rows after the activation. -/
theorem pay2_apply (v0 : Vec Ideal S1x1x128x1024 .f32) (v2 : Vec Ideal S1x1x2048 .f32) (v8 v15 : Vec Ideal S1x1024x64 .bf16) (w : Fin 2048 → Fin 64 → EReal)
    (h0 : ∀ (k : Fin 1024) (d : Fin 64), v8 (ix3 0 k d) = w ⟨k.val, by omega⟩ d) (h1 : ∀ (k : Fin 1024) (d : Fin 64), v15 (ix3 0 k d) = w ⟨1024 + k.val, by omega⟩ d)
    (n : Fin 128) (d : Fin 64) :
    k0_pay2 (F := Ideal) v0 v2 v8 v15 (ix2 n d) = gelu (hid (fun n k => v0 (ix4 0 0 n k)) (fun k => v2 (ix3 0 0 k)) w n d) := by
  unfold gelu hid next
  pointwise [k0_pay2]
  simp only [h0, h1]

/-- The kernel's block at a point. -/
theorem pay1_apply (j : Fin 8) (v33 : Vec Ideal S128x64 .bf16) (v34 : Vec Ideal S1x64x64 .bf16) (v38 : Vec Ideal S1x64 .f32) (n : Fin 128) (e : Fin 64) :
    k0_pay1 (F := Ideal) (BitVec.ofNat 32 j.val) v33 v34 v38 (ix4 0 0 n e)
      = if j.val < 4 then normed (fun e => ∑ d : Fin 64, v33 (ix2 n d) * v34 (ix3 0 d e)) (fun e => v38 (ix2 0 e)) e else ∑ d : Fin 64, v33 (ix2 n d) * v34 (ix3 0 d e) := by
  unfold normed
  pointwise [k0_pay1]
  rw [show (4#32 : BitVec 32) = BitVec.ofNat 32 4 from rfl, show Scalar.cmpi CmpIPredicate.slt (BitVec.ofNat 32 j.val) (BitVec.ofNat 32 4) = IntOp.cmpi CmpIPredicate.slt (BitVec.ofNat 32 j.val) (BitVec.ofNat 32 4) from rfl,
    WordCmp.cmpi_slt_ofNat (by omega) (by omega), WordCmp.select_decide]

variable (m : (ℓ : Loc nD τ sig) → Buf (Elt Ideal) ℓ) (c : Dev nD)

/-- The projected input. -/
abbrev argY : Vec Ideal S8x2048x2688 .f32 := m ((c : Thread nD τ).loc main_arg0)
/-- The keys' gains. -/
abbrev argG : Vec Ideal S3x64 .f32 := m ((c : Thread nD τ).loc main_arg1)
/-- The positions' addends. -/
abbrev argP : Vec Ideal S2x32x64 .f32 := m ((c : Thread nD τ).loc main_arg2)
/-- The first weight. -/
abbrev argW : Vec Ideal S2x2048x64 .f32 := m ((c : Thread nD τ).loc main_arg3)
/-- The second weight. -/
abbrev argU : Vec Ideal S2x64x64 .f32 := m ((c : Thread nD τ).loc main_arg4)

theorem index0 : ∀ t : Fin grid0.N, win0_0.index t 0 = t.val / 8 ∧ win0_0.index t 1 = t.val % 8 ∧ win0_0.index t 2 = 0 ∧ win0_0.index t 3 = 0 := by decide +kernel
theorem index1 : ∀ t : Fin grid0.N, win0_1.index t 0 = t.val % 8 / 4 ∧ win0_1.index t 1 = 0 ∧ win0_1.index t 2 = 0 := by decide +kernel
theorem index2 : ∀ t : Fin grid0.N, win0_2.index t 0 = t.val % 8 / 4 ∧ win0_2.index t 1 = 0 ∧ win0_2.index t 2 = 0 := by decide +kernel
theorem index3 : ∀ t : Fin grid0.N, win0_3.index t 0 = t.val % 8 / 4 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = t.val / 8 ∧ win0_5.index t 1 = t.val % 8 ∧ win0_5.index t 2 = 0 ∧ win0_5.index t 3 = 0 := by decide +kernel
theorem coord1 : ∀ t : Fin grid0.N, (grid0.coords t 1).val = t.val % 8 := by decide +kernel

/-- A point's batch. -/
def bat (t : Fin cfg0.N) : Fin 8 := ⟨t.val / 8, by have := t.isLt; have h : cfg0.N = 64 := N_0; omega⟩
/-- A point's group. -/
def grp (t : Fin cfg0.N) : Fin 8 := ⟨t.val % 8, by omega⟩

/-- The group's rows. -/
theorem block0 (t : Fin cfg0.N) (n : Fin 128) (k : Fin 1024) :
    (iblk m c 0 t : Vec Ideal S1x1x128x1024 .f32) (ix4 0 0 n k) = input (argY m c) (bat t) (grp t) n k := by
  have hV : (V m c main_v3 : Vec Ideal S8x8x128x1024 .f32) (ix4 (bat t) (grp t) n k) = input (argY m c) (bat t) (grp t) n k := by
    unfold input
    unfold_abbrev_sides
    after_results
    pointwise
  rw [← hV]
  unfold iblk
  rw [View.read_apply]
  show V m c main_v3 _ = V m c main_v3 _
  refine congrArg _ (funext fun a => Fin.ext ?_)
  obtain ⟨h0, h1, h2, h3⟩ := index0 t
  match a with
  | ⟨0, _⟩ => show win0_0.index t 0 * 1 + 1 * 0 = t.val / 8; omega
  | ⟨1, _⟩ => show win0_0.index t 1 * 1 + 1 * 0 = t.val % 8; omega
  | ⟨2, _⟩ => show win0_0.index t 2 * 128 + 1 * n.val = n.val; omega
  | ⟨3, _⟩ => show win0_0.index t 3 * 1024 + 1 * k.val = k.val; omega

/-- The positions' addends of the group's side. -/
theorem block1 (t : Fin cfg0.N) (k : Fin 2048) :
    (iblk m c 1 t : Vec Ideal S1x1x2048 .f32) (ix3 0 0 k) = argP m c (ix3 (side (grp t)) ⟨k.val / 64, by omega⟩ ⟨k.val % 64, by omega⟩) := by
  have hV : (V m c main_v7 : Vec Ideal S2x1x2048 .f32) (ix3 (side (grp t)) 0 k) = argP m c (ix3 (side (grp t)) ⟨k.val / 64, by omega⟩ ⟨k.val % 64, by omega⟩) := by
    unfold_abbrev_sides
    after_results
    pointwise
  rw [← hV]
  unfold iblk
  rw [View.read_apply]
  show V m c main_v7 _ = V m c main_v7 _
  refine congrArg _ (funext fun a => Fin.ext ?_)
  obtain ⟨h0, h1, h2⟩ := index1 t
  match a with
  | ⟨0, _⟩ => show win0_1.index t 0 * 1 + 1 * 0 = t.val % 8 / 4; omega
  | ⟨1, _⟩ => show win0_1.index t 1 * 1 + 1 * 0 = 0; omega
  | ⟨2, _⟩ => show win0_1.index t 2 * 2048 + 1 * k.val = k.val; omega

/-- The first weight of the group's side. -/
theorem block2 (t : Fin cfg0.N) (k : Fin 2048) (d : Fin 64) : (iblk m c 2 t : Vec Ideal S1x2048x64 .bf16) (ix3 0 k d) = argW m c (ix3 (side (grp t)) k d) := by
  have hV : (V m c main_v8 : Vec Ideal S2x2048x64 .bf16) (ix3 (side (grp t)) k d) = argW m c (ix3 (side (grp t)) k d) := by
    unfold_abbrev_sides
    after_results
    pointwise
  rw [← hV]
  unfold iblk
  rw [View.read_apply]
  show V m c main_v8 _ = V m c main_v8 _
  refine congrArg _ (funext fun a => Fin.ext ?_)
  obtain ⟨h0, h1, h2⟩ := index2 t
  match a with
  | ⟨0, _⟩ => show win0_2.index t 0 * 1 + 1 * 0 = t.val % 8 / 4; omega
  | ⟨1, _⟩ => show win0_2.index t 1 * 2048 + 1 * k.val = k.val; omega
  | ⟨2, _⟩ => show win0_2.index t 2 * 64 + 1 * d.val = d.val; omega

/-- The second weight of the group's side. -/
theorem block3 (t : Fin cfg0.N) (k d : Fin 64) : (iblk m c 3 t : Vec Ideal S1x64x64 .bf16) (ix3 0 k d) = argU m c (ix3 (side (grp t)) k d) := by
  have hV : (V m c main_v9 : Vec Ideal S2x64x64 .bf16) (ix3 (side (grp t)) k d) = argU m c (ix3 (side (grp t)) k d) := by
    unfold_abbrev_sides
    after_results
    pointwise
  rw [← hV]
  unfold iblk
  rw [View.read_apply]
  show V m c main_v9 _ = V m c main_v9 _
  refine congrArg _ (funext fun a => Fin.ext ?_)
  obtain ⟨h0, h1, h2⟩ := index3 t
  match a with
  | ⟨0, _⟩ => show win0_3.index t 0 * 1 + 1 * 0 = t.val % 8 / 4; omega
  | ⟨1, _⟩ => show win0_3.index t 1 * 64 + 1 * k.val = k.val; omega
  | ⟨2, _⟩ => show win0_3.index t 2 * 64 + 1 * d.val = d.val; omega

/-- The gains. -/
theorem block4 (t : Fin cfg0.N) (d : Fin 64) : (iblk m c 4 t : Vec Ideal S1x64 .f32) (ix2 0 d) = argG m c (ix2 0 d) := by
  have hV : (V m c main_v10 : Vec Ideal S1x64 .f32) (ix2 0 d) = argG m c (ix2 0 d) := by
    unfold_abbrev_sides
    after_results
    pointwise
  rw [← hV]
  unfold iblk
  rw [View.read_apply]
  show V m c main_v10 _ = V m c main_v10 _
  refine congrArg _ (funext fun a => Fin.ext ?_)
  obtain ⟨h0, h1⟩ := index4 t
  match a with
  | ⟨0, _⟩ => show win0_4.index t 0 * 1 + 1 * 0 = 0; omega
  | ⟨1, _⟩ => show win0_4.index t 1 * 64 + 1 * d.val = d.val; omega

/-- The first half of a side's first weight, as the kernel loads it. -/
theorem load_left (x : Vec Ideal S1x2048x64 .bf16) (k : Fin 1024) (d : Fin 64) : View.ld x r0_2 (ix3 0 k d) = x (ix3 0 ⟨k.val, by omega⟩ d) :=
  congrArg x (funext fun a => Fin.ext (match a with
    | ⟨0, _⟩ => rfl
    | ⟨1, _⟩ => by show 0 + 1 * k.val = k.val; omega
    | ⟨2, _⟩ => by show 0 + 1 * d.val = d.val; omega))

/-- The second half. -/
theorem load_right (x : Vec Ideal S1x2048x64 .bf16) (k : Fin 1024) (d : Fin 64) : View.ld x r0_3 (ix3 0 k d) = x (ix3 0 ⟨1024 + k.val, by omega⟩ d) :=
  congrArg x (funext fun a => Fin.ext (match a with
    | ⟨0, _⟩ => rfl
    | ⟨1, _⟩ => by show 1024 + 1 * k.val = 1024 + k.val; omega
    | ⟨2, _⟩ => by show 0 + 1 * d.val = d.val; omega))

/-- The array the kernel writes is the reference's result. -/
theorem array_eq : (dats m 0 c).arrAt 5 cfg0.N = ref (argY m c) (argG m c) (argP m c) (argW m c) (argU m c) := by
  refine (dats m 0 c).arrAt_eq_of_covers 5 _ (by decide +kernel) fun t hf y => ?_
  blk_simp
  rw [after0_5]
  frame_out
  obtain ⟨n, e, rfl⟩ : ∃ (n : Fin 128) (e : Fin 64), y = ix4 (0 : Fin 1) (0 : Fin 1) n e :=
    ⟨y 2, y 3, funext fun a => match a with
      | ⟨0, _⟩ => Fin.ext (by have h : (y 0).val < 1 := (y 0).isLt; show (y 0).val = 0; omega)
      | ⟨1, _⟩ => Fin.ext (by have h : (y 1).val < 1 := (y 1).isLt; show (y 1).val = 0; omega)
      | ⟨2, _⟩ => rfl
      | ⟨3, _⟩ => rfl⟩
  have hc : (grid0.coords t 1).val = (grp t).val := coord1 t
  rw [hc]
  refine (pay1_apply (grp t) _ _ _ n e).trans ?_
  have hp : ∀ d : Fin 64, k0_pay2 (F := Ideal) (iblk m c 0 t : Vec Ideal S1x1x128x1024 .f32) (iblk m c 1 t : Vec Ideal S1x1x2048 .f32)
        (View.ld (iblk m c 2 t : Vec Ideal S1x2048x64 .bf16) r0_2) (View.ld (iblk m c 2 t : Vec Ideal S1x2048x64 .bf16) r0_3) (ix2 n d)
      = gelu (hid (input (argY m c) (bat t) (grp t)) (fun k => argP m c (ix3 (side (grp t)) ⟨k.val / 64, by omega⟩ ⟨k.val % 64, by omega⟩)) (fun k d => argW m c (ix3 (side (grp t)) k d)) n d) := by
    intro d
    refine (pay2_apply _ _ _ _ (fun k d => argW m c (ix3 (side (grp t)) k d)) (fun k d => (load_left _ k d).trans (block2 m c t _ d)) (fun k d => (load_right _ k d).trans (block2 m c t _ d)) n d).trans ?_
    refine congrArg gelu (congrArg₂ (fun X p => hid X p _ n d) (funext fun n => funext fun k => block0 m c t n k) (funext fun k => block1 m c t k))
  have hs : ∀ e : Fin 64, ∑ d : Fin 64, k0_pay2 (F := Ideal) (iblk m c 0 t : Vec Ideal S1x1x128x1024 .f32) (iblk m c 1 t : Vec Ideal S1x1x2048 .f32)
        (View.ld (iblk m c 2 t : Vec Ideal S1x2048x64 .bf16) r0_2) (View.ld (iblk m c 2 t : Vec Ideal S1x2048x64 .bf16) r0_3) (ix2 n d)
        * (iblk m c 3 t : Vec Ideal S1x64x64 .bf16) (ix3 0 d e)
      = row (argY m c) (argP m c) (argW m c) (argU m c) (bat t) (grp t) n e := by
    intro e
    exact Finset.sum_congr rfl fun d _ => congrArg₂ (· * ·) (hp d) (block3 m c t d e)
  have hi : ((View.whole main_v11).slice (win0_5.rect t)).emb (ix4 (0 : Fin 1) (0 : Fin 1) n e) = ix4 (bat t) (grp t) n e := by
    refine funext fun a => Fin.ext ?_
    obtain ⟨h0, h1, h2, h3⟩ := index5 t
    match a with
    | ⟨0, _⟩ => show win0_5.index t 0 * 1 + 1 * 0 = t.val / 8; omega
    | ⟨1, _⟩ => show win0_5.index t 1 * 1 + 1 * 0 = t.val % 8; omega
    | ⟨2, _⟩ => show win0_5.index t 2 * 128 + 1 * n.val = n.val; omega
    | ⟨3, _⟩ => show win0_5.index t 3 * 64 + 1 * e.val = e.val; omega
  refine Eq.trans ?_ (congrArg (ref (argY m c) (argG m c) (argP m c) (argW m c) (argU m c)) hi.symm)
  rw [ref_apply]
  by_cases h : (grp t).val < 4
  · rw [if_pos h, if_pos h]
    exact congrArg₂ (fun x g => normed x g e) (funext hs) (funext fun d => block4 m c t d)
  · rw [if_neg h, if_neg h]
    exact hs e

/-- The two programs end with equal results. -/
theorem algebraic : Cert.algebraic_CmpIdeal_CmpRefIdeal := by
  intro m g m' g' _ hagree
  refine ⟨fun c => ref (argY m c) (argG m c) (argP m c) (argW m c) (argU m c), ?_, ?_⟩
  · refine (θ_run Cert.CmpIdeal.defs _ _).mono (fun r hr c => ?_) (run_blocks (F := Ideal) m g)
    obtain ⟨h0, h1⟩ := hr c
    exact ⟨h0.trans (array_eq m c), h1⟩
  · refine (θ_run Cert.CmpRefIdeal.defs _ _).mono (fun r hr c => ?_) (Cert.CmpRefIdeal.Value.run (F := Ideal) m' g')
    obtain ⟨e0, e1, e2, e3, e4⟩ := hagree c
    obtain ⟨h0, h1⟩ := hr c
    refine ⟨h0.trans ?_, h1⟩
    rw [Cert.CmpRefIdeal.Read.val_main_v85_eq, e0, e1, e2, e3, e4, ref_eq]

end Cert.Dense.Cmp

end
-- ==== Proof.Dense.Kv.Body.lean ====
/-
  The keys and values of the selected and of the window branch: the kernel's four arrays are the reference's results. The
  kernel stores a group's columns at a time; a group's values have a one and zeros behind them.
-/
module

public import proofs.«01_k».proof.Defs
public import proofs.«01_k».proof.Proof.Gen.KvIdeal.Value
public import Idealize.ShloMosaic.Lib.Pointwise
public import Idealize.ShloMosaic.Lib.Pipeline.ValueKit
public import Idealize.ShloMosaic.Lib.Tactic

@[expose] public section

set_option maxRecDepth 16384

noncomputable section

namespace Cert.Dense.Kv

open Idealize.ShloMosaic

/-- A row over its root mean square, times the gains. -/
def normed (x g : Fin 64 → EReal) (e : Fin 64) : EReal :=
  x e * Ideal.rsqrt (Ideal.div (∑ d : Fin 64, x d * x d) (Ideal.ofBits .f32 0x42800000#32) + Ideal.ofBits .f32 0x358637BD#32) * g e

/-- A column of the keys of a row of 256 columns, four groups of 64. -/
def keyCol (x : Fin 256 → EReal) (g : Fin 64 → EReal) (n : Fin 256) : EReal :=
  normed (fun d => x ⟨n.val / 64 * 64 + d.val, by omega⟩) g ⟨n.val % 64, by omega⟩

/-- A column of the values of a row of 256 columns: a group's 64 columns, a one, and zeros. -/
def valCol (x : Fin 256 → EReal) (n : Fin 512) : EReal :=
  if h : n.val % 128 < 64 then x ⟨n.val / 128 * 64 + n.val % 128, by omega⟩ else if n.val % 128 = 64 then 1 else 0

section Kernel

open Cert.KvIdeal Cert.KvIdeal.Gen

theorem one_apply (r : Fin 512) (e : Fin 64) : k0_pay2 (F := Ideal) (ix2 r e) = if e.val = 0 then 1 else 0 := by
  have h : ∀ e : Fin 64, (BitVec.setWidth 32 (IntOp.cmpi CmpIPredicate.eq (BitVec.ofNat 32 e.val) 0#32)).toInt = if e.val = 0 then 1 else 0 := by decide +kernel
  pointwise [k0_pay2]
  show (((BitVec.setWidth 32 (IntOp.cmpi CmpIPredicate.eq (BitVec.ofNat 32 e.val) 0#32)).toInt : ℝ) : EReal) = _
  rw [h e]
  split_ifs <;> simp

theorem key4_0 (v : Vec Ideal S1x512x64 .f32) (w : Vec Ideal S1x64 .f32) (r : Fin 512) (e : Fin 64) :
    (k0_pay3 (F := Ideal) v w) (ix3 0 r e) = normed (fun d => v (ix3 0 r d)) (fun d => w (ix2 0 d)) e := by
  unfold normed
  pointwise [k0_pay3]

theorem key4_1 (v : Vec Ideal S1x512x64 .f32) (w : Vec Ideal S1x64 .f32) (r : Fin 512) (e : Fin 64) :
    (k0_pay13 (F := Ideal) (k0_pay12 (F := Ideal) v) w) (ix3 0 r e) = normed (fun d => v (ix3 0 r d)) (fun d => w (ix2 0 d)) e := by
  unfold normed
  pointwise [k0_pay13, k0_pay12]

theorem key4_2 (v : Vec Ideal S1x512x64 .f32) (w : Vec Ideal S1x64 .f32) (r : Fin 512) (e : Fin 64) :
    (k0_pay21 (F := Ideal) (k0_pay19 (F := Ideal) v) (k0_pay20 (F := Ideal) w)) (ix3 0 r e) = normed (fun d => v (ix3 0 r d)) (fun d => w (ix2 0 d)) e := by
  unfold normed
  pointwise [k0_pay21, k0_pay19, k0_pay20]

theorem key4_3 (v : Vec Ideal S1x512x64 .f32) (w : Vec Ideal S1x64 .f32) (r : Fin 512) (e : Fin 64) :
    (k0_pay28 (F := Ideal) v w) (ix3 0 r e) = normed (fun d => v (ix3 0 r d)) (fun d => w (ix2 0 d)) e := by
  unfold normed
  pointwise [k0_pay28]

theorem key6_0 (v : Vec Ideal S1x512x64 .f32) (w : Vec Ideal S1x64 .f32) (r : Fin 512) (e : Fin 64) :
    (k0_pay7 (F := Ideal) (k0_pay4 (F := Ideal) v) (k0_pay5 (F := Ideal) w) (k0_pay6 (F := Ideal) v)) (ix3 0 r e) = normed (fun d => v (ix3 0 r d)) (fun d => w (ix2 0 d)) e := by
  unfold normed
  pointwise [k0_pay7, k0_pay4, k0_pay5, k0_pay6]

theorem key6_1 (v : Vec Ideal S1x512x64 .f32) (w : Vec Ideal S1x64 .f32) (r : Fin 512) (e : Fin 64) :
    (k0_pay14 (F := Ideal) v w) (ix3 0 r e) = normed (fun d => v (ix3 0 r d)) (fun d => w (ix2 0 d)) e := by
  unfold normed
  pointwise [k0_pay14]

theorem key6_2 (v : Vec Ideal S1x512x64 .f32) (w : Vec Ideal S1x64 .f32) (r : Fin 512) (e : Fin 64) :
    (k0_pay22 (F := Ideal) v w) (ix3 0 r e) = normed (fun d => v (ix3 0 r d)) (fun d => w (ix2 0 d)) e := by
  unfold normed
  pointwise [k0_pay22]

theorem key6_3 (v : Vec Ideal S1x512x64 .f32) (w : Vec Ideal S1x64 .f32) (r : Fin 512) (e : Fin 64) :
    (k0_pay30 (F := Ideal) (k0_pay29 (F := Ideal) v) w) (ix3 0 r e) = normed (fun d => v (ix3 0 r d)) (fun d => w (ix2 0 d)) e := by
  unfold normed
  pointwise [k0_pay30, k0_pay29]

theorem val5_0 (v : Vec Ideal S1x512x64 .f32) (r : Fin 512) (e : Fin 64) : (k0_pay8 (F := Ideal) v) (ix3 0 r e) = v (ix3 0 r e) := by
  pointwise [k0_pay8]

theorem val5_1 (v : Vec Ideal S1x512x64 .f32) (r : Fin 512) (e : Fin 64) : (k0_pay15 (F := Ideal) v) (ix3 0 r e) = v (ix3 0 r e) := by
  pointwise [k0_pay15]

theorem val5_2 (v : Vec Ideal S1x512x64 .f32) (r : Fin 512) (e : Fin 64) : (k0_pay23 (F := Ideal) v) (ix3 0 r e) = v (ix3 0 r e) := by
  pointwise [k0_pay23]

theorem val5_3 (v : Vec Ideal S1x512x64 .f32) (r : Fin 512) (e : Fin 64) : (k0_pay31 (F := Ideal) v) (ix3 0 r e) = v (ix3 0 r e) := by
  pointwise [k0_pay31]

theorem one5_0 (v : FVec Ideal S512x64 .bf16) (r : Fin 512) (e : Fin 64) : k0_pay10 (F := Ideal) v (ix3 0 r e) = v (ix2 r e) := by
  pointwise [k0_pay10]

theorem one5_1 (v : FVec Ideal S512x64 .bf16) (r : Fin 512) (e : Fin 64) : k0_pay17 (F := Ideal) v (ix3 0 r e) = v (ix2 r e) := by
  pointwise [k0_pay17]

theorem one5_2 (v : FVec Ideal S512x64 .bf16) (r : Fin 512) (e : Fin 64) : k0_pay26 (F := Ideal) v (ix3 0 r e) = v (ix2 r e) := by
  pointwise [k0_pay26]

theorem one5_3 (v : FVec Ideal S512x64 .bf16) (r : Fin 512) (e : Fin 64) : k0_pay33 (F := Ideal) v (ix3 0 r e) = v (ix2 r e) := by
  pointwise [k0_pay33]

theorem val7_0 (v : Vec Ideal S1x512x64 .f32) (r : Fin 512) (e : Fin 64) : (k0_pay9 (F := Ideal) v) (ix3 0 r e) = v (ix3 0 r e) := by
  pointwise [k0_pay9]

theorem val7_1 (v : Vec Ideal S1x512x64 .f32) (r : Fin 512) (e : Fin 64) : (k0_pay16 (F := Ideal) v) (ix3 0 r e) = v (ix3 0 r e) := by
  pointwise [k0_pay16]

theorem val7_2 (v : Vec Ideal S1x512x64 .f32) (r : Fin 512) (e : Fin 64) : (k0_pay25 (F := Ideal) (k0_pay24 (F := Ideal) v)) (ix3 0 r e) = v (ix3 0 r e) := by
  pointwise [k0_pay25, k0_pay24]

theorem val7_3 (v : Vec Ideal S1x512x64 .f32) (r : Fin 512) (e : Fin 64) : (k0_pay32 (F := Ideal) v) (ix3 0 r e) = v (ix3 0 r e) := by
  pointwise [k0_pay32]

theorem one7_0 (v : FVec Ideal S512x64 .bf16) (r : Fin 512) (e : Fin 64) : k0_pay11 (F := Ideal) v (ix3 0 r e) = v (ix2 r e) := by
  pointwise [k0_pay11]

theorem one7_1 (v : FVec Ideal S512x64 .bf16) (r : Fin 512) (e : Fin 64) : k0_pay18 (F := Ideal) v (ix3 0 r e) = v (ix2 r e) := by
  pointwise [k0_pay18]

theorem one7_2 (v : FVec Ideal S512x64 .bf16) (r : Fin 512) (e : Fin 64) : k0_pay27 (F := Ideal) v (ix3 0 r e) = v (ix2 r e) := by
  pointwise [k0_pay27]

theorem one7_3 (v : FVec Ideal S512x64 .bf16) (r : Fin 512) (e : Fin 64) : k0_pay1 (F := Ideal) v (ix3 0 r e) = v (ix2 r e) := by
  pointwise [k0_pay1]

/-- A loaded group's keys, in terms of the whole block. -/
theorem key_piece (h : Fin 4) (X : Vec Ideal S1x512x512 .f32) (W : Vec Ideal S1x64 .f32) (v : Vec Ideal S1x512x64 .f32) (w : Vec Ideal S1x64 .f32)
    (r : Fin 512) (e : Fin 64) (n : Fin 256) (hn : n.val = 64 * h.val + e.val)
    (o : ∀ a, (![0, 0, 64 * h.val] : Fin 3 → ℕ) a + ![1, 512, 64] a ≤ S1x512x512.size a)
    (o' : ∀ a, (![0, 0] : Fin 2 → ℕ) a + ![1, 64] a ≤ S1x64.size a)
    (hv : v = View.ld (Val := Elt Ideal) X (Rect.unit ![0, 0, 64 * h.val] ![1, 512, 64] o))
    (hw : w = View.ld (Val := Elt Ideal) W (Rect.unit ![0, 0] ![1, 64] o')) :
    normed (fun d => v (ix3 0 r d)) (fun d => w (ix2 0 d)) e = keyCol (fun k => X (ix3 0 r ⟨k.val, by omega⟩)) (fun d => W (ix2 0 d)) n := by
  subst hv hw
  have e0 : ∀ d : Fin 64, View.ld (Val := Elt Ideal) X (Rect.unit ![0, 0, 64 * h.val] ![1, 512, 64] o) (ix3 0 r d) = X (ix3 0 r ⟨n.val / 64 * 64 + d.val, by omega⟩) := fun d =>
    View.ld_unit_apply_of _ _ _ _ _ _ fun a => by
      match a with
      | ⟨0, _⟩ => rfl
      | ⟨1, _⟩ => show r.val = 0 + r.val; omega
      | ⟨2, _⟩ => show n.val / 64 * 64 + d.val = 64 * h.val + d.val; omega
  have e1 : ∀ d : Fin 64, View.ld (Val := Elt Ideal) W (Rect.unit ![0, 0] ![1, 64] o') (ix2 0 d) = W (ix2 0 d) := fun d =>
    View.ld_unit_apply_of _ _ _ _ _ _ fun a => by fin_cases a <;> simp [ix2]
  have he : e = ⟨n.val % 64, by omega⟩ := Fin.ext (by show e.val = n.val % 64; omega)
  unfold keyCol
  simp only [e0, e1]
  exact congrArg _ he

/-- A loaded group's values, in terms of the whole block. -/
theorem val_piece (h : Fin 4) (X : Vec Ideal S1x512x512 .f32) (v : Vec Ideal S1x512x64 .f32) (r : Fin 512) (e : Fin 64) (n : Fin 512) (hn : n.val = 128 * h.val + e.val)
    (o : ∀ a, (![0, 0, 256 + 64 * h.val] : Fin 3 → ℕ) a + ![1, 512, 64] a ≤ S1x512x512.size a)
    (hv : v = View.ld (Val := Elt Ideal) X (Rect.unit ![0, 0, 256 + 64 * h.val] ![1, 512, 64] o)) :
    v (ix3 0 r e) = valCol (fun k => X (ix3 0 r ⟨256 + k.val, by omega⟩)) n := by
  subst hv
  unfold valCol
  rw [dif_pos (by omega)]
  exact View.ld_unit_apply_of _ _ _ _ _ _ fun a => by
    match a with
    | ⟨0, _⟩ => rfl
    | ⟨1, _⟩ => show r.val = 0 + r.val; omega
    | ⟨2, _⟩ => show 256 + (n.val / 128 * 64 + n.val % 128) = 256 + 64 * h.val + e.val; omega

/-- The one and the zeros behind a group's values. -/
theorem one_piece (h : Fin 4) (x : Fin 256 → EReal) (r : Fin 512) (e : Fin 64) (n : Fin 512) (hn : n.val = 128 * h.val + 64 + e.val) :
    k0_pay2 (F := Ideal) (ix2 r e) = valCol x n := by
  rw [one_apply]
  unfold valCol
  rw [dif_neg (by omega)]
  by_cases he : e.val = 0
  · rw [if_pos he, if_pos (by omega)]
  · rw [if_neg he, if_neg (by omega)]

/-- Every index of a stored piece is a row and a column. -/
theorem piece_ix (x : S1x512x64.Idx) : ∃ (r : Fin 512) (e : Fin 64), x = ix3 (0 : Fin 1) r e :=
  ⟨x 1, x 2, funext fun a => match a with
    | ⟨0, _⟩ => Fin.ext (by have h : (x 0).val < 1 := (x 0).isLt; show (x 0).val = 0; omega)
    | ⟨1, _⟩ => rfl
    | ⟨2, _⟩ => rfl⟩

/-- The stored keys of a point. -/
theorem out4 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x512x256 .bf16) (harg8 : arg8.IsWhole) (arg9 : Memref sig .tc .vmem S1x512x512 .bf16) (harg9 : arg9.IsWhole)
    (x0 : Vec Ideal S1x512x512 .f32) (x1 : Vec Ideal S1x512x512 .f32) (x2 : Vec Ideal S1x64 .f32) (x3 : Vec Ideal S1x64 .f32) (r : Fin 512) (n : Fin 256) :
    out0_A_4 (F := Ideal) c i arg2 harg2 arg3 harg3 arg4 harg4 arg5 harg5 arg6 harg6 arg7 harg7 arg8 harg8 arg9 harg9 x0 x1 x2 x3 (ix3 0 r n) = keyCol (fun k => x0 (ix3 0 r ⟨k.val, by omega⟩)) (fun d => x2 (ix2 0 d)) n := by
  unfold out0_A_4
  rw [View.read_writes_junk_eq_canon]
  unfold kernelRun0_A
  dsimp only
  canon_tiles x hx
  · obtain ⟨r', e, rfl⟩ := piece_ix x
    obtain rfl : r = r' := Fin.ext hx1
    have hn : n.val = 192 + e.val := hx2
    refine (key4_3 _ _ r e).trans ?_
    exact key_piece 3 x0 x2 _ _ r e n (by show n.val = 64 * 3 + e.val; omega) (by decide) (by decide)
      (congrArg (fun X => View.ld X _) (harg2.read_unread x0)) (congrArg (fun X => View.ld X _) (harg4.read_unread x2))
  · obtain ⟨r', e, rfl⟩ := piece_ix x
    obtain rfl : r = r' := Fin.ext hx1
    have hn : n.val = 128 + e.val := hx2
    refine (key4_2 _ _ r e).trans ?_
    exact key_piece 2 x0 x2 _ _ r e n (by show n.val = 64 * 2 + e.val; omega) (by decide) (by decide)
      (congrArg (fun X => View.ld X _) (harg2.read_unread x0)) (congrArg (fun X => View.ld X _) (harg4.read_unread x2))
  · obtain ⟨r', e, rfl⟩ := piece_ix x
    obtain rfl : r = r' := Fin.ext hx1
    have hn : n.val = 64 + e.val := hx2
    refine (key4_1 _ _ r e).trans ?_
    exact key_piece 1 x0 x2 _ _ r e n (by show n.val = 64 * 1 + e.val; omega) (by decide) (by decide)
      (congrArg (fun X => View.ld X _) (harg2.read_unread x0)) (congrArg (fun X => View.ld X _) (harg4.read_unread x2))
  · obtain ⟨r', e, rfl⟩ := piece_ix x
    obtain rfl : r = r' := Fin.ext hx1
    have hn : n.val = e.val := hx2
    refine (key4_0 _ _ r e).trans ?_
    exact key_piece 0 x0 x2 _ _ r e n (by show n.val = 64 * 0 + e.val; omega) (by decide) (by decide)
      (congrArg (fun X => View.ld X _) (harg2.read_unread x0)) (congrArg (fun X => View.ld X _) (harg4.read_unread x2))

/-- The stored values of a point. -/
theorem out5 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x512x256 .bf16) (harg8 : arg8.IsWhole) (arg9 : Memref sig .tc .vmem S1x512x512 .bf16) (harg9 : arg9.IsWhole)
    (x0 : Vec Ideal S1x512x512 .f32) (x1 : Vec Ideal S1x512x512 .f32) (x2 : Vec Ideal S1x64 .f32) (x3 : Vec Ideal S1x64 .f32) (r : Fin 512) (n : Fin 512) :
    out0_A_5 (F := Ideal) c i arg2 harg2 arg3 harg3 arg4 harg4 arg5 harg5 arg6 harg6 arg7 harg7 arg8 harg8 arg9 harg9 x0 x1 x2 x3 (ix3 0 r n) = valCol (fun k => x0 (ix3 0 r ⟨256 + k.val, by omega⟩)) n := by
  unfold out0_A_5
  rw [View.read_writes_junk_eq_canon]
  unfold kernelRun0_A
  dsimp only
  canon_tiles x hx
  · obtain ⟨r', e, rfl⟩ := piece_ix x
    obtain rfl : r = r' := Fin.ext hx1
    have hn : n.val = 448 + e.val := hx2
    exact (one5_3 _ r e).trans (one_piece 3 _ r e n (by show n.val = 128 * 3 + 64 + e.val; omega))
  · obtain ⟨r', e, rfl⟩ := piece_ix x
    obtain rfl : r = r' := Fin.ext hx1
    have hn : n.val = 384 + e.val := hx2
    refine (val5_3 _ r e).trans ?_
    exact val_piece 3 x0 _ r e n (by show n.val = 128 * 3 + e.val; omega) (by decide)
      (congrArg (fun X => View.ld X _) (harg2.read_unread x0))
  · obtain ⟨r', e, rfl⟩ := piece_ix x
    obtain rfl : r = r' := Fin.ext hx1
    have hn : n.val = 320 + e.val := hx2
    exact (one5_2 _ r e).trans (one_piece 2 _ r e n (by show n.val = 128 * 2 + 64 + e.val; omega))
  · obtain ⟨r', e, rfl⟩ := piece_ix x
    obtain rfl : r = r' := Fin.ext hx1
    have hn : n.val = 256 + e.val := hx2
    refine (val5_2 _ r e).trans ?_
    exact val_piece 2 x0 _ r e n (by show n.val = 128 * 2 + e.val; omega) (by decide)
      (congrArg (fun X => View.ld X _) (harg2.read_unread x0))
  · obtain ⟨r', e, rfl⟩ := piece_ix x
    obtain rfl : r = r' := Fin.ext hx1
    have hn : n.val = 192 + e.val := hx2
    exact (one5_1 _ r e).trans (one_piece 1 _ r e n (by show n.val = 128 * 1 + 64 + e.val; omega))
  · obtain ⟨r', e, rfl⟩ := piece_ix x
    obtain rfl : r = r' := Fin.ext hx1
    have hn : n.val = 128 + e.val := hx2
    refine (val5_1 _ r e).trans ?_
    exact val_piece 1 x0 _ r e n (by show n.val = 128 * 1 + e.val; omega) (by decide)
      (congrArg (fun X => View.ld X _) (harg2.read_unread x0))
  · obtain ⟨r', e, rfl⟩ := piece_ix x
    obtain rfl : r = r' := Fin.ext hx1
    have hn : n.val = 64 + e.val := hx2
    exact (one5_0 _ r e).trans (one_piece 0 _ r e n (by show n.val = 128 * 0 + 64 + e.val; omega))
  · obtain ⟨r', e, rfl⟩ := piece_ix x
    obtain rfl : r = r' := Fin.ext hx1
    have hn : n.val = e.val := hx2
    refine (val5_0 _ r e).trans ?_
    exact val_piece 0 x0 _ r e n (by show n.val = 128 * 0 + e.val; omega) (by decide)
      (congrArg (fun X => View.ld X _) (harg2.read_unread x0))

/-- The stored keys of a point. -/
theorem out6 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x512x256 .bf16) (harg8 : arg8.IsWhole) (arg9 : Memref sig .tc .vmem S1x512x512 .bf16) (harg9 : arg9.IsWhole)
    (x0 : Vec Ideal S1x512x512 .f32) (x1 : Vec Ideal S1x512x512 .f32) (x2 : Vec Ideal S1x64 .f32) (x3 : Vec Ideal S1x64 .f32) (r : Fin 512) (n : Fin 256) :
    out0_A_6 (F := Ideal) c i arg2 harg2 arg3 harg3 arg4 harg4 arg5 harg5 arg6 harg6 arg7 harg7 arg8 harg8 arg9 harg9 x0 x1 x2 x3 (ix3 0 r n) = keyCol (fun k => x1 (ix3 0 r ⟨k.val, by omega⟩)) (fun d => x3 (ix2 0 d)) n := by
  unfold out0_A_6
  rw [View.read_writes_junk_eq_canon]
  unfold kernelRun0_A
  dsimp only
  canon_tiles x hx
  · obtain ⟨r', e, rfl⟩ := piece_ix x
    obtain rfl : r = r' := Fin.ext hx1
    have hn : n.val = 192 + e.val := hx2
    refine (key6_3 _ _ r e).trans ?_
    exact key_piece 3 x1 x3 _ _ r e n (by show n.val = 64 * 3 + e.val; omega) (by decide) (by decide)
      (congrArg (fun X => View.ld X _) (harg3.read_unread x1)) (congrArg (fun X => View.ld X _) (harg5.read_unread x3))
  · obtain ⟨r', e, rfl⟩ := piece_ix x
    obtain rfl : r = r' := Fin.ext hx1
    have hn : n.val = 128 + e.val := hx2
    refine (key6_2 _ _ r e).trans ?_
    exact key_piece 2 x1 x3 _ _ r e n (by show n.val = 64 * 2 + e.val; omega) (by decide) (by decide)
      (congrArg (fun X => View.ld X _) (harg3.read_unread x1)) (congrArg (fun X => View.ld X _) (harg5.read_unread x3))
  · obtain ⟨r', e, rfl⟩ := piece_ix x
    obtain rfl : r = r' := Fin.ext hx1
    have hn : n.val = 64 + e.val := hx2
    refine (key6_1 _ _ r e).trans ?_
    exact key_piece 1 x1 x3 _ _ r e n (by show n.val = 64 * 1 + e.val; omega) (by decide) (by decide)
      (congrArg (fun X => View.ld X _) (harg3.read_unread x1)) (congrArg (fun X => View.ld X _) (harg5.read_unread x3))
  · obtain ⟨r', e, rfl⟩ := piece_ix x
    obtain rfl : r = r' := Fin.ext hx1
    have hn : n.val = e.val := hx2
    refine (key6_0 _ _ r e).trans ?_
    exact key_piece 0 x1 x3 _ _ r e n (by show n.val = 64 * 0 + e.val; omega) (by decide) (by decide)
      (congrArg (fun X => View.ld X _) (harg3.read_unread x1)) (congrArg (fun X => View.ld X _) (harg5.read_unread x3))

/-- The stored values of a point. -/
theorem out7 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x512x256 .bf16) (harg8 : arg8.IsWhole) (arg9 : Memref sig .tc .vmem S1x512x512 .bf16) (harg9 : arg9.IsWhole)
    (x0 : Vec Ideal S1x512x512 .f32) (x1 : Vec Ideal S1x512x512 .f32) (x2 : Vec Ideal S1x64 .f32) (x3 : Vec Ideal S1x64 .f32) (r : Fin 512) (n : Fin 512) :
    out0_A_7 (F := Ideal) c i arg2 harg2 arg3 harg3 arg4 harg4 arg5 harg5 arg6 harg6 arg7 harg7 arg8 harg8 arg9 harg9 x0 x1 x2 x3 (ix3 0 r n) = valCol (fun k => x1 (ix3 0 r ⟨256 + k.val, by omega⟩)) n := by
  unfold out0_A_7
  rw [View.read_writes_junk_eq_canon]
  unfold kernelRun0_A
  dsimp only
  canon_tiles x hx
  · obtain ⟨r', e, rfl⟩ := piece_ix x
    obtain rfl : r = r' := Fin.ext hx1
    have hn : n.val = 448 + e.val := hx2
    exact (one7_3 _ r e).trans (one_piece 3 _ r e n (by show n.val = 128 * 3 + 64 + e.val; omega))
  · obtain ⟨r', e, rfl⟩ := piece_ix x
    obtain rfl : r = r' := Fin.ext hx1
    have hn : n.val = 384 + e.val := hx2
    refine (val7_3 _ r e).trans ?_
    exact val_piece 3 x1 _ r e n (by show n.val = 128 * 3 + e.val; omega) (by decide)
      (congrArg (fun X => View.ld X _) (harg3.read_unread x1))
  · obtain ⟨r', e, rfl⟩ := piece_ix x
    obtain rfl : r = r' := Fin.ext hx1
    have hn : n.val = 320 + e.val := hx2
    exact (one7_2 _ r e).trans (one_piece 2 _ r e n (by show n.val = 128 * 2 + 64 + e.val; omega))
  · obtain ⟨r', e, rfl⟩ := piece_ix x
    obtain rfl : r = r' := Fin.ext hx1
    have hn : n.val = 256 + e.val := hx2
    refine (val7_2 _ r e).trans ?_
    exact val_piece 2 x1 _ r e n (by show n.val = 128 * 2 + e.val; omega) (by decide)
      (congrArg (fun X => View.ld X _) (harg3.read_unread x1))
  · obtain ⟨r', e, rfl⟩ := piece_ix x
    obtain rfl : r = r' := Fin.ext hx1
    have hn : n.val = 192 + e.val := hx2
    exact (one7_1 _ r e).trans (one_piece 1 _ r e n (by show n.val = 128 * 1 + 64 + e.val; omega))
  · obtain ⟨r', e, rfl⟩ := piece_ix x
    obtain rfl : r = r' := Fin.ext hx1
    have hn : n.val = 128 + e.val := hx2
    refine (val7_1 _ r e).trans ?_
    exact val_piece 1 x1 _ r e n (by show n.val = 128 * 1 + e.val; omega) (by decide)
      (congrArg (fun X => View.ld X _) (harg3.read_unread x1))
  · obtain ⟨r', e, rfl⟩ := piece_ix x
    obtain rfl : r = r' := Fin.ext hx1
    have hn : n.val = 64 + e.val := hx2
    exact (one7_0 _ r e).trans (one_piece 0 _ r e n (by show n.val = 128 * 0 + 64 + e.val; omega))
  · obtain ⟨r', e, rfl⟩ := piece_ix x
    obtain rfl : r = r' := Fin.ext hx1
    have hn : n.val = e.val := hx2
    refine (val7_0 _ r e).trans ?_
    exact val_piece 0 x1 _ r e n (by show n.val = 128 * 0 + e.val; omega) (by decide)
      (congrArg (fun X => View.ld X _) (harg3.read_unread x1))

end Kernel

end Cert.Dense.Kv

end
-- ==== Proof.Dense.Kv.Ref.lean ====
/-
  The keys and values of the selected and of the window branch: the reference's four results at a point.
-/
module

public import proofs.«01_k».proof.Defs
public import proofs.«01_k».proof.Proof.Dense.Kv.Body
public import proofs.«01_k».proof.Proof.Gen.KvRefIdeal.Run
public import proofs.«01_k».proof.Proof.Gen.KvRefIdeal.Read
public import Idealize.ShloMosaic.Lib.Pointwise

@[expose] public section

set_option maxRecDepth 16384

noncomputable section

namespace Cert.Dense.Kv

open Idealize.ShloMosaic

section Reference

open Cert.KvRefIdeal Cert.KvRefIdeal.Gen Cert.KvRefIdeal.Read

/-- The reference's keys at a point. -/
theorem ref48_apply (y : Vec Ideal S8x2048x2688 .f32) (kg : Vec Ideal S3x64 .f32) (b : Fin 8) (s : Fin 2048) (n : Fin 256) :
    val_main_v48 (F := Ideal) y kg (ix3 b s n) = keyCol (fun k => y (ix3 b s ⟨1536 + k.val, by omega⟩)) (fun d => kg (ix2 1 d)) n := by
  have e : (⟨1536 + (n.val / 64 * 64 + n.val % 64), by omega⟩ : Fin 2688) = ⟨1536 + n.val, by omega⟩ := Fin.ext (by show 1536 + (n.val / 64 * 64 + n.val % 64) = 1536 + n.val; omega)
  unfold keyCol normed
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, val_main_v48]
  rw [e]

/-- The reference's keys at a point. -/
theorem ref50_apply (y : Vec Ideal S8x2048x2688 .f32) (kg : Vec Ideal S3x64 .f32) (b : Fin 8) (s : Fin 2048) (n : Fin 256) :
    val_main_v50 (F := Ideal) y kg (ix3 b s n) = keyCol (fun k => y (ix3 b s ⟨2048 + k.val, by omega⟩)) (fun d => kg (ix2 2 d)) n := by
  have e : (⟨2048 + (n.val / 64 * 64 + n.val % 64), by omega⟩ : Fin 2688) = ⟨2048 + n.val, by omega⟩ := Fin.ext (by show 2048 + (n.val / 64 * 64 + n.val % 64) = 2048 + n.val; omega)
  unfold keyCol normed
  pointwise [val_main_v24, val_main_v25, val_main_v26, val_main_v27, val_main_v28, val_main_cst_4, val_main_v29, val_main_v30, val_main_cst_5, val_main_v31, val_main_v32, val_main_cst_6, val_main_v33, val_main_v34, val_main_v35, val_main_v36, val_main_v37, val_main_v38, val_main_v39, val_main_v40, val_main_v41, val_main_v50]
  rw [e]

/-- The reference's values at a point. -/
theorem ref49_apply (y : Vec Ideal S8x2048x2688 .f32) (b : Fin 8) (s : Fin 2048) (n : Fin 512) :
    val_main_v49 (F := Ideal) y (ix3 b s n) = valCol (fun k => y (ix3 b s ⟨1792 + k.val, by omega⟩)) n := by
  unfold valCol
  pointwise [val_main_v18, val_main_v19, val_main_cst_2, val_main_v20, val_main_cst_3, val_main_v21, val_main_v22, val_main_v23, val_main_v49]
  by_cases h : n.val % 128 < 64
  · rw [dif_pos h, dif_pos h]
  · rw [dif_neg h, dif_neg h]
    by_cases h' : n.val % 128 = 64
    · rw [if_pos h', dif_pos (by omega)]
    · rw [if_neg h', dif_neg (by omega)]

/-- The reference's values at a point. -/
theorem ref51_apply (y : Vec Ideal S8x2048x2688 .f32) (b : Fin 8) (s : Fin 2048) (n : Fin 512) :
    val_main_v51 (F := Ideal) y (ix3 b s n) = valCol (fun k => y (ix3 b s ⟨2304 + k.val, by omega⟩)) n := by
  unfold valCol
  pointwise [val_main_v42, val_main_v43, val_main_cst_7, val_main_v44, val_main_cst_8, val_main_v45, val_main_v46, val_main_v47, val_main_v51]
  by_cases h : n.val % 128 < 64
  · rw [dif_pos h, dif_pos h]
  · rw [dif_neg h, dif_neg h]
    by_cases h' : n.val % 128 = 64
    · rw [if_pos h', dif_pos (by omega)]
    · rw [if_neg h', dif_neg (by omega)]

end Reference

end Cert.Dense.Kv

end
-- ==== Proof.Dense.Kv.lean ====
/-
  The keys and values of the selected and of the window branch: the kernel's four arrays are the reference's results.
-/
module

public import proofs.«01_k».proof.Defs
public import proofs.«01_k».proof.Proof.Dense.Kv.Body
public import proofs.«01_k».proof.Proof.Dense.Kv.Ref
public import proofs.«01_k».proof.Proof.Gen.KvIdeal.Value
public import proofs.«01_k».proof.Proof.Gen.KvRefIdeal.Run
public import proofs.«01_k».proof.Proof.Gen.KvRefIdeal.Read
public import Idealize.ShloMosaic.Lib.Pointwise
public import Idealize.ShloMosaic.Lib.Pipeline.ValueKit
public import Idealize.ShloMosaic.Lib.Tactic

@[expose] public section

set_option maxRecDepth 16384

noncomputable section

namespace Cert.Dense.Kv

open Idealize.ShloMosaic
open Idealize.ShloMosaic.TcCoe Idealize.SL.Sem Cert.KvIdeal Cert.KvIdeal.Gen Cert.KvIdeal.Value
open Cert.KvRefIdeal.Read (val_main_v48 val_main_v49 val_main_v50 val_main_v51)

variable (m : (ℓ : Loc nD τ sig) → Buf (Elt Ideal) ℓ) (c : Dev nD)

/-- The projected inputs. -/
abbrev argY : Vec Ideal S8x2048x2688 .f32 := m ((c : Thread nD τ).loc main_arg0)
/-- The keys' gains, a row to a branch. -/
abbrev argG : Vec Ideal S3x64 .f32 := m ((c : Thread nD τ).loc main_arg1)

theorem index0 : ∀ t : Fin grid0.N, win0_0.index t 0 = t.val / 4 ∧ win0_0.index t 1 = t.val % 4 ∧ win0_0.index t 2 = 3 := by decide +kernel
theorem index1 : ∀ t : Fin grid0.N, win0_1.index t 0 = t.val / 4 ∧ win0_1.index t 1 = t.val % 4 ∧ win0_1.index t 2 = 4 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val / 4 ∧ win0_4.index t 1 = t.val % 4 ∧ win0_4.index t 2 = 0 := by decide +kernel
theorem index5 : ∀ t : Fin grid0.N, win0_5.index t 0 = t.val / 4 ∧ win0_5.index t 1 = t.val % 4 ∧ win0_5.index t 2 = 0 := by decide +kernel
theorem index6 : ∀ t : Fin grid0.N, win0_6.index t 0 = t.val / 4 ∧ win0_6.index t 1 = t.val % 4 ∧ win0_6.index t 2 = 0 := by decide +kernel
theorem index7 : ∀ t : Fin grid0.N, win0_7.index t 0 = t.val / 4 ∧ win0_7.index t 1 = t.val % 4 ∧ win0_7.index t 2 = 0 := by decide +kernel

/-- A point's batch. -/
def bat (t : Fin cfg0.N) : Fin 8 := ⟨t.val / 4, by have := t.isLt; have h : cfg0.N = 32 := N_0; omega⟩
/-- A block's row in the array. -/
def pos (t : Fin cfg0.N) (r : Fin 512) : Fin 2048 := ⟨512 * (t.val % 4) + r.val, by omega⟩

/-- The selected branch's columns. -/
theorem block0 (t : Fin cfg0.N) (r k : Fin 512) :
    (X0_0 m c t : Vec Ideal S1x512x512 .f32) (ix3 0 r k) = argY m c (ix3 (bat t) (pos t r) ⟨1536 + k.val, by omega⟩) := by
  unfold X0_0 Pipeline.Window.fill
  rw [dif_pos (moved0_0 t _)]
  unfold iblk
  rw [View.read_apply]
  show V m c main_arg0 _ = m (c.tc.loc main_arg0) _
  rw [V_main_arg0]
  refine congrArg _ (funext fun a => Fin.ext ?_)
  obtain ⟨h0, h1, h2⟩ := index0 t
  match a with
  | ⟨0, _⟩ => show win0_0.index t 0 * 1 + 1 * 0 = t.val / 4; omega
  | ⟨1, _⟩ => show win0_0.index t 1 * 512 + 1 * r.val = 512 * (t.val % 4) + r.val; omega
  | ⟨2, _⟩ => show win0_0.index t 2 * 512 + 1 * k.val = 1536 + k.val; omega

/-- The window branch's columns. -/
theorem block1 (t : Fin cfg0.N) (r k : Fin 512) :
    (X0_1 m c t : Vec Ideal S1x512x512 .f32) (ix3 0 r k) = argY m c (ix3 (bat t) (pos t r) ⟨2048 + k.val, by omega⟩) := by
  unfold X0_1 Pipeline.Window.fill
  rw [dif_pos (moved0_1 t _)]
  unfold iblk
  rw [View.read_apply]
  show V m c main_arg0 _ = m (c.tc.loc main_arg0) _
  rw [V_main_arg0]
  refine congrArg _ (funext fun a => Fin.ext ?_)
  obtain ⟨h0, h1, h2⟩ := index1 t
  match a with
  | ⟨0, _⟩ => show win0_1.index t 0 * 1 + 1 * 0 = t.val / 4; omega
  | ⟨1, _⟩ => show win0_1.index t 1 * 512 + 1 * r.val = 512 * (t.val % 4) + r.val; omega
  | ⟨2, _⟩ => show win0_1.index t 2 * 512 + 1 * k.val = 2048 + k.val; omega

/-- The selected branch's gains. -/
theorem block2 (t : Fin cfg0.N) (d : Fin 64) : (iblk m c 2 t : Vec Ideal S1x64 .f32) (ix2 0 d) = argG m c (ix2 1 d) := by
  have hV : (V m c main_v2 : Vec Ideal S1x64 .f32) (ix2 0 d) = argG m c (ix2 1 d) := by
    unfold_abbrev_sides
    after_results
    pointwise
  rw [← hV]
  unfold iblk
  rw [View.read_apply]
  show V m c main_v2 _ = V m c main_v2 _
  refine congrArg _ (funext fun a => Fin.ext ?_)
  obtain ⟨h0, h1⟩ := index2 t
  match a with
  | ⟨0, _⟩ => show win0_2.index t 0 * 1 + 1 * 0 = 0; omega
  | ⟨1, _⟩ => show win0_2.index t 1 * 64 + 1 * d.val = d.val; omega

/-- The window branch's gains. -/
theorem block3 (t : Fin cfg0.N) (d : Fin 64) : (iblk m c 3 t : Vec Ideal S1x64 .f32) (ix2 0 d) = argG m c (ix2 2 d) := by
  have hV : (V m c main_v5 : Vec Ideal S1x64 .f32) (ix2 0 d) = argG m c (ix2 2 d) := by
    unfold_abbrev_sides
    after_results
    pointwise
  rw [← hV]
  unfold iblk
  rw [View.read_apply]
  show V m c main_v5 _ = V m c main_v5 _
  refine congrArg _ (funext fun a => Fin.ext ?_)
  obtain ⟨h0, h1⟩ := index3 t
  match a with
  | ⟨0, _⟩ => show win0_3.index t 0 * 1 + 1 * 0 = 0; omega
  | ⟨1, _⟩ => show win0_3.index t 1 * 64 + 1 * d.val = d.val; omega

/-- The selected branch's keys: the array the kernel writes is the reference's result. -/
theorem array4 : (dats m 0 c).arrAt 4 cfg0.N = val_main_v48 (F := Ideal) (argY m c) (argG m c) := by
  refine (dats m 0 c).arrAt_eq_of_covers 4 _ (by decide +kernel) fun t hf y => ?_
  blk_simp
  rw [after0_4]
  unfold outsAt0
  dsimp only
  obtain ⟨r, n, rfl⟩ : ∃ (r : Fin 512) (n : Fin 256), y = ix3 (0 : Fin 1) r n :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  refine (out4 _ _ _ _ _ _ _ _ _ _ _ _ _ _ _ _ _ _ _ _ _ _ r n).trans ?_
  have hx : (fun k : Fin 256 => (X0_0 m c t : Vec Ideal S1x512x512 .f32) (ix3 0 r ⟨k.val, by omega⟩)) = fun k : Fin 256 => argY m c (ix3 (bat t) (pos t r) ⟨1536 + k.val, by omega⟩) :=
    funext fun k => block0 m c t r ⟨k.val, by omega⟩
  have hg : (fun d : Fin 64 => (iblk m c 2 t : Vec Ideal S1x64 .f32) (ix2 0 d)) = fun d : Fin 64 => argG m c (ix2 1 d) := funext fun d => block2 m c t d
  refine (congrArg₂ (fun x g => keyCol x g n) hx hg).trans ?_
  refine (ref48_apply (argY m c) (argG m c) (bat t) (pos t r) n).symm.trans (congrArg (val_main_v48 (F := Ideal) (argY m c) (argG m c)) ?_)
  obtain ⟨h0, h1, h2⟩ := index4 t
  funext a
  match a with
  | ⟨0, _⟩ => exact Fin.ext (by show t.val / 4 = win0_4.index t 0 * 1 + 1 * 0; omega)
  | ⟨1, _⟩ => exact Fin.ext (by show 512 * (t.val % 4) + r.val = win0_4.index t 1 * 512 + 1 * r.val; omega)
  | ⟨2, _⟩ => exact Fin.ext (by show n.val = win0_4.index t 2 * 256 + 1 * n.val; omega)

/-- The selected branch's values: the array the kernel writes is the reference's result. -/
theorem array5 : (dats m 0 c).arrAt 5 cfg0.N = val_main_v49 (F := Ideal) (argY m c) := by
  refine (dats m 0 c).arrAt_eq_of_covers 5 _ (by decide +kernel) fun t hf y => ?_
  blk_simp
  rw [after0_5]
  unfold outsAt0
  dsimp only
  obtain ⟨r, n, rfl⟩ : ∃ (r : Fin 512) (n : Fin 512), y = ix3 (0 : Fin 1) r n :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  refine (out5 _ _ _ _ _ _ _ _ _ _ _ _ _ _ _ _ _ _ _ _ _ _ r n).trans ?_
  have hx : (fun k : Fin 256 => (X0_0 m c t : Vec Ideal S1x512x512 .f32) (ix3 0 r ⟨256 + k.val, by omega⟩)) = fun k : Fin 256 => argY m c (ix3 (bat t) (pos t r) ⟨1792 + k.val, by omega⟩) :=
    funext fun k => (block0 m c t r ⟨256 + k.val, by omega⟩).trans (congrArg (fun j => argY m c (ix3 (bat t) (pos t r) j)) (Fin.ext (by show 1536 + (256 + k.val) = 1792 + k.val; omega)))
  refine (congrArg (fun x => valCol x n) hx).trans ?_
  refine (ref49_apply (argY m c) (bat t) (pos t r) n).symm.trans (congrArg (val_main_v49 (F := Ideal) (argY m c)) ?_)
  obtain ⟨h0, h1, h2⟩ := index5 t
  funext a
  match a with
  | ⟨0, _⟩ => exact Fin.ext (by show t.val / 4 = win0_5.index t 0 * 1 + 1 * 0; omega)
  | ⟨1, _⟩ => exact Fin.ext (by show 512 * (t.val % 4) + r.val = win0_5.index t 1 * 512 + 1 * r.val; omega)
  | ⟨2, _⟩ => exact Fin.ext (by show n.val = win0_5.index t 2 * 512 + 1 * n.val; omega)

/-- The window branch's keys: the array the kernel writes is the reference's result. -/
theorem array6 : (dats m 0 c).arrAt 6 cfg0.N = val_main_v50 (F := Ideal) (argY m c) (argG m c) := by
  refine (dats m 0 c).arrAt_eq_of_covers 6 _ (by decide +kernel) fun t hf y => ?_
  blk_simp
  rw [after0_6]
  unfold outsAt0
  dsimp only
  obtain ⟨r, n, rfl⟩ : ∃ (r : Fin 512) (n : Fin 256), y = ix3 (0 : Fin 1) r n :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  refine (out6 _ _ _ _ _ _ _ _ _ _ _ _ _ _ _ _ _ _ _ _ _ _ r n).trans ?_
  have hx : (fun k : Fin 256 => (X0_1 m c t : Vec Ideal S1x512x512 .f32) (ix3 0 r ⟨k.val, by omega⟩)) = fun k : Fin 256 => argY m c (ix3 (bat t) (pos t r) ⟨2048 + k.val, by omega⟩) :=
    funext fun k => block1 m c t r ⟨k.val, by omega⟩
  have hg : (fun d : Fin 64 => (iblk m c 3 t : Vec Ideal S1x64 .f32) (ix2 0 d)) = fun d : Fin 64 => argG m c (ix2 2 d) := funext fun d => block3 m c t d
  refine (congrArg₂ (fun x g => keyCol x g n) hx hg).trans ?_
  refine (ref50_apply (argY m c) (argG m c) (bat t) (pos t r) n).symm.trans (congrArg (val_main_v50 (F := Ideal) (argY m c) (argG m c)) ?_)
  obtain ⟨h0, h1, h2⟩ := index6 t
  funext a
  match a with
  | ⟨0, _⟩ => exact Fin.ext (by show t.val / 4 = win0_6.index t 0 * 1 + 1 * 0; omega)
  | ⟨1, _⟩ => exact Fin.ext (by show 512 * (t.val % 4) + r.val = win0_6.index t 1 * 512 + 1 * r.val; omega)
  | ⟨2, _⟩ => exact Fin.ext (by show n.val = win0_6.index t 2 * 256 + 1 * n.val; omega)

/-- The window branch's values: the array the kernel writes is the reference's result. -/
theorem array7 : (dats m 0 c).arrAt 7 cfg0.N = val_main_v51 (F := Ideal) (argY m c) := by
  refine (dats m 0 c).arrAt_eq_of_covers 7 _ (by decide +kernel) fun t hf y => ?_
  blk_simp
  rw [after0_7]
  unfold outsAt0
  dsimp only
  obtain ⟨r, n, rfl⟩ : ∃ (r : Fin 512) (n : Fin 512), y = ix3 (0 : Fin 1) r n :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  refine (out7 _ _ _ _ _ _ _ _ _ _ _ _ _ _ _ _ _ _ _ _ _ _ r n).trans ?_
  have hx : (fun k : Fin 256 => (X0_1 m c t : Vec Ideal S1x512x512 .f32) (ix3 0 r ⟨256 + k.val, by omega⟩)) = fun k : Fin 256 => argY m c (ix3 (bat t) (pos t r) ⟨2304 + k.val, by omega⟩) :=
    funext fun k => (block1 m c t r ⟨256 + k.val, by omega⟩).trans (congrArg (fun j => argY m c (ix3 (bat t) (pos t r) j)) (Fin.ext (by show 2048 + (256 + k.val) = 2304 + k.val; omega)))
  refine (congrArg (fun x => valCol x n) hx).trans ?_
  refine (ref51_apply (argY m c) (bat t) (pos t r) n).symm.trans (congrArg (val_main_v51 (F := Ideal) (argY m c)) ?_)
  obtain ⟨h0, h1, h2⟩ := index7 t
  funext a
  match a with
  | ⟨0, _⟩ => exact Fin.ext (by show t.val / 4 = win0_7.index t 0 * 1 + 1 * 0; omega)
  | ⟨1, _⟩ => exact Fin.ext (by show 512 * (t.val % 4) + r.val = win0_7.index t 1 * 512 + 1 * r.val; omega)
  | ⟨2, _⟩ => exact Fin.ext (by show n.val = win0_7.index t 2 * 512 + 1 * n.val; omega)

/-- The two programs end with equal results. -/
theorem algebraic : Cert.algebraic_KvIdeal_KvRefIdeal := by
  intro m g m' g' _ hagree
  refine ⟨fun c => val_main_v48 (F := Ideal) (argY m c) (argG m c), fun c => val_main_v49 (F := Ideal) (argY m c),
    fun c => val_main_v50 (F := Ideal) (argY m c) (argG m c), fun c => val_main_v51 (F := Ideal) (argY m c), ?_, ?_⟩
  · refine (θ_run Cert.KvIdeal.defs _ _).mono (fun r hr c => ?_) (run_blocks (F := Ideal) m g)
    obtain ⟨h0, h1, h2, h3, h4⟩ := hr c
    exact ⟨h0.trans (array4 m c), h1.trans (array5 m c), h2.trans (array6 m c), h3.trans (array7 m c), h4⟩
  · refine (θ_run Cert.KvRefIdeal.defs _ _).mono (fun r hr c => ?_) (Cert.KvRefIdeal.Value.run (F := Ideal) m' g')
    obtain ⟨e0, e1⟩ := hagree c
    obtain ⟨h0, h1, h2, h3, h4⟩ := hr c
    refine ⟨h0.trans ?_, h1.trans ?_, h2.trans ?_, h3.trans ?_, h4⟩
    · rw [Cert.KvRefIdeal.Read.val_main_v48_eq, e0, e1]
    · rw [Cert.KvRefIdeal.Read.val_main_v49_eq, e0]
    · rw [Cert.KvRefIdeal.Read.val_main_v50_eq, e0, e1]
    · rw [Cert.KvRefIdeal.Read.val_main_v51_eq, e0]

end Cert.Dense.Kv

end
-- ==== Proof.Dense.Rel.Bucket.lean ====
/-
  The bucket of a distance: below sixteen the distance itself, then by the distance's logarithm, the last one from 129 on.
-/
module

public import proofs.«01_k».proof.Defs
public import Idealize.ShloMosaic.Lib.Pointwise
public import Idealize.ShloMosaic.Lib.Pipeline.ValueKit
public import Idealize.ShloMosaic.Lib.Tactic
public import Mathlib.Analysis.SpecialFunctions.Log.Basic

@[expose] public section

set_option maxRecDepth 16384

noncomputable section

namespace Cert.Dense.Rel

open Idealize.ShloMosaic

/-- The bucket of a distance of at least sixteen. -/
def large (n : BitVec 32) : BitVec 32 :=
  IntOp.minsi (IntOp.addi 16#32 (Ideal.fptosi 32 (Ideal.div (Ideal.log (Ideal.div (((IntOp.maxsi n 1#32).toInt : ℝ) : EReal)
    (Ideal.ofBits .f32 0x41800000#32))) (Ideal.ofBits .f32 0x40051592#32) * Ideal.ofBits .f32 0x41800000#32))) 31#32

/-- The bucket of a distance. -/
def buck (d : BitVec 32) : BitVec 32 :=
  Scalar.select (IntOp.cmpi .slt (IntOp.maxsi d 0#32) 16#32) (IntOp.maxsi d 0#32) (large (IntOp.maxsi d 0#32))

theorem sixteen : Ideal.ofBits .f32 0x41800000#32 = ((16 : ℝ) : EReal) := by
  have h : ∃ r : ℝ, Ideal.ofBits .f32 0x41800000#32 = (r : EReal) ∧ r = 16 := by
    refine ⟨?r, ?e, ?p⟩
    case e =>
      simp [Ideal.ofBits, Ideal.ieee]
      rfl
    case p => norm_num
  obtain ⟨r, h, rfl⟩ := h
  exact h

theorem logEight : ∃ r : ℝ, Ideal.ofBits .f32 0x40051592#32 = (r : EReal) ∧ 2 ≤ r ∧ r ≤ 2.0795 := by
  refine ⟨?r, ?e, ?p, ?q⟩
  case e =>
    simp [Ideal.ofBits, Ideal.ieee]
    rfl
  case p => norm_num
  case q => norm_num

theorem div_coe (x y : ℝ) (hy : y ≠ 0) : Ideal.div (x : EReal) (y : EReal) = ((x / y : ℝ) : EReal) := by
  have h : (y : EReal) ≠ 0 := by exact_mod_cast hy
  unfold Ideal.div
  rw [if_neg h, ← EReal.coe_inv, ← EReal.coe_mul, div_eq_mul_inv]

theorem log_coe (x : ℝ) (hx : 0 < x) : Ideal.log (x : EReal) = ((Real.log x : ℝ) : EReal) := by
  show (if x ≤ 0 then (⊥ : EReal) else (Real.log x : EReal)) = _
  rw [if_neg (not_le.mpr hx)]

theorem fptosi_coe (x : ℝ) (h0 : 0 ≤ x) (h1 : x ≤ 10000) : Ideal.fptosi 32 (x : EReal) = BitVec.ofNat 32 ⌊x⌋₊ := by
  have hf : ⌊x⌋ = (⌊x⌋₊ : ℤ) := (Int.natCast_floor_eq_floor h0).symm
  have hb : ⌊x⌋₊ ≤ 10000 := Nat.floor_le_of_le (by exact_mod_cast h1)
  show BitVec.ofInt 32 (max (-(2 ^ (32 - 1) : Nat)) (min ((2 ^ (32 - 1) : Nat) - 1) (if 0 ≤ x then ⌊x⌋ else ⌈x⌉))) = _
  rw [if_pos h0, hf]
  have e : max (-((2 ^ (32 - 1) : Nat) : ℤ)) (min (((2 ^ (32 - 1) : Nat) : ℤ) - 1) (⌊x⌋₊ : ℤ)) = (⌊x⌋₊ : ℤ) := by
    norm_num
    omega
  rw [e, BitVec.ofInt_natCast]

theorem toInt_small (n : ℕ) (h : n < 100000) : (BitVec.ofNat 32 n).toInt = n := by
  rw [BitVec.toInt_eq_toNat_of_lt (by rw [BitVec.toNat_ofNat]; omega), BitVec.toNat_ofNat]
  omega

theorem slt_small (n k : ℕ) (hn : n < 100000) (hk : k < 100000) : (BitVec.ofNat 32 n).slt (BitVec.ofNat 32 k) = decide (n < k) := by
  rw [BitVec.slt, toInt_small n hn, toInt_small k hk]
  simp

theorem max_zero (n : ℕ) (hn : n < 100000) : IntOp.maxsi (BitVec.ofNat 32 n) 0#32 = BitVec.ofNat 32 n := by
  have h := slt_small 0 n (by omega) hn
  unfold IntOp.maxsi
  rw [show (0#32 : BitVec 32) = BitVec.ofNat 32 0 from rfl, h]
  rcases Nat.eq_zero_or_pos n with rfl | hp
  · simp
  · simp [hp]

theorem max_one (n : ℕ) (h1 : 1 ≤ n) (hn : n < 100000) : IntOp.maxsi (BitVec.ofNat 32 n) 1#32 = BitVec.ofNat 32 n := by
  have h := slt_small 1 n (by omega) hn
  unfold IntOp.maxsi
  rw [show (1#32 : BitVec 32) = BitVec.ofNat 32 1 from rfl, h]
  rcases Nat.eq_or_lt_of_le h1 with rfl | hp
  · simp
  · simp [hp]

theorem log_step (k : ℝ) (hk : 0 < k) : 1 / (k + 1) ≤ Real.log (k + 1) - Real.log k := by
  rw [← Real.log_div (by linarith) hk.ne']
  have h := Real.one_sub_inv_le_log_of_pos (show 0 < (k + 1) / k by positivity)
  have e : 1 - ((k + 1) / k)⁻¹ = 1 / (k + 1) := by
    field_simp
    ring
  linarith

theorem log_two : (0.66 : ℝ) ≤ Real.log 2 := by
  have h8 := log_step 8 (by norm_num)
  have h9 := log_step 9 (by norm_num)
  have h10 := log_step 10 (by norm_num)
  have h11 := log_step 11 (by norm_num)
  have h12 := log_step 12 (by norm_num)
  have h13 := log_step 13 (by norm_num)
  have h14 := log_step 14 (by norm_num)
  have h15 := log_step 15 (by norm_num)
  norm_num at h8 h9 h10 h11 h12 h13 h14 h15
  have e : Real.log 16 = Real.log 8 + Real.log 2 := by
    rw [← Real.log_mul (by norm_num) (by norm_num)]
    norm_num
  linarith

theorem large_eq (n : ℕ) (h16 : 16 ≤ n) (hn : n < 4096) :
    ∃ z : ℕ, z ≤ 10000 ∧ large (BitVec.ofNat 32 n) = BitVec.ofNat 32 (min (16 + z) 31) ∧ (129 ≤ n → 15 ≤ z) := by
  obtain ⟨r, hr, r2, r3⟩ := logEight
  have hnr : (16 : ℝ) ≤ n := by exact_mod_cast h16
  have hnr' : (n : ℝ) < 4096 := by exact_mod_cast hn
  have hq : (1 : ℝ) ≤ (n : ℝ) / 16 := by rw [le_div_iff₀ (by norm_num)]; linarith
  have hl0 : 0 ≤ Real.log ((n : ℝ) / 16) := Real.log_nonneg hq
  have hl1 : Real.log ((n : ℝ) / 16) ≤ 256 := by
    have := Real.log_le_sub_one_of_pos (show (0 : ℝ) < (n : ℝ) / 16 by linarith)
    linarith
  have rp : (0 : ℝ) < r := by linarith
  have hx0 : 0 ≤ Real.log ((n : ℝ) / 16) / r * 16 := by positivity
  have hx1 : Real.log ((n : ℝ) / 16) / r * 16 ≤ 10000 := by
    have : Real.log ((n : ℝ) / 16) / r ≤ 256 := by
      rw [div_le_iff₀ rp]
      nlinarith
    linarith
  have hz : ⌊Real.log ((n : ℝ) / 16) / r * 16⌋₊ ≤ 10000 := Nat.floor_le_of_le (by exact_mod_cast hx1)
  refine ⟨⌊Real.log ((n : ℝ) / 16) / r * 16⌋₊, hz, ?_, fun h129 => ?_⟩
  · unfold large
    rw [max_one n (by omega) (by omega), toInt_small n (by omega), sixteen, hr]
    rw [show (((n : ℤ) : ℝ) : EReal) = ((n : ℝ) : EReal) by norm_cast]
    rw [div_coe _ _ (by norm_num), log_coe _ (by linarith), div_coe _ _ rp.ne', ← EReal.coe_mul, fptosi_coe _ hx0 hx1]
    generalize ⌊Real.log ((n : ℝ) / 16) / r * 16⌋₊ = z at hz
    have e : IntOp.addi 16#32 (BitVec.ofNat 32 z) = BitVec.ofNat 32 (16 + z) := by
      show 16#32 + BitVec.ofNat 32 z = _
      rw [BitVec.ofNat_add]
    rw [e]
    unfold IntOp.minsi
    rw [show (31#32 : BitVec 32) = BitVec.ofNat 32 31 from rfl, slt_small _ _ (by omega) (by omega)]
    by_cases hlt : 16 + z < 31
    · simp [hlt, Nat.min_eq_left hlt.le]
    · simp [hlt, Nat.min_eq_right (not_lt.mp hlt)]
  · refine Nat.le_floor ?_
    have h8 : (8 : ℝ) ≤ (n : ℝ) / 16 := by
      rw [le_div_iff₀ (by norm_num)]
      have : (129 : ℝ) ≤ n := by exact_mod_cast h129
      linarith
    have hl : Real.log 8 ≤ Real.log ((n : ℝ) / 16) := Real.log_le_log (by norm_num) h8
    have h2 : Real.log 8 = 3 * Real.log 2 := by
      rw [show (8 : ℝ) = 2 ^ 3 by norm_num, Real.log_pow]
      norm_num
    have := log_two
    have : (15 : ℝ) / 16 ≤ Real.log ((n : ℝ) / 16) / r := by
      rw [le_div_iff₀ rp]
      nlinarith
    push_cast
    linarith

/-- The bucket of a distance, as a row of the table. -/
def row (n : ℕ) : Fin 32 := ⟨min (buck (BitVec.ofNat 32 n)).toNat 31, by omega⟩

theorem buck_small (n : ℕ) (h : n < 16) : buck (BitVec.ofNat 32 n) = BitVec.ofNat 32 n := by
  unfold buck
  rw [max_zero n (by omega)]
  unfold IntOp.cmpi
  simp [show (16#32 : BitVec 32) = BitVec.ofNat 32 16 from rfl, slt_small n 16 (by omega) (by omega), h, Scalar.select]

theorem buck_large (n : ℕ) (h : 16 ≤ n) (hn : n < 4096) : buck (BitVec.ofNat 32 n) = large (BitVec.ofNat 32 n) := by
  unfold buck
  rw [max_zero n (by omega)]
  unfold IntOp.cmpi
  simp [show (16#32 : BitVec 32) = BitVec.ofNat 32 16 from rfl, slt_small n 16 (by omega) (by omega), show ¬ n < 16 by omega, Scalar.select]

theorem buck_row (n : ℕ) (hn : n < 4096) : buck (BitVec.ofNat 32 n) = BitVec.ofNat 32 (row n).val := by
  have h : ∃ k : ℕ, k < 32 ∧ buck (BitVec.ofNat 32 n) = BitVec.ofNat 32 k := by
    by_cases h : n < 16
    · exact ⟨n, by omega, buck_small n h⟩
    · obtain ⟨z, hz, e, _⟩ := large_eq n (by omega) hn
      exact ⟨_, by omega, (buck_large n (by omega) hn).trans e⟩
  obtain ⟨k, hk, e⟩ := h
  have e' : (row n).val = k := by
    show min (buck (BitVec.ofNat 32 n)).toNat 31 = k
    rw [e, BitVec.toNat_ofNat]
    omega
  rw [e, e']

/-- From a distance of 129 on, the last bucket. -/
theorem row_last (n : ℕ) (h : 129 ≤ n) (hn : n < 4096) : row n = 31 := by
  obtain ⟨z, hz, e, hl⟩ := large_eq n (by omega) hn
  have := hl h
  refine Fin.ext ?_
  show min (buck (BitVec.ofNat 32 n)).toNat 31 = 31
  rw [buck_large n (by omega) hn, e, show min (16 + z) 31 = 31 by omega]
  rfl

end Cert.Dense.Rel

end
-- ==== Proof.Dense.Rel.Body.lean ====
/-
  The kernel's tiles of the position bias: a lookup goes down the buckets, each the table's row at the point's head.
-/
module

public import proofs.«01_k».proof.Defs
public import proofs.«01_k».proof.Proof.Dense.Rel.Bucket
public import proofs.«01_k».proof.Proof.Gen.RelIdeal.Value
public import Idealize.ShloMosaic.Lib.Pointwise
public import Idealize.ShloMosaic.Lib.Pipeline.ValueKit
public import Idealize.ShloMosaic.Lib.Tactic

@[expose] public section

set_option maxRecDepth 16384

noncomputable section

namespace Cert.Dense.Rel

open Idealize.ShloMosaic
open Cert.RelIdeal Cert.RelIdeal.Gen

/-- A lookup down the buckets. -/
def nest (v : BitVec 32) (f : Fin 32 → EReal) : EReal :=
  Scalar.select (IntOp.cmpi .eq v 31#32) (f 31)
      (Scalar.select (IntOp.cmpi .eq v 30#32) (f 30)
      (Scalar.select (IntOp.cmpi .eq v 29#32) (f 29)
      (Scalar.select (IntOp.cmpi .eq v 28#32) (f 28)
      (Scalar.select (IntOp.cmpi .eq v 27#32) (f 27)
      (Scalar.select (IntOp.cmpi .eq v 26#32) (f 26)
      (Scalar.select (IntOp.cmpi .eq v 25#32) (f 25)
      (Scalar.select (IntOp.cmpi .eq v 24#32) (f 24)
      (Scalar.select (IntOp.cmpi .eq v 23#32) (f 23)
      (Scalar.select (IntOp.cmpi .eq v 22#32) (f 22)
      (Scalar.select (IntOp.cmpi .eq v 21#32) (f 21)
      (Scalar.select (IntOp.cmpi .eq v 20#32) (f 20)
      (Scalar.select (IntOp.cmpi .eq v 19#32) (f 19)
      (Scalar.select (IntOp.cmpi .eq v 18#32) (f 18)
      (Scalar.select (IntOp.cmpi .eq v 17#32) (f 17)
      (Scalar.select (IntOp.cmpi .eq v 16#32) (f 16)
      (Scalar.select (IntOp.cmpi .eq v 15#32) (f 15)
      (Scalar.select (IntOp.cmpi .eq v 14#32) (f 14)
      (Scalar.select (IntOp.cmpi .eq v 13#32) (f 13)
      (Scalar.select (IntOp.cmpi .eq v 12#32) (f 12)
      (Scalar.select (IntOp.cmpi .eq v 11#32) (f 11)
      (Scalar.select (IntOp.cmpi .eq v 10#32) (f 10)
      (Scalar.select (IntOp.cmpi .eq v 9#32) (f 9)
      (Scalar.select (IntOp.cmpi .eq v 8#32) (f 8)
      (Scalar.select (IntOp.cmpi .eq v 7#32) (f 7)
      (Scalar.select (IntOp.cmpi .eq v 6#32) (f 6)
      (Scalar.select (IntOp.cmpi .eq v 5#32) (f 5)
      (Scalar.select (IntOp.cmpi .eq v 4#32) (f 4)
      (Scalar.select (IntOp.cmpi .eq v 3#32) (f 3)
      (Scalar.select (IntOp.cmpi .eq v 2#32) (f 2)
      (Scalar.select (IntOp.cmpi .eq v 1#32) (f 1)
      (Scalar.select (IntOp.cmpi .eq v 0#32) (f 0)
      (Ideal.ofBits .f32 0x00000000#32))))))))))))))))))))))))))))))))

theorem nest_eq (k : Fin 32) (f : Fin 32 → EReal) : nest (BitVec.ofNat 32 k.val) f = f k := by
  fin_cases k <;> rfl

variable (c : Dev nD) (i : grid0.Coords) (arg1 : Memref sig .tc .smem S32x16 .f32) (harg1 : arg1.IsWhole)
  (arg2 : Memref sig .tc .vmem S1x5x128x128 .f32) (harg2 : arg2.IsWhole) (arg3 : Memref sig .tc .vmem S1x128x128 .f32) (harg3 : arg3.IsWhole)
  (x0 : Vec Ideal S32x16 .f32)

theorem one_numel : 0 < S1x1.numel := by decide

/-- The table's entry a point reads. -/
abbrev entry (off : Fin 2 → ℕ) (h : ∀ a, off a + S1x1.size a ≤ S32x16.size a) : EReal :=
  View.readAt (Elt Ideal) arg1.view (Rect.unit (s := S32x16) off S1x1.size h).toLoadRect (harg1.unread x0) (Shape.Idx.first one_numel)

theorem entry_eq (off : Fin 2 → ℕ) (h : ∀ a, off a + S1x1.size a ≤ S32x16.size a) (k : Fin 32) (hd : Fin 16)
    (h0 : off 0 = k.val) (h1 : off 1 = hd.val) : entry arg1 harg1 x0 off h = x0 (ix2 k hd) := by
  unfold entry
  rw [View.readAt_apply, harg1.read_unread]
  refine congrArg x0 (funext fun a => Fin.ext ?_)
  match a with
  | ⟨0, _⟩ => show off 0 + 1 * 0 = k.val; omega
  | ⟨1, _⟩ => show off 1 + 1 * 0 = hd.val; omega

/-- A bucket's place in the table, at a point's head. -/
abbrev place (i : grid0.Coords) (k : Fin 32) : Fin 2 → ℕ := ![k.val, (Scalar.indexCast (BitVec.ofNat 32 (i 0).val)).toNat]

theorem place_head : ∀ h : Fin 16, (Scalar.indexCast (BitVec.ofNat 32 h.val)).toNat = h.val := by decide +kernel

theorem place_inb (i : grid0.Coords) (k : Fin 32) (a : Fin 2) : place i k a + S1x1.size a ≤ S32x16.size a := by
  have h : (i 0).val < 16 := (i 0).isLt
  have e := place_head ⟨(i 0).val, h⟩
  match a with
  | ⟨0, _⟩ => show k.val + 1 ≤ 32; omega
  | ⟨1, _⟩ => show (Scalar.indexCast (BitVec.ofNat 32 (i 0).val)).toNat + 1 ≤ 16; rw [e]; show (i 0).val + 1 ≤ 16; omega

/-- A point's head. -/
def hd (i : grid0.Coords) : Fin 16 := ⟨(i 0).val, (i 0).isLt⟩

theorem place_entry (k : Fin 32) : entry arg1 harg1 x0 (place i k) (place_inb i k) = x0 (ix2 k (hd i)) :=
  entry_eq arg1 harg1 x0 _ _ k (hd i) rfl (place_head (hd i))

theorem last_eq : kernelRun0_A.sl.r (F := Ideal) c i arg1 harg1 x0 = x0 (ix2 31 (hd i)) := place_entry i arg1 harg1 x0 31

/-- The masked score. -/
abbrev masked : EReal := Ideal.ofBits .f32 0xF149F2CA#32

theorem iota0 (a b : Fin 128) : kernelRun0_A.sl.v0 (ix2 a b) = BitVec.ofNat 32 a.val := by
  unfold kernelRun0_A.sl.v0
  pointwise

theorem iota1 (a b : Fin 128) : kernelRun0_A.sl.v1 (ix2 a b) = BitVec.ofNat 32 b.val := by
  unfold kernelRun0_A.sl.v1
  pointwise

theorem pay1_apply (a b : Fin 128) : k0_pay1 (ix2 a b) = IntOp.cmpi .sge (BitVec.ofNat 32 a.val) (BitVec.ofNat 32 b.val) := by
  pointwise [k0_pay1]

theorem pay2_apply (a b : Fin 128) : k0_pay2 (F := Ideal) (ix2 a b) = buck (IntOp.subi (BitVec.ofNat 32 a.val) (BitVec.ofNat 32 b.val)) := by
  rw [← iota0 a b, ← iota1 a b]
  rfl

theorem pay13_apply (a b : Fin 128) : k0_pay13 (F := Ideal) kernelRun0_A.sl.v0 kernelRun0_A.sl.v1 (ix2 a b)
    = buck (IntOp.addi (IntOp.subi (BitVec.ofNat 32 a.val) (BitVec.ofNat 32 b.val)) 128#32) := by
  rw [← iota0 a b, ← iota1 a b]
  rfl

/-- The distance to a compressed block's end. -/
abbrev gap (a b : BitVec 32) : BitVec 32 :=
  IntOp.subi a (IntOp.subi (IntOp.addi (IntOp.muli (IntOp.subi b 64#32) 16#32) 32#32) 1#32)

theorem pay30_apply (a b : Fin 128) : k0_pay30 (F := Ideal) (k0_pay27 kernelRun0_A.sl.v0 kernelRun0_A.sl.v1)
      (k0_pay28 kernelRun0_A.sl.v0 kernelRun0_A.sl.v1) k0_pay29 (ix2 a b)
    = buck (gap (BitVec.ofNat 32 a.val) (BitVec.ofNat 32 b.val)) := by
  rw [← iota0 a b, ← iota1 a b]
  rfl

theorem pay26_apply (a b : Fin 128) : k0_pay26 kernelRun0_A.sl.v0 kernelRun0_A.sl.v1 (ix2 a b)
    = IntOp.cmpi .sge (gap (BitVec.ofNat 32 a.val) (BitVec.ofNat 32 b.val)) 0#32 := by
  rw [← iota0 a b, ← iota1 a b]
  rfl

/-- The table at a point's head. -/
abbrev tab (k : Fin 32) : EReal := entry arg1 harg1 x0 (place i k) (place_inb i k)

theorem diag_read (a b : Fin 128) : kernelRun0_A.sl.r_33 (F := Ideal) c i arg1 harg1 x0 (ix2 a b)
    = Scalar.select (k0_pay1 (ix2 a b)) (nest (k0_pay2 (F := Ideal) (ix2 a b)) (tab i arg1 harg1 x0)) masked := by
  rfl

theorem back_read (a b : Fin 128) : kernelRun0_A.sl.v439 (F := Ideal) c i arg1 harg1 x0 (ix2 a b)
    = nest (k0_pay13 (F := Ideal) kernelRun0_A.sl.v0 kernelRun0_A.sl.v1 (ix2 a b)) (tab i arg1 harg1 x0) := by
  rfl

theorem cmp_read (a b : Fin 128) : kernelRun0_A.sl.r_49 (F := Ideal) c i arg1 harg1 x0 (ix3 0 a b)
    = Scalar.select (k0_pay26 kernelRun0_A.sl.v0 kernelRun0_A.sl.v1 (ix2 a b))
      (nest (k0_pay30 (F := Ideal) (k0_pay27 kernelRun0_A.sl.v0 kernelRun0_A.sl.v1)
        (k0_pay28 kernelRun0_A.sl.v0 kernelRun0_A.sl.v1) k0_pay29 (ix2 a b)) (tab i arg1 harg1 x0))
      (kernelRun0_A.sl.r (F := Ideal) c i arg1 harg1 x0) := by
  have e : ∀ (v3 : Elt Ideal .f32) v468 v488 v651 v653 v655 v661 v667 v673 v679, k0_pay41 (F := Ideal) v3 v468 v488 v651 v653 v655 v661 v667 v673 v679 (ix3 0 a b)
      = Scalar.select (v468 (ix2 a b)) (Scalar.select (IntOp.cmpi .eq (v488 (ix2 a b)) 31#32) v679
        (Scalar.select (IntOp.cmpi .eq (v488 (ix2 a b)) 30#32) v673 (Scalar.select (IntOp.cmpi .eq (v488 (ix2 a b)) 29#32) v667
        (Scalar.select (IntOp.cmpi .eq (v488 (ix2 a b)) 28#32) v661 (Scalar.select (v653 (ix2 a b)) v655 (v651 (ix2 a b))))))) v3 := by
    intro v3 v468 v488 v651 v653 v655 v661 v667 v673 v679
    pointwise [k0_pay41]
  unfold kernelRun0_A.sl.r_49
  rw [e]
  rfl

end Cert.Dense.Rel

end
-- ==== Proof.Dense.Rel.Tiles.lean ====
/-
  The kernel's tiles of the position bias, entry by entry: the table's row at the bucket of the entry's distance.
-/
module

public import proofs.«01_k».proof.Defs
public import proofs.«01_k».proof.Proof.Dense.Rel.Bucket
public import proofs.«01_k».proof.Proof.Dense.Rel.Body
public import proofs.«01_k».proof.Proof.Gen.RelIdeal.Value
public import Idealize.ShloMosaic.Lib.Pointwise
public import Idealize.ShloMosaic.Lib.Pipeline.ValueKit
public import Idealize.ShloMosaic.Lib.Tactic

@[expose] public section

set_option maxRecDepth 16384

noncomputable section

namespace Cert.Dense.Rel

open Idealize.ShloMosaic

theorem sub_nat (a b : Fin 128) (h : b.val ≤ a.val) :
    IntOp.subi (BitVec.ofNat 32 a.val) (BitVec.ofNat 32 b.val) = BitVec.ofNat 32 (a.val - b.val) := by
  show BitVec.ofNat 32 a.val - BitVec.ofNat 32 b.val = _
  refine BitVec.eq_of_toNat_eq ?_
  simp only [BitVec.toNat_sub, BitVec.toNat_ofNat]
  omega

theorem add_nat (a b : Fin 128) (k : ℕ) (hk : 128 ≤ k) (hk' : k < 1000) :
    IntOp.addi (IntOp.subi (BitVec.ofNat 32 a.val) (BitVec.ofNat 32 b.val)) (BitVec.ofNat 32 k) = BitVec.ofNat 32 (a.val + k - b.val) := by
  show BitVec.ofNat 32 a.val - BitVec.ofNat 32 b.val + BitVec.ofNat 32 k = _
  refine BitVec.eq_of_toNat_eq ?_
  simp only [BitVec.toNat_add, BitVec.toNat_sub, BitVec.toNat_ofNat]
  omega

theorem gap_toNat (a b : Fin 128) : (gap (BitVec.ofNat 32 a.val) (BitVec.ofNat 32 b.val)).toNat = (2 ^ 32 + a.val + 993 - 16 * b.val) % 2 ^ 32 := by
  show (BitVec.ofNat 32 a.val - ((BitVec.ofNat 32 b.val - 64#32) * 16#32 + 32#32 - 1#32)).toNat = _
  simp only [BitVec.toNat_add, BitVec.toNat_sub, BitVec.toNat_mul, BitVec.toNat_ofNat]
  omega

theorem gap_nat (a b : Fin 128) (h : 16 * b.val ≤ a.val + 993) :
    gap (BitVec.ofNat 32 a.val) (BitVec.ofNat 32 b.val) = BitVec.ofNat 32 (a.val + 993 - 16 * b.val) := by
  refine BitVec.eq_of_toNat_eq ?_
  rw [gap_toNat, BitVec.toNat_ofNat]
  omega

theorem gap_wrap (a b : Fin 128) (h : ¬ 16 * b.val ≤ a.val + 993) :
    IntOp.addi (gap (BitVec.ofNat 32 a.val) (BitVec.ofNat 32 b.val)) 2048#32 = BitVec.ofNat 32 (a.val + 3041 - 16 * b.val) := by
  show gap (BitVec.ofNat 32 a.val) (BitVec.ofNat 32 b.val) + 2048#32 = _
  refine BitVec.eq_of_toNat_eq ?_
  rw [BitVec.toNat_add, gap_toNat, BitVec.toNat_ofNat, BitVec.toNat_ofNat]
  omega

/-- A comparison's bit. -/
theorem select_if {α : Type} (p : Prop) [Decidable p] (v : BitVec 1) (h : v = if p then 1#1 else 0#1) (x y : α) :
    Scalar.select v x y = if p then x else y := by
  subst h
  split_ifs <;> rfl

theorem sge_nat : ∀ a b : Fin 128, IntOp.cmpi .sge (BitVec.ofNat 32 a.val) (BitVec.ofNat 32 b.val) = if b.val ≤ a.val then 1#1 else 0#1 := by
  decide +kernel

theorem slt_nat : ∀ a b : Fin 128, IntOp.cmpi .slt (BitVec.ofNat 32 a.val) (BitVec.ofNat 32 b.val) = if a.val < b.val then 1#1 else 0#1 := by
  decide +kernel

theorem gap_sge : ∀ a b : Fin 128, IntOp.cmpi .sge (gap (BitVec.ofNat 32 a.val) (BitVec.ofNat 32 b.val)) 0#32
    = if 16 * b.val ≤ a.val + 993 then 1#1 else 0#1 := by
  decide +kernel

theorem nest_row (n : ℕ) (hn : n < 4096) (f : Fin 32 → EReal) : nest (buck (BitVec.ofNat 32 n)) f = f (row n) := by
  rw [buck_row n hn, nest_eq]

/-- The bias's tiles of a head: the diagonal, one and two tiles back, the window's far edge, and the masked tile. -/
def tile (x : Fin 32 → EReal) (k : Fin 5) (a b : Fin 128) : EReal :=
  if k.val = 0 then (if b.val ≤ a.val then x (row (a.val - b.val)) else masked)
  else if k.val = 1 then x (row (a.val + 128 - b.val))
  else if k.val = 2 then x 31
  else if k.val = 3 then (if a.val < b.val then x 31 else masked)
  else masked

/-- The compressed blocks' bias of a head. -/
def cmpTile (x : Fin 32 → EReal) (a b : Fin 128) : EReal :=
  if 16 * b.val ≤ a.val + 993 then x (row (a.val + 993 - 16 * b.val)) else x 31

section Kernel

open Cert.RelIdeal Cert.RelIdeal.Gen

variable (c : Dev nD) (i : grid0.Coords) (arg1 : Memref sig .tc .smem S32x16 .f32) (harg1 : arg1.IsWhole)
  (arg2 : Memref sig .tc .vmem S1x5x128x128 .f32) (harg2 : arg2.IsWhole) (arg3 : Memref sig .tc .vmem S1x128x128 .f32) (harg3 : arg3.IsWhole)
  (x0 : Vec Ideal S32x16 .f32)

theorem pay12_apply (v : FVec Ideal S128x128 .f32) (a b : Fin 128) : k0_pay12 (F := Ideal) v (ix4 0 0 a b) = v (ix2 a b) := by
  pointwise [k0_pay12]

theorem pay21_apply (v : FVec Ideal S128x128 .f32) (a b : Fin 128) : k0_pay21 (F := Ideal) v (ix4 0 0 a b) = v (ix2 a b) := by
  pointwise [k0_pay21]

theorem pay22_apply (v : Elt Ideal .f32) (a b : Fin 128) : k0_pay22 (F := Ideal) v (ix4 0 0 a b) = v := by
  pointwise [k0_pay22]

theorem pay23_apply (v0 v1 : IVec S128x128 32) (v : Elt Ideal .f32) (a b : Fin 128) : k0_pay23 (F := Ideal) v0 v1 v (ix4 0 0 a b)
    = Scalar.select (IntOp.cmpi .slt (v0 (ix2 a b)) (v1 (ix2 a b))) v masked := by
  pointwise [k0_pay23]

theorem pay24_apply (a b : Fin 128) : k0_pay24 (F := Ideal) (ix4 0 0 a b) = masked := by
  pointwise [k0_pay24]

theorem piece_ix4 (x : S1x1x128x128.Idx) : ∃ a b : Fin 128, x = ix4 (0 : Fin 1) (0 : Fin 1) a b :=
  ⟨x 2, x 3, funext fun q => match q with
    | ⟨0, _⟩ => Fin.ext (by have h : (x 0).val < 1 := (x 0).isLt; show (x 0).val = 0; omega)
    | ⟨1, _⟩ => Fin.ext (by have h : (x 1).val < 1 := (x 1).isLt; show (x 1).val = 0; omega)
    | ⟨2, _⟩ => rfl
    | ⟨3, _⟩ => rfl⟩

theorem tab_eq (k : Fin 32) : tab i arg1 harg1 x0 k = x0 (ix2 k (hd i)) := place_entry i arg1 harg1 x0 k

theorem diag_apply (a b : Fin 128) : kernelRun0_A.sl.r_33 (F := Ideal) c i arg1 harg1 x0 (ix2 a b)
    = if b.val ≤ a.val then x0 (ix2 (row (a.val - b.val)) (hd i)) else masked := by
  rw [diag_read, pay1_apply, pay2_apply, select_if _ _ (sge_nat a b)]
  split_ifs with h
  · rw [sub_nat a b h, nest_row _ (by omega), tab_eq]
  · rfl

theorem back_apply (a b : Fin 128) : kernelRun0_A.sl.v439 (F := Ideal) c i arg1 harg1 x0 (ix2 a b) = x0 (ix2 (row (a.val + 128 - b.val)) (hd i)) := by
  rw [back_read, pay13_apply, add_nat a b 128 (by omega) (by omega), nest_row _ (by omega), tab_eq]

theorem cmp_apply (a b : Fin 128) : kernelRun0_A.sl.r_49 (F := Ideal) c i arg1 harg1 x0 (ix3 0 a b) = cmpTile (fun k => x0 (ix2 k (hd i))) a b := by
  rw [cmp_read, pay26_apply, pay30_apply, select_if _ _ (gap_sge a b), last_eq]
  unfold cmpTile
  split_ifs with h
  · rw [gap_nat a b h, nest_row _ (by omega), tab_eq]
  · rfl

/-- A point's tiles. -/
theorem out1 (k : Fin 5) (a b : Fin 128) :
    out0_A_1 (F := Ideal) c i arg1 harg1 arg2 harg2 arg3 harg3 x0 (ix4 0 k a b) = tile (fun k => x0 (ix2 k (hd i))) k a b := by
  unfold out0_A_1
  rw [View.read_writes_junk_eq_canon]
  unfold kernelRun0_A
  dsimp only
  canon_tiles x hx
  · obtain ⟨a', b', rfl⟩ := piece_ix4 x
    obtain rfl : a = a' := Fin.ext hx2
    obtain rfl : b = b' := Fin.ext hx3
    obtain rfl : k = 4 := Fin.ext hx1
    exact pay24_apply a b
  · obtain ⟨a', b', rfl⟩ := piece_ix4 x
    obtain rfl : a = a' := Fin.ext hx2
    obtain rfl : b = b' := Fin.ext hx3
    obtain rfl : k = 3 := Fin.ext hx1
    refine (pay23_apply _ _ _ a b).trans ?_
    rw [iota0, iota1, select_if _ _ (slt_nat a b), last_eq]
    rfl
  · obtain ⟨a', b', rfl⟩ := piece_ix4 x
    obtain rfl : k = 2 := Fin.ext hx1
    refine (pay22_apply _ a' b').trans ?_
    rw [last_eq]
    rfl
  · obtain ⟨a', b', rfl⟩ := piece_ix4 x
    obtain rfl : a = a' := Fin.ext hx2
    obtain rfl : b = b' := Fin.ext hx3
    obtain rfl : k = 1 := Fin.ext hx1
    refine (pay21_apply _ a b).trans ?_
    rw [back_apply]
    rfl
  · obtain ⟨a', b', rfl⟩ := piece_ix4 x
    obtain rfl : a = a' := Fin.ext hx2
    obtain rfl : b = b' := Fin.ext hx3
    obtain rfl : k = 0 := Fin.ext hx1
    refine (pay12_apply _ a b).trans ?_
    rw [diag_apply]
    rfl

/-- A point's bias of the compressed blocks. -/
theorem out2 (a b : Fin 128) :
    out0_A_2 (F := Ideal) c i arg1 harg1 arg2 harg2 arg3 harg3 x0 (ix3 0 a b) = cmpTile (fun k => x0 (ix2 k (hd i))) a b := by
  unfold out0_A_2
  rw [View.read_writes_junk_eq_canon]
  unfold kernelRun0_A
  dsimp only
  canon_tiles x hx
  · obtain ⟨a', b', rfl⟩ : ∃ a b : Fin 128, x = ix3 (0 : Fin 1) a b := ⟨x 1, x 2, funext fun q => match q with
      | ⟨0, _⟩ => Fin.ext (by have h : (x 0).val < 1 := (x 0).isLt; show (x 0).val = 0; omega)
      | ⟨1, _⟩ => rfl
      | ⟨2, _⟩ => rfl⟩
    obtain rfl : a = a' := Fin.ext hx1
    obtain rfl : b = b' := Fin.ext hx2
    exact cmp_apply c i arg1 harg1 x0 a b

end Kernel

end Cert.Dense.Rel

end
-- ==== Proof.Dense.Rel.Ref.lean ====
/-
  The reference's bias: a gather of the table's rows at the buckets of a tile's distances.
-/
module

public import proofs.«01_k».proof.Defs
public import proofs.«01_k».proof.Proof.Dense.Rel.Bucket
public import proofs.«01_k».proof.Proof.Gen.RelRefIdeal.Read
public import Idealize.ShloMosaic.Lib.Pointwise
public import Idealize.ShloMosaic.Lib.Pipeline.ValueKit
public import Idealize.ShloMosaic.Lib.ValueIdxCore
public import Idealize.ShloMosaic.Lib.Tactic

@[expose] public section

set_option maxRecDepth 16384

noncomputable section

namespace Cert.Dense.Rel

open Idealize.ShloMosaic
open Cert.RelRefIdeal Cert.RelRefIdeal.Gen Cert.RelRefIdeal.Read

abbrev dims : GatherDims S32x16 S128x128x1 S128x128x16 := gather_S32x16_S128x128x1_S128x128x16_2_0_n_n_0_2_116

/-- The gather takes a row of the table, at its start index clamped into the table. -/
theorem gather_row (x : Vec Ideal S32x16 .f32) (idx : IVec S128x128x1 32) (a b : Fin 128) (h : Fin 16) :
    Host.gather dims x idx (ix3 a b h) = x (ix2 ⟨min (idx (ix3 a b 0)).toInt.toNat 31, by omega⟩ h) := by
  unfold Host.gather
  congr 1
  funext q
  refine Fin.ext ?_
  show dims.start (ix3 a b h) idx q + dims.batchCoord (ix3 a b h) q + dims.offCoord (ix3 a b h) q = _
  have h01 : q = 0 ∨ q = 1 := by
    match q with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ dims.startIndexMap from List.mem_singleton.mpr rfl)]
    have hsi : dims.siIdx (ix3 a b h) ⟨List.idxOf (0 : Fin 2) dims.startIndexMap,
        List.idxOf_lt_length_iff.2 (List.mem_singleton.mpr rfl)⟩ = ix3 a b 0 := by
      funext p; refine Fin.ext ?_
      match p with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show (1 : Fin 2) ∉ dims.startIndexMap from by decide)]
    unfold GatherDims.offCoord
    rw [dif_pos (show (1 : Fin 2) ∈ dims.sKept from by decide)]
    show 0 + 0 + h.val = h.val
    omega

/-- A look-up: the table's row at a bucket, of a head. -/
theorem look (x : Vec Ideal S32x16 .f32) (w z k : IVec S128x128 32) (a b : Fin 128) (h : Fin 16) (r : Fin 32) (hw : w (ix2 a b) = BitVec.ofNat 32 r.val)
    (hz : z (ix2 a b) = 0#32) :
    transpose S16x128x128 [2, 0, 1] (Host.gather dims x (broadcastInDim S128x128x1 ![0, 1] bcast_S128x128_S128x128x1_0_1
      (select (cmpi .slt w z) (addi w k) w))) transposes_S128x128x16_S16x128x128_2_0_1 (ix3 h a b) = x (ix2 r h) := by
  have e : broadcastInDim S128x128x1 ![0, 1] bcast_S128x128_S128x128x1_0_1 (select (cmpi .slt w z) (addi w k) w) (ix3 a b 0) = BitVec.ofNat 32 r.val := by
    have e1 : broadcastInDim S128x128x1 ![0, 1] bcast_S128x128_S128x128x1_0_1 (select (cmpi .slt w z) (addi w k) w) (ix3 a b 0)
        = Scalar.select (IntOp.cmpi .slt (w (ix2 a b)) (z (ix2 a b))) (IntOp.addi (w (ix2 a b)) (k (ix2 a b))) (w (ix2 a b)) := by
      pointwise
    rw [e1, hw, hz]
    have hs : IntOp.cmpi .slt (BitVec.ofNat 32 r.val) 0#32 = 0#1 := by
      have hd : ∀ r : Fin 32, IntOp.cmpi .slt (BitVec.ofNat 32 r.val) 0#32 = 0#1 := by decide
      exact hd r
    rw [hs]
    rfl
  have g := gather_row x (broadcastInDim S128x128x1 ![0, 1] bcast_S128x128_S128x128x1_0_1 (select (cmpi .slt w z) (addi w k) w)) a b h
  have t : ∀ y : FVec Ideal S128x128x16 .f32, transpose S16x128x128 [2, 0, 1] y transposes_S128x128x16_S16x128x128_2_0_1 (ix3 h a b) = y (ix3 a b h) := by
    intro y
    pointwise
  refine (t _).trans (g.trans (congrArg (fun q => x (ix2 q h)) (Fin.ext ?_)))
  show min (_ : BitVec 32).toInt.toNat 31 = r.val
  rw [e, toInt_small _ (by omega)]
  omega

theorem col_at (a b : Fin 128) : val_main_v11 (F := Ideal) (ix2 a b) = BitVec.ofNat 32 a.val := by
  pointwise [val_main_v11, val_main_v1, val_main_v0]

theorem row_at (a b : Fin 128) : val_main_v12 (F := Ideal) (ix2 a b) = BitVec.ofNat 32 b.val := by
  pointwise [val_main_v12, val_main_v3, val_main_v2]

theorem buck33 (a b : Fin 128) : val_main_v33 (F := Ideal) (ix2 a b) = buck (IntOp.subi (BitVec.ofNat 32 a.val) (BitVec.ofNat 32 b.val)) := by
  rw [← col_at a b, ← row_at a b]
  rfl

theorem buck67 (a b : Fin 128) : val_main_v67 (F := Ideal) (ix2 a b) = buck (IntOp.addi (IntOp.subi (BitVec.ofNat 32 a.val) (BitVec.ofNat 32 b.val)) 128#32) := by
  rw [← col_at a b, ← row_at a b]
  rfl

theorem buck100 (a b : Fin 128) : val_main_v100 (F := Ideal) (ix2 a b) = buck (IntOp.addi (IntOp.subi (BitVec.ofNat 32 a.val) (BitVec.ofNat 32 b.val)) 256#32) := by
  rw [← col_at a b, ← row_at a b]
  rfl

theorem buck141 (a b : Fin 128) : val_main_v141 (F := Ideal) (ix2 a b) = buck (IntOp.addi (IntOp.subi (BitVec.ofNat 32 a.val) (BitVec.ofNat 32 b.val)) 512#32) := by
  rw [← col_at a b, ← row_at a b]
  rfl

theorem dist161 (a b : Fin 128) : val_main_v161 (F := Ideal) (ix2 a b)
    = IntOp.subi (BitVec.ofNat 32 a.val) (IntOp.subi (IntOp.addi (IntOp.muli (IntOp.subi (BitVec.ofNat 32 b.val) 64#32) 16#32) 32#32) 1#32) := by
  rw [← col_at a b, ← row_at a b]
  rfl

theorem buck192 (a b : Fin 128) : val_main_v192 (F := Ideal) (ix2 a b)
    = buck (Scalar.select (IntOp.cmpi .sge (val_main_v161 (F := Ideal) (ix2 a b)) 0#32) (val_main_v161 (F := Ideal) (ix2 a b))
      (IntOp.addi (val_main_v161 (F := Ideal) (ix2 a b)) 2048#32)) := by
  rfl

theorem at41 (x : Vec Ideal S32x16 .f32) (a b : Fin 128) (h : Fin 16) (r : Fin 32) (hw : val_main_v33 (F := Ideal) (ix2 a b) = BitVec.ofNat 32 r.val) :
    val_main_v41 (F := Ideal) x (ix3 h a b) = x (ix2 r h) :=
  look x val_main_v33 val_main_v34 val_main_v36 a b h r hw rfl

theorem at75 (x : Vec Ideal S32x16 .f32) (a b : Fin 128) (h : Fin 16) (r : Fin 32) (hw : val_main_v67 (F := Ideal) (ix2 a b) = BitVec.ofNat 32 r.val) :
    val_main_v75 (F := Ideal) x (ix3 h a b) = x (ix2 r h) :=
  look x val_main_v67 val_main_v68 val_main_v70 a b h r hw rfl

theorem at108 (x : Vec Ideal S32x16 .f32) (a b : Fin 128) (h : Fin 16) (r : Fin 32) (hw : val_main_v100 (F := Ideal) (ix2 a b) = BitVec.ofNat 32 r.val) :
    val_main_v108 (F := Ideal) x (ix3 h a b) = x (ix2 r h) :=
  look x val_main_v100 val_main_v101 val_main_v103 a b h r hw rfl

theorem at149 (x : Vec Ideal S32x16 .f32) (a b : Fin 128) (h : Fin 16) (r : Fin 32) (hw : val_main_v141 (F := Ideal) (ix2 a b) = BitVec.ofNat 32 r.val) :
    val_main_v149 (F := Ideal) x (ix3 h a b) = x (ix2 r h) :=
  look x val_main_v141 val_main_v142 val_main_v144 a b h r hw rfl

theorem at200 (x : Vec Ideal S32x16 .f32) (a b : Fin 128) (h : Fin 16) (r : Fin 32) (hw : val_main_v192 (F := Ideal) (ix2 a b) = BitVec.ofNat 32 r.val) :
    val_main_v200 (F := Ideal) x (ix3 h a b) = x (ix2 r h) :=
  look x val_main_v192 val_main_v193 val_main_v195 a b h r hw rfl

theorem mask42 (x : Vec Ideal S32x16 .f32) (a b : Fin 128) (h : Fin 16) : val_main_v42 (F := Ideal) x (ix3 h a b)
    = Scalar.select (IntOp.cmpi .sge (IntOp.subi (BitVec.ofNat 32 a.val) (BitVec.ofNat 32 b.val)) 0#32) (val_main_v41 (F := Ideal) x (ix3 h a b))
      (Ideal.ofBits .f32 0xF149F2CA#32) := by
  rw [← col_at a b, ← row_at a b]
  have e : val_main_call1_v0 (F := Ideal) (ix3 h a b) = val_main_v9 (F := Ideal) (ix2 a b) := by
    pointwise [val_main_call1_v0, val_main_v10]
  show Scalar.select (val_main_call1_v0 (F := Ideal) (ix3 h a b)) _ _ = _
  rw [e]
  rfl

theorem mask150 (x : Vec Ideal S32x16 .f32) (a b : Fin 128) (h : Fin 16) : val_main_v150 (F := Ideal) x (ix3 h a b)
    = Scalar.select (IntOp.cmpi .slt (IntOp.addi (IntOp.subi (BitVec.ofNat 32 a.val) (BitVec.ofNat 32 b.val)) 512#32) 512#32)
      (val_main_v149 (F := Ideal) x (ix3 h a b)) (Ideal.ofBits .f32 0xF149F2CA#32) := by
  rw [← col_at a b, ← row_at a b]
  have e : val_main_call5_v0 (F := Ideal) (ix3 h a b) = val_main_v115 (F := Ideal) (ix2 a b) := by
    pointwise [val_main_call5_v0, val_main_v116]
  show Scalar.select (val_main_call5_v0 (F := Ideal) (ix3 h a b)) _ _ = _
  rw [e]
  rfl

theorem stack0 (x : Vec Ideal S32x16 .f32) (a b : Fin 128) (h : Fin 16) : val_main_v167 (F := Ideal) x (ix4 h 0 a b) = val_main_v42 (F := Ideal) x (ix3 h a b) := by
  pointwise [val_main_v167, val_main_v162, val_main_v163, val_main_v164, val_main_v165, val_main_v166]

theorem stack1 (x : Vec Ideal S32x16 .f32) (a b : Fin 128) (h : Fin 16) : val_main_v167 (F := Ideal) x (ix4 h 1 a b) = val_main_v75 (F := Ideal) x (ix3 h a b) := by
  pointwise [val_main_v167, val_main_v162, val_main_v163, val_main_v164, val_main_v165, val_main_v166]

theorem stack2 (x : Vec Ideal S32x16 .f32) (a b : Fin 128) (h : Fin 16) : val_main_v167 (F := Ideal) x (ix4 h 2 a b) = val_main_v108 (F := Ideal) x (ix3 h a b) := by
  pointwise [val_main_v167, val_main_v162, val_main_v163, val_main_v164, val_main_v165, val_main_v166]

theorem stack3 (x : Vec Ideal S32x16 .f32) (a b : Fin 128) (h : Fin 16) : val_main_v167 (F := Ideal) x (ix4 h 3 a b) = val_main_v150 (F := Ideal) x (ix3 h a b) := by
  pointwise [val_main_v167, val_main_v162, val_main_v163, val_main_v164, val_main_v165, val_main_v166]

theorem stack4 (x : Vec Ideal S32x16 .f32) (a b : Fin 128) (h : Fin 16) : val_main_v167 (F := Ideal) x (ix4 h 4 a b) = Ideal.ofBits .f32 0xF149F2CA#32 := by
  pointwise [val_main_v167, val_main_v162, val_main_v163, val_main_v164, val_main_v165, val_main_v166, val_main_v4, val_main_cst]

end Cert.Dense.Rel

end
-- ==== Proof.Dense.Rel.lean ====
/-
  The position bias's tiles: the kernel's two arrays are the reference's results.
-/
module

public import proofs.«01_k».proof.Defs
public import proofs.«01_k».proof.Proof.Dense.Rel.Bucket
public import proofs.«01_k».proof.Proof.Dense.Rel.Body
public import proofs.«01_k».proof.Proof.Dense.Rel.Tiles
public import proofs.«01_k».proof.Proof.Dense.Rel.Ref
public import proofs.«01_k».proof.Proof.Gen.RelIdeal.Value
public import proofs.«01_k».proof.Proof.Gen.RelRefIdeal.Run
public import proofs.«01_k».proof.Proof.Gen.RelRefIdeal.Read
public import Idealize.ShloMosaic.Lib.Pointwise
public import Idealize.ShloMosaic.Lib.Pipeline.ValueKit
public import Idealize.ShloMosaic.Lib.Tactic

@[expose] public section

set_option maxRecDepth 16384

noncomputable section

namespace Cert.Dense.Rel

open Idealize.ShloMosaic
open Idealize.ShloMosaic.TcCoe Idealize.SL.Sem Cert.RelIdeal Cert.RelIdeal.Gen Cert.RelIdeal.Value
open Cert.RelRefIdeal.Read (val_main_v167 val_main_v200 val_main_v161)

theorem sge_zero : ∀ a b : Fin 128, IntOp.cmpi .sge (IntOp.subi (BitVec.ofNat 32 a.val) (BitVec.ofNat 32 b.val)) 0#32
    = if b.val ≤ a.val then 1#1 else 0#1 := by
  decide +kernel

theorem slt_window : ∀ a b : Fin 128, IntOp.cmpi .slt (IntOp.addi (IntOp.subi (BitVec.ofNat 32 a.val) (BitVec.ofNat 32 b.val)) 512#32) 512#32
    = if a.val < b.val then 1#1 else 0#1 := by
  decide +kernel

/-- The reference's tiles, at an entry. -/
theorem ref167 (x : Vec Ideal S32x16 .f32) (h : Fin 16) (k : Fin 5) (a b : Fin 128) :
    val_main_v167 (F := Ideal) x (ix4 h k a b) = tile (fun r => x (ix2 r h)) k a b := by
  match k with
  | ⟨0, _⟩ =>
    refine (stack0 x a b h).trans ((mask42 x a b h).trans ?_)
    rw [select_if _ _ (sge_zero a b)]
    show _ = if b.val ≤ a.val then x (ix2 (row (a.val - b.val)) h) else masked
    split_ifs with hab
    · exact at41 x a b h _ (by rw [buck33, sub_nat a b hab, buck_row _ (by omega)])
    · rfl
  | ⟨1, _⟩ =>
    refine (stack1 x a b h).trans ?_
    exact at75 x a b h _ (by rw [buck67, add_nat a b 128 (by omega) (by omega), buck_row _ (by omega)])
  | ⟨2, _⟩ =>
    refine (stack2 x a b h).trans ((at108 x a b h (row (a.val + 256 - b.val)) (by
      rw [buck100, add_nat a b 256 (by omega) (by omega), buck_row _ (by omega)])).trans ?_)
    rw [row_last _ (by omega) (by omega)]
    rfl
  | ⟨3, _⟩ =>
    refine (stack3 x a b h).trans ((mask150 x a b h).trans ?_)
    rw [select_if _ _ (slt_window a b)]
    show _ = if a.val < b.val then x (ix2 31 h) else masked
    split_ifs with hab
    · refine (at149 x a b h (row (a.val + 512 - b.val)) (by
        rw [buck141, add_nat a b 512 (by omega) (by omega), buck_row _ (by omega)])).trans ?_
      rw [row_last _ (by omega) (by omega)]
    · rfl
  | ⟨4, _⟩ => exact stack4 x a b h

/-- The reference's bias of the compressed blocks, at an entry. -/
theorem ref200 (x : Vec Ideal S32x16 .f32) (h : Fin 16) (a b : Fin 128) :
    val_main_v200 (F := Ideal) x (ix3 h a b) = cmpTile (fun r => x (ix2 r h)) a b := by
  have e : val_main_v161 (F := Ideal) (ix2 a b) = gap (BitVec.ofNat 32 a.val) (BitVec.ofNat 32 b.val) := dist161 a b
  have hs := select_if _ _ (gap_sge a b) (gap (BitVec.ofNat 32 a.val) (BitVec.ofNat 32 b.val))
    (IntOp.addi (gap (BitVec.ofNat 32 a.val) (BitVec.ofNat 32 b.val)) 2048#32)
  unfold cmpTile
  by_cases hab : 16 * b.val ≤ a.val + 993
  · rw [if_pos hab]
    exact at200 x a b h _ (by rw [buck192, e, hs, if_pos hab, gap_nat a b hab, buck_row _ (by omega)])
  · rw [if_neg hab]
    refine (at200 x a b h (row (a.val + 3041 - 16 * b.val)) (by
      rw [buck192, e, hs, if_neg hab, gap_wrap a b hab, buck_row _ (by omega)])).trans ?_
    rw [row_last _ (by omega) (by omega)]

variable (m : (ℓ : Loc nD τ sig) → Buf (Elt Ideal) ℓ) (c : Dev nD)

/-- The bias table. -/
abbrev argT : Vec Ideal S32x16 .f32 := m ((c : Thread nD τ).loc main_arg0)

theorem index0 : ∀ t : Fin grid0.N, win0_0.index t 0 = 0 ∧ win0_0.index t 1 = 0 := by decide +kernel
theorem index1 : ∀ t : Fin grid0.N, win0_1.index t 0 = t.val ∧ win0_1.index t 1 = 0 ∧ win0_1.index t 2 = 0 ∧ win0_1.index t 3 = 0 := by decide +kernel
theorem index2 : ∀ t : Fin grid0.N, win0_2.index t 0 = t.val ∧ win0_2.index t 1 = 0 ∧ win0_2.index t 2 = 0 := by decide +kernel
theorem coords0 : ∀ t : Fin grid0.N, (grid0.coords t 0).val = t.val := by decide +kernel

/-- A point's head. -/
def head (t : Fin cfg0.N) : Fin 16 := ⟨t.val, by have := t.isLt; have h : cfg0.N = 16 := N_0; omega⟩

theorem hd_eq (t : Fin cfg0.N) : hd (grid0.coords t) = head t := Fin.ext (coords0 t)

/-- The table. -/
theorem block0 (t : Fin cfg0.N) (k : Fin 32) (h : Fin 16) : (iblk m c 0 t : Vec Ideal S32x16 .f32) (ix2 k h) = argT m c (ix2 k h) := by
  unfold iblk
  rw [View.read_apply]
  show V m c main_arg0 _ = m (c.tc.loc main_arg0) _
  rw [V_main_arg0]
  refine congrArg _ (funext fun a => Fin.ext ?_)
  obtain ⟨h0, h1⟩ := index0 t
  match a with
  | ⟨0, _⟩ => show win0_0.index t 0 * 32 + 1 * k.val = k.val; omega
  | ⟨1, _⟩ => show win0_0.index t 1 * 16 + 1 * h.val = h.val; omega

/-- The tiles: the array the kernel writes is the reference's result. -/
theorem array1 : (dats m 0 c).arrAt 1 cfg0.N = val_main_v167 (F := Ideal) (argT m c) := by
  refine (dats m 0 c).arrAt_eq_of_covers 1 _ (by decide +kernel) fun t hf y => ?_
  blk_simp
  rw [after0_1]
  unfold outsAt0
  dsimp only
  obtain ⟨k, a, b, rfl⟩ : ∃ (k : Fin 5) (a b : Fin 128), y = ix4 (0 : Fin 1) k a b :=
    ⟨y 1, y 2, y 3, funext fun a => match a with
      | ⟨0, _⟩ => Fin.ext (by have h : (y 0).val < 1 := (y 0).isLt; show (y 0).val = 0; omega)
      | ⟨1, _⟩ => rfl
      | ⟨2, _⟩ => rfl
      | ⟨3, _⟩ => rfl⟩
  refine (out1 _ _ _ _ _ _ _ _ _ k a b).trans ?_
  have hx : (fun r : Fin 32 => (iblk m c 0 t : Vec Ideal S32x16 .f32) (ix2 r (hd (grid0.coords t)))) = fun r : Fin 32 => argT m c (ix2 r (head t)) :=
    funext fun r => (block0 m c t r _).trans (by rw [hd_eq])
  refine (congrArg (fun x => tile x k a b) hx).trans ?_
  refine (ref167 (argT m c) (head t) k a b).symm.trans (congrArg (val_main_v167 (F := Ideal) (argT m c)) ?_)
  obtain ⟨h0, h1, h2, h3⟩ := index1 t
  funext q
  match q with
  | ⟨0, _⟩ => exact Fin.ext (by show t.val = win0_1.index t 0 * 1 + 1 * 0; omega)
  | ⟨1, _⟩ => exact Fin.ext (by show k.val = win0_1.index t 1 * 5 + 1 * k.val; omega)
  | ⟨2, _⟩ => exact Fin.ext (by show a.val = win0_1.index t 2 * 128 + 1 * a.val; omega)
  | ⟨3, _⟩ => exact Fin.ext (by show b.val = win0_1.index t 3 * 128 + 1 * b.val; omega)

/-- The compressed blocks' bias: the array the kernel writes is the reference's result. -/
theorem array2 : (dats m 0 c).arrAt 2 cfg0.N = val_main_v200 (F := Ideal) (argT m c) := by
  refine (dats m 0 c).arrAt_eq_of_covers 2 _ (by decide +kernel) fun t hf y => ?_
  blk_simp
  rw [after0_2]
  unfold outsAt0
  dsimp only
  obtain ⟨a, b, rfl⟩ : ∃ a b : Fin 128, y = ix3 (0 : Fin 1) a b :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  refine (out2 _ _ _ _ _ _ _ _ _ a b).trans ?_
  have hx : (fun r : Fin 32 => (iblk m c 0 t : Vec Ideal S32x16 .f32) (ix2 r (hd (grid0.coords t)))) = fun r : Fin 32 => argT m c (ix2 r (head t)) :=
    funext fun r => (block0 m c t r _).trans (by rw [hd_eq])
  refine (congrArg (fun x => cmpTile x a b) hx).trans ?_
  refine (ref200 (argT m c) (head t) a b).symm.trans (congrArg (val_main_v200 (F := Ideal) (argT m c)) ?_)
  obtain ⟨h0, h1, h2⟩ := index2 t
  funext q
  match q with
  | ⟨0, _⟩ => exact Fin.ext (by show t.val = win0_2.index t 0 * 1 + 1 * 0; omega)
  | ⟨1, _⟩ => exact Fin.ext (by show a.val = win0_2.index t 1 * 128 + 1 * a.val; omega)
  | ⟨2, _⟩ => exact Fin.ext (by show b.val = win0_2.index t 2 * 128 + 1 * b.val; omega)

/-- The two programs end with equal results. -/
theorem algebraic : Cert.algebraic_RelIdeal_RelRefIdeal := by
  intro m g m' g' _ hagree
  refine ⟨fun c => val_main_v167 (F := Ideal) (argT m c), fun c => val_main_v200 (F := Ideal) (argT m c), ?_, ?_⟩
  · refine (θ_run Cert.RelIdeal.defs _ _).mono (fun r hr c => ?_) (run_blocks (F := Ideal) m g)
    obtain ⟨h0, h1, h2⟩ := hr c
    exact ⟨h0.trans (array1 m c), h1.trans (array2 m c), h2⟩
  · refine (θ_run Cert.RelRefIdeal.defs _ _).mono (fun r hr c => ?_) (Cert.RelRefIdeal.Value.run (F := Ideal) m' g')
    have e0 := hagree c
    obtain ⟨h0, h1, h2⟩ := hr c
    refine ⟨h0.trans ?_, h1.trans ?_, h2⟩
    · rw [Cert.RelRefIdeal.Read.val_main_v167_eq]
      exact congrArg (val_main_v167 (F := Ideal)) e0
    · rw [Cert.RelRefIdeal.Read.val_main_v200_eq]
      exact congrArg (val_main_v200 (F := Ideal)) e0

end Cert.Dense.Rel

end
-- ==== Proof.lean ====
/-
  The certificate's claim: the conjuncts of the attention, of the projections, of the convolution, of the modulation, of the compression,
  of the branches' keys and values and of the position bias's tiles together.
-/
module

public import proofs.«01_k».proof.Proof.Gen.KernelIdeal.Value
public import proofs.«01_k».proof.Proof.Gen.ReferenceIdeal.Run
public import proofs.«01_k».proof.Proof.Gen.InEvenIdeal.Value
public import proofs.«01_k».proof.Proof.Gen.InEvenRefIdeal.Run
public import proofs.«01_k».proof.Proof.Gen.InOddIdeal.Value
public import proofs.«01_k».proof.Proof.Gen.InOddRefIdeal.Run
public import proofs.«01_k».proof.Proof.Gen.OutEvenIdeal.Value
public import proofs.«01_k».proof.Proof.Gen.OutEvenRefIdeal.Run
public import proofs.«01_k».proof.Proof.Gen.OutOddIdeal.Value
public import proofs.«01_k».proof.Proof.Gen.OutOddRefIdeal.Run
public import proofs.«01_k».proof.Proof.Gen.ConvIdeal.Value
public import proofs.«01_k».proof.Proof.Gen.ConvRefIdeal.Run
public import proofs.«01_k».proof.Proof.Gen.InEvenRefIdeal.Read
public import proofs.«01_k».proof.Proof.Gen.ReferenceIdeal.Read
public import proofs.«01_k».proof.Proof.Gen.OutEvenRefIdeal.Read
public import proofs.«01_k».proof.Proof.Gen.ConvRefIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenRefIdeal
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddRefIdeal
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenRefIdeal
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.OutOddRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Pre_finite
public import Idealize.ShloMosaic.Adequacy
public import Idealize.ShloMosaic.Init
public import proofs.«01_k».proof.Proof.Fox.Final
public import proofs.«01_k».proof.Proof.Dense.InEven
public import proofs.«01_k».proof.Proof.Dense.InOdd
public import proofs.«01_k».proof.Proof.Dense.OutEven
public import proofs.«01_k».proof.Proof.Dense.OutOdd
public import proofs.«01_k».proof.Proof.Dense.Conv
public import proofs.«01_k».proof.Proof.Dense.Ada
public import proofs.«01_k».proof.Proof.Dense.Cmp
public import proofs.«01_k».proof.Proof.Dense.Kv
public import proofs.«01_k».proof.Proof.Dense.Rel
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.CmpIdeal.Value
public import proofs.«01_k».proof.Proof.Gen.CmpRefIdeal.Run
public import proofs.«01_k».proof.Proof.Gen.CmpRefIdeal.Read
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.CmpRefIdeal
public import proofs.«01_k».proof.Proof.Gen.KvIdeal.Value
public import proofs.«01_k».proof.Proof.Gen.KvRefIdeal.Run
public import proofs.«01_k».proof.Proof.Gen.KvRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.RelIdeal.Value
public import proofs.«01_k».proof.Proof.Gen.RelRefIdeal.Run
public import proofs.«01_k».proof.Proof.Gen.RelRefIdeal.Read
public import proofs.«01_k».proof.Proof.Gen.Rel
public import proofs.«01_k».proof.Proof.Gen.Rel.Skeleton
public import proofs.«01_k».proof.Proof.Gen.Rel.Launch
public import proofs.«01_k».proof.Proof.Gen.Rel.Points
public import proofs.«01_k».proof.Proof.Gen.Rel.Frame
public import proofs.«01_k».proof.Proof.Gen.RelIdeal
public import proofs.«01_k».proof.Proof.Gen.RelIdeal.Skeleton
public import proofs.«01_k».proof.Proof.Gen.RelIdeal.Launch
public import proofs.«01_k».proof.Proof.Gen.RelIdeal.Points
public import proofs.«01_k».proof.Proof.Gen.RelIdeal.Frame
public import proofs.«01_k».proof.Proof.Gen.RelRefIdeal

@[expose] public section

noncomputable section

namespace Cert.Proof

open Idealize.ShloMosaic Idealize.SL.Sem

/-- Every claim: the generated frames, the references' generated runs, the one named constant, and the value claims. -/
theorem claim : Cert.Claim := ⟨Cert.Kernel.Gen.facts, Cert.KernelIdeal.Gen.facts, Cert.ReferenceIdeal.Gen.facts, Cert.InEven.Gen.facts, Cert.InEvenIdeal.Gen.facts, Cert.InEvenRefIdeal.Gen.facts, Cert.InOdd.Gen.facts, Cert.InOddIdeal.Gen.facts, Cert.InOddRefIdeal.Gen.facts, Cert.OutEven.Gen.facts, Cert.OutEvenIdeal.Gen.facts, Cert.OutEvenRefIdeal.Gen.facts, Cert.OutOdd.Gen.facts, Cert.OutOddIdeal.Gen.facts, Cert.OutOddRefIdeal.Gen.facts, Cert.Conv.Gen.facts, Cert.ConvIdeal.Gen.facts, Cert.ConvRefIdeal.Gen.facts, Cert.Ada.Gen.facts, Cert.AdaIdeal.Gen.facts, Cert.AdaRefIdeal.Gen.facts, Cert.Cmp.Gen.facts, Cert.CmpIdeal.Gen.facts, Cert.CmpRefIdeal.Gen.facts, Cert.Kv.Gen.facts, Cert.KvIdeal.Gen.facts, Cert.KvRefIdeal.Gen.facts, Cert.Rel.Gen.facts, Cert.RelIdeal.Gen.facts, Cert.RelRefIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2, sem_eq_zero_of_no_sems (by decide) r.2⟩) (Cert.ReferenceIdeal.Value.run (F := Ideal) m ρ),
  fun m ρ _ => (θ_run _ _ _).mono (fun r h => ⟨fun c => (h c).2, sem_eq_zero_of_no_sems (by decide) r.2⟩) (Cert.ReferenceIdeal.Value.run (F := Ideal) m ρ),
  fun m ρ _ => Cert.InEven.Gen.frame m ρ,
  fun m ρ _ => Cert.InEvenIdeal.Gen.frame m ρ,
  fun m ρ _ => (θ_run _ _ _).mono (fun r h => ⟨fun c => (h c).2, sem_eq_zero_of_no_sems (by decide) r.2⟩) (Cert.InEvenRefIdeal.Value.run (F := Ideal) m ρ),
  fun m ρ _ => Cert.InOdd.Gen.frame m ρ,
  fun m ρ _ => Cert.InOddIdeal.Gen.frame m ρ,
  fun m ρ _ => (θ_run _ _ _).mono (fun r h => ⟨fun c => (h c).2, sem_eq_zero_of_no_sems (by decide) r.2⟩) (Cert.InOddRefIdeal.Value.run (F := Ideal) m ρ),
  fun m ρ _ => Cert.OutEven.Gen.frame m ρ,
  fun m ρ _ => Cert.OutEvenIdeal.Gen.frame m ρ,
  fun m ρ _ => (θ_run _ _ _).mono (fun r h => ⟨fun c => (h c).2, sem_eq_zero_of_no_sems (by decide) r.2⟩) (Cert.OutEvenRefIdeal.Value.run (F := Ideal) m ρ),
  fun m ρ _ => Cert.OutOdd.Gen.frame m ρ,
  fun m ρ _ => Cert.OutOddIdeal.Gen.frame m ρ,
  fun m ρ _ => (θ_run _ _ _).mono (fun r h => ⟨fun c => (h c).2, sem_eq_zero_of_no_sems (by decide) r.2⟩) (Cert.OutOddRefIdeal.Value.run (F := Ideal) m ρ),
  fun m ρ _ => Cert.Conv.Gen.frame m ρ,
  fun m ρ _ => Cert.ConvIdeal.Gen.frame m ρ,
  fun m ρ _ => (θ_run _ _ _).mono (fun r h => ⟨fun c => (h c).2, sem_eq_zero_of_no_sems (by decide) r.2⟩) (Cert.ConvRefIdeal.Value.run (F := Ideal) m ρ),
  fun m ρ _ => Cert.Ada.Gen.frame m ρ,
  fun m ρ _ => Cert.AdaIdeal.Gen.frame m ρ,
  fun m ρ _ => (θ_run _ _ _).mono (fun r h => ⟨fun c => (h c).2, sem_eq_zero_of_no_sems (by decide) r.2⟩) (Cert.AdaRefIdeal.Value.run (F := Ideal) m ρ),
  fun m ρ _ => Cert.Cmp.Gen.frame m ρ,
  fun m ρ _ => Cert.CmpIdeal.Gen.frame m ρ,
  fun m ρ _ => (θ_run _ _ _).mono (fun r h => ⟨fun c => (h c).2, sem_eq_zero_of_no_sems (by decide) r.2⟩) (Cert.CmpRefIdeal.Value.run (F := Ideal) m ρ),
  fun m ρ _ => Cert.Kv.Gen.frame m ρ,
  fun m ρ _ => Cert.KvIdeal.Gen.frame m ρ,
  fun m ρ _ => (θ_run _ _ _).mono (fun r h => ⟨fun c => (h c).2.2.2.2, sem_eq_zero_of_no_sems (by decide) r.2⟩) (Cert.KvRefIdeal.Value.run (F := Ideal) m ρ),
  fun m ρ _ => Cert.Rel.Gen.frame m ρ,
  fun m ρ _ => Cert.RelIdeal.Gen.frame m ρ,
  fun m ρ _ => (θ_run _ _ _).mono (fun r h => ⟨fun c => (h c).2.2, sem_eq_zero_of_no_sems (by decide) r.2⟩) (Cert.RelRefIdeal.Value.run (F := Ideal) m ρ),
  IdealRules.named_const.statement Cert.KernelIdeal.κ "mask" .f32 0xF149F2CA#32 ⊥ rfl,
  Cert.Fox.algebraic,
  trivial,
  Cert.Dense.InEven.algebraic,
  trivial,
  Cert.Dense.InOdd.algebraic,
  trivial,
  Cert.Dense.OutEven.algebraic,
  trivial,
  Cert.Dense.OutOdd.algebraic,
  trivial,
  Cert.Dense.Conv.algebraic,
  trivial,
  Cert.Dense.Ada.algebraic,
  trivial,
  Cert.Dense.Cmp.algebraic,
  trivial,
  Cert.Dense.Kv.algebraic,
  trivial,
  Cert.Dense.Rel.algebraic⟩

end Cert.Proof

end
